-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_KernelDownIdeal_finite_down [hPre_finite_down : Cert.Pre_finite_down.Facts] (m : (ℓ : Loc Cert.KernelDownIdeal.nD Cert.KernelDownIdeal.τ Cert.KernelDownIdeal.sig) → Buf (Elt Ideal) ℓ) : Prop :=
  ∀ c : Dev Cert.KernelDownIdeal.nD,
    (Cert.Pre_finite_down.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3))) = (fun _ => 1#1)

def Pre_ReferenceDownIdeal (m : (ℓ : Loc Cert.ReferenceDownIdeal.nD Cert.ReferenceDownIdeal.τ Cert.ReferenceDownIdeal.sig) → Buf (Elt Ideal) ℓ) : Prop :=
  True

def Pre_ReferenceDownIdeal_finite_down [hPre_finite_down : Cert.Pre_finite_down.Facts] (m : (ℓ : Loc Cert.ReferenceDownIdeal.nD Cert.ReferenceDownIdeal.τ Cert.ReferenceDownIdeal.sig) → Buf (Elt Ideal) ℓ) : Prop :=
  ∀ c : Dev Cert.ReferenceDownIdeal.nD,
    (Cert.Pre_finite_down.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3))) = (fun _ => 1#1)

def Pre_KernelDownW (m : (ℓ : Loc Cert.KernelDownW.nD Cert.KernelDownW.τ Cert.KernelDownW.sig) → Buf (Elt Bits) ℓ) : Prop :=
  True

def Pre_KernelDownWIdeal (m : (ℓ : Loc Cert.KernelDownWIdeal.nD Cert.KernelDownWIdeal.τ Cert.KernelDownWIdeal.sig) → Buf (Elt Ideal) ℓ) : Prop :=
  True

def Pre_ReferenceDownWIdeal (m : (ℓ : Loc Cert.ReferenceDownWIdeal.nD Cert.ReferenceDownWIdeal.τ Cert.ReferenceDownWIdeal.sig) → Buf (Elt Ideal) ℓ) : Prop :=
  True

def Pre_KernelInW (m : (ℓ : Loc Cert.KernelInW.nD Cert.KernelInW.τ Cert.KernelInW.sig) → Buf (Elt Bits) ℓ) : Prop :=
  True

def Pre_KernelInWIdeal (m : (ℓ : Loc Cert.KernelInWIdeal.nD Cert.KernelInWIdeal.τ Cert.KernelInWIdeal.sig) → Buf (Elt Ideal) ℓ) : Prop :=
  True

def Pre_ReferenceInWIdeal (m : (ℓ : Loc Cert.ReferenceInWIdeal.nD Cert.ReferenceInWIdeal.τ Cert.ReferenceInWIdeal.sig) → Buf (Elt Ideal) ℓ) : Prop :=
  True

def Pre_KernelGateX (m : (ℓ : Loc Cert.KernelGateX.nD Cert.KernelGateX.τ Cert.KernelGateX.sig) → Buf (Elt Bits) ℓ) : Prop :=
  True

def Pre_KernelGateXIdeal (m : (ℓ : Loc Cert.KernelGateXIdeal.nD Cert.KernelGateXIdeal.τ Cert.KernelGateXIdeal.sig) → Buf (Elt Ideal) ℓ) : Prop :=
  True

def Pre_ReferenceGateXIdeal (m : (ℓ : Loc Cert.ReferenceGateXIdeal.nD Cert.ReferenceGateXIdeal.τ Cert.ReferenceGateXIdeal.sig) → Buf (Elt Ideal) ℓ) : Prop :=
  True

def Pre_KernelUpX (m : (ℓ : Loc Cert.KernelUpX.nD Cert.KernelUpX.τ Cert.KernelUpX.sig) → Buf (Elt Bits) ℓ) : Prop :=
  True

def Pre_KernelUpXIdeal (m : (ℓ : Loc Cert.KernelUpXIdeal.nD Cert.KernelUpXIdeal.τ Cert.KernelUpXIdeal.sig) → Buf (Elt Ideal) ℓ) : Prop :=
  True

def Pre_ReferenceUpXIdeal (m : (ℓ : Loc Cert.ReferenceUpXIdeal.nD Cert.ReferenceUpXIdeal.τ Cert.ReferenceUpXIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelProjW (m : (ℓ : Loc Cert.KernelProjW.nD Cert.KernelProjW.τ Cert.KernelProjW.sig) → Buf (Elt Bits) ℓ) : Prop :=
  True

def Pre_KernelProjWIdeal (m : (ℓ : Loc Cert.KernelProjWIdeal.nD Cert.KernelProjWIdeal.τ Cert.KernelProjWIdeal.sig) → Buf (Elt Ideal) ℓ) : Prop :=
  True

def Pre_ReferenceProjWIdeal (m : (ℓ : Loc Cert.ReferenceProjWIdeal.nD Cert.ReferenceProjWIdeal.τ Cert.ReferenceProjWIdeal.sig) → Buf (Elt Ideal) ℓ) : Prop :=
  True

def Pre_KernelProjX (m : (ℓ : Loc Cert.KernelProjX.nD Cert.KernelProjX.τ Cert.KernelProjX.sig) → Buf (Elt Bits) ℓ) : Prop :=
  True

def Pre_KernelProjXIdeal (m : (ℓ : Loc Cert.KernelProjXIdeal.nD Cert.KernelProjXIdeal.τ Cert.KernelProjXIdeal.sig) → Buf (Elt Ideal) ℓ) : Prop :=
  True

def Pre_ReferenceProjXIdeal (m : (ℓ : Loc Cert.ReferenceProjXIdeal.nD Cert.ReferenceProjXIdeal.τ Cert.ReferenceProjXIdeal.sig) → Buf (Elt Ideal) ℓ) : Prop :=
  True

def Pre_KernelQkvW (m : (ℓ : Loc Cert.KernelQkvW.nD Cert.KernelQkvW.τ Cert.KernelQkvW.sig) → Buf (Elt Bits) ℓ) : Prop :=
  True

def Pre_KernelQkvWIdeal (m : (ℓ : Loc Cert.KernelQkvWIdeal.nD Cert.KernelQkvWIdeal.τ Cert.KernelQkvWIdeal.sig) → Buf (Elt Ideal) ℓ) : Prop :=
  True

def Pre_ReferenceQkvWIdeal (m : (ℓ : Loc Cert.ReferenceQkvWIdeal.nD Cert.ReferenceQkvWIdeal.τ Cert.ReferenceQkvWIdeal.sig) → Buf (Elt Ideal) ℓ) : Prop :=
  True

def Pre_KernelQkvX (m : (ℓ : Loc Cert.KernelQkvX.nD Cert.KernelQkvX.τ Cert.KernelQkvX.sig) → Buf (Elt Bits) ℓ) : Prop :=
  True

def Pre_KernelQkvXIdeal (m : (ℓ : Loc Cert.KernelQkvXIdeal.nD Cert.KernelQkvXIdeal.τ Cert.KernelQkvXIdeal.sig) → Buf (Elt Ideal) ℓ) : Prop :=
  True

def Pre_ReferenceQkvXIdeal (m : (ℓ : Loc Cert.ReferenceQkvXIdeal.nD Cert.ReferenceQkvXIdeal.τ Cert.ReferenceQkvXIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelProjRes (m : (ℓ : Loc Cert.KernelProjRes.nD Cert.KernelProjRes.τ Cert.KernelProjRes.sig) → Buf (Elt Bits) ℓ) : Prop :=
  True

def Pre_KernelProjResIdeal (m : (ℓ : Loc Cert.KernelProjResIdeal.nD Cert.KernelProjResIdeal.τ Cert.KernelProjResIdeal.sig) → Buf (Elt Ideal) ℓ) : Prop :=
  True

def Pre_ReferenceProjResIdeal (m : (ℓ : Loc Cert.ReferenceProjResIdeal.nD Cert.ReferenceProjResIdeal.τ Cert.ReferenceProjResIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelAdamEvIn (m : (ℓ : Loc Cert.KernelAdamEvIn.nD Cert.KernelAdamEvIn.τ Cert.KernelAdamEvIn.sig) → Buf (Elt Bits) ℓ) : Prop :=
  True

def Pre_KernelAdamEvInIdeal (m : (ℓ : Loc Cert.KernelAdamEvInIdeal.nD Cert.KernelAdamEvInIdeal.τ Cert.KernelAdamEvInIdeal.sig) → Buf (Elt Ideal) ℓ) : Prop :=
  True

def Pre_ReferenceAdamEvInIdeal (m : (ℓ : Loc Cert.ReferenceAdamEvInIdeal.nD Cert.ReferenceAdamEvInIdeal.τ Cert.ReferenceAdamEvInIdeal.sig) → Buf (Elt Ideal) ℓ) : Prop :=
  True

def Pre_KernelAdamPool (m : (ℓ : Loc Cert.KernelAdamPool.nD Cert.KernelAdamPool.τ Cert.KernelAdamPool.sig) → Buf (Elt Bits) ℓ) : Prop :=
  True

def Pre_KernelAdamPoolIdeal (m : (ℓ : Loc Cert.KernelAdamPoolIdeal.nD Cert.KernelAdamPoolIdeal.τ Cert.KernelAdamPoolIdeal.sig) → Buf (Elt Ideal) ℓ) : Prop :=
  True

def Pre_ReferenceAdamPoolIdeal (m : (ℓ : Loc Cert.ReferenceAdamPoolIdeal.nD Cert.ReferenceAdamPoolIdeal.τ Cert.ReferenceAdamPoolIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamOdIn (m : (ℓ : Loc Cert.KernelAdamOdIn.nD Cert.KernelAdamOdIn.τ Cert.KernelAdamOdIn.sig) → Buf (Elt Bits) ℓ) : Prop :=
  True

def Pre_KernelAdamOdInIdeal (m : (ℓ : Loc Cert.KernelAdamOdInIdeal.nD Cert.KernelAdamOdInIdeal.τ Cert.KernelAdamOdInIdeal.sig) → Buf (Elt Ideal) ℓ) : Prop :=
  True

def Pre_ReferenceAdamOdInIdeal (m : (ℓ : Loc Cert.ReferenceAdamOdInIdeal.nD Cert.ReferenceAdamOdInIdeal.τ Cert.ReferenceAdamOdInIdeal.sig) → Buf (Elt Ideal) ℓ) : Prop :=
  True

def Pre_KernelAdamXa (m : (ℓ : Loc Cert.KernelAdamXa.nD Cert.KernelAdamXa.τ Cert.KernelAdamXa.sig) → Buf (Elt Bits) ℓ) : Prop :=
  True

def Pre_KernelAdamXaIdeal (m : (ℓ : Loc Cert.KernelAdamXaIdeal.nD Cert.KernelAdamXaIdeal.τ Cert.KernelAdamXaIdeal.sig) → Buf (Elt Ideal) ℓ) : Prop :=
  True

def Pre_ReferenceAdamXaIdeal (m : (ℓ : Loc Cert.ReferenceAdamXaIdeal.nD Cert.ReferenceAdamXaIdeal.τ Cert.ReferenceAdamXaIdeal.sig) → Buf (Elt Ideal) ℓ) : Prop :=
  True

def Pre_KernelAdamKv (m : (ℓ : Loc Cert.KernelAdamKv.nD Cert.KernelAdamKv.τ Cert.KernelAdamKv.sig) → Buf (Elt Bits) ℓ) : Prop :=
  True

def Pre_KernelAdamKvIdeal (m : (ℓ : Loc Cert.KernelAdamKvIdeal.nD Cert.KernelAdamKvIdeal.τ Cert.KernelAdamKvIdeal.sig) → Buf (Elt Ideal) ℓ) : Prop :=
  True

def Pre_ReferenceAdamKvIdeal (m : (ℓ : Loc Cert.ReferenceAdamKvIdeal.nD Cert.ReferenceAdamKvIdeal.τ Cert.ReferenceAdamKvIdeal.sig) → Buf (Elt Ideal) ℓ) : Prop :=
  True

def Pre_KernelAdamFf (m : (ℓ : Loc Cert.KernelAdamFf.nD Cert.KernelAdamFf.τ Cert.KernelAdamFf.sig) → Buf (Elt Bits) ℓ) : Prop :=
  True

def Pre_KernelAdamFfIdeal (m : (ℓ : Loc Cert.KernelAdamFfIdeal.nD Cert.KernelAdamFfIdeal.τ Cert.KernelAdamFfIdeal.sig) → Buf (Elt Ideal) ℓ) : Prop :=
  True

def Pre_ReferenceAdamFfIdeal (m : (ℓ : Loc Cert.ReferenceAdamFfIdeal.nD Cert.ReferenceAdamFfIdeal.τ Cert.ReferenceAdamFfIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_KernelDownIdeal_pre_finite_down [hKernelDownIdeal : Cert.KernelDownIdeal.Facts] [hPre_finite_down : Cert.Pre_finite_down.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal_finite_down m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_ReferenceDownIdeal_pre_finite_down [hReferenceDownIdeal : Cert.ReferenceDownIdeal.Facts] [hPre_finite_down : Cert.Pre_finite_down.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal_finite_down m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelDownW [hKernelDownW : Cert.KernelDownW.Facts] : Prop :=
  ∀ (m : (ℓ : Loc Cert.KernelDownW.nD Cert.KernelDownW.τ Cert.KernelDownW.sig) → Buf (Elt Bits) ℓ) (g : Dev Cert.KernelDownW.nD → PrngReg), Pre_KernelDownW m →
    θ_run (Cert.KernelDownW.defs (F := Bits)) (onTc (τ := Cert.KernelDownW.τ) (Cert.KernelDownW.main (F := Bits))) ⟨m, fun _ => 0, g⟩ (fun r => (∀ c : Dev Cert.KernelDownW.nD,
      r.2.mem ((c.tc : Thread Cert.KernelDownW.nD Cert.KernelDownW.τ).loc Cert.KernelDownW.main_arg0) = m ((c.tc : Thread Cert.KernelDownW.nD Cert.KernelDownW.τ).loc Cert.KernelDownW.main_arg0)
      ∧ r.2.mem ((c.tc : Thread Cert.KernelDownW.nD Cert.KernelDownW.τ).loc Cert.KernelDownW.main_arg1) = m ((c.tc : Thread Cert.KernelDownW.nD Cert.KernelDownW.τ).loc Cert.KernelDownW.main_arg1))
      ∧ r.2.sem = fun _ => 0)

def quiescent_KernelDownWIdeal [hKernelDownWIdeal : Cert.KernelDownWIdeal.Facts] : Prop :=
  ∀ (m : (ℓ : Loc Cert.KernelDownWIdeal.nD Cert.KernelDownWIdeal.τ Cert.KernelDownWIdeal.sig) → Buf (Elt Ideal) ℓ) (g : Dev Cert.KernelDownWIdeal.nD → PrngReg), Pre_KernelDownWIdeal m →
    θ_run (Cert.KernelDownWIdeal.defs (F := Ideal)) (onTc (τ := Cert.KernelDownWIdeal.τ) (Cert.KernelDownWIdeal.main (F := Ideal))) ⟨m, fun _ => 0, g⟩ (fun r => (∀ c : Dev Cert.KernelDownWIdeal.nD,
      r.2.mem ((c.tc : Thread Cert.KernelDownWIdeal.nD Cert.KernelDownWIdeal.τ).loc Cert.KernelDownWIdeal.main_arg0) = m ((c.tc : Thread Cert.KernelDownWIdeal.nD Cert.KernelDownWIdeal.τ).loc Cert.KernelDownWIdeal.main_arg0)
      ∧ r.2.mem ((c.tc : Thread Cert.KernelDownWIdeal.nD Cert.KernelDownWIdeal.τ).loc Cert.KernelDownWIdeal.main_arg1) = m ((c.tc : Thread Cert.KernelDownWIdeal.nD Cert.KernelDownWIdeal.τ).loc Cert.KernelDownWIdeal.main_arg1))
      ∧ r.2.sem = fun _ => 0)

def quiescent_ReferenceDownWIdeal [hReferenceDownWIdeal : Cert.ReferenceDownWIdeal.Facts] : Prop :=
  ∀ (m : (ℓ : Loc Cert.ReferenceDownWIdeal.nD Cert.ReferenceDownWIdeal.τ Cert.ReferenceDownWIdeal.sig) → Buf (Elt Ideal) ℓ) (g : Dev Cert.ReferenceDownWIdeal.nD → PrngReg), Pre_ReferenceDownWIdeal m →
    θ_run (Cert.ReferenceDownWIdeal.defs (F := Ideal)) (onTc (τ := Cert.ReferenceDownWIdeal.τ) (Cert.ReferenceDownWIdeal.main (F := Ideal))) ⟨m, fun _ => 0, g⟩ (fun r => (∀ c : Dev Cert.ReferenceDownWIdeal.nD,
      r.2.mem ((c.tc : Thread Cert.ReferenceDownWIdeal.nD Cert.ReferenceDownWIdeal.τ).loc Cert.ReferenceDownWIdeal.main_arg0) = m ((c.tc : Thread Cert.ReferenceDownWIdeal.nD Cert.ReferenceDownWIdeal.τ).loc Cert.ReferenceDownWIdeal.main_arg0)
      ∧ r.2.mem ((c.tc : Thread Cert.ReferenceDownWIdeal.nD Cert.ReferenceDownWIdeal.τ).loc Cert.ReferenceDownWIdeal.main_arg1) = m ((c.tc : Thread Cert.ReferenceDownWIdeal.nD Cert.ReferenceDownWIdeal.τ).loc Cert.ReferenceDownWIdeal.main_arg1))
      ∧ r.2.sem = fun _ => 0)

def quiescent_KernelInW [hKernelInW : Cert.KernelInW.Facts] : Prop :=
  ∀ (m : (ℓ : Loc Cert.KernelInW.nD Cert.KernelInW.τ Cert.KernelInW.sig) → Buf (Elt Bits) ℓ) (g : Dev Cert.KernelInW.nD → PrngReg), Pre_KernelInW m →
    θ_run (Cert.KernelInW.defs (F := Bits)) (onTc (τ := Cert.KernelInW.τ) (Cert.KernelInW.main (F := Bits))) ⟨m, fun _ => 0, g⟩ (fun r => (∀ c : Dev Cert.KernelInW.nD,
      r.2.mem ((c.tc : Thread Cert.KernelInW.nD Cert.KernelInW.τ).loc Cert.KernelInW.main_arg0) = m ((c.tc : Thread Cert.KernelInW.nD Cert.KernelInW.τ).loc Cert.KernelInW.main_arg0)
      ∧ r.2.mem ((c.tc : Thread Cert.KernelInW.nD Cert.KernelInW.τ).loc Cert.KernelInW.main_arg1) = m ((c.tc : Thread Cert.KernelInW.nD Cert.KernelInW.τ).loc Cert.KernelInW.main_arg1))
      ∧ r.2.sem = fun _ => 0)

def quiescent_KernelInWIdeal [hKernelInWIdeal : Cert.KernelInWIdeal.Facts] : Prop :=
  ∀ (m : (ℓ : Loc Cert.KernelInWIdeal.nD Cert.KernelInWIdeal.τ Cert.KernelInWIdeal.sig) → Buf (Elt Ideal) ℓ) (g : Dev Cert.KernelInWIdeal.nD → PrngReg), Pre_KernelInWIdeal m →
    θ_run (Cert.KernelInWIdeal.defs (F := Ideal)) (onTc (τ := Cert.KernelInWIdeal.τ) (Cert.KernelInWIdeal.main (F := Ideal))) ⟨m, fun _ => 0, g⟩ (fun r => (∀ c : Dev Cert.KernelInWIdeal.nD,
      r.2.mem ((c.tc : Thread Cert.KernelInWIdeal.nD Cert.KernelInWIdeal.τ).loc Cert.KernelInWIdeal.main_arg0) = m ((c.tc : Thread Cert.KernelInWIdeal.nD Cert.KernelInWIdeal.τ).loc Cert.KernelInWIdeal.main_arg0)
      ∧ r.2.mem ((c.tc : Thread Cert.KernelInWIdeal.nD Cert.KernelInWIdeal.τ).loc Cert.KernelInWIdeal.main_arg1) = m ((c.tc : Thread Cert.KernelInWIdeal.nD Cert.KernelInWIdeal.τ).loc Cert.KernelInWIdeal.main_arg1))
      ∧ r.2.sem = fun _ => 0)

def quiescent_ReferenceInWIdeal [hReferenceInWIdeal : Cert.ReferenceInWIdeal.Facts] : Prop :=
  ∀ (m : (ℓ : Loc Cert.ReferenceInWIdeal.nD Cert.ReferenceInWIdeal.τ Cert.ReferenceInWIdeal.sig) → Buf (Elt Ideal) ℓ) (g : Dev Cert.ReferenceInWIdeal.nD → PrngReg), Pre_ReferenceInWIdeal m →
    θ_run (Cert.ReferenceInWIdeal.defs (F := Ideal)) (onTc (τ := Cert.ReferenceInWIdeal.τ) (Cert.ReferenceInWIdeal.main (F := Ideal))) ⟨m, fun _ => 0, g⟩ (fun r => (∀ c : Dev Cert.ReferenceInWIdeal.nD,
      r.2.mem ((c.tc : Thread Cert.ReferenceInWIdeal.nD Cert.ReferenceInWIdeal.τ).loc Cert.ReferenceInWIdeal.main_arg0) = m ((c.tc : Thread Cert.ReferenceInWIdeal.nD Cert.ReferenceInWIdeal.τ).loc Cert.ReferenceInWIdeal.main_arg0)
      ∧ r.2.mem ((c.tc : Thread Cert.ReferenceInWIdeal.nD Cert.ReferenceInWIdeal.τ).loc Cert.ReferenceInWIdeal.main_arg1) = m ((c.tc : Thread Cert.ReferenceInWIdeal.nD Cert.ReferenceInWIdeal.τ).loc Cert.ReferenceInWIdeal.main_arg1))
      ∧ r.2.sem = fun _ => 0)

def quiescent_KernelGateX [hKernelGateX : Cert.KernelGateX.Facts] : Prop :=
  ∀ (m : (ℓ : Loc Cert.KernelGateX.nD Cert.KernelGateX.τ Cert.KernelGateX.sig) → Buf (Elt Bits) ℓ) (g : Dev Cert.KernelGateX.nD → PrngReg), Pre_KernelGateX m →
    θ_run (Cert.KernelGateX.defs (F := Bits)) (onTc (τ := Cert.KernelGateX.τ) (Cert.KernelGateX.main (F := Bits))) ⟨m, fun _ => 0, g⟩ (fun r => (∀ c : Dev Cert.KernelGateX.nD,
      r.2.mem ((c.tc : Thread Cert.KernelGateX.nD Cert.KernelGateX.τ).loc Cert.KernelGateX.main_arg0) = m ((c.tc : Thread Cert.KernelGateX.nD Cert.KernelGateX.τ).loc Cert.KernelGateX.main_arg0)
      ∧ r.2.mem ((c.tc : Thread Cert.KernelGateX.nD Cert.KernelGateX.τ).loc Cert.KernelGateX.main_arg1) = m ((c.tc : Thread Cert.KernelGateX.nD Cert.KernelGateX.τ).loc Cert.KernelGateX.main_arg1))
      ∧ r.2.sem = fun _ => 0)

def quiescent_KernelGateXIdeal [hKernelGateXIdeal : Cert.KernelGateXIdeal.Facts] : Prop :=
  ∀ (m : (ℓ : Loc Cert.KernelGateXIdeal.nD Cert.KernelGateXIdeal.τ Cert.KernelGateXIdeal.sig) → Buf (Elt Ideal) ℓ) (g : Dev Cert.KernelGateXIdeal.nD → PrngReg), Pre_KernelGateXIdeal m →
    θ_run (Cert.KernelGateXIdeal.defs (F := Ideal)) (onTc (τ := Cert.KernelGateXIdeal.τ) (Cert.KernelGateXIdeal.main (F := Ideal))) ⟨m, fun _ => 0, g⟩ (fun r => (∀ c : Dev Cert.KernelGateXIdeal.nD,
      r.2.mem ((c.tc : Thread Cert.KernelGateXIdeal.nD Cert.KernelGateXIdeal.τ).loc Cert.KernelGateXIdeal.main_arg0) = m ((c.tc : Thread Cert.KernelGateXIdeal.nD Cert.KernelGateXIdeal.τ).loc Cert.KernelGateXIdeal.main_arg0)
      ∧ r.2.mem ((c.tc : Thread Cert.KernelGateXIdeal.nD Cert.KernelGateXIdeal.τ).loc Cert.KernelGateXIdeal.main_arg1) = m ((c.tc : Thread Cert.KernelGateXIdeal.nD Cert.KernelGateXIdeal.τ).loc Cert.KernelGateXIdeal.main_arg1))
      ∧ r.2.sem = fun _ => 0)

def quiescent_ReferenceGateXIdeal [hReferenceGateXIdeal : Cert.ReferenceGateXIdeal.Facts] : Prop :=
  ∀ (m : (ℓ : Loc Cert.ReferenceGateXIdeal.nD Cert.ReferenceGateXIdeal.τ Cert.ReferenceGateXIdeal.sig) → Buf (Elt Ideal) ℓ) (g : Dev Cert.ReferenceGateXIdeal.nD → PrngReg), Pre_ReferenceGateXIdeal m →
    θ_run (Cert.ReferenceGateXIdeal.defs (F := Ideal)) (onTc (τ := Cert.ReferenceGateXIdeal.τ) (Cert.ReferenceGateXIdeal.main (F := Ideal))) ⟨m, fun _ => 0, g⟩ (fun r => (∀ c : Dev Cert.ReferenceGateXIdeal.nD,
      r.2.mem ((c.tc : Thread Cert.ReferenceGateXIdeal.nD Cert.ReferenceGateXIdeal.τ).loc Cert.ReferenceGateXIdeal.main_arg0) = m ((c.tc : Thread Cert.ReferenceGateXIdeal.nD Cert.ReferenceGateXIdeal.τ).loc Cert.ReferenceGateXIdeal.main_arg0)
      ∧ r.2.mem ((c.tc : Thread Cert.ReferenceGateXIdeal.nD Cert.ReferenceGateXIdeal.τ).loc Cert.ReferenceGateXIdeal.main_arg1) = m ((c.tc : Thread Cert.ReferenceGateXIdeal.nD Cert.ReferenceGateXIdeal.τ).loc Cert.ReferenceGateXIdeal.main_arg1))
      ∧ r.2.sem = fun _ => 0)

def quiescent_KernelUpX [hKernelUpX : Cert.KernelUpX.Facts] : Prop :=
  ∀ (m : (ℓ : Loc Cert.KernelUpX.nD Cert.KernelUpX.τ Cert.KernelUpX.sig) → Buf (Elt Bits) ℓ) (g : Dev Cert.KernelUpX.nD → PrngReg), Pre_KernelUpX m →
    θ_run (Cert.KernelUpX.defs (F := Bits)) (onTc (τ := Cert.KernelUpX.τ) (Cert.KernelUpX.main (F := Bits))) ⟨m, fun _ => 0, g⟩ (fun r => (∀ c : Dev Cert.KernelUpX.nD,
      r.2.mem ((c.tc : Thread Cert.KernelUpX.nD Cert.KernelUpX.τ).loc Cert.KernelUpX.main_arg0) = m ((c.tc : Thread Cert.KernelUpX.nD Cert.KernelUpX.τ).loc Cert.KernelUpX.main_arg0)
      ∧ r.2.mem ((c.tc : Thread Cert.KernelUpX.nD Cert.KernelUpX.τ).loc Cert.KernelUpX.main_arg1) = m ((c.tc : Thread Cert.KernelUpX.nD Cert.KernelUpX.τ).loc Cert.KernelUpX.main_arg1)
      ∧ r.2.mem ((c.tc : Thread Cert.KernelUpX.nD Cert.KernelUpX.τ).loc Cert.KernelUpX.main_arg2) = m ((c.tc : Thread Cert.KernelUpX.nD Cert.KernelUpX.τ).loc Cert.KernelUpX.main_arg2))
      ∧ r.2.sem = fun _ => 0)

def quiescent_KernelUpXIdeal [hKernelUpXIdeal : Cert.KernelUpXIdeal.Facts] : Prop :=
  ∀ (m : (ℓ : Loc Cert.KernelUpXIdeal.nD Cert.KernelUpXIdeal.τ Cert.KernelUpXIdeal.sig) → Buf (Elt Ideal) ℓ) (g : Dev Cert.KernelUpXIdeal.nD → PrngReg), Pre_KernelUpXIdeal m →
    θ_run (Cert.KernelUpXIdeal.defs (F := Ideal)) (onTc (τ := Cert.KernelUpXIdeal.τ) (Cert.KernelUpXIdeal.main (F := Ideal))) ⟨m, fun _ => 0, g⟩ (fun r => (∀ c : Dev Cert.KernelUpXIdeal.nD,
      r.2.mem ((c.tc : Thread Cert.KernelUpXIdeal.nD Cert.KernelUpXIdeal.τ).loc Cert.KernelUpXIdeal.main_arg0) = m ((c.tc : Thread Cert.KernelUpXIdeal.nD Cert.KernelUpXIdeal.τ).loc Cert.KernelUpXIdeal.main_arg0)
      ∧ r.2.mem ((c.tc : Thread Cert.KernelUpXIdeal.nD Cert.KernelUpXIdeal.τ).loc Cert.KernelUpXIdeal.main_arg1) = m ((c.tc : Thread Cert.KernelUpXIdeal.nD Cert.KernelUpXIdeal.τ).loc Cert.KernelUpXIdeal.main_arg1)
      ∧ r.2.mem ((c.tc : Thread Cert.KernelUpXIdeal.nD Cert.KernelUpXIdeal.τ).loc Cert.KernelUpXIdeal.main_arg2) = m ((c.tc : Thread Cert.KernelUpXIdeal.nD Cert.KernelUpXIdeal.τ).loc Cert.KernelUpXIdeal.main_arg2))
      ∧ r.2.sem = fun _ => 0)

def quiescent_ReferenceUpXIdeal [hReferenceUpXIdeal : Cert.ReferenceUpXIdeal.Facts] : Prop :=
  ∀ (m : (ℓ : Loc Cert.ReferenceUpXIdeal.nD Cert.ReferenceUpXIdeal.τ Cert.ReferenceUpXIdeal.sig) → Buf (Elt Ideal) ℓ) (g : Dev Cert.ReferenceUpXIdeal.nD → PrngReg), Pre_ReferenceUpXIdeal m →
    θ_run (Cert.ReferenceUpXIdeal.defs (F := Ideal)) (onTc (τ := Cert.ReferenceUpXIdeal.τ) (Cert.ReferenceUpXIdeal.main (F := Ideal))) ⟨m, fun _ => 0, g⟩ (fun r => (∀ c : Dev Cert.ReferenceUpXIdeal.nD,
      r.2.mem ((c.tc : Thread Cert.ReferenceUpXIdeal.nD Cert.ReferenceUpXIdeal.τ).loc Cert.ReferenceUpXIdeal.main_arg0) = m ((c.tc : Thread Cert.ReferenceUpXIdeal.nD Cert.ReferenceUpXIdeal.τ).loc Cert.ReferenceUpXIdeal.main_arg0)
      ∧ r.2.mem ((c.tc : Thread Cert.ReferenceUpXIdeal.nD Cert.ReferenceUpXIdeal.τ).loc Cert.ReferenceUpXIdeal.main_arg1) = m ((c.tc : Thread Cert.ReferenceUpXIdeal.nD Cert.ReferenceUpXIdeal.τ).loc Cert.ReferenceUpXIdeal.main_arg1)
      ∧ r.2.mem ((c.tc : Thread Cert.ReferenceUpXIdeal.nD Cert.ReferenceUpXIdeal.τ).loc Cert.ReferenceUpXIdeal.main_arg2) = m ((c.tc : Thread Cert.ReferenceUpXIdeal.nD Cert.ReferenceUpXIdeal.τ).loc Cert.ReferenceUpXIdeal.main_arg2))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelProjW [hKernelProjW : Cert.KernelProjW.Facts] : Prop :=
  ∀ (m : (ℓ : Loc Cert.KernelProjW.nD Cert.KernelProjW.τ Cert.KernelProjW.sig) → Buf (Elt Bits) ℓ) (g : Dev Cert.KernelProjW.nD → PrngReg), Pre_KernelProjW m →
    θ_run (Cert.KernelProjW.defs (F := Bits)) (onTc (τ := Cert.KernelProjW.τ) (Cert.KernelProjW.main (F := Bits))) ⟨m, fun _ => 0, g⟩ (fun r => (∀ c : Dev Cert.KernelProjW.nD,
      r.2.mem ((c.tc : Thread Cert.KernelProjW.nD Cert.KernelProjW.τ).loc Cert.KernelProjW.main_arg0) = m ((c.tc : Thread Cert.KernelProjW.nD Cert.KernelProjW.τ).loc Cert.KernelProjW.main_arg0)
      ∧ r.2.mem ((c.tc : Thread Cert.KernelProjW.nD Cert.KernelProjW.τ).loc Cert.KernelProjW.main_arg1) = m ((c.tc : Thread Cert.KernelProjW.nD Cert.KernelProjW.τ).loc Cert.KernelProjW.main_arg1))
      ∧ r.2.sem = fun _ => 0)

def quiescent_KernelProjWIdeal [hKernelProjWIdeal : Cert.KernelProjWIdeal.Facts] : Prop :=
  ∀ (m : (ℓ : Loc Cert.KernelProjWIdeal.nD Cert.KernelProjWIdeal.τ Cert.KernelProjWIdeal.sig) → Buf (Elt Ideal) ℓ) (g : Dev Cert.KernelProjWIdeal.nD → PrngReg), Pre_KernelProjWIdeal m →
    θ_run (Cert.KernelProjWIdeal.defs (F := Ideal)) (onTc (τ := Cert.KernelProjWIdeal.τ) (Cert.KernelProjWIdeal.main (F := Ideal))) ⟨m, fun _ => 0, g⟩ (fun r => (∀ c : Dev Cert.KernelProjWIdeal.nD,
      r.2.mem ((c.tc : Thread Cert.KernelProjWIdeal.nD Cert.KernelProjWIdeal.τ).loc Cert.KernelProjWIdeal.main_arg0) = m ((c.tc : Thread Cert.KernelProjWIdeal.nD Cert.KernelProjWIdeal.τ).loc Cert.KernelProjWIdeal.main_arg0)
      ∧ r.2.mem ((c.tc : Thread Cert.KernelProjWIdeal.nD Cert.KernelProjWIdeal.τ).loc Cert.KernelProjWIdeal.main_arg1) = m ((c.tc : Thread Cert.KernelProjWIdeal.nD Cert.KernelProjWIdeal.τ).loc Cert.KernelProjWIdeal.main_arg1))
      ∧ r.2.sem = fun _ => 0)

def quiescent_ReferenceProjWIdeal [hReferenceProjWIdeal : Cert.ReferenceProjWIdeal.Facts] : Prop :=
  ∀ (m : (ℓ : Loc Cert.ReferenceProjWIdeal.nD Cert.ReferenceProjWIdeal.τ Cert.ReferenceProjWIdeal.sig) → Buf (Elt Ideal) ℓ) (g : Dev Cert.ReferenceProjWIdeal.nD → PrngReg), Pre_ReferenceProjWIdeal m →
    θ_run (Cert.ReferenceProjWIdeal.defs (F := Ideal)) (onTc (τ := Cert.ReferenceProjWIdeal.τ) (Cert.ReferenceProjWIdeal.main (F := Ideal))) ⟨m, fun _ => 0, g⟩ (fun r => (∀ c : Dev Cert.ReferenceProjWIdeal.nD,
      r.2.mem ((c.tc : Thread Cert.ReferenceProjWIdeal.nD Cert.ReferenceProjWIdeal.τ).loc Cert.ReferenceProjWIdeal.main_arg0) = m ((c.tc : Thread Cert.ReferenceProjWIdeal.nD Cert.ReferenceProjWIdeal.τ).loc Cert.ReferenceProjWIdeal.main_arg0)
      ∧ r.2.mem ((c.tc : Thread Cert.ReferenceProjWIdeal.nD Cert.ReferenceProjWIdeal.τ).loc Cert.ReferenceProjWIdeal.main_arg1) = m ((c.tc : Thread Cert.ReferenceProjWIdeal.nD Cert.ReferenceProjWIdeal.τ).loc Cert.ReferenceProjWIdeal.main_arg1))
      ∧ r.2.sem = fun _ => 0)

def quiescent_KernelProjX [hKernelProjX : Cert.KernelProjX.Facts] : Prop :=
  ∀ (m : (ℓ : Loc Cert.KernelProjX.nD Cert.KernelProjX.τ Cert.KernelProjX.sig) → Buf (Elt Bits) ℓ) (g : Dev Cert.KernelProjX.nD → PrngReg), Pre_KernelProjX m →
    θ_run (Cert.KernelProjX.defs (F := Bits)) (onTc (τ := Cert.KernelProjX.τ) (Cert.KernelProjX.main (F := Bits))) ⟨m, fun _ => 0, g⟩ (fun r => (∀ c : Dev Cert.KernelProjX.nD,
      r.2.mem ((c.tc : Thread Cert.KernelProjX.nD Cert.KernelProjX.τ).loc Cert.KernelProjX.main_arg0) = m ((c.tc : Thread Cert.KernelProjX.nD Cert.KernelProjX.τ).loc Cert.KernelProjX.main_arg0)
      ∧ r.2.mem ((c.tc : Thread Cert.KernelProjX.nD Cert.KernelProjX.τ).loc Cert.KernelProjX.main_arg1) = m ((c.tc : Thread Cert.KernelProjX.nD Cert.KernelProjX.τ).loc Cert.KernelProjX.main_arg1))
      ∧ r.2.sem = fun _ => 0)

def quiescent_KernelProjXIdeal [hKernelProjXIdeal : Cert.KernelProjXIdeal.Facts] : Prop :=
  ∀ (m : (ℓ : Loc Cert.KernelProjXIdeal.nD Cert.KernelProjXIdeal.τ Cert.KernelProjXIdeal.sig) → Buf (Elt Ideal) ℓ) (g : Dev Cert.KernelProjXIdeal.nD → PrngReg), Pre_KernelProjXIdeal m →
    θ_run (Cert.KernelProjXIdeal.defs (F := Ideal)) (onTc (τ := Cert.KernelProjXIdeal.τ) (Cert.KernelProjXIdeal.main (F := Ideal))) ⟨m, fun _ => 0, g⟩ (fun r => (∀ c : Dev Cert.KernelProjXIdeal.nD,
      r.2.mem ((c.tc : Thread Cert.KernelProjXIdeal.nD Cert.KernelProjXIdeal.τ).loc Cert.KernelProjXIdeal.main_arg0) = m ((c.tc : Thread Cert.KernelProjXIdeal.nD Cert.KernelProjXIdeal.τ).loc Cert.KernelProjXIdeal.main_arg0)
      ∧ r.2.mem ((c.tc : Thread Cert.KernelProjXIdeal.nD Cert.KernelProjXIdeal.τ).loc Cert.KernelProjXIdeal.main_arg1) = m ((c.tc : Thread Cert.KernelProjXIdeal.nD Cert.KernelProjXIdeal.τ).loc Cert.KernelProjXIdeal.main_arg1))
      ∧ r.2.sem = fun _ => 0)

def quiescent_ReferenceProjXIdeal [hReferenceProjXIdeal : Cert.ReferenceProjXIdeal.Facts] : Prop :=
  ∀ (m : (ℓ : Loc Cert.ReferenceProjXIdeal.nD Cert.ReferenceProjXIdeal.τ Cert.ReferenceProjXIdeal.sig) → Buf (Elt Ideal) ℓ) (g : Dev Cert.ReferenceProjXIdeal.nD → PrngReg), Pre_ReferenceProjXIdeal m →
    θ_run (Cert.ReferenceProjXIdeal.defs (F := Ideal)) (onTc (τ := Cert.ReferenceProjXIdeal.τ) (Cert.ReferenceProjXIdeal.main (F := Ideal))) ⟨m, fun _ => 0, g⟩ (fun r => (∀ c : Dev Cert.ReferenceProjXIdeal.nD,
      r.2.mem ((c.tc : Thread Cert.ReferenceProjXIdeal.nD Cert.ReferenceProjXIdeal.τ).loc Cert.ReferenceProjXIdeal.main_arg0) = m ((c.tc : Thread Cert.ReferenceProjXIdeal.nD Cert.ReferenceProjXIdeal.τ).loc Cert.ReferenceProjXIdeal.main_arg0)
      ∧ r.2.mem ((c.tc : Thread Cert.ReferenceProjXIdeal.nD Cert.ReferenceProjXIdeal.τ).loc Cert.ReferenceProjXIdeal.main_arg1) = m ((c.tc : Thread Cert.ReferenceProjXIdeal.nD Cert.ReferenceProjXIdeal.τ).loc Cert.ReferenceProjXIdeal.main_arg1))
      ∧ r.2.sem = fun _ => 0)

def quiescent_KernelQkvW [hKernelQkvW : Cert.KernelQkvW.Facts] : Prop :=
  ∀ (m : (ℓ : Loc Cert.KernelQkvW.nD Cert.KernelQkvW.τ Cert.KernelQkvW.sig) → Buf (Elt Bits) ℓ) (g : Dev Cert.KernelQkvW.nD → PrngReg), Pre_KernelQkvW m →
    θ_run (Cert.KernelQkvW.defs (F := Bits)) (onTc (τ := Cert.KernelQkvW.τ) (Cert.KernelQkvW.main (F := Bits))) ⟨m, fun _ => 0, g⟩ (fun r => (∀ c : Dev Cert.KernelQkvW.nD,
      r.2.mem ((c.tc : Thread Cert.KernelQkvW.nD Cert.KernelQkvW.τ).loc Cert.KernelQkvW.main_arg0) = m ((c.tc : Thread Cert.KernelQkvW.nD Cert.KernelQkvW.τ).loc Cert.KernelQkvW.main_arg0)
      ∧ r.2.mem ((c.tc : Thread Cert.KernelQkvW.nD Cert.KernelQkvW.τ).loc Cert.KernelQkvW.main_arg1) = m ((c.tc : Thread Cert.KernelQkvW.nD Cert.KernelQkvW.τ).loc Cert.KernelQkvW.main_arg1))
      ∧ r.2.sem = fun _ => 0)

def quiescent_KernelQkvWIdeal [hKernelQkvWIdeal : Cert.KernelQkvWIdeal.Facts] : Prop :=
  ∀ (m : (ℓ : Loc Cert.KernelQkvWIdeal.nD Cert.KernelQkvWIdeal.τ Cert.KernelQkvWIdeal.sig) → Buf (Elt Ideal) ℓ) (g : Dev Cert.KernelQkvWIdeal.nD → PrngReg), Pre_KernelQkvWIdeal m →
    θ_run (Cert.KernelQkvWIdeal.defs (F := Ideal)) (onTc (τ := Cert.KernelQkvWIdeal.τ) (Cert.KernelQkvWIdeal.main (F := Ideal))) ⟨m, fun _ => 0, g⟩ (fun r => (∀ c : Dev Cert.KernelQkvWIdeal.nD,
      r.2.mem ((c.tc : Thread Cert.KernelQkvWIdeal.nD Cert.KernelQkvWIdeal.τ).loc Cert.KernelQkvWIdeal.main_arg0) = m ((c.tc : Thread Cert.KernelQkvWIdeal.nD Cert.KernelQkvWIdeal.τ).loc Cert.KernelQkvWIdeal.main_arg0)
      ∧ r.2.mem ((c.tc : Thread Cert.KernelQkvWIdeal.nD Cert.KernelQkvWIdeal.τ).loc Cert.KernelQkvWIdeal.main_arg1) = m ((c.tc : Thread Cert.KernelQkvWIdeal.nD Cert.KernelQkvWIdeal.τ).loc Cert.KernelQkvWIdeal.main_arg1))
      ∧ r.2.sem = fun _ => 0)

def quiescent_ReferenceQkvWIdeal [hReferenceQkvWIdeal : Cert.ReferenceQkvWIdeal.Facts] : Prop :=
  ∀ (m : (ℓ : Loc Cert.ReferenceQkvWIdeal.nD Cert.ReferenceQkvWIdeal.τ Cert.ReferenceQkvWIdeal.sig) → Buf (Elt Ideal) ℓ) (g : Dev Cert.ReferenceQkvWIdeal.nD → PrngReg), Pre_ReferenceQkvWIdeal m →
    θ_run (Cert.ReferenceQkvWIdeal.defs (F := Ideal)) (onTc (τ := Cert.ReferenceQkvWIdeal.τ) (Cert.ReferenceQkvWIdeal.main (F := Ideal))) ⟨m, fun _ => 0, g⟩ (fun r => (∀ c : Dev Cert.ReferenceQkvWIdeal.nD,
      r.2.mem ((c.tc : Thread Cert.ReferenceQkvWIdeal.nD Cert.ReferenceQkvWIdeal.τ).loc Cert.ReferenceQkvWIdeal.main_arg0) = m ((c.tc : Thread Cert.ReferenceQkvWIdeal.nD Cert.ReferenceQkvWIdeal.τ).loc Cert.ReferenceQkvWIdeal.main_arg0)
      ∧ r.2.mem ((c.tc : Thread Cert.ReferenceQkvWIdeal.nD Cert.ReferenceQkvWIdeal.τ).loc Cert.ReferenceQkvWIdeal.main_arg1) = m ((c.tc : Thread Cert.ReferenceQkvWIdeal.nD Cert.ReferenceQkvWIdeal.τ).loc Cert.ReferenceQkvWIdeal.main_arg1))
      ∧ r.2.sem = fun _ => 0)

def quiescent_KernelQkvX [hKernelQkvX : Cert.KernelQkvX.Facts] : Prop :=
  ∀ (m : (ℓ : Loc Cert.KernelQkvX.nD Cert.KernelQkvX.τ Cert.KernelQkvX.sig) → Buf (Elt Bits) ℓ) (g : Dev Cert.KernelQkvX.nD → PrngReg), Pre_KernelQkvX m →
    θ_run (Cert.KernelQkvX.defs (F := Bits)) (onTc (τ := Cert.KernelQkvX.τ) (Cert.KernelQkvX.main (F := Bits))) ⟨m, fun _ => 0, g⟩ (fun r => (∀ c : Dev Cert.KernelQkvX.nD,
      r.2.mem ((c.tc : Thread Cert.KernelQkvX.nD Cert.KernelQkvX.τ).loc Cert.KernelQkvX.main_arg0) = m ((c.tc : Thread Cert.KernelQkvX.nD Cert.KernelQkvX.τ).loc Cert.KernelQkvX.main_arg0)
      ∧ r.2.mem ((c.tc : Thread Cert.KernelQkvX.nD Cert.KernelQkvX.τ).loc Cert.KernelQkvX.main_arg1) = m ((c.tc : Thread Cert.KernelQkvX.nD Cert.KernelQkvX.τ).loc Cert.KernelQkvX.main_arg1))
      ∧ r.2.sem = fun _ => 0)

def quiescent_KernelQkvXIdeal [hKernelQkvXIdeal : Cert.KernelQkvXIdeal.Facts] : Prop :=
  ∀ (m : (ℓ : Loc Cert.KernelQkvXIdeal.nD Cert.KernelQkvXIdeal.τ Cert.KernelQkvXIdeal.sig) → Buf (Elt Ideal) ℓ) (g : Dev Cert.KernelQkvXIdeal.nD → PrngReg), Pre_KernelQkvXIdeal m →
    θ_run (Cert.KernelQkvXIdeal.defs (F := Ideal)) (onTc (τ := Cert.KernelQkvXIdeal.τ) (Cert.KernelQkvXIdeal.main (F := Ideal))) ⟨m, fun _ => 0, g⟩ (fun r => (∀ c : Dev Cert.KernelQkvXIdeal.nD,
      r.2.mem ((c.tc : Thread Cert.KernelQkvXIdeal.nD Cert.KernelQkvXIdeal.τ).loc Cert.KernelQkvXIdeal.main_arg0) = m ((c.tc : Thread Cert.KernelQkvXIdeal.nD Cert.KernelQkvXIdeal.τ).loc Cert.KernelQkvXIdeal.main_arg0)
      ∧ r.2.mem ((c.tc : Thread Cert.KernelQkvXIdeal.nD Cert.KernelQkvXIdeal.τ).loc Cert.KernelQkvXIdeal.main_arg1) = m ((c.tc : Thread Cert.KernelQkvXIdeal.nD Cert.KernelQkvXIdeal.τ).loc Cert.KernelQkvXIdeal.main_arg1))
      ∧ r.2.sem = fun _ => 0)

def quiescent_ReferenceQkvXIdeal [hReferenceQkvXIdeal : Cert.ReferenceQkvXIdeal.Facts] : Prop :=
  ∀ (m : (ℓ : Loc Cert.ReferenceQkvXIdeal.nD Cert.ReferenceQkvXIdeal.τ Cert.ReferenceQkvXIdeal.sig) → Buf (Elt Ideal) ℓ) (g : Dev Cert.ReferenceQkvXIdeal.nD → PrngReg), Pre_ReferenceQkvXIdeal m →
    θ_run (Cert.ReferenceQkvXIdeal.defs (F := Ideal)) (onTc (τ := Cert.ReferenceQkvXIdeal.τ) (Cert.ReferenceQkvXIdeal.main (F := Ideal))) ⟨m, fun _ => 0, g⟩ (fun r => (∀ c : Dev Cert.ReferenceQkvXIdeal.nD,
      r.2.mem ((c.tc : Thread Cert.ReferenceQkvXIdeal.nD Cert.ReferenceQkvXIdeal.τ).loc Cert.ReferenceQkvXIdeal.main_arg0) = m ((c.tc : Thread Cert.ReferenceQkvXIdeal.nD Cert.ReferenceQkvXIdeal.τ).loc Cert.ReferenceQkvXIdeal.main_arg0)
      ∧ r.2.mem ((c.tc : Thread Cert.ReferenceQkvXIdeal.nD Cert.ReferenceQkvXIdeal.τ).loc Cert.ReferenceQkvXIdeal.main_arg1) = m ((c.tc : Thread Cert.ReferenceQkvXIdeal.nD Cert.ReferenceQkvXIdeal.τ).loc Cert.ReferenceQkvXIdeal.main_arg1))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelProjRes [hKernelProjRes : Cert.KernelProjRes.Facts] : Prop :=
  ∀ (m : (ℓ : Loc Cert.KernelProjRes.nD Cert.KernelProjRes.τ Cert.KernelProjRes.sig) → Buf (Elt Bits) ℓ) (g : Dev Cert.KernelProjRes.nD → PrngReg), Pre_KernelProjRes m →
    θ_run (Cert.KernelProjRes.defs (F := Bits)) (onTc (τ := Cert.KernelProjRes.τ) (Cert.KernelProjRes.main (F := Bits))) ⟨m, fun _ => 0, g⟩ (fun r => (∀ c : Dev Cert.KernelProjRes.nD,
      r.2.mem ((c.tc : Thread Cert.KernelProjRes.nD Cert.KernelProjRes.τ).loc Cert.KernelProjRes.main_arg0) = m ((c.tc : Thread Cert.KernelProjRes.nD Cert.KernelProjRes.τ).loc Cert.KernelProjRes.main_arg0)
      ∧ r.2.mem ((c.tc : Thread Cert.KernelProjRes.nD Cert.KernelProjRes.τ).loc Cert.KernelProjRes.main_arg1) = m ((c.tc : Thread Cert.KernelProjRes.nD Cert.KernelProjRes.τ).loc Cert.KernelProjRes.main_arg1)
      ∧ r.2.mem ((c.tc : Thread Cert.KernelProjRes.nD Cert.KernelProjRes.τ).loc Cert.KernelProjRes.main_arg2) = m ((c.tc : Thread Cert.KernelProjRes.nD Cert.KernelProjRes.τ).loc Cert.KernelProjRes.main_arg2))
      ∧ r.2.sem = fun _ => 0)

def quiescent_KernelProjResIdeal [hKernelProjResIdeal : Cert.KernelProjResIdeal.Facts] : Prop :=
  ∀ (m : (ℓ : Loc Cert.KernelProjResIdeal.nD Cert.KernelProjResIdeal.τ Cert.KernelProjResIdeal.sig) → Buf (Elt Ideal) ℓ) (g : Dev Cert.KernelProjResIdeal.nD → PrngReg), Pre_KernelProjResIdeal m →
    θ_run (Cert.KernelProjResIdeal.defs (F := Ideal)) (onTc (τ := Cert.KernelProjResIdeal.τ) (Cert.KernelProjResIdeal.main (F := Ideal))) ⟨m, fun _ => 0, g⟩ (fun r => (∀ c : Dev Cert.KernelProjResIdeal.nD,
      r.2.mem ((c.tc : Thread Cert.KernelProjResIdeal.nD Cert.KernelProjResIdeal.τ).loc Cert.KernelProjResIdeal.main_arg0) = m ((c.tc : Thread Cert.KernelProjResIdeal.nD Cert.KernelProjResIdeal.τ).loc Cert.KernelProjResIdeal.main_arg0)
      ∧ r.2.mem ((c.tc : Thread Cert.KernelProjResIdeal.nD Cert.KernelProjResIdeal.τ).loc Cert.KernelProjResIdeal.main_arg1) = m ((c.tc : Thread Cert.KernelProjResIdeal.nD Cert.KernelProjResIdeal.τ).loc Cert.KernelProjResIdeal.main_arg1)
      ∧ r.2.mem ((c.tc : Thread Cert.KernelProjResIdeal.nD Cert.KernelProjResIdeal.τ).loc Cert.KernelProjResIdeal.main_arg2) = m ((c.tc : Thread Cert.KernelProjResIdeal.nD Cert.KernelProjResIdeal.τ).loc Cert.KernelProjResIdeal.main_arg2))
      ∧ r.2.sem = fun _ => 0)

def quiescent_ReferenceProjResIdeal [hReferenceProjResIdeal : Cert.ReferenceProjResIdeal.Facts] : Prop :=
  ∀ (m : (ℓ : Loc Cert.ReferenceProjResIdeal.nD Cert.ReferenceProjResIdeal.τ Cert.ReferenceProjResIdeal.sig) → Buf (Elt Ideal) ℓ) (g : Dev Cert.ReferenceProjResIdeal.nD → PrngReg), Pre_ReferenceProjResIdeal m →
    θ_run (Cert.ReferenceProjResIdeal.defs (F := Ideal)) (onTc (τ := Cert.ReferenceProjResIdeal.τ) (Cert.ReferenceProjResIdeal.main (F := Ideal))) ⟨m, fun _ => 0, g⟩ (fun r => (∀ c : Dev Cert.ReferenceProjResIdeal.nD,
      r.2.mem ((c.tc : Thread Cert.ReferenceProjResIdeal.nD Cert.ReferenceProjResIdeal.τ).loc Cert.ReferenceProjResIdeal.main_arg0) = m ((c.tc : Thread Cert.ReferenceProjResIdeal.nD Cert.ReferenceProjResIdeal.τ).loc Cert.ReferenceProjResIdeal.main_arg0)
      ∧ r.2.mem ((c.tc : Thread Cert.ReferenceProjResIdeal.nD Cert.ReferenceProjResIdeal.τ).loc Cert.ReferenceProjResIdeal.main_arg1) = m ((c.tc : Thread Cert.ReferenceProjResIdeal.nD Cert.ReferenceProjResIdeal.τ).loc Cert.ReferenceProjResIdeal.main_arg1)
      ∧ r.2.mem ((c.tc : Thread Cert.ReferenceProjResIdeal.nD Cert.ReferenceProjResIdeal.τ).loc Cert.ReferenceProjResIdeal.main_arg2) = m ((c.tc : Thread Cert.ReferenceProjResIdeal.nD Cert.ReferenceProjResIdeal.τ).loc Cert.ReferenceProjResIdeal.main_arg2))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1))
      ∧ r.2.sem = fun _ => 0)

def quiescent_KernelAdamEvIn [hKernelAdamEvIn : Cert.KernelAdamEvIn.Facts] : Prop :=
  ∀ (m : (ℓ : Loc Cert.KernelAdamEvIn.nD Cert.KernelAdamEvIn.τ Cert.KernelAdamEvIn.sig) → Buf (Elt Bits) ℓ) (g : Dev Cert.KernelAdamEvIn.nD → PrngReg), Pre_KernelAdamEvIn m →
    θ_run (Cert.KernelAdamEvIn.defs (F := Bits)) (onTc (τ := Cert.KernelAdamEvIn.τ) (Cert.KernelAdamEvIn.main (F := Bits))) ⟨m, fun _ => 0, g⟩ (fun r => (∀ c : Dev Cert.KernelAdamEvIn.nD,
      r.2.mem ((c.tc : Thread Cert.KernelAdamEvIn.nD Cert.KernelAdamEvIn.τ).loc Cert.KernelAdamEvIn.main_arg0) = m ((c.tc : Thread Cert.KernelAdamEvIn.nD Cert.KernelAdamEvIn.τ).loc Cert.KernelAdamEvIn.main_arg0)
      ∧ r.2.mem ((c.tc : Thread Cert.KernelAdamEvIn.nD Cert.KernelAdamEvIn.τ).loc Cert.KernelAdamEvIn.main_arg1) = m ((c.tc : Thread Cert.KernelAdamEvIn.nD Cert.KernelAdamEvIn.τ).loc Cert.KernelAdamEvIn.main_arg1)
      ∧ r.2.mem ((c.tc : Thread Cert.KernelAdamEvIn.nD Cert.KernelAdamEvIn.τ).loc Cert.KernelAdamEvIn.main_arg2) = m ((c.tc : Thread Cert.KernelAdamEvIn.nD Cert.KernelAdamEvIn.τ).loc Cert.KernelAdamEvIn.main_arg2)
      ∧ r.2.mem ((c.tc : Thread Cert.KernelAdamEvIn.nD Cert.KernelAdamEvIn.τ).loc Cert.KernelAdamEvIn.main_arg3) = m ((c.tc : Thread Cert.KernelAdamEvIn.nD Cert.KernelAdamEvIn.τ).loc Cert.KernelAdamEvIn.main_arg3))
      ∧ r.2.sem = fun _ => 0)

def quiescent_KernelAdamEvInIdeal [hKernelAdamEvInIdeal : Cert.KernelAdamEvInIdeal.Facts] : Prop :=
  ∀ (m : (ℓ : Loc Cert.KernelAdamEvInIdeal.nD Cert.KernelAdamEvInIdeal.τ Cert.KernelAdamEvInIdeal.sig) → Buf (Elt Ideal) ℓ) (g : Dev Cert.KernelAdamEvInIdeal.nD → PrngReg), Pre_KernelAdamEvInIdeal m →
    θ_run (Cert.KernelAdamEvInIdeal.defs (F := Ideal)) (onTc (τ := Cert.KernelAdamEvInIdeal.τ) (Cert.KernelAdamEvInIdeal.main (F := Ideal))) ⟨m, fun _ => 0, g⟩ (fun r => (∀ c : Dev Cert.KernelAdamEvInIdeal.nD,
      r.2.mem ((c.tc : Thread Cert.KernelAdamEvInIdeal.nD Cert.KernelAdamEvInIdeal.τ).loc Cert.KernelAdamEvInIdeal.main_arg0) = m ((c.tc : Thread Cert.KernelAdamEvInIdeal.nD Cert.KernelAdamEvInIdeal.τ).loc Cert.KernelAdamEvInIdeal.main_arg0)
      ∧ r.2.mem ((c.tc : Thread Cert.KernelAdamEvInIdeal.nD Cert.KernelAdamEvInIdeal.τ).loc Cert.KernelAdamEvInIdeal.main_arg1) = m ((c.tc : Thread Cert.KernelAdamEvInIdeal.nD Cert.KernelAdamEvInIdeal.τ).loc Cert.KernelAdamEvInIdeal.main_arg1)
      ∧ r.2.mem ((c.tc : Thread Cert.KernelAdamEvInIdeal.nD Cert.KernelAdamEvInIdeal.τ).loc Cert.KernelAdamEvInIdeal.main_arg2) = m ((c.tc : Thread Cert.KernelAdamEvInIdeal.nD Cert.KernelAdamEvInIdeal.τ).loc Cert.KernelAdamEvInIdeal.main_arg2)
      ∧ r.2.mem ((c.tc : Thread Cert.KernelAdamEvInIdeal.nD Cert.KernelAdamEvInIdeal.τ).loc Cert.KernelAdamEvInIdeal.main_arg3) = m ((c.tc : Thread Cert.KernelAdamEvInIdeal.nD Cert.KernelAdamEvInIdeal.τ).loc Cert.KernelAdamEvInIdeal.main_arg3))
      ∧ r.2.sem = fun _ => 0)

def quiescent_ReferenceAdamEvInIdeal [hReferenceAdamEvInIdeal : Cert.ReferenceAdamEvInIdeal.Facts] : Prop :=
  ∀ (m : (ℓ : Loc Cert.ReferenceAdamEvInIdeal.nD Cert.ReferenceAdamEvInIdeal.τ Cert.ReferenceAdamEvInIdeal.sig) → Buf (Elt Ideal) ℓ) (g : Dev Cert.ReferenceAdamEvInIdeal.nD → PrngReg), Pre_ReferenceAdamEvInIdeal m →
    θ_run (Cert.ReferenceAdamEvInIdeal.defs (F := Ideal)) (onTc (τ := Cert.ReferenceAdamEvInIdeal.τ) (Cert.ReferenceAdamEvInIdeal.main (F := Ideal))) ⟨m, fun _ => 0, g⟩ (fun r => (∀ c : Dev Cert.ReferenceAdamEvInIdeal.nD,
      r.2.mem ((c.tc : Thread Cert.ReferenceAdamEvInIdeal.nD Cert.ReferenceAdamEvInIdeal.τ).loc Cert.ReferenceAdamEvInIdeal.main_arg0) = m ((c.tc : Thread Cert.ReferenceAdamEvInIdeal.nD Cert.ReferenceAdamEvInIdeal.τ).loc Cert.ReferenceAdamEvInIdeal.main_arg0)
      ∧ r.2.mem ((c.tc : Thread Cert.ReferenceAdamEvInIdeal.nD Cert.ReferenceAdamEvInIdeal.τ).loc Cert.ReferenceAdamEvInIdeal.main_arg1) = m ((c.tc : Thread Cert.ReferenceAdamEvInIdeal.nD Cert.ReferenceAdamEvInIdeal.τ).loc Cert.ReferenceAdamEvInIdeal.main_arg1)
      ∧ r.2.mem ((c.tc : Thread Cert.ReferenceAdamEvInIdeal.nD Cert.ReferenceAdamEvInIdeal.τ).loc Cert.ReferenceAdamEvInIdeal.main_arg2) = m ((c.tc : Thread Cert.ReferenceAdamEvInIdeal.nD Cert.ReferenceAdamEvInIdeal.τ).loc Cert.ReferenceAdamEvInIdeal.main_arg2)
      ∧ r.2.mem ((c.tc : Thread Cert.ReferenceAdamEvInIdeal.nD Cert.ReferenceAdamEvInIdeal.τ).loc Cert.ReferenceAdamEvInIdeal.main_arg3) = m ((c.tc : Thread Cert.ReferenceAdamEvInIdeal.nD Cert.ReferenceAdamEvInIdeal.τ).loc Cert.ReferenceAdamEvInIdeal.main_arg3))
      ∧ r.2.sem = fun _ => 0)

def quiescent_KernelAdamPool [hKernelAdamPool : Cert.KernelAdamPool.Facts] : Prop :=
  ∀ (m : (ℓ : Loc Cert.KernelAdamPool.nD Cert.KernelAdamPool.τ Cert.KernelAdamPool.sig) → Buf (Elt Bits) ℓ) (g : Dev Cert.KernelAdamPool.nD → PrngReg), Pre_KernelAdamPool m →
    θ_run (Cert.KernelAdamPool.defs (F := Bits)) (onTc (τ := Cert.KernelAdamPool.τ) (Cert.KernelAdamPool.main (F := Bits))) ⟨m, fun _ => 0, g⟩ (fun r => (∀ c : Dev Cert.KernelAdamPool.nD,
      r.2.mem ((c.tc : Thread Cert.KernelAdamPool.nD Cert.KernelAdamPool.τ).loc Cert.KernelAdamPool.main_arg0) = m ((c.tc : Thread Cert.KernelAdamPool.nD Cert.KernelAdamPool.τ).loc Cert.KernelAdamPool.main_arg0)
      ∧ r.2.mem ((c.tc : Thread Cert.KernelAdamPool.nD Cert.KernelAdamPool.τ).loc Cert.KernelAdamPool.main_arg1) = m ((c.tc : Thread Cert.KernelAdamPool.nD Cert.KernelAdamPool.τ).loc Cert.KernelAdamPool.main_arg1)
      ∧ r.2.mem ((c.tc : Thread Cert.KernelAdamPool.nD Cert.KernelAdamPool.τ).loc Cert.KernelAdamPool.main_arg2) = m ((c.tc : Thread Cert.KernelAdamPool.nD Cert.KernelAdamPool.τ).loc Cert.KernelAdamPool.main_arg2)
      ∧ r.2.mem ((c.tc : Thread Cert.KernelAdamPool.nD Cert.KernelAdamPool.τ).loc Cert.KernelAdamPool.main_arg3) = m ((c.tc : Thread Cert.KernelAdamPool.nD Cert.KernelAdamPool.τ).loc Cert.KernelAdamPool.main_arg3))
      ∧ r.2.sem = fun _ => 0)

def quiescent_KernelAdamPoolIdeal [hKernelAdamPoolIdeal : Cert.KernelAdamPoolIdeal.Facts] : Prop :=
  ∀ (m : (ℓ : Loc Cert.KernelAdamPoolIdeal.nD Cert.KernelAdamPoolIdeal.τ Cert.KernelAdamPoolIdeal.sig) → Buf (Elt Ideal) ℓ) (g : Dev Cert.KernelAdamPoolIdeal.nD → PrngReg), Pre_KernelAdamPoolIdeal m →
    θ_run (Cert.KernelAdamPoolIdeal.defs (F := Ideal)) (onTc (τ := Cert.KernelAdamPoolIdeal.τ) (Cert.KernelAdamPoolIdeal.main (F := Ideal))) ⟨m, fun _ => 0, g⟩ (fun r => (∀ c : Dev Cert.KernelAdamPoolIdeal.nD,
      r.2.mem ((c.tc : Thread Cert.KernelAdamPoolIdeal.nD Cert.KernelAdamPoolIdeal.τ).loc Cert.KernelAdamPoolIdeal.main_arg0) = m ((c.tc : Thread Cert.KernelAdamPoolIdeal.nD Cert.KernelAdamPoolIdeal.τ).loc Cert.KernelAdamPoolIdeal.main_arg0)
      ∧ r.2.mem ((c.tc : Thread Cert.KernelAdamPoolIdeal.nD Cert.KernelAdamPoolIdeal.τ).loc Cert.KernelAdamPoolIdeal.main_arg1) = m ((c.tc : Thread Cert.KernelAdamPoolIdeal.nD Cert.KernelAdamPoolIdeal.τ).loc Cert.KernelAdamPoolIdeal.main_arg1)
      ∧ r.2.mem ((c.tc : Thread Cert.KernelAdamPoolIdeal.nD Cert.KernelAdamPoolIdeal.τ).loc Cert.KernelAdamPoolIdeal.main_arg2) = m ((c.tc : Thread Cert.KernelAdamPoolIdeal.nD Cert.KernelAdamPoolIdeal.τ).loc Cert.KernelAdamPoolIdeal.main_arg2)
      ∧ r.2.mem ((c.tc : Thread Cert.KernelAdamPoolIdeal.nD Cert.KernelAdamPoolIdeal.τ).loc Cert.KernelAdamPoolIdeal.main_arg3) = m ((c.tc : Thread Cert.KernelAdamPoolIdeal.nD Cert.KernelAdamPoolIdeal.τ).loc Cert.KernelAdamPoolIdeal.main_arg3))
      ∧ r.2.sem = fun _ => 0)

def quiescent_ReferenceAdamPoolIdeal [hReferenceAdamPoolIdeal : Cert.ReferenceAdamPoolIdeal.Facts] : Prop :=
  ∀ (m : (ℓ : Loc Cert.ReferenceAdamPoolIdeal.nD Cert.ReferenceAdamPoolIdeal.τ Cert.ReferenceAdamPoolIdeal.sig) → Buf (Elt Ideal) ℓ) (g : Dev Cert.ReferenceAdamPoolIdeal.nD → PrngReg), Pre_ReferenceAdamPoolIdeal m →
    θ_run (Cert.ReferenceAdamPoolIdeal.defs (F := Ideal)) (onTc (τ := Cert.ReferenceAdamPoolIdeal.τ) (Cert.ReferenceAdamPoolIdeal.main (F := Ideal))) ⟨m, fun _ => 0, g⟩ (fun r => (∀ c : Dev Cert.ReferenceAdamPoolIdeal.nD,
      r.2.mem ((c.tc : Thread Cert.ReferenceAdamPoolIdeal.nD Cert.ReferenceAdamPoolIdeal.τ).loc Cert.ReferenceAdamPoolIdeal.main_arg0) = m ((c.tc : Thread Cert.ReferenceAdamPoolIdeal.nD Cert.ReferenceAdamPoolIdeal.τ).loc Cert.ReferenceAdamPoolIdeal.main_arg0)
      ∧ r.2.mem ((c.tc : Thread Cert.ReferenceAdamPoolIdeal.nD Cert.ReferenceAdamPoolIdeal.τ).loc Cert.ReferenceAdamPoolIdeal.main_arg1) = m ((c.tc : Thread Cert.ReferenceAdamPoolIdeal.nD Cert.ReferenceAdamPoolIdeal.τ).loc Cert.ReferenceAdamPoolIdeal.main_arg1)
      ∧ r.2.mem ((c.tc : Thread Cert.ReferenceAdamPoolIdeal.nD Cert.ReferenceAdamPoolIdeal.τ).loc Cert.ReferenceAdamPoolIdeal.main_arg2) = m ((c.tc : Thread Cert.ReferenceAdamPoolIdeal.nD Cert.ReferenceAdamPoolIdeal.τ).loc Cert.ReferenceAdamPoolIdeal.main_arg2)
      ∧ r.2.mem ((c.tc : Thread Cert.ReferenceAdamPoolIdeal.nD Cert.ReferenceAdamPoolIdeal.τ).loc Cert.ReferenceAdamPoolIdeal.main_arg3) = m ((c.tc : Thread Cert.ReferenceAdamPoolIdeal.nD Cert.ReferenceAdamPoolIdeal.τ).loc Cert.ReferenceAdamPoolIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelAdamOdIn [hKernelAdamOdIn : Cert.KernelAdamOdIn.Facts] : Prop :=
  ∀ (m : (ℓ : Loc Cert.KernelAdamOdIn.nD Cert.KernelAdamOdIn.τ Cert.KernelAdamOdIn.sig) → Buf (Elt Bits) ℓ) (g : Dev Cert.KernelAdamOdIn.nD → PrngReg), Pre_KernelAdamOdIn m →
    θ_run (Cert.KernelAdamOdIn.defs (F := Bits)) (onTc (τ := Cert.KernelAdamOdIn.τ) (Cert.KernelAdamOdIn.main (F := Bits))) ⟨m, fun _ => 0, g⟩ (fun r => (∀ c : Dev Cert.KernelAdamOdIn.nD,
      r.2.mem ((c.tc : Thread Cert.KernelAdamOdIn.nD Cert.KernelAdamOdIn.τ).loc Cert.KernelAdamOdIn.main_arg0) = m ((c.tc : Thread Cert.KernelAdamOdIn.nD Cert.KernelAdamOdIn.τ).loc Cert.KernelAdamOdIn.main_arg0)
      ∧ r.2.mem ((c.tc : Thread Cert.KernelAdamOdIn.nD Cert.KernelAdamOdIn.τ).loc Cert.KernelAdamOdIn.main_arg1) = m ((c.tc : Thread Cert.KernelAdamOdIn.nD Cert.KernelAdamOdIn.τ).loc Cert.KernelAdamOdIn.main_arg1)
      ∧ r.2.mem ((c.tc : Thread Cert.KernelAdamOdIn.nD Cert.KernelAdamOdIn.τ).loc Cert.KernelAdamOdIn.main_arg2) = m ((c.tc : Thread Cert.KernelAdamOdIn.nD Cert.KernelAdamOdIn.τ).loc Cert.KernelAdamOdIn.main_arg2)
      ∧ r.2.mem ((c.tc : Thread Cert.KernelAdamOdIn.nD Cert.KernelAdamOdIn.τ).loc Cert.KernelAdamOdIn.main_arg3) = m ((c.tc : Thread Cert.KernelAdamOdIn.nD Cert.KernelAdamOdIn.τ).loc Cert.KernelAdamOdIn.main_arg3))
      ∧ r.2.sem = fun _ => 0)

def quiescent_KernelAdamOdInIdeal [hKernelAdamOdInIdeal : Cert.KernelAdamOdInIdeal.Facts] : Prop :=
  ∀ (m : (ℓ : Loc Cert.KernelAdamOdInIdeal.nD Cert.KernelAdamOdInIdeal.τ Cert.KernelAdamOdInIdeal.sig) → Buf (Elt Ideal) ℓ) (g : Dev Cert.KernelAdamOdInIdeal.nD → PrngReg), Pre_KernelAdamOdInIdeal m →
    θ_run (Cert.KernelAdamOdInIdeal.defs (F := Ideal)) (onTc (τ := Cert.KernelAdamOdInIdeal.τ) (Cert.KernelAdamOdInIdeal.main (F := Ideal))) ⟨m, fun _ => 0, g⟩ (fun r => (∀ c : Dev Cert.KernelAdamOdInIdeal.nD,
      r.2.mem ((c.tc : Thread Cert.KernelAdamOdInIdeal.nD Cert.KernelAdamOdInIdeal.τ).loc Cert.KernelAdamOdInIdeal.main_arg0) = m ((c.tc : Thread Cert.KernelAdamOdInIdeal.nD Cert.KernelAdamOdInIdeal.τ).loc Cert.KernelAdamOdInIdeal.main_arg0)
      ∧ r.2.mem ((c.tc : Thread Cert.KernelAdamOdInIdeal.nD Cert.KernelAdamOdInIdeal.τ).loc Cert.KernelAdamOdInIdeal.main_arg1) = m ((c.tc : Thread Cert.KernelAdamOdInIdeal.nD Cert.KernelAdamOdInIdeal.τ).loc Cert.KernelAdamOdInIdeal.main_arg1)
      ∧ r.2.mem ((c.tc : Thread Cert.KernelAdamOdInIdeal.nD Cert.KernelAdamOdInIdeal.τ).loc Cert.KernelAdamOdInIdeal.main_arg2) = m ((c.tc : Thread Cert.KernelAdamOdInIdeal.nD Cert.KernelAdamOdInIdeal.τ).loc Cert.KernelAdamOdInIdeal.main_arg2)
      ∧ r.2.mem ((c.tc : Thread Cert.KernelAdamOdInIdeal.nD Cert.KernelAdamOdInIdeal.τ).loc Cert.KernelAdamOdInIdeal.main_arg3) = m ((c.tc : Thread Cert.KernelAdamOdInIdeal.nD Cert.KernelAdamOdInIdeal.τ).loc Cert.KernelAdamOdInIdeal.main_arg3))
      ∧ r.2.sem = fun _ => 0)

def quiescent_ReferenceAdamOdInIdeal [hReferenceAdamOdInIdeal : Cert.ReferenceAdamOdInIdeal.Facts] : Prop :=
  ∀ (m : (ℓ : Loc Cert.ReferenceAdamOdInIdeal.nD Cert.ReferenceAdamOdInIdeal.τ Cert.ReferenceAdamOdInIdeal.sig) → Buf (Elt Ideal) ℓ) (g : Dev Cert.ReferenceAdamOdInIdeal.nD → PrngReg), Pre_ReferenceAdamOdInIdeal m →
    θ_run (Cert.ReferenceAdamOdInIdeal.defs (F := Ideal)) (onTc (τ := Cert.ReferenceAdamOdInIdeal.τ) (Cert.ReferenceAdamOdInIdeal.main (F := Ideal))) ⟨m, fun _ => 0, g⟩ (fun r => (∀ c : Dev Cert.ReferenceAdamOdInIdeal.nD,
      r.2.mem ((c.tc : Thread Cert.ReferenceAdamOdInIdeal.nD Cert.ReferenceAdamOdInIdeal.τ).loc Cert.ReferenceAdamOdInIdeal.main_arg0) = m ((c.tc : Thread Cert.ReferenceAdamOdInIdeal.nD Cert.ReferenceAdamOdInIdeal.τ).loc Cert.ReferenceAdamOdInIdeal.main_arg0)
      ∧ r.2.mem ((c.tc : Thread Cert.ReferenceAdamOdInIdeal.nD Cert.ReferenceAdamOdInIdeal.τ).loc Cert.ReferenceAdamOdInIdeal.main_arg1) = m ((c.tc : Thread Cert.ReferenceAdamOdInIdeal.nD Cert.ReferenceAdamOdInIdeal.τ).loc Cert.ReferenceAdamOdInIdeal.main_arg1)
      ∧ r.2.mem ((c.tc : Thread Cert.ReferenceAdamOdInIdeal.nD Cert.ReferenceAdamOdInIdeal.τ).loc Cert.ReferenceAdamOdInIdeal.main_arg2) = m ((c.tc : Thread Cert.ReferenceAdamOdInIdeal.nD Cert.ReferenceAdamOdInIdeal.τ).loc Cert.ReferenceAdamOdInIdeal.main_arg2)
      ∧ r.2.mem ((c.tc : Thread Cert.ReferenceAdamOdInIdeal.nD Cert.ReferenceAdamOdInIdeal.τ).loc Cert.ReferenceAdamOdInIdeal.main_arg3) = m ((c.tc : Thread Cert.ReferenceAdamOdInIdeal.nD Cert.ReferenceAdamOdInIdeal.τ).loc Cert.ReferenceAdamOdInIdeal.main_arg3))
      ∧ r.2.sem = fun _ => 0)

def quiescent_KernelAdamXa [hKernelAdamXa : Cert.KernelAdamXa.Facts] : Prop :=
  ∀ (m : (ℓ : Loc Cert.KernelAdamXa.nD Cert.KernelAdamXa.τ Cert.KernelAdamXa.sig) → Buf (Elt Bits) ℓ) (g : Dev Cert.KernelAdamXa.nD → PrngReg), Pre_KernelAdamXa m →
    θ_run (Cert.KernelAdamXa.defs (F := Bits)) (onTc (τ := Cert.KernelAdamXa.τ) (Cert.KernelAdamXa.main (F := Bits))) ⟨m, fun _ => 0, g⟩ (fun r => (∀ c : Dev Cert.KernelAdamXa.nD,
      r.2.mem ((c.tc : Thread Cert.KernelAdamXa.nD Cert.KernelAdamXa.τ).loc Cert.KernelAdamXa.main_arg0) = m ((c.tc : Thread Cert.KernelAdamXa.nD Cert.KernelAdamXa.τ).loc Cert.KernelAdamXa.main_arg0)
      ∧ r.2.mem ((c.tc : Thread Cert.KernelAdamXa.nD Cert.KernelAdamXa.τ).loc Cert.KernelAdamXa.main_arg1) = m ((c.tc : Thread Cert.KernelAdamXa.nD Cert.KernelAdamXa.τ).loc Cert.KernelAdamXa.main_arg1)
      ∧ r.2.mem ((c.tc : Thread Cert.KernelAdamXa.nD Cert.KernelAdamXa.τ).loc Cert.KernelAdamXa.main_arg2) = m ((c.tc : Thread Cert.KernelAdamXa.nD Cert.KernelAdamXa.τ).loc Cert.KernelAdamXa.main_arg2)
      ∧ r.2.mem ((c.tc : Thread Cert.KernelAdamXa.nD Cert.KernelAdamXa.τ).loc Cert.KernelAdamXa.main_arg3) = m ((c.tc : Thread Cert.KernelAdamXa.nD Cert.KernelAdamXa.τ).loc Cert.KernelAdamXa.main_arg3))
      ∧ r.2.sem = fun _ => 0)

def quiescent_KernelAdamXaIdeal [hKernelAdamXaIdeal : Cert.KernelAdamXaIdeal.Facts] : Prop :=
  ∀ (m : (ℓ : Loc Cert.KernelAdamXaIdeal.nD Cert.KernelAdamXaIdeal.τ Cert.KernelAdamXaIdeal.sig) → Buf (Elt Ideal) ℓ) (g : Dev Cert.KernelAdamXaIdeal.nD → PrngReg), Pre_KernelAdamXaIdeal m →
    θ_run (Cert.KernelAdamXaIdeal.defs (F := Ideal)) (onTc (τ := Cert.KernelAdamXaIdeal.τ) (Cert.KernelAdamXaIdeal.main (F := Ideal))) ⟨m, fun _ => 0, g⟩ (fun r => (∀ c : Dev Cert.KernelAdamXaIdeal.nD,
      r.2.mem ((c.tc : Thread Cert.KernelAdamXaIdeal.nD Cert.KernelAdamXaIdeal.τ).loc Cert.KernelAdamXaIdeal.main_arg0) = m ((c.tc : Thread Cert.KernelAdamXaIdeal.nD Cert.KernelAdamXaIdeal.τ).loc Cert.KernelAdamXaIdeal.main_arg0)
      ∧ r.2.mem ((c.tc : Thread Cert.KernelAdamXaIdeal.nD Cert.KernelAdamXaIdeal.τ).loc Cert.KernelAdamXaIdeal.main_arg1) = m ((c.tc : Thread Cert.KernelAdamXaIdeal.nD Cert.KernelAdamXaIdeal.τ).loc Cert.KernelAdamXaIdeal.main_arg1)
      ∧ r.2.mem ((c.tc : Thread Cert.KernelAdamXaIdeal.nD Cert.KernelAdamXaIdeal.τ).loc Cert.KernelAdamXaIdeal.main_arg2) = m ((c.tc : Thread Cert.KernelAdamXaIdeal.nD Cert.KernelAdamXaIdeal.τ).loc Cert.KernelAdamXaIdeal.main_arg2)
      ∧ r.2.mem ((c.tc : Thread Cert.KernelAdamXaIdeal.nD Cert.KernelAdamXaIdeal.τ).loc Cert.KernelAdamXaIdeal.main_arg3) = m ((c.tc : Thread Cert.KernelAdamXaIdeal.nD Cert.KernelAdamXaIdeal.τ).loc Cert.KernelAdamXaIdeal.main_arg3))
      ∧ r.2.sem = fun _ => 0)

def quiescent_ReferenceAdamXaIdeal [hReferenceAdamXaIdeal : Cert.ReferenceAdamXaIdeal.Facts] : Prop :=
  ∀ (m : (ℓ : Loc Cert.ReferenceAdamXaIdeal.nD Cert.ReferenceAdamXaIdeal.τ Cert.ReferenceAdamXaIdeal.sig) → Buf (Elt Ideal) ℓ) (g : Dev Cert.ReferenceAdamXaIdeal.nD → PrngReg), Pre_ReferenceAdamXaIdeal m →
    θ_run (Cert.ReferenceAdamXaIdeal.defs (F := Ideal)) (onTc (τ := Cert.ReferenceAdamXaIdeal.τ) (Cert.ReferenceAdamXaIdeal.main (F := Ideal))) ⟨m, fun _ => 0, g⟩ (fun r => (∀ c : Dev Cert.ReferenceAdamXaIdeal.nD,
      r.2.mem ((c.tc : Thread Cert.ReferenceAdamXaIdeal.nD Cert.ReferenceAdamXaIdeal.τ).loc Cert.ReferenceAdamXaIdeal.main_arg0) = m ((c.tc : Thread Cert.ReferenceAdamXaIdeal.nD Cert.ReferenceAdamXaIdeal.τ).loc Cert.ReferenceAdamXaIdeal.main_arg0)
      ∧ r.2.mem ((c.tc : Thread Cert.ReferenceAdamXaIdeal.nD Cert.ReferenceAdamXaIdeal.τ).loc Cert.ReferenceAdamXaIdeal.main_arg1) = m ((c.tc : Thread Cert.ReferenceAdamXaIdeal.nD Cert.ReferenceAdamXaIdeal.τ).loc Cert.ReferenceAdamXaIdeal.main_arg1)
      ∧ r.2.mem ((c.tc : Thread Cert.ReferenceAdamXaIdeal.nD Cert.ReferenceAdamXaIdeal.τ).loc Cert.ReferenceAdamXaIdeal.main_arg2) = m ((c.tc : Thread Cert.ReferenceAdamXaIdeal.nD Cert.ReferenceAdamXaIdeal.τ).loc Cert.ReferenceAdamXaIdeal.main_arg2)
      ∧ r.2.mem ((c.tc : Thread Cert.ReferenceAdamXaIdeal.nD Cert.ReferenceAdamXaIdeal.τ).loc Cert.ReferenceAdamXaIdeal.main_arg3) = m ((c.tc : Thread Cert.ReferenceAdamXaIdeal.nD Cert.ReferenceAdamXaIdeal.τ).loc Cert.ReferenceAdamXaIdeal.main_arg3))
      ∧ r.2.sem = fun _ => 0)

def quiescent_KernelAdamKv [hKernelAdamKv : Cert.KernelAdamKv.Facts] : Prop :=
  ∀ (m : (ℓ : Loc Cert.KernelAdamKv.nD Cert.KernelAdamKv.τ Cert.KernelAdamKv.sig) → Buf (Elt Bits) ℓ) (g : Dev Cert.KernelAdamKv.nD → PrngReg), Pre_KernelAdamKv m →
    θ_run (Cert.KernelAdamKv.defs (F := Bits)) (onTc (τ := Cert.KernelAdamKv.τ) (Cert.KernelAdamKv.main (F := Bits))) ⟨m, fun _ => 0, g⟩ (fun r => (∀ c : Dev Cert.KernelAdamKv.nD,
      r.2.mem ((c.tc : Thread Cert.KernelAdamKv.nD Cert.KernelAdamKv.τ).loc Cert.KernelAdamKv.main_arg0) = m ((c.tc : Thread Cert.KernelAdamKv.nD Cert.KernelAdamKv.τ).loc Cert.KernelAdamKv.main_arg0)
      ∧ r.2.mem ((c.tc : Thread Cert.KernelAdamKv.nD Cert.KernelAdamKv.τ).loc Cert.KernelAdamKv.main_arg1) = m ((c.tc : Thread Cert.KernelAdamKv.nD Cert.KernelAdamKv.τ).loc Cert.KernelAdamKv.main_arg1)
      ∧ r.2.mem ((c.tc : Thread Cert.KernelAdamKv.nD Cert.KernelAdamKv.τ).loc Cert.KernelAdamKv.main_arg2) = m ((c.tc : Thread Cert.KernelAdamKv.nD Cert.KernelAdamKv.τ).loc Cert.KernelAdamKv.main_arg2)
      ∧ r.2.mem ((c.tc : Thread Cert.KernelAdamKv.nD Cert.KernelAdamKv.τ).loc Cert.KernelAdamKv.main_arg3) = m ((c.tc : Thread Cert.KernelAdamKv.nD Cert.KernelAdamKv.τ).loc Cert.KernelAdamKv.main_arg3))
      ∧ r.2.sem = fun _ => 0)

def quiescent_KernelAdamKvIdeal [hKernelAdamKvIdeal : Cert.KernelAdamKvIdeal.Facts] : Prop :=
  ∀ (m : (ℓ : Loc Cert.KernelAdamKvIdeal.nD Cert.KernelAdamKvIdeal.τ Cert.KernelAdamKvIdeal.sig) → Buf (Elt Ideal) ℓ) (g : Dev Cert.KernelAdamKvIdeal.nD → PrngReg), Pre_KernelAdamKvIdeal m →
    θ_run (Cert.KernelAdamKvIdeal.defs (F := Ideal)) (onTc (τ := Cert.KernelAdamKvIdeal.τ) (Cert.KernelAdamKvIdeal.main (F := Ideal))) ⟨m, fun _ => 0, g⟩ (fun r => (∀ c : Dev Cert.KernelAdamKvIdeal.nD,
      r.2.mem ((c.tc : Thread Cert.KernelAdamKvIdeal.nD Cert.KernelAdamKvIdeal.τ).loc Cert.KernelAdamKvIdeal.main_arg0) = m ((c.tc : Thread Cert.KernelAdamKvIdeal.nD Cert.KernelAdamKvIdeal.τ).loc Cert.KernelAdamKvIdeal.main_arg0)
      ∧ r.2.mem ((c.tc : Thread Cert.KernelAdamKvIdeal.nD Cert.KernelAdamKvIdeal.τ).loc Cert.KernelAdamKvIdeal.main_arg1) = m ((c.tc : Thread Cert.KernelAdamKvIdeal.nD Cert.KernelAdamKvIdeal.τ).loc Cert.KernelAdamKvIdeal.main_arg1)
      ∧ r.2.mem ((c.tc : Thread Cert.KernelAdamKvIdeal.nD Cert.KernelAdamKvIdeal.τ).loc Cert.KernelAdamKvIdeal.main_arg2) = m ((c.tc : Thread Cert.KernelAdamKvIdeal.nD Cert.KernelAdamKvIdeal.τ).loc Cert.KernelAdamKvIdeal.main_arg2)
      ∧ r.2.mem ((c.tc : Thread Cert.KernelAdamKvIdeal.nD Cert.KernelAdamKvIdeal.τ).loc Cert.KernelAdamKvIdeal.main_arg3) = m ((c.tc : Thread Cert.KernelAdamKvIdeal.nD Cert.KernelAdamKvIdeal.τ).loc Cert.KernelAdamKvIdeal.main_arg3))
      ∧ r.2.sem = fun _ => 0)

def quiescent_ReferenceAdamKvIdeal [hReferenceAdamKvIdeal : Cert.ReferenceAdamKvIdeal.Facts] : Prop :=
  ∀ (m : (ℓ : Loc Cert.ReferenceAdamKvIdeal.nD Cert.ReferenceAdamKvIdeal.τ Cert.ReferenceAdamKvIdeal.sig) → Buf (Elt Ideal) ℓ) (g : Dev Cert.ReferenceAdamKvIdeal.nD → PrngReg), Pre_ReferenceAdamKvIdeal m →
    θ_run (Cert.ReferenceAdamKvIdeal.defs (F := Ideal)) (onTc (τ := Cert.ReferenceAdamKvIdeal.τ) (Cert.ReferenceAdamKvIdeal.main (F := Ideal))) ⟨m, fun _ => 0, g⟩ (fun r => (∀ c : Dev Cert.ReferenceAdamKvIdeal.nD,
      r.2.mem ((c.tc : Thread Cert.ReferenceAdamKvIdeal.nD Cert.ReferenceAdamKvIdeal.τ).loc Cert.ReferenceAdamKvIdeal.main_arg0) = m ((c.tc : Thread Cert.ReferenceAdamKvIdeal.nD Cert.ReferenceAdamKvIdeal.τ).loc Cert.ReferenceAdamKvIdeal.main_arg0)
      ∧ r.2.mem ((c.tc : Thread Cert.ReferenceAdamKvIdeal.nD Cert.ReferenceAdamKvIdeal.τ).loc Cert.ReferenceAdamKvIdeal.main_arg1) = m ((c.tc : Thread Cert.ReferenceAdamKvIdeal.nD Cert.ReferenceAdamKvIdeal.τ).loc Cert.ReferenceAdamKvIdeal.main_arg1)
      ∧ r.2.mem ((c.tc : Thread Cert.ReferenceAdamKvIdeal.nD Cert.ReferenceAdamKvIdeal.τ).loc Cert.ReferenceAdamKvIdeal.main_arg2) = m ((c.tc : Thread Cert.ReferenceAdamKvIdeal.nD Cert.ReferenceAdamKvIdeal.τ).loc Cert.ReferenceAdamKvIdeal.main_arg2)
      ∧ r.2.mem ((c.tc : Thread Cert.ReferenceAdamKvIdeal.nD Cert.ReferenceAdamKvIdeal.τ).loc Cert.ReferenceAdamKvIdeal.main_arg3) = m ((c.tc : Thread Cert.ReferenceAdamKvIdeal.nD Cert.ReferenceAdamKvIdeal.τ).loc Cert.ReferenceAdamKvIdeal.main_arg3))
      ∧ r.2.sem = fun _ => 0)

def quiescent_KernelAdamFf [hKernelAdamFf : Cert.KernelAdamFf.Facts] : Prop :=
  ∀ (m : (ℓ : Loc Cert.KernelAdamFf.nD Cert.KernelAdamFf.τ Cert.KernelAdamFf.sig) → Buf (Elt Bits) ℓ) (g : Dev Cert.KernelAdamFf.nD → PrngReg), Pre_KernelAdamFf m →
    θ_run (Cert.KernelAdamFf.defs (F := Bits)) (onTc (τ := Cert.KernelAdamFf.τ) (Cert.KernelAdamFf.main (F := Bits))) ⟨m, fun _ => 0, g⟩ (fun r => (∀ c : Dev Cert.KernelAdamFf.nD,
      r.2.mem ((c.tc : Thread Cert.KernelAdamFf.nD Cert.KernelAdamFf.τ).loc Cert.KernelAdamFf.main_arg0) = m ((c.tc : Thread Cert.KernelAdamFf.nD Cert.KernelAdamFf.τ).loc Cert.KernelAdamFf.main_arg0)
      ∧ r.2.mem ((c.tc : Thread Cert.KernelAdamFf.nD Cert.KernelAdamFf.τ).loc Cert.KernelAdamFf.main_arg1) = m ((c.tc : Thread Cert.KernelAdamFf.nD Cert.KernelAdamFf.τ).loc Cert.KernelAdamFf.main_arg1)
      ∧ r.2.mem ((c.tc : Thread Cert.KernelAdamFf.nD Cert.KernelAdamFf.τ).loc Cert.KernelAdamFf.main_arg2) = m ((c.tc : Thread Cert.KernelAdamFf.nD Cert.KernelAdamFf.τ).loc Cert.KernelAdamFf.main_arg2)
      ∧ r.2.mem ((c.tc : Thread Cert.KernelAdamFf.nD Cert.KernelAdamFf.τ).loc Cert.KernelAdamFf.main_arg3) = m ((c.tc : Thread Cert.KernelAdamFf.nD Cert.KernelAdamFf.τ).loc Cert.KernelAdamFf.main_arg3))
      ∧ r.2.sem = fun _ => 0)

def quiescent_KernelAdamFfIdeal [hKernelAdamFfIdeal : Cert.KernelAdamFfIdeal.Facts] : Prop :=
  ∀ (m : (ℓ : Loc Cert.KernelAdamFfIdeal.nD Cert.KernelAdamFfIdeal.τ Cert.KernelAdamFfIdeal.sig) → Buf (Elt Ideal) ℓ) (g : Dev Cert.KernelAdamFfIdeal.nD → PrngReg), Pre_KernelAdamFfIdeal m →
    θ_run (Cert.KernelAdamFfIdeal.defs (F := Ideal)) (onTc (τ := Cert.KernelAdamFfIdeal.τ) (Cert.KernelAdamFfIdeal.main (F := Ideal))) ⟨m, fun _ => 0, g⟩ (fun r => (∀ c : Dev Cert.KernelAdamFfIdeal.nD,
      r.2.mem ((c.tc : Thread Cert.KernelAdamFfIdeal.nD Cert.KernelAdamFfIdeal.τ).loc Cert.KernelAdamFfIdeal.main_arg0) = m ((c.tc : Thread Cert.KernelAdamFfIdeal.nD Cert.KernelAdamFfIdeal.τ).loc Cert.KernelAdamFfIdeal.main_arg0)
      ∧ r.2.mem ((c.tc : Thread Cert.KernelAdamFfIdeal.nD Cert.KernelAdamFfIdeal.τ).loc Cert.KernelAdamFfIdeal.main_arg1) = m ((c.tc : Thread Cert.KernelAdamFfIdeal.nD Cert.KernelAdamFfIdeal.τ).loc Cert.KernelAdamFfIdeal.main_arg1)
      ∧ r.2.mem ((c.tc : Thread Cert.KernelAdamFfIdeal.nD Cert.KernelAdamFfIdeal.τ).loc Cert.KernelAdamFfIdeal.main_arg2) = m ((c.tc : Thread Cert.KernelAdamFfIdeal.nD Cert.KernelAdamFfIdeal.τ).loc Cert.KernelAdamFfIdeal.main_arg2)
      ∧ r.2.mem ((c.tc : Thread Cert.KernelAdamFfIdeal.nD Cert.KernelAdamFfIdeal.τ).loc Cert.KernelAdamFfIdeal.main_arg3) = m ((c.tc : Thread Cert.KernelAdamFfIdeal.nD Cert.KernelAdamFfIdeal.τ).loc Cert.KernelAdamFfIdeal.main_arg3))
      ∧ r.2.sem = fun _ => 0)

def quiescent_ReferenceAdamFfIdeal [hReferenceAdamFfIdeal : Cert.ReferenceAdamFfIdeal.Facts] : Prop :=
  ∀ (m : (ℓ : Loc Cert.ReferenceAdamFfIdeal.nD Cert.ReferenceAdamFfIdeal.τ Cert.ReferenceAdamFfIdeal.sig) → Buf (Elt Ideal) ℓ) (g : Dev Cert.ReferenceAdamFfIdeal.nD → PrngReg), Pre_ReferenceAdamFfIdeal m →
    θ_run (Cert.ReferenceAdamFfIdeal.defs (F := Ideal)) (onTc (τ := Cert.ReferenceAdamFfIdeal.τ) (Cert.ReferenceAdamFfIdeal.main (F := Ideal))) ⟨m, fun _ => 0, g⟩ (fun r => (∀ c : Dev Cert.ReferenceAdamFfIdeal.nD,
      r.2.mem ((c.tc : Thread Cert.ReferenceAdamFfIdeal.nD Cert.ReferenceAdamFfIdeal.τ).loc Cert.ReferenceAdamFfIdeal.main_arg0) = m ((c.tc : Thread Cert.ReferenceAdamFfIdeal.nD Cert.ReferenceAdamFfIdeal.τ).loc Cert.ReferenceAdamFfIdeal.main_arg0)
      ∧ r.2.mem ((c.tc : Thread Cert.ReferenceAdamFfIdeal.nD Cert.ReferenceAdamFfIdeal.τ).loc Cert.ReferenceAdamFfIdeal.main_arg1) = m ((c.tc : Thread Cert.ReferenceAdamFfIdeal.nD Cert.ReferenceAdamFfIdeal.τ).loc Cert.ReferenceAdamFfIdeal.main_arg1)
      ∧ r.2.mem ((c.tc : Thread Cert.ReferenceAdamFfIdeal.nD Cert.ReferenceAdamFfIdeal.τ).loc Cert.ReferenceAdamFfIdeal.main_arg2) = m ((c.tc : Thread Cert.ReferenceAdamFfIdeal.nD Cert.ReferenceAdamFfIdeal.τ).loc Cert.ReferenceAdamFfIdeal.main_arg2)
      ∧ r.2.mem ((c.tc : Thread Cert.ReferenceAdamFfIdeal.nD Cert.ReferenceAdamFfIdeal.τ).loc Cert.ReferenceAdamFfIdeal.main_arg3) = m ((c.tc : Thread Cert.ReferenceAdamFfIdeal.nD Cert.ReferenceAdamFfIdeal.τ).loc Cert.ReferenceAdamFfIdeal.main_arg3))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDown_KernelDownIdeal : Prop :=
  True

def algebraic_KernelDownIdeal_ReferenceDownIdeal_pre_finite_down [hKernelDownIdeal : Cert.KernelDownIdeal.Facts] [hReferenceDownIdeal : Cert.ReferenceDownIdeal.Facts] [hPre_finite_down : Cert.Pre_finite_down.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal_finite_down m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v4_0)) (v1 : (c : Dev Cert.KernelDownIdeal.nD) → Buf (Elt Ideal) ((c.tc : Thread Cert.KernelDownIdeal.nD Cert.KernelDownIdeal.τ).loc Cert.KernelDownIdeal.main_v4_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v4_0) = v0 c
          ∧ r.2.mem ((c.tc : Thread Cert.KernelDownIdeal.nD Cert.KernelDownIdeal.τ).loc Cert.KernelDownIdeal.main_v4_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v12) = v0 c
          ∧ r.2.mem ((c.tc : Thread Cert.ReferenceDownIdeal.nD Cert.ReferenceDownIdeal.τ).loc Cert.ReferenceDownIdeal.main_v14) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelDownW_KernelDownWIdeal : Prop :=
  True

def algebraic_KernelDownWIdeal_ReferenceDownWIdeal [hKernelDownWIdeal : Cert.KernelDownWIdeal.Facts] [hReferenceDownWIdeal : Cert.ReferenceDownWIdeal.Facts] : Prop :=
  ∀ (m : (ℓ : Loc Cert.KernelDownWIdeal.nD Cert.KernelDownWIdeal.τ Cert.KernelDownWIdeal.sig) → Buf (Elt Ideal) ℓ) (g : Dev Cert.KernelDownWIdeal.nD → PrngReg)
    (m' : (ℓ : Loc Cert.ReferenceDownWIdeal.nD Cert.ReferenceDownWIdeal.τ Cert.ReferenceDownWIdeal.sig) → Buf (Elt Ideal) ℓ) (g' : Dev Cert.ReferenceDownWIdeal.nD → PrngReg), Pre_KernelDownWIdeal m →
    (∀ c : Dev Cert.KernelDownWIdeal.nD,
      m' ((c.tc : Thread Cert.ReferenceDownWIdeal.nD Cert.ReferenceDownWIdeal.τ).loc Cert.ReferenceDownWIdeal.main_arg0) = m ((c.tc : Thread Cert.KernelDownWIdeal.nD Cert.KernelDownWIdeal.τ).loc Cert.KernelDownWIdeal.main_arg0)
      ∧ m' ((c.tc : Thread Cert.ReferenceDownWIdeal.nD Cert.ReferenceDownWIdeal.τ).loc Cert.ReferenceDownWIdeal.main_arg1) = m ((c.tc : Thread Cert.KernelDownWIdeal.nD Cert.KernelDownWIdeal.τ).loc Cert.KernelDownWIdeal.main_arg1)) →
    ∃ (v0 : (c : Dev Cert.KernelDownWIdeal.nD) → Buf (Elt Ideal) ((c.tc : Thread Cert.KernelDownWIdeal.nD Cert.KernelDownWIdeal.τ).loc Cert.KernelDownWIdeal.main_v2)),
      θ_run (Cert.KernelDownWIdeal.defs (F := Ideal)) (onTc (τ := Cert.KernelDownWIdeal.τ) (Cert.KernelDownWIdeal.main (F := Ideal))) ⟨m, fun _ => 0, g⟩ (fun r => ∀ c : Dev Cert.KernelDownWIdeal.nD,
          r.2.mem ((c.tc : Thread Cert.KernelDownWIdeal.nD Cert.KernelDownWIdeal.τ).loc Cert.KernelDownWIdeal.main_v2) = v0 c
          ∧ r.2.mem ((c.tc : Thread Cert.KernelDownWIdeal.nD Cert.KernelDownWIdeal.τ).loc Cert.KernelDownWIdeal.main_arg0) = m ((c.tc : Thread Cert.KernelDownWIdeal.nD Cert.KernelDownWIdeal.τ).loc Cert.KernelDownWIdeal.main_arg0)
          ∧ r.2.mem ((c.tc : Thread Cert.KernelDownWIdeal.nD Cert.KernelDownWIdeal.τ).loc Cert.KernelDownWIdeal.main_arg1) = m ((c.tc : Thread Cert.KernelDownWIdeal.nD Cert.KernelDownWIdeal.τ).loc Cert.KernelDownWIdeal.main_arg1))
      ∧ θ_run (Cert.ReferenceDownWIdeal.defs (F := Ideal)) (onTc (τ := Cert.ReferenceDownWIdeal.τ) (Cert.ReferenceDownWIdeal.main (F := Ideal))) ⟨m', fun _ => 0, g'⟩ (fun r => ∀ c : Dev Cert.ReferenceDownWIdeal.nD,
          r.2.mem ((c.tc : Thread Cert.ReferenceDownWIdeal.nD Cert.ReferenceDownWIdeal.τ).loc Cert.ReferenceDownWIdeal.main_v7) = v0 c
          ∧ r.2.mem ((c.tc : Thread Cert.ReferenceDownWIdeal.nD Cert.ReferenceDownWIdeal.τ).loc Cert.ReferenceDownWIdeal.main_arg0) = m' ((c.tc : Thread Cert.ReferenceDownWIdeal.nD Cert.ReferenceDownWIdeal.τ).loc Cert.ReferenceDownWIdeal.main_arg0)
          ∧ r.2.mem ((c.tc : Thread Cert.ReferenceDownWIdeal.nD Cert.ReferenceDownWIdeal.τ).loc Cert.ReferenceDownWIdeal.main_arg1) = m' ((c.tc : Thread Cert.ReferenceDownWIdeal.nD Cert.ReferenceDownWIdeal.τ).loc Cert.ReferenceDownWIdeal.main_arg1))

def preserves_KernelInW_KernelInWIdeal : Prop :=
  True

def algebraic_KernelInWIdeal_ReferenceInWIdeal [hKernelInWIdeal : Cert.KernelInWIdeal.Facts] [hReferenceInWIdeal : Cert.ReferenceInWIdeal.Facts] : Prop :=
  ∀ (m : (ℓ : Loc Cert.KernelInWIdeal.nD Cert.KernelInWIdeal.τ Cert.KernelInWIdeal.sig) → Buf (Elt Ideal) ℓ) (g : Dev Cert.KernelInWIdeal.nD → PrngReg)
    (m' : (ℓ : Loc Cert.ReferenceInWIdeal.nD Cert.ReferenceInWIdeal.τ Cert.ReferenceInWIdeal.sig) → Buf (Elt Ideal) ℓ) (g' : Dev Cert.ReferenceInWIdeal.nD → PrngReg), Pre_KernelInWIdeal m →
    (∀ c : Dev Cert.KernelInWIdeal.nD,
      m' ((c.tc : Thread Cert.ReferenceInWIdeal.nD Cert.ReferenceInWIdeal.τ).loc Cert.ReferenceInWIdeal.main_arg0) = m ((c.tc : Thread Cert.KernelInWIdeal.nD Cert.KernelInWIdeal.τ).loc Cert.KernelInWIdeal.main_arg0)
      ∧ m' ((c.tc : Thread Cert.ReferenceInWIdeal.nD Cert.ReferenceInWIdeal.τ).loc Cert.ReferenceInWIdeal.main_arg1) = m ((c.tc : Thread Cert.KernelInWIdeal.nD Cert.KernelInWIdeal.τ).loc Cert.KernelInWIdeal.main_arg1)) →
    ∃ (v0 : (c : Dev Cert.KernelInWIdeal.nD) → Buf (Elt Ideal) ((c.tc : Thread Cert.KernelInWIdeal.nD Cert.KernelInWIdeal.τ).loc Cert.KernelInWIdeal.main_v2)),
      θ_run (Cert.KernelInWIdeal.defs (F := Ideal)) (onTc (τ := Cert.KernelInWIdeal.τ) (Cert.KernelInWIdeal.main (F := Ideal))) ⟨m, fun _ => 0, g⟩ (fun r => ∀ c : Dev Cert.KernelInWIdeal.nD,
          r.2.mem ((c.tc : Thread Cert.KernelInWIdeal.nD Cert.KernelInWIdeal.τ).loc Cert.KernelInWIdeal.main_v2) = v0 c
          ∧ r.2.mem ((c.tc : Thread Cert.KernelInWIdeal.nD Cert.KernelInWIdeal.τ).loc Cert.KernelInWIdeal.main_arg0) = m ((c.tc : Thread Cert.KernelInWIdeal.nD Cert.KernelInWIdeal.τ).loc Cert.KernelInWIdeal.main_arg0)
          ∧ r.2.mem ((c.tc : Thread Cert.KernelInWIdeal.nD Cert.KernelInWIdeal.τ).loc Cert.KernelInWIdeal.main_arg1) = m ((c.tc : Thread Cert.KernelInWIdeal.nD Cert.KernelInWIdeal.τ).loc Cert.KernelInWIdeal.main_arg1))
      ∧ θ_run (Cert.ReferenceInWIdeal.defs (F := Ideal)) (onTc (τ := Cert.ReferenceInWIdeal.τ) (Cert.ReferenceInWIdeal.main (F := Ideal))) ⟨m', fun _ => 0, g'⟩ (fun r => ∀ c : Dev Cert.ReferenceInWIdeal.nD,
          r.2.mem ((c.tc : Thread Cert.ReferenceInWIdeal.nD Cert.ReferenceInWIdeal.τ).loc Cert.ReferenceInWIdeal.main_v8) = v0 c
          ∧ r.2.mem ((c.tc : Thread Cert.ReferenceInWIdeal.nD Cert.ReferenceInWIdeal.τ).loc Cert.ReferenceInWIdeal.main_arg0) = m' ((c.tc : Thread Cert.ReferenceInWIdeal.nD Cert.ReferenceInWIdeal.τ).loc Cert.ReferenceInWIdeal.main_arg0)
          ∧ r.2.mem ((c.tc : Thread Cert.ReferenceInWIdeal.nD Cert.ReferenceInWIdeal.τ).loc Cert.ReferenceInWIdeal.main_arg1) = m' ((c.tc : Thread Cert.ReferenceInWIdeal.nD Cert.ReferenceInWIdeal.τ).loc Cert.ReferenceInWIdeal.main_arg1))

def preserves_KernelGateX_KernelGateXIdeal : Prop :=
  True

def algebraic_KernelGateXIdeal_ReferenceGateXIdeal [hKernelGateXIdeal : Cert.KernelGateXIdeal.Facts] [hReferenceGateXIdeal : Cert.ReferenceGateXIdeal.Facts] : Prop :=
  ∀ (m : (ℓ : Loc Cert.KernelGateXIdeal.nD Cert.KernelGateXIdeal.τ Cert.KernelGateXIdeal.sig) → Buf (Elt Ideal) ℓ) (g : Dev Cert.KernelGateXIdeal.nD → PrngReg)
    (m' : (ℓ : Loc Cert.ReferenceGateXIdeal.nD Cert.ReferenceGateXIdeal.τ Cert.ReferenceGateXIdeal.sig) → Buf (Elt Ideal) ℓ) (g' : Dev Cert.ReferenceGateXIdeal.nD → PrngReg), Pre_KernelGateXIdeal m →
    (∀ c : Dev Cert.KernelGateXIdeal.nD,
      m' ((c.tc : Thread Cert.ReferenceGateXIdeal.nD Cert.ReferenceGateXIdeal.τ).loc Cert.ReferenceGateXIdeal.main_arg0) = m ((c.tc : Thread Cert.KernelGateXIdeal.nD Cert.KernelGateXIdeal.τ).loc Cert.KernelGateXIdeal.main_arg0)
      ∧ m' ((c.tc : Thread Cert.ReferenceGateXIdeal.nD Cert.ReferenceGateXIdeal.τ).loc Cert.ReferenceGateXIdeal.main_arg1) = m ((c.tc : Thread Cert.KernelGateXIdeal.nD Cert.KernelGateXIdeal.τ).loc Cert.KernelGateXIdeal.main_arg1)) →
    ∃ (v0 : (c : Dev Cert.KernelGateXIdeal.nD) → Buf (Elt Ideal) ((c.tc : Thread Cert.KernelGateXIdeal.nD Cert.KernelGateXIdeal.τ).loc Cert.KernelGateXIdeal.main_v1)),
      θ_run (Cert.KernelGateXIdeal.defs (F := Ideal)) (onTc (τ := Cert.KernelGateXIdeal.τ) (Cert.KernelGateXIdeal.main (F := Ideal))) ⟨m, fun _ => 0, g⟩ (fun r => ∀ c : Dev Cert.KernelGateXIdeal.nD,
          r.2.mem ((c.tc : Thread Cert.KernelGateXIdeal.nD Cert.KernelGateXIdeal.τ).loc Cert.KernelGateXIdeal.main_v1) = v0 c
          ∧ r.2.mem ((c.tc : Thread Cert.KernelGateXIdeal.nD Cert.KernelGateXIdeal.τ).loc Cert.KernelGateXIdeal.main_arg0) = m ((c.tc : Thread Cert.KernelGateXIdeal.nD Cert.KernelGateXIdeal.τ).loc Cert.KernelGateXIdeal.main_arg0)
          ∧ r.2.mem ((c.tc : Thread Cert.KernelGateXIdeal.nD Cert.KernelGateXIdeal.τ).loc Cert.KernelGateXIdeal.main_arg1) = m ((c.tc : Thread Cert.KernelGateXIdeal.nD Cert.KernelGateXIdeal.τ).loc Cert.KernelGateXIdeal.main_arg1))
      ∧ θ_run (Cert.ReferenceGateXIdeal.defs (F := Ideal)) (onTc (τ := Cert.ReferenceGateXIdeal.τ) (Cert.ReferenceGateXIdeal.main (F := Ideal))) ⟨m', fun _ => 0, g'⟩ (fun r => ∀ c : Dev Cert.ReferenceGateXIdeal.nD,
          r.2.mem ((c.tc : Thread Cert.ReferenceGateXIdeal.nD Cert.ReferenceGateXIdeal.τ).loc Cert.ReferenceGateXIdeal.main_v7) = v0 c
          ∧ r.2.mem ((c.tc : Thread Cert.ReferenceGateXIdeal.nD Cert.ReferenceGateXIdeal.τ).loc Cert.ReferenceGateXIdeal.main_arg0) = m' ((c.tc : Thread Cert.ReferenceGateXIdeal.nD Cert.ReferenceGateXIdeal.τ).loc Cert.ReferenceGateXIdeal.main_arg0)
          ∧ r.2.mem ((c.tc : Thread Cert.ReferenceGateXIdeal.nD Cert.ReferenceGateXIdeal.τ).loc Cert.ReferenceGateXIdeal.main_arg1) = m' ((c.tc : Thread Cert.ReferenceGateXIdeal.nD Cert.ReferenceGateXIdeal.τ).loc Cert.ReferenceGateXIdeal.main_arg1))

def preserves_KernelUpX_KernelUpXIdeal : Prop :=
  True

def algebraic_KernelUpXIdeal_ReferenceUpXIdeal [hKernelUpXIdeal : Cert.KernelUpXIdeal.Facts] [hReferenceUpXIdeal : Cert.ReferenceUpXIdeal.Facts] : Prop :=
  ∀ (m : (ℓ : Loc Cert.KernelUpXIdeal.nD Cert.KernelUpXIdeal.τ Cert.KernelUpXIdeal.sig) → Buf (Elt Ideal) ℓ) (g : Dev Cert.KernelUpXIdeal.nD → PrngReg)
    (m' : (ℓ : Loc Cert.ReferenceUpXIdeal.nD Cert.ReferenceUpXIdeal.τ Cert.ReferenceUpXIdeal.sig) → Buf (Elt Ideal) ℓ) (g' : Dev Cert.ReferenceUpXIdeal.nD → PrngReg), Pre_KernelUpXIdeal m →
    (∀ c : Dev Cert.KernelUpXIdeal.nD,
      m' ((c.tc : Thread Cert.ReferenceUpXIdeal.nD Cert.ReferenceUpXIdeal.τ).loc Cert.ReferenceUpXIdeal.main_arg0) = m ((c.tc : Thread Cert.KernelUpXIdeal.nD Cert.KernelUpXIdeal.τ).loc Cert.KernelUpXIdeal.main_arg0)
      ∧ m' ((c.tc : Thread Cert.ReferenceUpXIdeal.nD Cert.ReferenceUpXIdeal.τ).loc Cert.ReferenceUpXIdeal.main_arg1) = m ((c.tc : Thread Cert.KernelUpXIdeal.nD Cert.KernelUpXIdeal.τ).loc Cert.KernelUpXIdeal.main_arg1)
      ∧ m' ((c.tc : Thread Cert.ReferenceUpXIdeal.nD Cert.ReferenceUpXIdeal.τ).loc Cert.ReferenceUpXIdeal.main_arg2) = m ((c.tc : Thread Cert.KernelUpXIdeal.nD Cert.KernelUpXIdeal.τ).loc Cert.KernelUpXIdeal.main_arg2)) →
    ∃ (v0 : (c : Dev Cert.KernelUpXIdeal.nD) → Buf (Elt Ideal) ((c.tc : Thread Cert.KernelUpXIdeal.nD Cert.KernelUpXIdeal.τ).loc Cert.KernelUpXIdeal.main_v1)),
      θ_run (Cert.KernelUpXIdeal.defs (F := Ideal)) (onTc (τ := Cert.KernelUpXIdeal.τ) (Cert.KernelUpXIdeal.main (F := Ideal))) ⟨m, fun _ => 0, g⟩ (fun r => ∀ c : Dev Cert.KernelUpXIdeal.nD,
          r.2.mem ((c.tc : Thread Cert.KernelUpXIdeal.nD Cert.KernelUpXIdeal.τ).loc Cert.KernelUpXIdeal.main_v1) = v0 c
          ∧ r.2.mem ((c.tc : Thread Cert.KernelUpXIdeal.nD Cert.KernelUpXIdeal.τ).loc Cert.KernelUpXIdeal.main_arg0) = m ((c.tc : Thread Cert.KernelUpXIdeal.nD Cert.KernelUpXIdeal.τ).loc Cert.KernelUpXIdeal.main_arg0)
          ∧ r.2.mem ((c.tc : Thread Cert.KernelUpXIdeal.nD Cert.KernelUpXIdeal.τ).loc Cert.KernelUpXIdeal.main_arg1) = m ((c.tc : Thread Cert.KernelUpXIdeal.nD Cert.KernelUpXIdeal.τ).loc Cert.KernelUpXIdeal.main_arg1)
          ∧ r.2.mem ((c.tc : Thread Cert.KernelUpXIdeal.nD Cert.KernelUpXIdeal.τ).loc Cert.KernelUpXIdeal.main_arg2) = m ((c.tc : Thread Cert.KernelUpXIdeal.nD Cert.KernelUpXIdeal.τ).loc Cert.KernelUpXIdeal.main_arg2))
      ∧ θ_run (Cert.ReferenceUpXIdeal.defs (F := Ideal)) (onTc (τ := Cert.ReferenceUpXIdeal.τ) (Cert.ReferenceUpXIdeal.main (F := Ideal))) ⟨m', fun _ => 0, g'⟩ (fun r => ∀ c : Dev Cert.ReferenceUpXIdeal.nD,
          r.2.mem ((c.tc : Thread Cert.ReferenceUpXIdeal.nD Cert.ReferenceUpXIdeal.τ).loc Cert.ReferenceUpXIdeal.main_v9) = v0 c
          ∧ r.2.mem ((c.tc : Thread Cert.ReferenceUpXIdeal.nD Cert.ReferenceUpXIdeal.τ).loc Cert.ReferenceUpXIdeal.main_arg0) = m' ((c.tc : Thread Cert.ReferenceUpXIdeal.nD Cert.ReferenceUpXIdeal.τ).loc Cert.ReferenceUpXIdeal.main_arg0)
          ∧ r.2.mem ((c.tc : Thread Cert.ReferenceUpXIdeal.nD Cert.ReferenceUpXIdeal.τ).loc Cert.ReferenceUpXIdeal.main_arg1) = m' ((c.tc : Thread Cert.ReferenceUpXIdeal.nD Cert.ReferenceUpXIdeal.τ).loc Cert.ReferenceUpXIdeal.main_arg1)
          ∧ r.2.mem ((c.tc : Thread Cert.ReferenceUpXIdeal.nD Cert.ReferenceUpXIdeal.τ).loc Cert.ReferenceUpXIdeal.main_arg2) = m' ((c.tc : Thread Cert.ReferenceUpXIdeal.nD Cert.ReferenceUpXIdeal.τ).loc Cert.ReferenceUpXIdeal.main_arg2))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v1) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v6) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v2_0)) (v1 : (c : Dev Cert.KernelUpIdeal.nD) → Buf (Elt Ideal) ((c.tc : Thread Cert.KernelUpIdeal.nD Cert.KernelUpIdeal.τ).loc Cert.KernelUpIdeal.main_v2_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2_0) = v0 c
          ∧ r.2.mem ((c.tc : Thread Cert.KernelUpIdeal.nD Cert.KernelUpIdeal.τ).loc Cert.KernelUpIdeal.main_v2_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v6) = v0 c
          ∧ r.2.mem ((c.tc : Thread Cert.ReferenceUpIdeal.nD Cert.ReferenceUpIdeal.τ).loc Cert.ReferenceUpIdeal.main_v11) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelProjW_KernelProjWIdeal : Prop :=
  True

def algebraic_KernelProjWIdeal_ReferenceProjWIdeal [hKernelProjWIdeal : Cert.KernelProjWIdeal.Facts] [hReferenceProjWIdeal : Cert.ReferenceProjWIdeal.Facts] : Prop :=
  ∀ (m : (ℓ : Loc Cert.KernelProjWIdeal.nD Cert.KernelProjWIdeal.τ Cert.KernelProjWIdeal.sig) → Buf (Elt Ideal) ℓ) (g : Dev Cert.KernelProjWIdeal.nD → PrngReg)
    (m' : (ℓ : Loc Cert.ReferenceProjWIdeal.nD Cert.ReferenceProjWIdeal.τ Cert.ReferenceProjWIdeal.sig) → Buf (Elt Ideal) ℓ) (g' : Dev Cert.ReferenceProjWIdeal.nD → PrngReg), Pre_KernelProjWIdeal m →
    (∀ c : Dev Cert.KernelProjWIdeal.nD,
      m' ((c.tc : Thread Cert.ReferenceProjWIdeal.nD Cert.ReferenceProjWIdeal.τ).loc Cert.ReferenceProjWIdeal.main_arg0) = m ((c.tc : Thread Cert.KernelProjWIdeal.nD Cert.KernelProjWIdeal.τ).loc Cert.KernelProjWIdeal.main_arg0)
      ∧ m' ((c.tc : Thread Cert.ReferenceProjWIdeal.nD Cert.ReferenceProjWIdeal.τ).loc Cert.ReferenceProjWIdeal.main_arg1) = m ((c.tc : Thread Cert.KernelProjWIdeal.nD Cert.KernelProjWIdeal.τ).loc Cert.KernelProjWIdeal.main_arg1)) →
    ∃ (v0 : (c : Dev Cert.KernelProjWIdeal.nD) → Buf (Elt Ideal) ((c.tc : Thread Cert.KernelProjWIdeal.nD Cert.KernelProjWIdeal.τ).loc Cert.KernelProjWIdeal.main_v2)),
      θ_run (Cert.KernelProjWIdeal.defs (F := Ideal)) (onTc (τ := Cert.KernelProjWIdeal.τ) (Cert.KernelProjWIdeal.main (F := Ideal))) ⟨m, fun _ => 0, g⟩ (fun r => ∀ c : Dev Cert.KernelProjWIdeal.nD,
          r.2.mem ((c.tc : Thread Cert.KernelProjWIdeal.nD Cert.KernelProjWIdeal.τ).loc Cert.KernelProjWIdeal.main_v2) = v0 c
          ∧ r.2.mem ((c.tc : Thread Cert.KernelProjWIdeal.nD Cert.KernelProjWIdeal.τ).loc Cert.KernelProjWIdeal.main_arg0) = m ((c.tc : Thread Cert.KernelProjWIdeal.nD Cert.KernelProjWIdeal.τ).loc Cert.KernelProjWIdeal.main_arg0)
          ∧ r.2.mem ((c.tc : Thread Cert.KernelProjWIdeal.nD Cert.KernelProjWIdeal.τ).loc Cert.KernelProjWIdeal.main_arg1) = m ((c.tc : Thread Cert.KernelProjWIdeal.nD Cert.KernelProjWIdeal.τ).loc Cert.KernelProjWIdeal.main_arg1))
      ∧ θ_run (Cert.ReferenceProjWIdeal.defs (F := Ideal)) (onTc (τ := Cert.ReferenceProjWIdeal.τ) (Cert.ReferenceProjWIdeal.main (F := Ideal))) ⟨m', fun _ => 0, g'⟩ (fun r => ∀ c : Dev Cert.ReferenceProjWIdeal.nD,
          r.2.mem ((c.tc : Thread Cert.ReferenceProjWIdeal.nD Cert.ReferenceProjWIdeal.τ).loc Cert.ReferenceProjWIdeal.main_v7) = v0 c
          ∧ r.2.mem ((c.tc : Thread Cert.ReferenceProjWIdeal.nD Cert.ReferenceProjWIdeal.τ).loc Cert.ReferenceProjWIdeal.main_arg0) = m' ((c.tc : Thread Cert.ReferenceProjWIdeal.nD Cert.ReferenceProjWIdeal.τ).loc Cert.ReferenceProjWIdeal.main_arg0)
          ∧ r.2.mem ((c.tc : Thread Cert.ReferenceProjWIdeal.nD Cert.ReferenceProjWIdeal.τ).loc Cert.ReferenceProjWIdeal.main_arg1) = m' ((c.tc : Thread Cert.ReferenceProjWIdeal.nD Cert.ReferenceProjWIdeal.τ).loc Cert.ReferenceProjWIdeal.main_arg1))

def preserves_KernelProjX_KernelProjXIdeal : Prop :=
  True

def algebraic_KernelProjXIdeal_ReferenceProjXIdeal [hKernelProjXIdeal : Cert.KernelProjXIdeal.Facts] [hReferenceProjXIdeal : Cert.ReferenceProjXIdeal.Facts] : Prop :=
  ∀ (m : (ℓ : Loc Cert.KernelProjXIdeal.nD Cert.KernelProjXIdeal.τ Cert.KernelProjXIdeal.sig) → Buf (Elt Ideal) ℓ) (g : Dev Cert.KernelProjXIdeal.nD → PrngReg)
    (m' : (ℓ : Loc Cert.ReferenceProjXIdeal.nD Cert.ReferenceProjXIdeal.τ Cert.ReferenceProjXIdeal.sig) → Buf (Elt Ideal) ℓ) (g' : Dev Cert.ReferenceProjXIdeal.nD → PrngReg), Pre_KernelProjXIdeal m →
    (∀ c : Dev Cert.KernelProjXIdeal.nD,
      m' ((c.tc : Thread Cert.ReferenceProjXIdeal.nD Cert.ReferenceProjXIdeal.τ).loc Cert.ReferenceProjXIdeal.main_arg0) = m ((c.tc : Thread Cert.KernelProjXIdeal.nD Cert.KernelProjXIdeal.τ).loc Cert.KernelProjXIdeal.main_arg0)
      ∧ m' ((c.tc : Thread Cert.ReferenceProjXIdeal.nD Cert.ReferenceProjXIdeal.τ).loc Cert.ReferenceProjXIdeal.main_arg1) = m ((c.tc : Thread Cert.KernelProjXIdeal.nD Cert.KernelProjXIdeal.τ).loc Cert.KernelProjXIdeal.main_arg1)) →
    ∃ (v0 : (c : Dev Cert.KernelProjXIdeal.nD) → Buf (Elt Ideal) ((c.tc : Thread Cert.KernelProjXIdeal.nD Cert.KernelProjXIdeal.τ).loc Cert.KernelProjXIdeal.main_v2)),
      θ_run (Cert.KernelProjXIdeal.defs (F := Ideal)) (onTc (τ := Cert.KernelProjXIdeal.τ) (Cert.KernelProjXIdeal.main (F := Ideal))) ⟨m, fun _ => 0, g⟩ (fun r => ∀ c : Dev Cert.KernelProjXIdeal.nD,
          r.2.mem ((c.tc : Thread Cert.KernelProjXIdeal.nD Cert.KernelProjXIdeal.τ).loc Cert.KernelProjXIdeal.main_v2) = v0 c
          ∧ r.2.mem ((c.tc : Thread Cert.KernelProjXIdeal.nD Cert.KernelProjXIdeal.τ).loc Cert.KernelProjXIdeal.main_arg0) = m ((c.tc : Thread Cert.KernelProjXIdeal.nD Cert.KernelProjXIdeal.τ).loc Cert.KernelProjXIdeal.main_arg0)
          ∧ r.2.mem ((c.tc : Thread Cert.KernelProjXIdeal.nD Cert.KernelProjXIdeal.τ).loc Cert.KernelProjXIdeal.main_arg1) = m ((c.tc : Thread Cert.KernelProjXIdeal.nD Cert.KernelProjXIdeal.τ).loc Cert.KernelProjXIdeal.main_arg1))
      ∧ θ_run (Cert.ReferenceProjXIdeal.defs (F := Ideal)) (onTc (τ := Cert.ReferenceProjXIdeal.τ) (Cert.ReferenceProjXIdeal.main (F := Ideal))) ⟨m', fun _ => 0, g'⟩ (fun r => ∀ c : Dev Cert.ReferenceProjXIdeal.nD,
          r.2.mem ((c.tc : Thread Cert.ReferenceProjXIdeal.nD Cert.ReferenceProjXIdeal.τ).loc Cert.ReferenceProjXIdeal.main_v6) = v0 c
          ∧ r.2.mem ((c.tc : Thread Cert.ReferenceProjXIdeal.nD Cert.ReferenceProjXIdeal.τ).loc Cert.ReferenceProjXIdeal.main_arg0) = m' ((c.tc : Thread Cert.ReferenceProjXIdeal.nD Cert.ReferenceProjXIdeal.τ).loc Cert.ReferenceProjXIdeal.main_arg0)
          ∧ r.2.mem ((c.tc : Thread Cert.ReferenceProjXIdeal.nD Cert.ReferenceProjXIdeal.τ).loc Cert.ReferenceProjXIdeal.main_arg1) = m' ((c.tc : Thread Cert.ReferenceProjXIdeal.nD Cert.ReferenceProjXIdeal.τ).loc Cert.ReferenceProjXIdeal.main_arg1))

def preserves_KernelQkvW_KernelQkvWIdeal : Prop :=
  True

def algebraic_KernelQkvWIdeal_ReferenceQkvWIdeal [hKernelQkvWIdeal : Cert.KernelQkvWIdeal.Facts] [hReferenceQkvWIdeal : Cert.ReferenceQkvWIdeal.Facts] : Prop :=
  ∀ (m : (ℓ : Loc Cert.KernelQkvWIdeal.nD Cert.KernelQkvWIdeal.τ Cert.KernelQkvWIdeal.sig) → Buf (Elt Ideal) ℓ) (g : Dev Cert.KernelQkvWIdeal.nD → PrngReg)
    (m' : (ℓ : Loc Cert.ReferenceQkvWIdeal.nD Cert.ReferenceQkvWIdeal.τ Cert.ReferenceQkvWIdeal.sig) → Buf (Elt Ideal) ℓ) (g' : Dev Cert.ReferenceQkvWIdeal.nD → PrngReg), Pre_KernelQkvWIdeal m →
    (∀ c : Dev Cert.KernelQkvWIdeal.nD,
      m' ((c.tc : Thread Cert.ReferenceQkvWIdeal.nD Cert.ReferenceQkvWIdeal.τ).loc Cert.ReferenceQkvWIdeal.main_arg0) = m ((c.tc : Thread Cert.KernelQkvWIdeal.nD Cert.KernelQkvWIdeal.τ).loc Cert.KernelQkvWIdeal.main_arg0)
      ∧ m' ((c.tc : Thread Cert.ReferenceQkvWIdeal.nD Cert.ReferenceQkvWIdeal.τ).loc Cert.ReferenceQkvWIdeal.main_arg1) = m ((c.tc : Thread Cert.KernelQkvWIdeal.nD Cert.KernelQkvWIdeal.τ).loc Cert.KernelQkvWIdeal.main_arg1)) →
    ∃ (v0 : (c : Dev Cert.KernelQkvWIdeal.nD) → Buf (Elt Ideal) ((c.tc : Thread Cert.KernelQkvWIdeal.nD Cert.KernelQkvWIdeal.τ).loc Cert.KernelQkvWIdeal.main_v1)),
      θ_run (Cert.KernelQkvWIdeal.defs (F := Ideal)) (onTc (τ := Cert.KernelQkvWIdeal.τ) (Cert.KernelQkvWIdeal.main (F := Ideal))) ⟨m, fun _ => 0, g⟩ (fun r => ∀ c : Dev Cert.KernelQkvWIdeal.nD,
          r.2.mem ((c.tc : Thread Cert.KernelQkvWIdeal.nD Cert.KernelQkvWIdeal.τ).loc Cert.KernelQkvWIdeal.main_v1) = v0 c
          ∧ r.2.mem ((c.tc : Thread Cert.KernelQkvWIdeal.nD Cert.KernelQkvWIdeal.τ).loc Cert.KernelQkvWIdeal.main_arg0) = m ((c.tc : Thread Cert.KernelQkvWIdeal.nD Cert.KernelQkvWIdeal.τ).loc Cert.KernelQkvWIdeal.main_arg0)
          ∧ r.2.mem ((c.tc : Thread Cert.KernelQkvWIdeal.nD Cert.KernelQkvWIdeal.τ).loc Cert.KernelQkvWIdeal.main_arg1) = m ((c.tc : Thread Cert.KernelQkvWIdeal.nD Cert.KernelQkvWIdeal.τ).loc Cert.KernelQkvWIdeal.main_arg1))
      ∧ θ_run (Cert.ReferenceQkvWIdeal.defs (F := Ideal)) (onTc (τ := Cert.ReferenceQkvWIdeal.τ) (Cert.ReferenceQkvWIdeal.main (F := Ideal))) ⟨m', fun _ => 0, g'⟩ (fun r => ∀ c : Dev Cert.ReferenceQkvWIdeal.nD,
          r.2.mem ((c.tc : Thread Cert.ReferenceQkvWIdeal.nD Cert.ReferenceQkvWIdeal.τ).loc Cert.ReferenceQkvWIdeal.main_v14) = v0 c
          ∧ r.2.mem ((c.tc : Thread Cert.ReferenceQkvWIdeal.nD Cert.ReferenceQkvWIdeal.τ).loc Cert.ReferenceQkvWIdeal.main_arg0) = m' ((c.tc : Thread Cert.ReferenceQkvWIdeal.nD Cert.ReferenceQkvWIdeal.τ).loc Cert.ReferenceQkvWIdeal.main_arg0)
          ∧ r.2.mem ((c.tc : Thread Cert.ReferenceQkvWIdeal.nD Cert.ReferenceQkvWIdeal.τ).loc Cert.ReferenceQkvWIdeal.main_arg1) = m' ((c.tc : Thread Cert.ReferenceQkvWIdeal.nD Cert.ReferenceQkvWIdeal.τ).loc Cert.ReferenceQkvWIdeal.main_arg1))

def preserves_KernelQkvX_KernelQkvXIdeal : Prop :=
  True

def algebraic_KernelQkvXIdeal_ReferenceQkvXIdeal [hKernelQkvXIdeal : Cert.KernelQkvXIdeal.Facts] [hReferenceQkvXIdeal : Cert.ReferenceQkvXIdeal.Facts] : Prop :=
  ∀ (m : (ℓ : Loc Cert.KernelQkvXIdeal.nD Cert.KernelQkvXIdeal.τ Cert.KernelQkvXIdeal.sig) → Buf (Elt Ideal) ℓ) (g : Dev Cert.KernelQkvXIdeal.nD → PrngReg)
    (m' : (ℓ : Loc Cert.ReferenceQkvXIdeal.nD Cert.ReferenceQkvXIdeal.τ Cert.ReferenceQkvXIdeal.sig) → Buf (Elt Ideal) ℓ) (g' : Dev Cert.ReferenceQkvXIdeal.nD → PrngReg), Pre_KernelQkvXIdeal m →
    (∀ c : Dev Cert.KernelQkvXIdeal.nD,
      m' ((c.tc : Thread Cert.ReferenceQkvXIdeal.nD Cert.ReferenceQkvXIdeal.τ).loc Cert.ReferenceQkvXIdeal.main_arg0) = m ((c.tc : Thread Cert.KernelQkvXIdeal.nD Cert.KernelQkvXIdeal.τ).loc Cert.KernelQkvXIdeal.main_arg0)
      ∧ m' ((c.tc : Thread Cert.ReferenceQkvXIdeal.nD Cert.ReferenceQkvXIdeal.τ).loc Cert.ReferenceQkvXIdeal.main_arg1) = m ((c.tc : Thread Cert.KernelQkvXIdeal.nD Cert.KernelQkvXIdeal.τ).loc Cert.KernelQkvXIdeal.main_arg1)) →
    ∃ (v0 : (c : Dev Cert.KernelQkvXIdeal.nD) → Buf (Elt Ideal) ((c.tc : Thread Cert.KernelQkvXIdeal.nD Cert.KernelQkvXIdeal.τ).loc Cert.KernelQkvXIdeal.main_v1)),
      θ_run (Cert.KernelQkvXIdeal.defs (F := Ideal)) (onTc (τ := Cert.KernelQkvXIdeal.τ) (Cert.KernelQkvXIdeal.main (F := Ideal))) ⟨m, fun _ => 0, g⟩ (fun r => ∀ c : Dev Cert.KernelQkvXIdeal.nD,
          r.2.mem ((c.tc : Thread Cert.KernelQkvXIdeal.nD Cert.KernelQkvXIdeal.τ).loc Cert.KernelQkvXIdeal.main_v1) = v0 c
          ∧ r.2.mem ((c.tc : Thread Cert.KernelQkvXIdeal.nD Cert.KernelQkvXIdeal.τ).loc Cert.KernelQkvXIdeal.main_arg0) = m ((c.tc : Thread Cert.KernelQkvXIdeal.nD Cert.KernelQkvXIdeal.τ).loc Cert.KernelQkvXIdeal.main_arg0)
          ∧ r.2.mem ((c.tc : Thread Cert.KernelQkvXIdeal.nD Cert.KernelQkvXIdeal.τ).loc Cert.KernelQkvXIdeal.main_arg1) = m ((c.tc : Thread Cert.KernelQkvXIdeal.nD Cert.KernelQkvXIdeal.τ).loc Cert.KernelQkvXIdeal.main_arg1))
      ∧ θ_run (Cert.ReferenceQkvXIdeal.defs (F := Ideal)) (onTc (τ := Cert.ReferenceQkvXIdeal.τ) (Cert.ReferenceQkvXIdeal.main (F := Ideal))) ⟨m', fun _ => 0, g'⟩ (fun r => ∀ c : Dev Cert.ReferenceQkvXIdeal.nD,
          r.2.mem ((c.tc : Thread Cert.ReferenceQkvXIdeal.nD Cert.ReferenceQkvXIdeal.τ).loc Cert.ReferenceQkvXIdeal.main_v12) = v0 c
          ∧ r.2.mem ((c.tc : Thread Cert.ReferenceQkvXIdeal.nD Cert.ReferenceQkvXIdeal.τ).loc Cert.ReferenceQkvXIdeal.main_arg0) = m' ((c.tc : Thread Cert.ReferenceQkvXIdeal.nD Cert.ReferenceQkvXIdeal.τ).loc Cert.ReferenceQkvXIdeal.main_arg0)
          ∧ r.2.mem ((c.tc : Thread Cert.ReferenceQkvXIdeal.nD Cert.ReferenceQkvXIdeal.τ).loc Cert.ReferenceQkvXIdeal.main_arg1) = m' ((c.tc : Thread Cert.ReferenceQkvXIdeal.nD Cert.ReferenceQkvXIdeal.τ).loc Cert.ReferenceQkvXIdeal.main_arg1))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v2)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v2) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v4) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelProjRes_KernelProjResIdeal : Prop :=
  True

def algebraic_KernelProjResIdeal_ReferenceProjResIdeal [hKernelProjResIdeal : Cert.KernelProjResIdeal.Facts] [hReferenceProjResIdeal : Cert.ReferenceProjResIdeal.Facts] : Prop :=
  ∀ (m : (ℓ : Loc Cert.KernelProjResIdeal.nD Cert.KernelProjResIdeal.τ Cert.KernelProjResIdeal.sig) → Buf (Elt Ideal) ℓ) (g : Dev Cert.KernelProjResIdeal.nD → PrngReg)
    (m' : (ℓ : Loc Cert.ReferenceProjResIdeal.nD Cert.ReferenceProjResIdeal.τ Cert.ReferenceProjResIdeal.sig) → Buf (Elt Ideal) ℓ) (g' : Dev Cert.ReferenceProjResIdeal.nD → PrngReg), Pre_KernelProjResIdeal m →
    (∀ c : Dev Cert.KernelProjResIdeal.nD,
      m' ((c.tc : Thread Cert.ReferenceProjResIdeal.nD Cert.ReferenceProjResIdeal.τ).loc Cert.ReferenceProjResIdeal.main_arg0) = m ((c.tc : Thread Cert.KernelProjResIdeal.nD Cert.KernelProjResIdeal.τ).loc Cert.KernelProjResIdeal.main_arg0)
      ∧ m' ((c.tc : Thread Cert.ReferenceProjResIdeal.nD Cert.ReferenceProjResIdeal.τ).loc Cert.ReferenceProjResIdeal.main_arg1) = m ((c.tc : Thread Cert.KernelProjResIdeal.nD Cert.KernelProjResIdeal.τ).loc Cert.KernelProjResIdeal.main_arg1)
      ∧ m' ((c.tc : Thread Cert.ReferenceProjResIdeal.nD Cert.ReferenceProjResIdeal.τ).loc Cert.ReferenceProjResIdeal.main_arg2) = m ((c.tc : Thread Cert.KernelProjResIdeal.nD Cert.KernelProjResIdeal.τ).loc Cert.KernelProjResIdeal.main_arg2)) →
    ∃ (v0 : (c : Dev Cert.KernelProjResIdeal.nD) → Buf (Elt Ideal) ((c.tc : Thread Cert.KernelProjResIdeal.nD Cert.KernelProjResIdeal.τ).loc Cert.KernelProjResIdeal.main_v3)),
      θ_run (Cert.KernelProjResIdeal.defs (F := Ideal)) (onTc (τ := Cert.KernelProjResIdeal.τ) (Cert.KernelProjResIdeal.main (F := Ideal))) ⟨m, fun _ => 0, g⟩ (fun r => ∀ c : Dev Cert.KernelProjResIdeal.nD,
          r.2.mem ((c.tc : Thread Cert.KernelProjResIdeal.nD Cert.KernelProjResIdeal.τ).loc Cert.KernelProjResIdeal.main_v3) = v0 c
          ∧ r.2.mem ((c.tc : Thread Cert.KernelProjResIdeal.nD Cert.KernelProjResIdeal.τ).loc Cert.KernelProjResIdeal.main_arg0) = m ((c.tc : Thread Cert.KernelProjResIdeal.nD Cert.KernelProjResIdeal.τ).loc Cert.KernelProjResIdeal.main_arg0)
          ∧ r.2.mem ((c.tc : Thread Cert.KernelProjResIdeal.nD Cert.KernelProjResIdeal.τ).loc Cert.KernelProjResIdeal.main_arg1) = m ((c.tc : Thread Cert.KernelProjResIdeal.nD Cert.KernelProjResIdeal.τ).loc Cert.KernelProjResIdeal.main_arg1)
          ∧ r.2.mem ((c.tc : Thread Cert.KernelProjResIdeal.nD Cert.KernelProjResIdeal.τ).loc Cert.KernelProjResIdeal.main_arg2) = m ((c.tc : Thread Cert.KernelProjResIdeal.nD Cert.KernelProjResIdeal.τ).loc Cert.KernelProjResIdeal.main_arg2))
      ∧ θ_run (Cert.ReferenceProjResIdeal.defs (F := Ideal)) (onTc (τ := Cert.ReferenceProjResIdeal.τ) (Cert.ReferenceProjResIdeal.main (F := Ideal))) ⟨m', fun _ => 0, g'⟩ (fun r => ∀ c : Dev Cert.ReferenceProjResIdeal.nD,
          r.2.mem ((c.tc : Thread Cert.ReferenceProjResIdeal.nD Cert.ReferenceProjResIdeal.τ).loc Cert.ReferenceProjResIdeal.main_v4) = v0 c
          ∧ r.2.mem ((c.tc : Thread Cert.ReferenceProjResIdeal.nD Cert.ReferenceProjResIdeal.τ).loc Cert.ReferenceProjResIdeal.main_arg0) = m' ((c.tc : Thread Cert.ReferenceProjResIdeal.nD Cert.ReferenceProjResIdeal.τ).loc Cert.ReferenceProjResIdeal.main_arg0)
          ∧ r.2.mem ((c.tc : Thread Cert.ReferenceProjResIdeal.nD Cert.ReferenceProjResIdeal.τ).loc Cert.ReferenceProjResIdeal.main_arg1) = m' ((c.tc : Thread Cert.ReferenceProjResIdeal.nD Cert.ReferenceProjResIdeal.τ).loc Cert.ReferenceProjResIdeal.main_arg1)
          ∧ r.2.mem ((c.tc : Thread Cert.ReferenceProjResIdeal.nD Cert.ReferenceProjResIdeal.τ).loc Cert.ReferenceProjResIdeal.main_arg2) = m' ((c.tc : Thread Cert.ReferenceProjResIdeal.nD Cert.ReferenceProjResIdeal.τ).loc Cert.ReferenceProjResIdeal.main_arg2))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)) →
    ∃ (v0 : (c : Dev Cert.KernelQkvIdeal.nD) → Buf (Elt Ideal) ((c.tc : Thread Cert.KernelQkvIdeal.nD Cert.KernelQkvIdeal.τ).loc Cert.KernelQkvIdeal.main_v2)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v2) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v5) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1))

def preserves_KernelAdamEvIn_KernelAdamEvInIdeal : Prop :=
  True

def algebraic_KernelAdamEvInIdeal_ReferenceAdamEvInIdeal [hKernelAdamEvInIdeal : Cert.KernelAdamEvInIdeal.Facts] [hReferenceAdamEvInIdeal : Cert.ReferenceAdamEvInIdeal.Facts] : Prop :=
  ∀ (m : (ℓ : Loc Cert.KernelAdamEvInIdeal.nD Cert.KernelAdamEvInIdeal.τ Cert.KernelAdamEvInIdeal.sig) → Buf (Elt Ideal) ℓ) (g : Dev Cert.KernelAdamEvInIdeal.nD → PrngReg)
    (m' : (ℓ : Loc Cert.ReferenceAdamEvInIdeal.nD Cert.ReferenceAdamEvInIdeal.τ Cert.ReferenceAdamEvInIdeal.sig) → Buf (Elt Ideal) ℓ) (g' : Dev Cert.ReferenceAdamEvInIdeal.nD → PrngReg), Pre_KernelAdamEvInIdeal m →
    (∀ c : Dev Cert.KernelAdamEvInIdeal.nD,
      m' ((c.tc : Thread Cert.ReferenceAdamEvInIdeal.nD Cert.ReferenceAdamEvInIdeal.τ).loc Cert.ReferenceAdamEvInIdeal.main_arg0) = m ((c.tc : Thread Cert.KernelAdamEvInIdeal.nD Cert.KernelAdamEvInIdeal.τ).loc Cert.KernelAdamEvInIdeal.main_arg0)
      ∧ m' ((c.tc : Thread Cert.ReferenceAdamEvInIdeal.nD Cert.ReferenceAdamEvInIdeal.τ).loc Cert.ReferenceAdamEvInIdeal.main_arg1) = m ((c.tc : Thread Cert.KernelAdamEvInIdeal.nD Cert.KernelAdamEvInIdeal.τ).loc Cert.KernelAdamEvInIdeal.main_arg1)
      ∧ m' ((c.tc : Thread Cert.ReferenceAdamEvInIdeal.nD Cert.ReferenceAdamEvInIdeal.τ).loc Cert.ReferenceAdamEvInIdeal.main_arg2) = m ((c.tc : Thread Cert.KernelAdamEvInIdeal.nD Cert.KernelAdamEvInIdeal.τ).loc Cert.KernelAdamEvInIdeal.main_arg2)
      ∧ m' ((c.tc : Thread Cert.ReferenceAdamEvInIdeal.nD Cert.ReferenceAdamEvInIdeal.τ).loc Cert.ReferenceAdamEvInIdeal.main_arg3) = m ((c.tc : Thread Cert.KernelAdamEvInIdeal.nD Cert.KernelAdamEvInIdeal.τ).loc Cert.KernelAdamEvInIdeal.main_arg3)) →
    ∃ (v0 : (c : Dev Cert.KernelAdamEvInIdeal.nD) → Buf (Elt Ideal) ((c.tc : Thread Cert.KernelAdamEvInIdeal.nD Cert.KernelAdamEvInIdeal.τ).loc Cert.KernelAdamEvInIdeal.main_v0_0)) (v1 : (c : Dev Cert.KernelAdamEvInIdeal.nD) → Buf (Elt Ideal) ((c.tc : Thread Cert.KernelAdamEvInIdeal.nD Cert.KernelAdamEvInIdeal.τ).loc Cert.KernelAdamEvInIdeal.main_v0_1)) (v2 : (c : Dev Cert.KernelAdamEvInIdeal.nD) → Buf (Elt Ideal) ((c.tc : Thread Cert.KernelAdamEvInIdeal.nD Cert.KernelAdamEvInIdeal.τ).loc Cert.KernelAdamEvInIdeal.main_v0_2)) (v3 : (c : Dev Cert.KernelAdamEvInIdeal.nD) → Buf (Elt Ideal) ((c.tc : Thread Cert.KernelAdamEvInIdeal.nD Cert.KernelAdamEvInIdeal.τ).loc Cert.KernelAdamEvInIdeal.main_v0_3)),
      θ_run (Cert.KernelAdamEvInIdeal.defs (F := Ideal)) (onTc (τ := Cert.KernelAdamEvInIdeal.τ) (Cert.KernelAdamEvInIdeal.main (F := Ideal))) ⟨m, fun _ => 0, g⟩ (fun r => ∀ c : Dev Cert.KernelAdamEvInIdeal.nD,
          r.2.mem ((c.tc : Thread Cert.KernelAdamEvInIdeal.nD Cert.KernelAdamEvInIdeal.τ).loc Cert.KernelAdamEvInIdeal.main_v0_0) = v0 c
          ∧ r.2.mem ((c.tc : Thread Cert.KernelAdamEvInIdeal.nD Cert.KernelAdamEvInIdeal.τ).loc Cert.KernelAdamEvInIdeal.main_v0_1) = v1 c
          ∧ r.2.mem ((c.tc : Thread Cert.KernelAdamEvInIdeal.nD Cert.KernelAdamEvInIdeal.τ).loc Cert.KernelAdamEvInIdeal.main_v0_2) = v2 c
          ∧ r.2.mem ((c.tc : Thread Cert.KernelAdamEvInIdeal.nD Cert.KernelAdamEvInIdeal.τ).loc Cert.KernelAdamEvInIdeal.main_v0_3) = v3 c
          ∧ r.2.mem ((c.tc : Thread Cert.KernelAdamEvInIdeal.nD Cert.KernelAdamEvInIdeal.τ).loc Cert.KernelAdamEvInIdeal.main_arg0) = m ((c.tc : Thread Cert.KernelAdamEvInIdeal.nD Cert.KernelAdamEvInIdeal.τ).loc Cert.KernelAdamEvInIdeal.main_arg0)
          ∧ r.2.mem ((c.tc : Thread Cert.KernelAdamEvInIdeal.nD Cert.KernelAdamEvInIdeal.τ).loc Cert.KernelAdamEvInIdeal.main_arg1) = m ((c.tc : Thread Cert.KernelAdamEvInIdeal.nD Cert.KernelAdamEvInIdeal.τ).loc Cert.KernelAdamEvInIdeal.main_arg1)
          ∧ r.2.mem ((c.tc : Thread Cert.KernelAdamEvInIdeal.nD Cert.KernelAdamEvInIdeal.τ).loc Cert.KernelAdamEvInIdeal.main_arg2) = m ((c.tc : Thread Cert.KernelAdamEvInIdeal.nD Cert.KernelAdamEvInIdeal.τ).loc Cert.KernelAdamEvInIdeal.main_arg2)
          ∧ r.2.mem ((c.tc : Thread Cert.KernelAdamEvInIdeal.nD Cert.KernelAdamEvInIdeal.τ).loc Cert.KernelAdamEvInIdeal.main_arg3) = m ((c.tc : Thread Cert.KernelAdamEvInIdeal.nD Cert.KernelAdamEvInIdeal.τ).loc Cert.KernelAdamEvInIdeal.main_arg3))
      ∧ θ_run (Cert.ReferenceAdamEvInIdeal.defs (F := Ideal)) (onTc (τ := Cert.ReferenceAdamEvInIdeal.τ) (Cert.ReferenceAdamEvInIdeal.main (F := Ideal))) ⟨m', fun _ => 0, g'⟩ (fun r => ∀ c : Dev Cert.ReferenceAdamEvInIdeal.nD,
          r.2.mem ((c.tc : Thread Cert.ReferenceAdamEvInIdeal.nD Cert.ReferenceAdamEvInIdeal.τ).loc Cert.ReferenceAdamEvInIdeal.main_v1) = v0 c
          ∧ r.2.mem ((c.tc : Thread Cert.ReferenceAdamEvInIdeal.nD Cert.ReferenceAdamEvInIdeal.τ).loc Cert.ReferenceAdamEvInIdeal.main_v27) = v1 c
          ∧ r.2.mem ((c.tc : Thread Cert.ReferenceAdamEvInIdeal.nD Cert.ReferenceAdamEvInIdeal.τ).loc Cert.ReferenceAdamEvInIdeal.main_v8) = v2 c
          ∧ r.2.mem ((c.tc : Thread Cert.ReferenceAdamEvInIdeal.nD Cert.ReferenceAdamEvInIdeal.τ).loc Cert.ReferenceAdamEvInIdeal.main_v14) = v3 c
          ∧ r.2.mem ((c.tc : Thread Cert.ReferenceAdamEvInIdeal.nD Cert.ReferenceAdamEvInIdeal.τ).loc Cert.ReferenceAdamEvInIdeal.main_arg0) = m' ((c.tc : Thread Cert.ReferenceAdamEvInIdeal.nD Cert.ReferenceAdamEvInIdeal.τ).loc Cert.ReferenceAdamEvInIdeal.main_arg0)
          ∧ r.2.mem ((c.tc : Thread Cert.ReferenceAdamEvInIdeal.nD Cert.ReferenceAdamEvInIdeal.τ).loc Cert.ReferenceAdamEvInIdeal.main_arg1) = m' ((c.tc : Thread Cert.ReferenceAdamEvInIdeal.nD Cert.ReferenceAdamEvInIdeal.τ).loc Cert.ReferenceAdamEvInIdeal.main_arg1)
          ∧ r.2.mem ((c.tc : Thread Cert.ReferenceAdamEvInIdeal.nD Cert.ReferenceAdamEvInIdeal.τ).loc Cert.ReferenceAdamEvInIdeal.main_arg2) = m' ((c.tc : Thread Cert.ReferenceAdamEvInIdeal.nD Cert.ReferenceAdamEvInIdeal.τ).loc Cert.ReferenceAdamEvInIdeal.main_arg2)
          ∧ r.2.mem ((c.tc : Thread Cert.ReferenceAdamEvInIdeal.nD Cert.ReferenceAdamEvInIdeal.τ).loc Cert.ReferenceAdamEvInIdeal.main_arg3) = m' ((c.tc : Thread Cert.ReferenceAdamEvInIdeal.nD Cert.ReferenceAdamEvInIdeal.τ).loc Cert.ReferenceAdamEvInIdeal.main_arg3))

def preserves_KernelAdamPool_KernelAdamPoolIdeal : Prop :=
  True

def algebraic_KernelAdamPoolIdeal_ReferenceAdamPoolIdeal [hKernelAdamPoolIdeal : Cert.KernelAdamPoolIdeal.Facts] [hReferenceAdamPoolIdeal : Cert.ReferenceAdamPoolIdeal.Facts] : Prop :=
  ∀ (m : (ℓ : Loc Cert.KernelAdamPoolIdeal.nD Cert.KernelAdamPoolIdeal.τ Cert.KernelAdamPoolIdeal.sig) → Buf (Elt Ideal) ℓ) (g : Dev Cert.KernelAdamPoolIdeal.nD → PrngReg)
    (m' : (ℓ : Loc Cert.ReferenceAdamPoolIdeal.nD Cert.ReferenceAdamPoolIdeal.τ Cert.ReferenceAdamPoolIdeal.sig) → Buf (Elt Ideal) ℓ) (g' : Dev Cert.ReferenceAdamPoolIdeal.nD → PrngReg), Pre_KernelAdamPoolIdeal m →
    (∀ c : Dev Cert.KernelAdamPoolIdeal.nD,
      m' ((c.tc : Thread Cert.ReferenceAdamPoolIdeal.nD Cert.ReferenceAdamPoolIdeal.τ).loc Cert.ReferenceAdamPoolIdeal.main_arg0) = m ((c.tc : Thread Cert.KernelAdamPoolIdeal.nD Cert.KernelAdamPoolIdeal.τ).loc Cert.KernelAdamPoolIdeal.main_arg0)
      ∧ m' ((c.tc : Thread Cert.ReferenceAdamPoolIdeal.nD Cert.ReferenceAdamPoolIdeal.τ).loc Cert.ReferenceAdamPoolIdeal.main_arg1) = m ((c.tc : Thread Cert.KernelAdamPoolIdeal.nD Cert.KernelAdamPoolIdeal.τ).loc Cert.KernelAdamPoolIdeal.main_arg1)
      ∧ m' ((c.tc : Thread Cert.ReferenceAdamPoolIdeal.nD Cert.ReferenceAdamPoolIdeal.τ).loc Cert.ReferenceAdamPoolIdeal.main_arg2) = m ((c.tc : Thread Cert.KernelAdamPoolIdeal.nD Cert.KernelAdamPoolIdeal.τ).loc Cert.KernelAdamPoolIdeal.main_arg2)
      ∧ m' ((c.tc : Thread Cert.ReferenceAdamPoolIdeal.nD Cert.ReferenceAdamPoolIdeal.τ).loc Cert.ReferenceAdamPoolIdeal.main_arg3) = m ((c.tc : Thread Cert.KernelAdamPoolIdeal.nD Cert.KernelAdamPoolIdeal.τ).loc Cert.KernelAdamPoolIdeal.main_arg3)) →
    ∃ (v0 : (c : Dev Cert.KernelAdamPoolIdeal.nD) → Buf (Elt Ideal) ((c.tc : Thread Cert.KernelAdamPoolIdeal.nD Cert.KernelAdamPoolIdeal.τ).loc Cert.KernelAdamPoolIdeal.main_v0_0)) (v1 : (c : Dev Cert.KernelAdamPoolIdeal.nD) → Buf (Elt Ideal) ((c.tc : Thread Cert.KernelAdamPoolIdeal.nD Cert.KernelAdamPoolIdeal.τ).loc Cert.KernelAdamPoolIdeal.main_v0_1)) (v2 : (c : Dev Cert.KernelAdamPoolIdeal.nD) → Buf (Elt Ideal) ((c.tc : Thread Cert.KernelAdamPoolIdeal.nD Cert.KernelAdamPoolIdeal.τ).loc Cert.KernelAdamPoolIdeal.main_v0_2)) (v3 : (c : Dev Cert.KernelAdamPoolIdeal.nD) → Buf (Elt Ideal) ((c.tc : Thread Cert.KernelAdamPoolIdeal.nD Cert.KernelAdamPoolIdeal.τ).loc Cert.KernelAdamPoolIdeal.main_v0_3)),
      θ_run (Cert.KernelAdamPoolIdeal.defs (F := Ideal)) (onTc (τ := Cert.KernelAdamPoolIdeal.τ) (Cert.KernelAdamPoolIdeal.main (F := Ideal))) ⟨m, fun _ => 0, g⟩ (fun r => ∀ c : Dev Cert.KernelAdamPoolIdeal.nD,
          r.2.mem ((c.tc : Thread Cert.KernelAdamPoolIdeal.nD Cert.KernelAdamPoolIdeal.τ).loc Cert.KernelAdamPoolIdeal.main_v0_0) = v0 c
          ∧ r.2.mem ((c.tc : Thread Cert.KernelAdamPoolIdeal.nD Cert.KernelAdamPoolIdeal.τ).loc Cert.KernelAdamPoolIdeal.main_v0_1) = v1 c
          ∧ r.2.mem ((c.tc : Thread Cert.KernelAdamPoolIdeal.nD Cert.KernelAdamPoolIdeal.τ).loc Cert.KernelAdamPoolIdeal.main_v0_2) = v2 c
          ∧ r.2.mem ((c.tc : Thread Cert.KernelAdamPoolIdeal.nD Cert.KernelAdamPoolIdeal.τ).loc Cert.KernelAdamPoolIdeal.main_v0_3) = v3 c
          ∧ r.2.mem ((c.tc : Thread Cert.KernelAdamPoolIdeal.nD Cert.KernelAdamPoolIdeal.τ).loc Cert.KernelAdamPoolIdeal.main_arg0) = m ((c.tc : Thread Cert.KernelAdamPoolIdeal.nD Cert.KernelAdamPoolIdeal.τ).loc Cert.KernelAdamPoolIdeal.main_arg0)
          ∧ r.2.mem ((c.tc : Thread Cert.KernelAdamPoolIdeal.nD Cert.KernelAdamPoolIdeal.τ).loc Cert.KernelAdamPoolIdeal.main_arg1) = m ((c.tc : Thread Cert.KernelAdamPoolIdeal.nD Cert.KernelAdamPoolIdeal.τ).loc Cert.KernelAdamPoolIdeal.main_arg1)
          ∧ r.2.mem ((c.tc : Thread Cert.KernelAdamPoolIdeal.nD Cert.KernelAdamPoolIdeal.τ).loc Cert.KernelAdamPoolIdeal.main_arg2) = m ((c.tc : Thread Cert.KernelAdamPoolIdeal.nD Cert.KernelAdamPoolIdeal.τ).loc Cert.KernelAdamPoolIdeal.main_arg2)
          ∧ r.2.mem ((c.tc : Thread Cert.KernelAdamPoolIdeal.nD Cert.KernelAdamPoolIdeal.τ).loc Cert.KernelAdamPoolIdeal.main_arg3) = m ((c.tc : Thread Cert.KernelAdamPoolIdeal.nD Cert.KernelAdamPoolIdeal.τ).loc Cert.KernelAdamPoolIdeal.main_arg3))
      ∧ θ_run (Cert.ReferenceAdamPoolIdeal.defs (F := Ideal)) (onTc (τ := Cert.ReferenceAdamPoolIdeal.τ) (Cert.ReferenceAdamPoolIdeal.main (F := Ideal))) ⟨m', fun _ => 0, g'⟩ (fun r => ∀ c : Dev Cert.ReferenceAdamPoolIdeal.nD,
          r.2.mem ((c.tc : Thread Cert.ReferenceAdamPoolIdeal.nD Cert.ReferenceAdamPoolIdeal.τ).loc Cert.ReferenceAdamPoolIdeal.main_v1) = v0 c
          ∧ r.2.mem ((c.tc : Thread Cert.ReferenceAdamPoolIdeal.nD Cert.ReferenceAdamPoolIdeal.τ).loc Cert.ReferenceAdamPoolIdeal.main_v27) = v1 c
          ∧ r.2.mem ((c.tc : Thread Cert.ReferenceAdamPoolIdeal.nD Cert.ReferenceAdamPoolIdeal.τ).loc Cert.ReferenceAdamPoolIdeal.main_v8) = v2 c
          ∧ r.2.mem ((c.tc : Thread Cert.ReferenceAdamPoolIdeal.nD Cert.ReferenceAdamPoolIdeal.τ).loc Cert.ReferenceAdamPoolIdeal.main_v14) = v3 c
          ∧ r.2.mem ((c.tc : Thread Cert.ReferenceAdamPoolIdeal.nD Cert.ReferenceAdamPoolIdeal.τ).loc Cert.ReferenceAdamPoolIdeal.main_arg0) = m' ((c.tc : Thread Cert.ReferenceAdamPoolIdeal.nD Cert.ReferenceAdamPoolIdeal.τ).loc Cert.ReferenceAdamPoolIdeal.main_arg0)
          ∧ r.2.mem ((c.tc : Thread Cert.ReferenceAdamPoolIdeal.nD Cert.ReferenceAdamPoolIdeal.τ).loc Cert.ReferenceAdamPoolIdeal.main_arg1) = m' ((c.tc : Thread Cert.ReferenceAdamPoolIdeal.nD Cert.ReferenceAdamPoolIdeal.τ).loc Cert.ReferenceAdamPoolIdeal.main_arg1)
          ∧ r.2.mem ((c.tc : Thread Cert.ReferenceAdamPoolIdeal.nD Cert.ReferenceAdamPoolIdeal.τ).loc Cert.ReferenceAdamPoolIdeal.main_arg2) = m' ((c.tc : Thread Cert.ReferenceAdamPoolIdeal.nD Cert.ReferenceAdamPoolIdeal.τ).loc Cert.ReferenceAdamPoolIdeal.main_arg2)
          ∧ r.2.mem ((c.tc : Thread Cert.ReferenceAdamPoolIdeal.nD Cert.ReferenceAdamPoolIdeal.τ).loc Cert.ReferenceAdamPoolIdeal.main_arg3) = m' ((c.tc : Thread Cert.ReferenceAdamPoolIdeal.nD Cert.ReferenceAdamPoolIdeal.τ).loc Cert.ReferenceAdamPoolIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)) (v3 : (c : Dev Cert.KernelAdamOutIdeal.nD) → Buf (Elt Ideal) ((c.tc : Thread Cert.KernelAdamOutIdeal.nD Cert.KernelAdamOutIdeal.τ).loc Cert.KernelAdamOutIdeal.main_v0_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_v0_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v1) = v0 c
          ∧ r.2.mem ((c.tc : Thread Cert.ReferenceAdamOutIdeal.nD Cert.ReferenceAdamOutIdeal.τ).loc Cert.ReferenceAdamOutIdeal.main_v27) = v1 c
          ∧ r.2.mem ((c.tc : Thread Cert.ReferenceAdamOutIdeal.nD Cert.ReferenceAdamOutIdeal.τ).loc Cert.ReferenceAdamOutIdeal.main_v8) = v2 c
          ∧ r.2.mem ((c.tc : Thread Cert.ReferenceAdamOutIdeal.nD Cert.ReferenceAdamOutIdeal.τ).loc Cert.ReferenceAdamOutIdeal.main_v14) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelAdamOdIn_KernelAdamOdInIdeal : Prop :=
  True

def algebraic_KernelAdamOdInIdeal_ReferenceAdamOdInIdeal [hKernelAdamOdInIdeal : Cert.KernelAdamOdInIdeal.Facts] [hReferenceAdamOdInIdeal : Cert.ReferenceAdamOdInIdeal.Facts] : Prop :=
  ∀ (m : (ℓ : Loc Cert.KernelAdamOdInIdeal.nD Cert.KernelAdamOdInIdeal.τ Cert.KernelAdamOdInIdeal.sig) → Buf (Elt Ideal) ℓ) (g : Dev Cert.KernelAdamOdInIdeal.nD → PrngReg)
    (m' : (ℓ : Loc Cert.ReferenceAdamOdInIdeal.nD Cert.ReferenceAdamOdInIdeal.τ Cert.ReferenceAdamOdInIdeal.sig) → Buf (Elt Ideal) ℓ) (g' : Dev Cert.ReferenceAdamOdInIdeal.nD → PrngReg), Pre_KernelAdamOdInIdeal m →
    (∀ c : Dev Cert.KernelAdamOdInIdeal.nD,
      m' ((c.tc : Thread Cert.ReferenceAdamOdInIdeal.nD Cert.ReferenceAdamOdInIdeal.τ).loc Cert.ReferenceAdamOdInIdeal.main_arg0) = m ((c.tc : Thread Cert.KernelAdamOdInIdeal.nD Cert.KernelAdamOdInIdeal.τ).loc Cert.KernelAdamOdInIdeal.main_arg0)
      ∧ m' ((c.tc : Thread Cert.ReferenceAdamOdInIdeal.nD Cert.ReferenceAdamOdInIdeal.τ).loc Cert.ReferenceAdamOdInIdeal.main_arg1) = m ((c.tc : Thread Cert.KernelAdamOdInIdeal.nD Cert.KernelAdamOdInIdeal.τ).loc Cert.KernelAdamOdInIdeal.main_arg1)
      ∧ m' ((c.tc : Thread Cert.ReferenceAdamOdInIdeal.nD Cert.ReferenceAdamOdInIdeal.τ).loc Cert.ReferenceAdamOdInIdeal.main_arg2) = m ((c.tc : Thread Cert.KernelAdamOdInIdeal.nD Cert.KernelAdamOdInIdeal.τ).loc Cert.KernelAdamOdInIdeal.main_arg2)
      ∧ m' ((c.tc : Thread Cert.ReferenceAdamOdInIdeal.nD Cert.ReferenceAdamOdInIdeal.τ).loc Cert.ReferenceAdamOdInIdeal.main_arg3) = m ((c.tc : Thread Cert.KernelAdamOdInIdeal.nD Cert.KernelAdamOdInIdeal.τ).loc Cert.KernelAdamOdInIdeal.main_arg3)) →
    ∃ (v0 : (c : Dev Cert.KernelAdamOdInIdeal.nD) → Buf (Elt Ideal) ((c.tc : Thread Cert.KernelAdamOdInIdeal.nD Cert.KernelAdamOdInIdeal.τ).loc Cert.KernelAdamOdInIdeal.main_v0_0)) (v1 : (c : Dev Cert.KernelAdamOdInIdeal.nD) → Buf (Elt Ideal) ((c.tc : Thread Cert.KernelAdamOdInIdeal.nD Cert.KernelAdamOdInIdeal.τ).loc Cert.KernelAdamOdInIdeal.main_v0_1)) (v2 : (c : Dev Cert.KernelAdamOdInIdeal.nD) → Buf (Elt Ideal) ((c.tc : Thread Cert.KernelAdamOdInIdeal.nD Cert.KernelAdamOdInIdeal.τ).loc Cert.KernelAdamOdInIdeal.main_v0_2)) (v3 : (c : Dev Cert.KernelAdamOdInIdeal.nD) → Buf (Elt Ideal) ((c.tc : Thread Cert.KernelAdamOdInIdeal.nD Cert.KernelAdamOdInIdeal.τ).loc Cert.KernelAdamOdInIdeal.main_v0_3)),
      θ_run (Cert.KernelAdamOdInIdeal.defs (F := Ideal)) (onTc (τ := Cert.KernelAdamOdInIdeal.τ) (Cert.KernelAdamOdInIdeal.main (F := Ideal))) ⟨m, fun _ => 0, g⟩ (fun r => ∀ c : Dev Cert.KernelAdamOdInIdeal.nD,
          r.2.mem ((c.tc : Thread Cert.KernelAdamOdInIdeal.nD Cert.KernelAdamOdInIdeal.τ).loc Cert.KernelAdamOdInIdeal.main_v0_0) = v0 c
          ∧ r.2.mem ((c.tc : Thread Cert.KernelAdamOdInIdeal.nD Cert.KernelAdamOdInIdeal.τ).loc Cert.KernelAdamOdInIdeal.main_v0_1) = v1 c
          ∧ r.2.mem ((c.tc : Thread Cert.KernelAdamOdInIdeal.nD Cert.KernelAdamOdInIdeal.τ).loc Cert.KernelAdamOdInIdeal.main_v0_2) = v2 c
          ∧ r.2.mem ((c.tc : Thread Cert.KernelAdamOdInIdeal.nD Cert.KernelAdamOdInIdeal.τ).loc Cert.KernelAdamOdInIdeal.main_v0_3) = v3 c
          ∧ r.2.mem ((c.tc : Thread Cert.KernelAdamOdInIdeal.nD Cert.KernelAdamOdInIdeal.τ).loc Cert.KernelAdamOdInIdeal.main_arg0) = m ((c.tc : Thread Cert.KernelAdamOdInIdeal.nD Cert.KernelAdamOdInIdeal.τ).loc Cert.KernelAdamOdInIdeal.main_arg0)
          ∧ r.2.mem ((c.tc : Thread Cert.KernelAdamOdInIdeal.nD Cert.KernelAdamOdInIdeal.τ).loc Cert.KernelAdamOdInIdeal.main_arg1) = m ((c.tc : Thread Cert.KernelAdamOdInIdeal.nD Cert.KernelAdamOdInIdeal.τ).loc Cert.KernelAdamOdInIdeal.main_arg1)
          ∧ r.2.mem ((c.tc : Thread Cert.KernelAdamOdInIdeal.nD Cert.KernelAdamOdInIdeal.τ).loc Cert.KernelAdamOdInIdeal.main_arg2) = m ((c.tc : Thread Cert.KernelAdamOdInIdeal.nD Cert.KernelAdamOdInIdeal.τ).loc Cert.KernelAdamOdInIdeal.main_arg2)
          ∧ r.2.mem ((c.tc : Thread Cert.KernelAdamOdInIdeal.nD Cert.KernelAdamOdInIdeal.τ).loc Cert.KernelAdamOdInIdeal.main_arg3) = m ((c.tc : Thread Cert.KernelAdamOdInIdeal.nD Cert.KernelAdamOdInIdeal.τ).loc Cert.KernelAdamOdInIdeal.main_arg3))
      ∧ θ_run (Cert.ReferenceAdamOdInIdeal.defs (F := Ideal)) (onTc (τ := Cert.ReferenceAdamOdInIdeal.τ) (Cert.ReferenceAdamOdInIdeal.main (F := Ideal))) ⟨m', fun _ => 0, g'⟩ (fun r => ∀ c : Dev Cert.ReferenceAdamOdInIdeal.nD,
          r.2.mem ((c.tc : Thread Cert.ReferenceAdamOdInIdeal.nD Cert.ReferenceAdamOdInIdeal.τ).loc Cert.ReferenceAdamOdInIdeal.main_v1) = v0 c
          ∧ r.2.mem ((c.tc : Thread Cert.ReferenceAdamOdInIdeal.nD Cert.ReferenceAdamOdInIdeal.τ).loc Cert.ReferenceAdamOdInIdeal.main_v27) = v1 c
          ∧ r.2.mem ((c.tc : Thread Cert.ReferenceAdamOdInIdeal.nD Cert.ReferenceAdamOdInIdeal.τ).loc Cert.ReferenceAdamOdInIdeal.main_v8) = v2 c
          ∧ r.2.mem ((c.tc : Thread Cert.ReferenceAdamOdInIdeal.nD Cert.ReferenceAdamOdInIdeal.τ).loc Cert.ReferenceAdamOdInIdeal.main_v14) = v3 c
          ∧ r.2.mem ((c.tc : Thread Cert.ReferenceAdamOdInIdeal.nD Cert.ReferenceAdamOdInIdeal.τ).loc Cert.ReferenceAdamOdInIdeal.main_arg0) = m' ((c.tc : Thread Cert.ReferenceAdamOdInIdeal.nD Cert.ReferenceAdamOdInIdeal.τ).loc Cert.ReferenceAdamOdInIdeal.main_arg0)
          ∧ r.2.mem ((c.tc : Thread Cert.ReferenceAdamOdInIdeal.nD Cert.ReferenceAdamOdInIdeal.τ).loc Cert.ReferenceAdamOdInIdeal.main_arg1) = m' ((c.tc : Thread Cert.ReferenceAdamOdInIdeal.nD Cert.ReferenceAdamOdInIdeal.τ).loc Cert.ReferenceAdamOdInIdeal.main_arg1)
          ∧ r.2.mem ((c.tc : Thread Cert.ReferenceAdamOdInIdeal.nD Cert.ReferenceAdamOdInIdeal.τ).loc Cert.ReferenceAdamOdInIdeal.main_arg2) = m' ((c.tc : Thread Cert.ReferenceAdamOdInIdeal.nD Cert.ReferenceAdamOdInIdeal.τ).loc Cert.ReferenceAdamOdInIdeal.main_arg2)
          ∧ r.2.mem ((c.tc : Thread Cert.ReferenceAdamOdInIdeal.nD Cert.ReferenceAdamOdInIdeal.τ).loc Cert.ReferenceAdamOdInIdeal.main_arg3) = m' ((c.tc : Thread Cert.ReferenceAdamOdInIdeal.nD Cert.ReferenceAdamOdInIdeal.τ).loc Cert.ReferenceAdamOdInIdeal.main_arg3))

def preserves_KernelAdamXa_KernelAdamXaIdeal : Prop :=
  True

def algebraic_KernelAdamXaIdeal_ReferenceAdamXaIdeal [hKernelAdamXaIdeal : Cert.KernelAdamXaIdeal.Facts] [hReferenceAdamXaIdeal : Cert.ReferenceAdamXaIdeal.Facts] : Prop :=
  ∀ (m : (ℓ : Loc Cert.KernelAdamXaIdeal.nD Cert.KernelAdamXaIdeal.τ Cert.KernelAdamXaIdeal.sig) → Buf (Elt Ideal) ℓ) (g : Dev Cert.KernelAdamXaIdeal.nD → PrngReg)
    (m' : (ℓ : Loc Cert.ReferenceAdamXaIdeal.nD Cert.ReferenceAdamXaIdeal.τ Cert.ReferenceAdamXaIdeal.sig) → Buf (Elt Ideal) ℓ) (g' : Dev Cert.ReferenceAdamXaIdeal.nD → PrngReg), Pre_KernelAdamXaIdeal m →
    (∀ c : Dev Cert.KernelAdamXaIdeal.nD,
      m' ((c.tc : Thread Cert.ReferenceAdamXaIdeal.nD Cert.ReferenceAdamXaIdeal.τ).loc Cert.ReferenceAdamXaIdeal.main_arg0) = m ((c.tc : Thread Cert.KernelAdamXaIdeal.nD Cert.KernelAdamXaIdeal.τ).loc Cert.KernelAdamXaIdeal.main_arg0)
      ∧ m' ((c.tc : Thread Cert.ReferenceAdamXaIdeal.nD Cert.ReferenceAdamXaIdeal.τ).loc Cert.ReferenceAdamXaIdeal.main_arg1) = m ((c.tc : Thread Cert.KernelAdamXaIdeal.nD Cert.KernelAdamXaIdeal.τ).loc Cert.KernelAdamXaIdeal.main_arg1)
      ∧ m' ((c.tc : Thread Cert.ReferenceAdamXaIdeal.nD Cert.ReferenceAdamXaIdeal.τ).loc Cert.ReferenceAdamXaIdeal.main_arg2) = m ((c.tc : Thread Cert.KernelAdamXaIdeal.nD Cert.KernelAdamXaIdeal.τ).loc Cert.KernelAdamXaIdeal.main_arg2)
      ∧ m' ((c.tc : Thread Cert.ReferenceAdamXaIdeal.nD Cert.ReferenceAdamXaIdeal.τ).loc Cert.ReferenceAdamXaIdeal.main_arg3) = m ((c.tc : Thread Cert.KernelAdamXaIdeal.nD Cert.KernelAdamXaIdeal.τ).loc Cert.KernelAdamXaIdeal.main_arg3)) →
    ∃ (v0 : (c : Dev Cert.KernelAdamXaIdeal.nD) → Buf (Elt Ideal) ((c.tc : Thread Cert.KernelAdamXaIdeal.nD Cert.KernelAdamXaIdeal.τ).loc Cert.KernelAdamXaIdeal.main_v0_0)) (v1 : (c : Dev Cert.KernelAdamXaIdeal.nD) → Buf (Elt Ideal) ((c.tc : Thread Cert.KernelAdamXaIdeal.nD Cert.KernelAdamXaIdeal.τ).loc Cert.KernelAdamXaIdeal.main_v0_1)) (v2 : (c : Dev Cert.KernelAdamXaIdeal.nD) → Buf (Elt Ideal) ((c.tc : Thread Cert.KernelAdamXaIdeal.nD Cert.KernelAdamXaIdeal.τ).loc Cert.KernelAdamXaIdeal.main_v0_2)) (v3 : (c : Dev Cert.KernelAdamXaIdeal.nD) → Buf (Elt Ideal) ((c.tc : Thread Cert.KernelAdamXaIdeal.nD Cert.KernelAdamXaIdeal.τ).loc Cert.KernelAdamXaIdeal.main_v0_3)),
      θ_run (Cert.KernelAdamXaIdeal.defs (F := Ideal)) (onTc (τ := Cert.KernelAdamXaIdeal.τ) (Cert.KernelAdamXaIdeal.main (F := Ideal))) ⟨m, fun _ => 0, g⟩ (fun r => ∀ c : Dev Cert.KernelAdamXaIdeal.nD,
          r.2.mem ((c.tc : Thread Cert.KernelAdamXaIdeal.nD Cert.KernelAdamXaIdeal.τ).loc Cert.KernelAdamXaIdeal.main_v0_0) = v0 c
          ∧ r.2.mem ((c.tc : Thread Cert.KernelAdamXaIdeal.nD Cert.KernelAdamXaIdeal.τ).loc Cert.KernelAdamXaIdeal.main_v0_1) = v1 c
          ∧ r.2.mem ((c.tc : Thread Cert.KernelAdamXaIdeal.nD Cert.KernelAdamXaIdeal.τ).loc Cert.KernelAdamXaIdeal.main_v0_2) = v2 c
          ∧ r.2.mem ((c.tc : Thread Cert.KernelAdamXaIdeal.nD Cert.KernelAdamXaIdeal.τ).loc Cert.KernelAdamXaIdeal.main_v0_3) = v3 c
          ∧ r.2.mem ((c.tc : Thread Cert.KernelAdamXaIdeal.nD Cert.KernelAdamXaIdeal.τ).loc Cert.KernelAdamXaIdeal.main_arg0) = m ((c.tc : Thread Cert.KernelAdamXaIdeal.nD Cert.KernelAdamXaIdeal.τ).loc Cert.KernelAdamXaIdeal.main_arg0)
          ∧ r.2.mem ((c.tc : Thread Cert.KernelAdamXaIdeal.nD Cert.KernelAdamXaIdeal.τ).loc Cert.KernelAdamXaIdeal.main_arg1) = m ((c.tc : Thread Cert.KernelAdamXaIdeal.nD Cert.KernelAdamXaIdeal.τ).loc Cert.KernelAdamXaIdeal.main_arg1)
          ∧ r.2.mem ((c.tc : Thread Cert.KernelAdamXaIdeal.nD Cert.KernelAdamXaIdeal.τ).loc Cert.KernelAdamXaIdeal.main_arg2) = m ((c.tc : Thread Cert.KernelAdamXaIdeal.nD Cert.KernelAdamXaIdeal.τ).loc Cert.KernelAdamXaIdeal.main_arg2)
          ∧ r.2.mem ((c.tc : Thread Cert.KernelAdamXaIdeal.nD Cert.KernelAdamXaIdeal.τ).loc Cert.KernelAdamXaIdeal.main_arg3) = m ((c.tc : Thread Cert.KernelAdamXaIdeal.nD Cert.KernelAdamXaIdeal.τ).loc Cert.KernelAdamXaIdeal.main_arg3))
      ∧ θ_run (Cert.ReferenceAdamXaIdeal.defs (F := Ideal)) (onTc (τ := Cert.ReferenceAdamXaIdeal.τ) (Cert.ReferenceAdamXaIdeal.main (F := Ideal))) ⟨m', fun _ => 0, g'⟩ (fun r => ∀ c : Dev Cert.ReferenceAdamXaIdeal.nD,
          r.2.mem ((c.tc : Thread Cert.ReferenceAdamXaIdeal.nD Cert.ReferenceAdamXaIdeal.τ).loc Cert.ReferenceAdamXaIdeal.main_v1) = v0 c
          ∧ r.2.mem ((c.tc : Thread Cert.ReferenceAdamXaIdeal.nD Cert.ReferenceAdamXaIdeal.τ).loc Cert.ReferenceAdamXaIdeal.main_v27) = v1 c
          ∧ r.2.mem ((c.tc : Thread Cert.ReferenceAdamXaIdeal.nD Cert.ReferenceAdamXaIdeal.τ).loc Cert.ReferenceAdamXaIdeal.main_v8) = v2 c
          ∧ r.2.mem ((c.tc : Thread Cert.ReferenceAdamXaIdeal.nD Cert.ReferenceAdamXaIdeal.τ).loc Cert.ReferenceAdamXaIdeal.main_v14) = v3 c
          ∧ r.2.mem ((c.tc : Thread Cert.ReferenceAdamXaIdeal.nD Cert.ReferenceAdamXaIdeal.τ).loc Cert.ReferenceAdamXaIdeal.main_arg0) = m' ((c.tc : Thread Cert.ReferenceAdamXaIdeal.nD Cert.ReferenceAdamXaIdeal.τ).loc Cert.ReferenceAdamXaIdeal.main_arg0)
          ∧ r.2.mem ((c.tc : Thread Cert.ReferenceAdamXaIdeal.nD Cert.ReferenceAdamXaIdeal.τ).loc Cert.ReferenceAdamXaIdeal.main_arg1) = m' ((c.tc : Thread Cert.ReferenceAdamXaIdeal.nD Cert.ReferenceAdamXaIdeal.τ).loc Cert.ReferenceAdamXaIdeal.main_arg1)
          ∧ r.2.mem ((c.tc : Thread Cert.ReferenceAdamXaIdeal.nD Cert.ReferenceAdamXaIdeal.τ).loc Cert.ReferenceAdamXaIdeal.main_arg2) = m' ((c.tc : Thread Cert.ReferenceAdamXaIdeal.nD Cert.ReferenceAdamXaIdeal.τ).loc Cert.ReferenceAdamXaIdeal.main_arg2)
          ∧ r.2.mem ((c.tc : Thread Cert.ReferenceAdamXaIdeal.nD Cert.ReferenceAdamXaIdeal.τ).loc Cert.ReferenceAdamXaIdeal.main_arg3) = m' ((c.tc : Thread Cert.ReferenceAdamXaIdeal.nD Cert.ReferenceAdamXaIdeal.τ).loc Cert.ReferenceAdamXaIdeal.main_arg3))

def preserves_KernelAdamKv_KernelAdamKvIdeal : Prop :=
  True

def algebraic_KernelAdamKvIdeal_ReferenceAdamKvIdeal [hKernelAdamKvIdeal : Cert.KernelAdamKvIdeal.Facts] [hReferenceAdamKvIdeal : Cert.ReferenceAdamKvIdeal.Facts] : Prop :=
  ∀ (m : (ℓ : Loc Cert.KernelAdamKvIdeal.nD Cert.KernelAdamKvIdeal.τ Cert.KernelAdamKvIdeal.sig) → Buf (Elt Ideal) ℓ) (g : Dev Cert.KernelAdamKvIdeal.nD → PrngReg)
    (m' : (ℓ : Loc Cert.ReferenceAdamKvIdeal.nD Cert.ReferenceAdamKvIdeal.τ Cert.ReferenceAdamKvIdeal.sig) → Buf (Elt Ideal) ℓ) (g' : Dev Cert.ReferenceAdamKvIdeal.nD → PrngReg), Pre_KernelAdamKvIdeal m →
    (∀ c : Dev Cert.KernelAdamKvIdeal.nD,
      m' ((c.tc : Thread Cert.ReferenceAdamKvIdeal.nD Cert.ReferenceAdamKvIdeal.τ).loc Cert.ReferenceAdamKvIdeal.main_arg0) = m ((c.tc : Thread Cert.KernelAdamKvIdeal.nD Cert.KernelAdamKvIdeal.τ).loc Cert.KernelAdamKvIdeal.main_arg0)
      ∧ m' ((c.tc : Thread Cert.ReferenceAdamKvIdeal.nD Cert.ReferenceAdamKvIdeal.τ).loc Cert.ReferenceAdamKvIdeal.main_arg1) = m ((c.tc : Thread Cert.KernelAdamKvIdeal.nD Cert.KernelAdamKvIdeal.τ).loc Cert.KernelAdamKvIdeal.main_arg1)
      ∧ m' ((c.tc : Thread Cert.ReferenceAdamKvIdeal.nD Cert.ReferenceAdamKvIdeal.τ).loc Cert.ReferenceAdamKvIdeal.main_arg2) = m ((c.tc : Thread Cert.KernelAdamKvIdeal.nD Cert.KernelAdamKvIdeal.τ).loc Cert.KernelAdamKvIdeal.main_arg2)
      ∧ m' ((c.tc : Thread Cert.ReferenceAdamKvIdeal.nD Cert.ReferenceAdamKvIdeal.τ).loc Cert.ReferenceAdamKvIdeal.main_arg3) = m ((c.tc : Thread Cert.KernelAdamKvIdeal.nD Cert.KernelAdamKvIdeal.τ).loc Cert.KernelAdamKvIdeal.main_arg3)) →
    ∃ (v0 : (c : Dev Cert.KernelAdamKvIdeal.nD) → Buf (Elt Ideal) ((c.tc : Thread Cert.KernelAdamKvIdeal.nD Cert.KernelAdamKvIdeal.τ).loc Cert.KernelAdamKvIdeal.main_v0_0)) (v1 : (c : Dev Cert.KernelAdamKvIdeal.nD) → Buf (Elt Ideal) ((c.tc : Thread Cert.KernelAdamKvIdeal.nD Cert.KernelAdamKvIdeal.τ).loc Cert.KernelAdamKvIdeal.main_v0_1)) (v2 : (c : Dev Cert.KernelAdamKvIdeal.nD) → Buf (Elt Ideal) ((c.tc : Thread Cert.KernelAdamKvIdeal.nD Cert.KernelAdamKvIdeal.τ).loc Cert.KernelAdamKvIdeal.main_v0_2)) (v3 : (c : Dev Cert.KernelAdamKvIdeal.nD) → Buf (Elt Ideal) ((c.tc : Thread Cert.KernelAdamKvIdeal.nD Cert.KernelAdamKvIdeal.τ).loc Cert.KernelAdamKvIdeal.main_v0_3)),
      θ_run (Cert.KernelAdamKvIdeal.defs (F := Ideal)) (onTc (τ := Cert.KernelAdamKvIdeal.τ) (Cert.KernelAdamKvIdeal.main (F := Ideal))) ⟨m, fun _ => 0, g⟩ (fun r => ∀ c : Dev Cert.KernelAdamKvIdeal.nD,
          r.2.mem ((c.tc : Thread Cert.KernelAdamKvIdeal.nD Cert.KernelAdamKvIdeal.τ).loc Cert.KernelAdamKvIdeal.main_v0_0) = v0 c
          ∧ r.2.mem ((c.tc : Thread Cert.KernelAdamKvIdeal.nD Cert.KernelAdamKvIdeal.τ).loc Cert.KernelAdamKvIdeal.main_v0_1) = v1 c
          ∧ r.2.mem ((c.tc : Thread Cert.KernelAdamKvIdeal.nD Cert.KernelAdamKvIdeal.τ).loc Cert.KernelAdamKvIdeal.main_v0_2) = v2 c
          ∧ r.2.mem ((c.tc : Thread Cert.KernelAdamKvIdeal.nD Cert.KernelAdamKvIdeal.τ).loc Cert.KernelAdamKvIdeal.main_v0_3) = v3 c
          ∧ r.2.mem ((c.tc : Thread Cert.KernelAdamKvIdeal.nD Cert.KernelAdamKvIdeal.τ).loc Cert.KernelAdamKvIdeal.main_arg0) = m ((c.tc : Thread Cert.KernelAdamKvIdeal.nD Cert.KernelAdamKvIdeal.τ).loc Cert.KernelAdamKvIdeal.main_arg0)
          ∧ r.2.mem ((c.tc : Thread Cert.KernelAdamKvIdeal.nD Cert.KernelAdamKvIdeal.τ).loc Cert.KernelAdamKvIdeal.main_arg1) = m ((c.tc : Thread Cert.KernelAdamKvIdeal.nD Cert.KernelAdamKvIdeal.τ).loc Cert.KernelAdamKvIdeal.main_arg1)
          ∧ r.2.mem ((c.tc : Thread Cert.KernelAdamKvIdeal.nD Cert.KernelAdamKvIdeal.τ).loc Cert.KernelAdamKvIdeal.main_arg2) = m ((c.tc : Thread Cert.KernelAdamKvIdeal.nD Cert.KernelAdamKvIdeal.τ).loc Cert.KernelAdamKvIdeal.main_arg2)
          ∧ r.2.mem ((c.tc : Thread Cert.KernelAdamKvIdeal.nD Cert.KernelAdamKvIdeal.τ).loc Cert.KernelAdamKvIdeal.main_arg3) = m ((c.tc : Thread Cert.KernelAdamKvIdeal.nD Cert.KernelAdamKvIdeal.τ).loc Cert.KernelAdamKvIdeal.main_arg3))
      ∧ θ_run (Cert.ReferenceAdamKvIdeal.defs (F := Ideal)) (onTc (τ := Cert.ReferenceAdamKvIdeal.τ) (Cert.ReferenceAdamKvIdeal.main (F := Ideal))) ⟨m', fun _ => 0, g'⟩ (fun r => ∀ c : Dev Cert.ReferenceAdamKvIdeal.nD,
          r.2.mem ((c.tc : Thread Cert.ReferenceAdamKvIdeal.nD Cert.ReferenceAdamKvIdeal.τ).loc Cert.ReferenceAdamKvIdeal.main_v1) = v0 c
          ∧ r.2.mem ((c.tc : Thread Cert.ReferenceAdamKvIdeal.nD Cert.ReferenceAdamKvIdeal.τ).loc Cert.ReferenceAdamKvIdeal.main_v27) = v1 c
          ∧ r.2.mem ((c.tc : Thread Cert.ReferenceAdamKvIdeal.nD Cert.ReferenceAdamKvIdeal.τ).loc Cert.ReferenceAdamKvIdeal.main_v8) = v2 c
          ∧ r.2.mem ((c.tc : Thread Cert.ReferenceAdamKvIdeal.nD Cert.ReferenceAdamKvIdeal.τ).loc Cert.ReferenceAdamKvIdeal.main_v14) = v3 c
          ∧ r.2.mem ((c.tc : Thread Cert.ReferenceAdamKvIdeal.nD Cert.ReferenceAdamKvIdeal.τ).loc Cert.ReferenceAdamKvIdeal.main_arg0) = m' ((c.tc : Thread Cert.ReferenceAdamKvIdeal.nD Cert.ReferenceAdamKvIdeal.τ).loc Cert.ReferenceAdamKvIdeal.main_arg0)
          ∧ r.2.mem ((c.tc : Thread Cert.ReferenceAdamKvIdeal.nD Cert.ReferenceAdamKvIdeal.τ).loc Cert.ReferenceAdamKvIdeal.main_arg1) = m' ((c.tc : Thread Cert.ReferenceAdamKvIdeal.nD Cert.ReferenceAdamKvIdeal.τ).loc Cert.ReferenceAdamKvIdeal.main_arg1)
          ∧ r.2.mem ((c.tc : Thread Cert.ReferenceAdamKvIdeal.nD Cert.ReferenceAdamKvIdeal.τ).loc Cert.ReferenceAdamKvIdeal.main_arg2) = m' ((c.tc : Thread Cert.ReferenceAdamKvIdeal.nD Cert.ReferenceAdamKvIdeal.τ).loc Cert.ReferenceAdamKvIdeal.main_arg2)
          ∧ r.2.mem ((c.tc : Thread Cert.ReferenceAdamKvIdeal.nD Cert.ReferenceAdamKvIdeal.τ).loc Cert.ReferenceAdamKvIdeal.main_arg3) = m' ((c.tc : Thread Cert.ReferenceAdamKvIdeal.nD Cert.ReferenceAdamKvIdeal.τ).loc Cert.ReferenceAdamKvIdeal.main_arg3))

def preserves_KernelAdamFf_KernelAdamFfIdeal : Prop :=
  True

def algebraic_KernelAdamFfIdeal_ReferenceAdamFfIdeal [hKernelAdamFfIdeal : Cert.KernelAdamFfIdeal.Facts] [hReferenceAdamFfIdeal : Cert.ReferenceAdamFfIdeal.Facts] : Prop :=
  ∀ (m : (ℓ : Loc Cert.KernelAdamFfIdeal.nD Cert.KernelAdamFfIdeal.τ Cert.KernelAdamFfIdeal.sig) → Buf (Elt Ideal) ℓ) (g : Dev Cert.KernelAdamFfIdeal.nD → PrngReg)
    (m' : (ℓ : Loc Cert.ReferenceAdamFfIdeal.nD Cert.ReferenceAdamFfIdeal.τ Cert.ReferenceAdamFfIdeal.sig) → Buf (Elt Ideal) ℓ) (g' : Dev Cert.ReferenceAdamFfIdeal.nD → PrngReg), Pre_KernelAdamFfIdeal m →
    (∀ c : Dev Cert.KernelAdamFfIdeal.nD,
      m' ((c.tc : Thread Cert.ReferenceAdamFfIdeal.nD Cert.ReferenceAdamFfIdeal.τ).loc Cert.ReferenceAdamFfIdeal.main_arg0) = m ((c.tc : Thread Cert.KernelAdamFfIdeal.nD Cert.KernelAdamFfIdeal.τ).loc Cert.KernelAdamFfIdeal.main_arg0)
      ∧ m' ((c.tc : Thread Cert.ReferenceAdamFfIdeal.nD Cert.ReferenceAdamFfIdeal.τ).loc Cert.ReferenceAdamFfIdeal.main_arg1) = m ((c.tc : Thread Cert.KernelAdamFfIdeal.nD Cert.KernelAdamFfIdeal.τ).loc Cert.KernelAdamFfIdeal.main_arg1)
      ∧ m' ((c.tc : Thread Cert.ReferenceAdamFfIdeal.nD Cert.ReferenceAdamFfIdeal.τ).loc Cert.ReferenceAdamFfIdeal.main_arg2) = m ((c.tc : Thread Cert.KernelAdamFfIdeal.nD Cert.KernelAdamFfIdeal.τ).loc Cert.KernelAdamFfIdeal.main_arg2)
      ∧ m' ((c.tc : Thread Cert.ReferenceAdamFfIdeal.nD Cert.ReferenceAdamFfIdeal.τ).loc Cert.ReferenceAdamFfIdeal.main_arg3) = m ((c.tc : Thread Cert.KernelAdamFfIdeal.nD Cert.KernelAdamFfIdeal.τ).loc Cert.KernelAdamFfIdeal.main_arg3)) →
    ∃ (v0 : (c : Dev Cert.KernelAdamFfIdeal.nD) → Buf (Elt Ideal) ((c.tc : Thread Cert.KernelAdamFfIdeal.nD Cert.KernelAdamFfIdeal.τ).loc Cert.KernelAdamFfIdeal.main_v0_0)) (v1 : (c : Dev Cert.KernelAdamFfIdeal.nD) → Buf (Elt Ideal) ((c.tc : Thread Cert.KernelAdamFfIdeal.nD Cert.KernelAdamFfIdeal.τ).loc Cert.KernelAdamFfIdeal.main_v0_1)) (v2 : (c : Dev Cert.KernelAdamFfIdeal.nD) → Buf (Elt Ideal) ((c.tc : Thread Cert.KernelAdamFfIdeal.nD Cert.KernelAdamFfIdeal.τ).loc Cert.KernelAdamFfIdeal.main_v0_2)) (v3 : (c : Dev Cert.KernelAdamFfIdeal.nD) → Buf (Elt Ideal) ((c.tc : Thread Cert.KernelAdamFfIdeal.nD Cert.KernelAdamFfIdeal.τ).loc Cert.KernelAdamFfIdeal.main_v0_3)),
      θ_run (Cert.KernelAdamFfIdeal.defs (F := Ideal)) (onTc (τ := Cert.KernelAdamFfIdeal.τ) (Cert.KernelAdamFfIdeal.main (F := Ideal))) ⟨m, fun _ => 0, g⟩ (fun r => ∀ c : Dev Cert.KernelAdamFfIdeal.nD,
          r.2.mem ((c.tc : Thread Cert.KernelAdamFfIdeal.nD Cert.KernelAdamFfIdeal.τ).loc Cert.KernelAdamFfIdeal.main_v0_0) = v0 c
          ∧ r.2.mem ((c.tc : Thread Cert.KernelAdamFfIdeal.nD Cert.KernelAdamFfIdeal.τ).loc Cert.KernelAdamFfIdeal.main_v0_1) = v1 c
          ∧ r.2.mem ((c.tc : Thread Cert.KernelAdamFfIdeal.nD Cert.KernelAdamFfIdeal.τ).loc Cert.KernelAdamFfIdeal.main_v0_2) = v2 c
          ∧ r.2.mem ((c.tc : Thread Cert.KernelAdamFfIdeal.nD Cert.KernelAdamFfIdeal.τ).loc Cert.KernelAdamFfIdeal.main_v0_3) = v3 c
          ∧ r.2.mem ((c.tc : Thread Cert.KernelAdamFfIdeal.nD Cert.KernelAdamFfIdeal.τ).loc Cert.KernelAdamFfIdeal.main_arg0) = m ((c.tc : Thread Cert.KernelAdamFfIdeal.nD Cert.KernelAdamFfIdeal.τ).loc Cert.KernelAdamFfIdeal.main_arg0)
          ∧ r.2.mem ((c.tc : Thread Cert.KernelAdamFfIdeal.nD Cert.KernelAdamFfIdeal.τ).loc Cert.KernelAdamFfIdeal.main_arg1) = m ((c.tc : Thread Cert.KernelAdamFfIdeal.nD Cert.KernelAdamFfIdeal.τ).loc Cert.KernelAdamFfIdeal.main_arg1)
          ∧ r.2.mem ((c.tc : Thread Cert.KernelAdamFfIdeal.nD Cert.KernelAdamFfIdeal.τ).loc Cert.KernelAdamFfIdeal.main_arg2) = m ((c.tc : Thread Cert.KernelAdamFfIdeal.nD Cert.KernelAdamFfIdeal.τ).loc Cert.KernelAdamFfIdeal.main_arg2)
          ∧ r.2.mem ((c.tc : Thread Cert.KernelAdamFfIdeal.nD Cert.KernelAdamFfIdeal.τ).loc Cert.KernelAdamFfIdeal.main_arg3) = m ((c.tc : Thread Cert.KernelAdamFfIdeal.nD Cert.KernelAdamFfIdeal.τ).loc Cert.KernelAdamFfIdeal.main_arg3))
      ∧ θ_run (Cert.ReferenceAdamFfIdeal.defs (F := Ideal)) (onTc (τ := Cert.ReferenceAdamFfIdeal.τ) (Cert.ReferenceAdamFfIdeal.main (F := Ideal))) ⟨m', fun _ => 0, g'⟩ (fun r => ∀ c : Dev Cert.ReferenceAdamFfIdeal.nD,
          r.2.mem ((c.tc : Thread Cert.ReferenceAdamFfIdeal.nD Cert.ReferenceAdamFfIdeal.τ).loc Cert.ReferenceAdamFfIdeal.main_v1) = v0 c
          ∧ r.2.mem ((c.tc : Thread Cert.ReferenceAdamFfIdeal.nD Cert.ReferenceAdamFfIdeal.τ).loc Cert.ReferenceAdamFfIdeal.main_v27) = v1 c
          ∧ r.2.mem ((c.tc : Thread Cert.ReferenceAdamFfIdeal.nD Cert.ReferenceAdamFfIdeal.τ).loc Cert.ReferenceAdamFfIdeal.main_v8) = v2 c
          ∧ r.2.mem ((c.tc : Thread Cert.ReferenceAdamFfIdeal.nD Cert.ReferenceAdamFfIdeal.τ).loc Cert.ReferenceAdamFfIdeal.main_v14) = v3 c
          ∧ r.2.mem ((c.tc : Thread Cert.ReferenceAdamFfIdeal.nD Cert.ReferenceAdamFfIdeal.τ).loc Cert.ReferenceAdamFfIdeal.main_arg0) = m' ((c.tc : Thread Cert.ReferenceAdamFfIdeal.nD Cert.ReferenceAdamFfIdeal.τ).loc Cert.ReferenceAdamFfIdeal.main_arg0)
          ∧ r.2.mem ((c.tc : Thread Cert.ReferenceAdamFfIdeal.nD Cert.ReferenceAdamFfIdeal.τ).loc Cert.ReferenceAdamFfIdeal.main_arg1) = m' ((c.tc : Thread Cert.ReferenceAdamFfIdeal.nD Cert.ReferenceAdamFfIdeal.τ).loc Cert.ReferenceAdamFfIdeal.main_arg1)
          ∧ r.2.mem ((c.tc : Thread Cert.ReferenceAdamFfIdeal.nD Cert.ReferenceAdamFfIdeal.τ).loc Cert.ReferenceAdamFfIdeal.main_arg2) = m' ((c.tc : Thread Cert.ReferenceAdamFfIdeal.nD Cert.ReferenceAdamFfIdeal.τ).loc Cert.ReferenceAdamFfIdeal.main_arg2)
          ∧ r.2.mem ((c.tc : Thread Cert.ReferenceAdamFfIdeal.nD Cert.ReferenceAdamFfIdeal.τ).loc Cert.ReferenceAdamFfIdeal.main_arg3) = m' ((c.tc : Thread Cert.ReferenceAdamFfIdeal.nD Cert.ReferenceAdamFfIdeal.τ).loc Cert.ReferenceAdamFfIdeal.main_arg3))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)) →
    ∃ (v0 : (c : Dev Cert.KernelAdamDownIdeal.nD) → Buf (Elt Ideal) ((c.tc : Thread Cert.KernelAdamDownIdeal.nD Cert.KernelAdamDownIdeal.τ).loc Cert.KernelAdamDownIdeal.main_v0_0)) (v1 : (c : Dev Cert.KernelAdamDownIdeal.nD) → Buf (Elt Ideal) ((c.tc : Thread Cert.KernelAdamDownIdeal.nD Cert.KernelAdamDownIdeal.τ).loc Cert.KernelAdamDownIdeal.main_v0_1)) (v2 : (c : Dev Cert.KernelAdamDownIdeal.nD) → Buf (Elt Ideal) ((c.tc : Thread Cert.KernelAdamDownIdeal.nD Cert.KernelAdamDownIdeal.τ).loc Cert.KernelAdamDownIdeal.main_v0_2)) (v3 : (c : Dev Cert.KernelAdamDownIdeal.nD) → Buf (Elt Ideal) ((c.tc : Thread Cert.KernelAdamDownIdeal.nD Cert.KernelAdamDownIdeal.τ).loc Cert.KernelAdamDownIdeal.main_v0_3)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v0_0) = v0 c
          ∧ r.2.mem ((c.tc : Thread Cert.KernelAdamDownIdeal.nD Cert.KernelAdamDownIdeal.τ).loc Cert.KernelAdamDownIdeal.main_v0_1) = v1 c
          ∧ r.2.mem ((c.tc : Thread Cert.KernelAdamDownIdeal.nD Cert.KernelAdamDownIdeal.τ).loc Cert.KernelAdamDownIdeal.main_v0_2) = v2 c
          ∧ r.2.mem ((c.tc : Thread Cert.KernelAdamDownIdeal.nD Cert.KernelAdamDownIdeal.τ).loc Cert.KernelAdamDownIdeal.main_v0_3) = v3 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v1) = v0 c
          ∧ r.2.mem ((c.tc : Thread Cert.ReferenceAdamDownIdeal.nD Cert.ReferenceAdamDownIdeal.τ).loc Cert.ReferenceAdamDownIdeal.main_v27) = v1 c
          ∧ r.2.mem ((c.tc : Thread Cert.ReferenceAdamDownIdeal.nD Cert.ReferenceAdamDownIdeal.τ).loc Cert.ReferenceAdamDownIdeal.main_v8) = v2 c
          ∧ r.2.mem ((c.tc : Thread Cert.ReferenceAdamDownIdeal.nD Cert.ReferenceAdamDownIdeal.τ).loc Cert.ReferenceAdamDownIdeal.main_v14) = v3 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)) (v3 : (c : Dev Cert.KernelAdamSmallIdeal.nD) → Buf (Elt Ideal) ((c.tc : Thread Cert.KernelAdamSmallIdeal.nD Cert.KernelAdamSmallIdeal.τ).loc Cert.KernelAdamSmallIdeal.main_v0_3)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_v0_3) = v3 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v1) = v0 c
          ∧ r.2.mem ((c.tc : Thread Cert.ReferenceAdamSmallIdeal.nD Cert.ReferenceAdamSmallIdeal.τ).loc Cert.ReferenceAdamSmallIdeal.main_v27) = v1 c
          ∧ r.2.mem ((c.tc : Thread Cert.ReferenceAdamSmallIdeal.nD Cert.ReferenceAdamSmallIdeal.τ).loc Cert.ReferenceAdamSmallIdeal.main_v8) = v2 c
          ∧ r.2.mem ((c.tc : Thread Cert.ReferenceAdamSmallIdeal.nD Cert.ReferenceAdamSmallIdeal.τ).loc Cert.ReferenceAdamSmallIdeal.main_v14) = v3 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelDownW : Cert.KernelDownW.Facts) (hKernelDownWIdeal : Cert.KernelDownWIdeal.Facts) (hReferenceDownWIdeal : Cert.ReferenceDownWIdeal.Facts) (hKernelInW : Cert.KernelInW.Facts) (hKernelInWIdeal : Cert.KernelInWIdeal.Facts) (hReferenceInWIdeal : Cert.ReferenceInWIdeal.Facts) (hKernelGateX : Cert.KernelGateX.Facts) (hKernelGateXIdeal : Cert.KernelGateXIdeal.Facts) (hReferenceGateXIdeal : Cert.ReferenceGateXIdeal.Facts) (hKernelUpX : Cert.KernelUpX.Facts) (hKernelUpXIdeal : Cert.KernelUpXIdeal.Facts) (hReferenceUpXIdeal : Cert.ReferenceUpXIdeal.Facts) (hKernelGate : Cert.KernelGate.Facts) (hKernelGateIdeal : Cert.KernelGateIdeal.Facts) (hReferenceGateIdeal : Cert.ReferenceGateIdeal.Facts) (hKernelUp : Cert.KernelUp.Facts) (hKernelUpIdeal : Cert.KernelUpIdeal.Facts) (hReferenceUpIdeal : Cert.ReferenceUpIdeal.Facts) (hKernelOut : Cert.KernelOut.Facts) (hKernelOutIdeal : Cert.KernelOutIdeal.Facts) (hReferenceOutIdeal : Cert.ReferenceOutIdeal.Facts) (hKernelProjW : Cert.KernelProjW.Facts) (hKernelProjWIdeal : Cert.KernelProjWIdeal.Facts) (hReferenceProjWIdeal : Cert.ReferenceProjWIdeal.Facts) (hKernelProjX : Cert.KernelProjX.Facts) (hKernelProjXIdeal : Cert.KernelProjXIdeal.Facts) (hReferenceProjXIdeal : Cert.ReferenceProjXIdeal.Facts) (hKernelQkvW : Cert.KernelQkvW.Facts) (hKernelQkvWIdeal : Cert.KernelQkvWIdeal.Facts) (hReferenceQkvWIdeal : Cert.ReferenceQkvWIdeal.Facts) (hKernelQkvX : Cert.KernelQkvX.Facts) (hKernelQkvXIdeal : Cert.KernelQkvXIdeal.Facts) (hReferenceQkvXIdeal : Cert.ReferenceQkvXIdeal.Facts) (hKernelProj : Cert.KernelProj.Facts) (hKernelProjIdeal : Cert.KernelProjIdeal.Facts) (hReferenceProjIdeal : Cert.ReferenceProjIdeal.Facts) (hKernelProjRes : Cert.KernelProjRes.Facts) (hKernelProjResIdeal : Cert.KernelProjResIdeal.Facts) (hReferenceProjResIdeal : Cert.ReferenceProjResIdeal.Facts) (hKernelQkv : Cert.KernelQkv.Facts) (hKernelQkvIdeal : Cert.KernelQkvIdeal.Facts) (hReferenceQkvIdeal : Cert.ReferenceQkvIdeal.Facts) (hKernelAdamEvIn : Cert.KernelAdamEvIn.Facts) (hKernelAdamEvInIdeal : Cert.KernelAdamEvInIdeal.Facts) (hReferenceAdamEvInIdeal : Cert.ReferenceAdamEvInIdeal.Facts) (hKernelAdamPool : Cert.KernelAdamPool.Facts) (hKernelAdamPoolIdeal : Cert.KernelAdamPoolIdeal.Facts) (hReferenceAdamPoolIdeal : Cert.ReferenceAdamPoolIdeal.Facts) (hKernelAdamOut : Cert.KernelAdamOut.Facts) (hKernelAdamOutIdeal : Cert.KernelAdamOutIdeal.Facts) (hReferenceAdamOutIdeal : Cert.ReferenceAdamOutIdeal.Facts) (hKernelAdamOdIn : Cert.KernelAdamOdIn.Facts) (hKernelAdamOdInIdeal : Cert.KernelAdamOdInIdeal.Facts) (hReferenceAdamOdInIdeal : Cert.ReferenceAdamOdInIdeal.Facts) (hKernelAdamXa : Cert.KernelAdamXa.Facts) (hKernelAdamXaIdeal : Cert.KernelAdamXaIdeal.Facts) (hReferenceAdamXaIdeal : Cert.ReferenceAdamXaIdeal.Facts) (hKernelAdamKv : Cert.KernelAdamKv.Facts) (hKernelAdamKvIdeal : Cert.KernelAdamKvIdeal.Facts) (hReferenceAdamKvIdeal : Cert.ReferenceAdamKvIdeal.Facts) (hKernelAdamFf : Cert.KernelAdamFf.Facts) (hKernelAdamFfIdeal : Cert.KernelAdamFfIdeal.Facts) (hReferenceAdamFfIdeal : Cert.ReferenceAdamFfIdeal.Facts) (hKernelAdamDown : Cert.KernelAdamDown.Facts) (hKernelAdamDownIdeal : Cert.KernelAdamDownIdeal.Facts) (hReferenceAdamDownIdeal : Cert.ReferenceAdamDownIdeal.Facts) (hKernelAdamSmall : Cert.KernelAdamSmall.Facts) (hKernelAdamSmallIdeal : Cert.KernelAdamSmallIdeal.Facts) (hReferenceAdamSmallIdeal : Cert.ReferenceAdamSmallIdeal.Facts) (hPre_finite : Cert.Pre_finite.Facts) (hPre_finite_down : Cert.Pre_finite_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDown (hKernelDown := hKernelDown)
    ∧ quiescent_KernelDownIdeal (hKernelDownIdeal := hKernelDownIdeal)
    ∧ quiescent_KernelDownIdeal_pre_finite_down (hKernelDownIdeal := hKernelDownIdeal) (hPre_finite_down := hPre_finite_down)
    ∧ quiescent_ReferenceDownIdeal (hReferenceDownIdeal := hReferenceDownIdeal)
    ∧ quiescent_ReferenceDownIdeal_pre_finite_down (hReferenceDownIdeal := hReferenceDownIdeal) (hPre_finite_down := hPre_finite_down)
    ∧ quiescent_KernelDownW (hKernelDownW := hKernelDownW)
    ∧ quiescent_KernelDownWIdeal (hKernelDownWIdeal := hKernelDownWIdeal)
    ∧ quiescent_ReferenceDownWIdeal (hReferenceDownWIdeal := hReferenceDownWIdeal)
    ∧ quiescent_KernelInW (hKernelInW := hKernelInW)
    ∧ quiescent_KernelInWIdeal (hKernelInWIdeal := hKernelInWIdeal)
    ∧ quiescent_ReferenceInWIdeal (hReferenceInWIdeal := hReferenceInWIdeal)
    ∧ quiescent_KernelGateX (hKernelGateX := hKernelGateX)
    ∧ quiescent_KernelGateXIdeal (hKernelGateXIdeal := hKernelGateXIdeal)
    ∧ quiescent_ReferenceGateXIdeal (hReferenceGateXIdeal := hReferenceGateXIdeal)
    ∧ quiescent_KernelUpX (hKernelUpX := hKernelUpX)
    ∧ quiescent_KernelUpXIdeal (hKernelUpXIdeal := hKernelUpXIdeal)
    ∧ quiescent_ReferenceUpXIdeal (hReferenceUpXIdeal := hReferenceUpXIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelProjW (hKernelProjW := hKernelProjW)
    ∧ quiescent_KernelProjWIdeal (hKernelProjWIdeal := hKernelProjWIdeal)
    ∧ quiescent_ReferenceProjWIdeal (hReferenceProjWIdeal := hReferenceProjWIdeal)
    ∧ quiescent_KernelProjX (hKernelProjX := hKernelProjX)
    ∧ quiescent_KernelProjXIdeal (hKernelProjXIdeal := hKernelProjXIdeal)
    ∧ quiescent_ReferenceProjXIdeal (hReferenceProjXIdeal := hReferenceProjXIdeal)
    ∧ quiescent_KernelQkvW (hKernelQkvW := hKernelQkvW)
    ∧ quiescent_KernelQkvWIdeal (hKernelQkvWIdeal := hKernelQkvWIdeal)
    ∧ quiescent_ReferenceQkvWIdeal (hReferenceQkvWIdeal := hReferenceQkvWIdeal)
    ∧ quiescent_KernelQkvX (hKernelQkvX := hKernelQkvX)
    ∧ quiescent_KernelQkvXIdeal (hKernelQkvXIdeal := hKernelQkvXIdeal)
    ∧ quiescent_ReferenceQkvXIdeal (hReferenceQkvXIdeal := hReferenceQkvXIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelProjRes (hKernelProjRes := hKernelProjRes)
    ∧ quiescent_KernelProjResIdeal (hKernelProjResIdeal := hKernelProjResIdeal)
    ∧ quiescent_ReferenceProjResIdeal (hReferenceProjResIdeal := hReferenceProjResIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelAdamEvIn (hKernelAdamEvIn := hKernelAdamEvIn)
    ∧ quiescent_KernelAdamEvInIdeal (hKernelAdamEvInIdeal := hKernelAdamEvInIdeal)
    ∧ quiescent_ReferenceAdamEvInIdeal (hReferenceAdamEvInIdeal := hReferenceAdamEvInIdeal)
    ∧ quiescent_KernelAdamPool (hKernelAdamPool := hKernelAdamPool)
    ∧ quiescent_KernelAdamPoolIdeal (hKernelAdamPoolIdeal := hKernelAdamPoolIdeal)
    ∧ quiescent_ReferenceAdamPoolIdeal (hReferenceAdamPoolIdeal := hReferenceAdamPoolIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamOdIn (hKernelAdamOdIn := hKernelAdamOdIn)
    ∧ quiescent_KernelAdamOdInIdeal (hKernelAdamOdInIdeal := hKernelAdamOdInIdeal)
    ∧ quiescent_ReferenceAdamOdInIdeal (hReferenceAdamOdInIdeal := hReferenceAdamOdInIdeal)
    ∧ quiescent_KernelAdamXa (hKernelAdamXa := hKernelAdamXa)
    ∧ quiescent_KernelAdamXaIdeal (hKernelAdamXaIdeal := hKernelAdamXaIdeal)
    ∧ quiescent_ReferenceAdamXaIdeal (hReferenceAdamXaIdeal := hReferenceAdamXaIdeal)
    ∧ quiescent_KernelAdamKv (hKernelAdamKv := hKernelAdamKv)
    ∧ quiescent_KernelAdamKvIdeal (hKernelAdamKvIdeal := hKernelAdamKvIdeal)
    ∧ quiescent_ReferenceAdamKvIdeal (hReferenceAdamKvIdeal := hReferenceAdamKvIdeal)
    ∧ quiescent_KernelAdamFf (hKernelAdamFf := hKernelAdamFf)
    ∧ quiescent_KernelAdamFfIdeal (hKernelAdamFfIdeal := hKernelAdamFfIdeal)
    ∧ quiescent_ReferenceAdamFfIdeal (hReferenceAdamFfIdeal := hReferenceAdamFfIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDown_KernelDownIdeal
    ∧ algebraic_KernelDownIdeal_ReferenceDownIdeal_pre_finite_down (hKernelDownIdeal := hKernelDownIdeal) (hReferenceDownIdeal := hReferenceDownIdeal) (hPre_finite_down := hPre_finite_down)
    ∧ preserves_KernelDownW_KernelDownWIdeal
    ∧ algebraic_KernelDownWIdeal_ReferenceDownWIdeal (hKernelDownWIdeal := hKernelDownWIdeal) (hReferenceDownWIdeal := hReferenceDownWIdeal)
    ∧ preserves_KernelInW_KernelInWIdeal
    ∧ algebraic_KernelInWIdeal_ReferenceInWIdeal (hKernelInWIdeal := hKernelInWIdeal) (hReferenceInWIdeal := hReferenceInWIdeal)
    ∧ preserves_KernelGateX_KernelGateXIdeal
    ∧ algebraic_KernelGateXIdeal_ReferenceGateXIdeal (hKernelGateXIdeal := hKernelGateXIdeal) (hReferenceGateXIdeal := hReferenceGateXIdeal)
    ∧ preserves_KernelUpX_KernelUpXIdeal
    ∧ algebraic_KernelUpXIdeal_ReferenceUpXIdeal (hKernelUpXIdeal := hKernelUpXIdeal) (hReferenceUpXIdeal := hReferenceUpXIdeal)
    ∧ preserves_KernelGate_KernelGateIdeal
    ∧ algebraic_KernelGateIdeal_ReferenceGateIdeal (hKernelGateIdeal := hKernelGateIdeal) (hReferenceGateIdeal := hReferenceGateIdeal)
    ∧ preserves_KernelUp_KernelUpIdeal
    ∧ algebraic_KernelUpIdeal_ReferenceUpIdeal (hKernelUpIdeal := hKernelUpIdeal) (hReferenceUpIdeal := hReferenceUpIdeal)
    ∧ preserves_KernelOut_KernelOutIdeal
    ∧ algebraic_KernelOutIdeal_ReferenceOutIdeal (hKernelOutIdeal := hKernelOutIdeal) (hReferenceOutIdeal := hReferenceOutIdeal)
    ∧ preserves_KernelProjW_KernelProjWIdeal
    ∧ algebraic_KernelProjWIdeal_ReferenceProjWIdeal (hKernelProjWIdeal := hKernelProjWIdeal) (hReferenceProjWIdeal := hReferenceProjWIdeal)
    ∧ preserves_KernelProjX_KernelProjXIdeal
    ∧ algebraic_KernelProjXIdeal_ReferenceProjXIdeal (hKernelProjXIdeal := hKernelProjXIdeal) (hReferenceProjXIdeal := hReferenceProjXIdeal)
    ∧ preserves_KernelQkvW_KernelQkvWIdeal
    ∧ algebraic_KernelQkvWIdeal_ReferenceQkvWIdeal (hKernelQkvWIdeal := hKernelQkvWIdeal) (hReferenceQkvWIdeal := hReferenceQkvWIdeal)
    ∧ preserves_KernelQkvX_KernelQkvXIdeal
    ∧ algebraic_KernelQkvXIdeal_ReferenceQkvXIdeal (hKernelQkvXIdeal := hKernelQkvXIdeal) (hReferenceQkvXIdeal := hReferenceQkvXIdeal)
    ∧ preserves_KernelProj_KernelProjIdeal
    ∧ algebraic_KernelProjIdeal_ReferenceProjIdeal (hKernelProjIdeal := hKernelProjIdeal) (hReferenceProjIdeal := hReferenceProjIdeal)
    ∧ preserves_KernelProjRes_KernelProjResIdeal
    ∧ algebraic_KernelProjResIdeal_ReferenceProjResIdeal (hKernelProjResIdeal := hKernelProjResIdeal) (hReferenceProjResIdeal := hReferenceProjResIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelAdamEvIn_KernelAdamEvInIdeal
    ∧ algebraic_KernelAdamEvInIdeal_ReferenceAdamEvInIdeal (hKernelAdamEvInIdeal := hKernelAdamEvInIdeal) (hReferenceAdamEvInIdeal := hReferenceAdamEvInIdeal)
    ∧ preserves_KernelAdamPool_KernelAdamPoolIdeal
    ∧ algebraic_KernelAdamPoolIdeal_ReferenceAdamPoolIdeal (hKernelAdamPoolIdeal := hKernelAdamPoolIdeal) (hReferenceAdamPoolIdeal := hReferenceAdamPoolIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamOdIn_KernelAdamOdInIdeal
    ∧ algebraic_KernelAdamOdInIdeal_ReferenceAdamOdInIdeal (hKernelAdamOdInIdeal := hKernelAdamOdInIdeal) (hReferenceAdamOdInIdeal := hReferenceAdamOdInIdeal)
    ∧ preserves_KernelAdamXa_KernelAdamXaIdeal
    ∧ algebraic_KernelAdamXaIdeal_ReferenceAdamXaIdeal (hKernelAdamXaIdeal := hKernelAdamXaIdeal) (hReferenceAdamXaIdeal := hReferenceAdamXaIdeal)
    ∧ preserves_KernelAdamKv_KernelAdamKvIdeal
    ∧ algebraic_KernelAdamKvIdeal_ReferenceAdamKvIdeal (hKernelAdamKvIdeal := hKernelAdamKvIdeal) (hReferenceAdamKvIdeal := hReferenceAdamKvIdeal)
    ∧ preserves_KernelAdamFf_KernelAdamFfIdeal
    ∧ algebraic_KernelAdamFfIdeal_ReferenceAdamFfIdeal (hKernelAdamFfIdeal := hKernelAdamFfIdeal) (hReferenceAdamFfIdeal := hReferenceAdamFfIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
-- ==== Pre_finite.lean ====
abbrev S3x4096x2048 : Shape := ⟨3, ![3, 4096, 2048]⟩
abbrev S4096x16 : Shape := ⟨2, ![4096, 16]⟩
abbrev S4096x2048 : Shape := ⟨2, ![4096, 2048]⟩
abbrev S_ : Shape := ⟨0, ![]⟩

class Facts : Prop where
  bitsLt_bf16_f32 : FTy.bits .bf16 < FTy.bits .f32
  bcast_S_S3x4096x2048 : S_.BroadcastsInDim S3x4096x2048 (![] : Fin 0 → Fin S3x4096x2048.rank)
  reducesTo_S3x4096x2048_S_d0_1_2 : S3x4096x2048.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S3x4096x2048 .bf16) (main_arg1 : FVec F S4096x16 .f32) (main_arg2 : FVec F S4096x2048 .bf16) (main_arg3 : FVec F S3x4096x2048 .bf16) : IVec S_ 1 :=
  let main_v0 : FVec F S3x4096x2048 .f32 := (extf .f32 · bitsLt_bf16_f32) main_arg0
  let main_v1 : FVec F S3x4096x2048 .f32 := Host.absf main_v0
  let main_cst : FVec F S_ .f32 := constant S_ .f32 0x7F800000#32
  let main_v2 : FVec F S3x4096x2048 .f32 := broadcastInDim S3x4096x2048 ![] bcast_S_S3x4096x2048 main_cst
  let main_v3 : IVec S3x4096x2048 1 := cmpf .olt main_v1 main_v2
  let main_c : IVec S_ 1 := constantI S_ 1 1#1
  let main_v4 : IVec S_ 1 := (fun x v => Host.reduce IntOp.andi x v reducesTo_S3x4096x2048_S_d0_1_2 h_S_) main_v3 main_c
  let main_v5 : FVec F S4096x16 .f32 := Host.absf main_arg1
  let main_cst_0 : FVec F S_ .f32 := constant S_ .f32 0x7F800000#32
  let main_v6 : FVec F S4096x16 .f32 := broadcastInDim S4096x16 ![] bcast_S_S4096x16 main_cst_0
  let main_v7 : IVec S4096x16 1 := cmpf .olt main_v5 main_v6
  let main_c_1 : IVec S_ 1 := constantI S_ 1 1#1
  let main_v8 : IVec S_ 1 := (fun x v => Host.reduce IntOp.andi x v reducesTo_S4096x16_S_d0_1 h_S_) main_v7 main_c_1
  let main_v9 : IVec S_ 1 := andi main_v4 main_v8
  let main_v10 : FVec F S4096x2048 .f32 := (extf .f32 · bitsLt_bf16_f32) main_arg2
  let main_v11 : FVec F S4096x2048 .f32 := Host.absf main_v10
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  let main_c_3 : IVec S_ 1 := constantI S_ 1 1#1
  let main_v14 : IVec S_ 1 := (fun x v => Host.reduce IntOp.andi x v reducesTo_S4096x2048_S_d0_1 h_S_) main_v13 main_c_3
  let main_v15 : IVec S_ 1 := andi main_v9 main_v14
  main_v15
-- ==== Pre_finite_down.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S4096x5632 .f32 := (extf .f32 · bitsLt_bf16_f32) main_arg3
  let main_v12 : FVec F S4096x5632 .f32 := Host.absf main_v11
  let main_cst_2 : FVec F S_ .f32 := constant S_ .f32 0x7F800000#32
  let main_v13 : FVec F S4096x5632 .f32 := broadcastInDim S4096x5632 ![] bcast_S_S4096x5632 main_cst_2
  let main_v14 : IVec S4096x5632 1 := cmpf .olt main_v12 main_v13
  let main_c_3 : IVec S_ 1 := constantI S_ 1 1#1
  let main_v15 : IVec S_ 1 := (fun x v => Host.reduce IntOp.andi x v reducesTo_S4096x5632_S_d0_1 h_S_) main_v14 main_c_3
  let main_v16 : IVec S_ 1 := andi main_v10 main_v15
  main_v16
-- ==== Kernel.lean ====
abbrev S3x4096x2048 : Shape := ⟨3, ![3, 4096, 2048]⟩
abbrev S4096x16 : Shape := ⟨2, ![4096, 16]⟩
abbrev S4096x2048 : Shape := ⟨2, ![4096, 2048]⟩
abbrev S1x4096x2048 : Shape := ⟨3, ![1, 4096, 2048]⟩
abbrev S4096x16x128 : Shape := ⟨3, ![4096, 16, 128]⟩
abbrev S16x4096x4096 : Shape := ⟨3, ![16, 4096, 4096]⟩
abbrev S_ : Shape := ⟨0, ![]⟩
abbrev S16x4096 : Shape := ⟨2, ![16, 4096]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x4096x1 : Shape := ⟨3, ![16, 4096, 1]⟩
abbrev S16x8x1x512 : Shape := ⟨4, ![16, 8, 1, 512]⟩
abbrev S1x4096x128 : Shape := ⟨3, ![1, 4096, 128]⟩
abbrev S1x512x128 : Shape := ⟨3, ![1, 512, 128]⟩
abbrev S1x1x1x512 : Shape := ⟨4, ![1, 1, 1, 512]⟩
abbrev S4096x128 : Shape := ⟨2, ![4096, 128]⟩
abbrev S1x4096x1 : Shape := ⟨3, ![1, 4096, 1]⟩
abbrev S2x512x128 : Shape := ⟨3, ![2, 512, 128]⟩
abbrev S512x128 : Shape := ⟨2, ![512, 128]⟩
abbrev S1x512 : Shape := ⟨2, ![1, 512]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩

abbrev nBuf : Space → Nat
  | .hbm => 65
  | .vmem => 18
  | .smem => 0
  | _ => 0

abbrev bufTy : (tb : Table) → Fin (tcTables nBuf tb) → BufTy
  | .hbm, ⟨0, _⟩ => ⟨S3x4096x2048, .bf16⟩
  | .hbm, ⟨1, _⟩ => ⟨S4096x16, .f32⟩
  | .hbm, ⟨2, _⟩ => ⟨S4096x2048, .bf16⟩
  | .hbm, ⟨3, _⟩ => ⟨S3x4096x2048, .bf16⟩
  | .hbm, ⟨4, _⟩ => ⟨S1x4096x2048, .bf16⟩
  | .hbm, ⟨5, _⟩ => ⟨S4096x2048, .bf16⟩
  | .hbm, ⟨6, _⟩ => ⟨S1x4096x2048, .bf16⟩
  | .hbm, ⟨7, _⟩ => ⟨S4096x2048, .bf16⟩
  | .hbm, ⟨8, _⟩ => ⟨S1x4096x2048, .bf16⟩
  | .hbm, ⟨9, _⟩ => ⟨S4096x2048, .bf16⟩
  | .hbm, ⟨10, _⟩ => ⟨S4096x2048, .f32⟩
  | .hbm, ⟨11, _⟩ => ⟨S4096x16x128, .f32⟩
  | .hbm, ⟨12, _⟩ => ⟨S4096x2048, .f32⟩
  | .hbm, ⟨13, _⟩ => ⟨S4096x16x128, .f32⟩
  | .hbm, ⟨14, _⟩ => ⟨S4096x2048, .f32⟩
  | .hbm, ⟨15, _⟩ => ⟨S4096x16x128, .f32⟩
  | .hbm, ⟨16, _⟩ => ⟨S16x4096x4096, .f32⟩
  | .hbm, ⟨17, _⟩ => ⟨S_, .f32⟩
  | .hbm, ⟨18, _⟩ => ⟨S_, .f32⟩
  | .hbm, ⟨19, _⟩ => ⟨S16x4096x4096, .f32⟩
  | .hbm, ⟨20, _⟩ => ⟨S16x4096x4096, .f32⟩
  | .hbm, ⟨21, _⟩ => ⟨S16x4096, .f32⟩
  | .hbm, ⟨22, _⟩ => ⟨S16x1x4096, .f32⟩
  | .hbm, ⟨23, _⟩ => ⟨S16x4096x4096, .f32⟩
  | .hbm, ⟨24, _⟩ => ⟨S16x4096x4096, .f32⟩
  | .hbm, ⟨25, _⟩ => ⟨S4096, .i32⟩
  | .hbm, ⟨26, _⟩ => ⟨S4096x1, .i32⟩
  | .hbm, ⟨27, _⟩ => ⟨S4096, .i32⟩
  | .hbm, ⟨28, _⟩ => ⟨S1x4096, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S16x4096x4096, .i1⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096, .f32⟩
  | .hbm, ⟨39, _⟩ => ⟨S16x4096x1, .f32⟩
  | .hbm, ⟨40, _⟩ => ⟨S16x4096x4096, .f32⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S16x4096, .f32⟩
  | .hbm, ⟨45, _⟩ => ⟨S16x4096x1, .f32⟩
  | .hbm, ⟨46, _⟩ => ⟨S4096x2048, .f32⟩
  | .hbm, ⟨47, _⟩ => ⟨S4096x16x128, .f32⟩
  | .hbm, ⟨48, _⟩ => ⟨S16x4096x4096, .f32⟩
  | .hbm, ⟨49, _⟩ => ⟨S16x4096x4096, .f32⟩
  | .hbm, ⟨50, _⟩ => ⟨S16x4096x4096, .f32⟩
  | .hbm, ⟨51, _⟩ => ⟨S16x4096x4096, .f32⟩
  | .hbm, ⟨52, _⟩ => ⟨S_, .f32⟩
  | .hbm, ⟨53, _⟩ => ⟨S16x4096, .f32⟩
  | .hbm, ⟨54, _⟩ => ⟨S16x4096x1, .f32⟩
  | .hbm, ⟨55, _⟩ => ⟨S16x4096, .f32⟩
  | .hbm, ⟨56, _⟩ => ⟨S16x8x1x512, .f32⟩
  | .hbm, ⟨57, _⟩ => ⟨S16x4096x1, .f32⟩
  | .hbm, ⟨58, _⟩ => ⟨S16x4096x1, .f32⟩
  | .hbm, ⟨59, _⟩ => ⟨S_, .f32⟩
  | .hbm, ⟨60, _⟩ => ⟨S_, .f32⟩
  | .hbm, ⟨61, _⟩ => ⟨S16x4096x1, .f32⟩
  | .hbm, ⟨62, _⟩ => ⟨S16x4096x1, .f32⟩
  | .hbm, ⟨63, _⟩ => ⟨S3x4096x2048, .bf16⟩
  | .hbm, ⟨64, _⟩ => ⟨S16x8x1x512, .f32⟩
  | .local _ .vmem, ⟨0, _⟩ => ⟨S1x4096x128, .bf16⟩
  | .local _ .vmem, ⟨1, _⟩ => ⟨S1x4096x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x1x1x512, .f32⟩
  | .local _ .vmem, ⟨7, _⟩ => ⟨S1x1x1x512, .f32⟩
  | .local _ .vmem, ⟨8, _⟩ => ⟨S4096x128, .bf16⟩
  | .local _ .vmem, ⟨9, _⟩ => ⟨S4096x128, .bf16⟩
  | .local _ .vmem, ⟨10, _⟩ => ⟨S1x4096x1, .f32⟩
  | .local _ .vmem, ⟨11, _⟩ => ⟨S1x4096x1, .f32⟩
  | .local _ .vmem, ⟨12, _⟩ => ⟨S1x4096x1, .f32⟩
  | .local _ .vmem, ⟨13, _⟩ => ⟨S1x4096x1, .f32⟩
  | .local _ .vmem, ⟨14, _⟩ => ⟨S2x512x128, .bf16⟩
  | .local _ .vmem, ⟨15, _⟩ => ⟨S2x512x128, .bf16⟩
  | .local _ .vmem, ⟨16, _⟩ => ⟨S1x1x1x512, .f32⟩
  | .local _ .vmem, ⟨17, _⟩ => ⟨S1x1x1x512, .f32⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50_0 : Ref sig .tc := ⟨.hbm, 63, rfl⟩
abbrev main_v50_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 3 → Nat :=
  let c0_11 : Index := 0#32
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_12 : Index := 0#32
  ![0, v11.toNat, 0]
def k0_off2 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v14 : Index := Scalar.indexCast v10
  let c0_13 : Index := 0#32
  ![v14.toNat, 0]
def k0_off3 (i : grid0.Coords) : Fin 3 → Nat :=
  let c0_18 : Index := 0#32
  let arg1 : BitVec 32 := BitVec.ofNat 32 (i 1).val
  let c512_i32 : BitVec 32 := 512#32
  let v9 : BitVec 32 := Scalar.muli arg1 c512_i32
  let v10 : BitVec 32 := v9
  let v30 : Index := Scalar.indexCast v10
  let c0_19 : Index := 0#32
  ![0, v30.toNat, 0]
@[reducible] def k0_t1_loop (i : grid0.Coords) : Scf.Loop 32 :=
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_26 : BitVec 32 := 1#32
  let v55 : BitVec 32 := Scalar.divsi v53 c1_i32_26
  let v56 : BitVec 32 := Scalar.muli v55 c1_i32_26
  let v57 : BitVec 32 := Scalar.addi v52 v56
  let c1_i32_27 : BitVec 32 := 1#32
  ⟨v52, v57, c1_i32_27⟩
def k0_mult2 (i : grid0.Coords) (k0_t1 : Fin (k0_t1_loop i).trips) : BitVec 32 :=
  let arg1 : BitVec 32 := BitVec.ofNat 32 (i 1).val
  let c1_i32 : BitVec 32 := 1#32
  let v52 : BitVec 32 := Scalar.addi arg1 c1_i32
  let c1_i32_27 : BitVec 32 := 1#32
  let arg12 : BitVec 32 := Scf.iv v52 c1_i32_27 k0_t1
  let c512_i32_39 : BitVec 32 := 512#32
  let v73 : BitVec 32 := Scalar.muli arg12 c512_i32_39
  v73
def k0_off4 (i : grid0.Coords) (k0_t1 : Fin (k0_t1_loop i).trips) : Fin 3 → Nat :=
  let c0_40 : Index := 0#32
  let arg1 : BitVec 32 := BitVec.ofNat 32 (i 1).val
  let c1_i32 : BitVec 32 := 1#32
  let v52 : BitVec 32 := Scalar.addi arg1 c1_i32
  let c1_i32_27 : BitVec 32 := 1#32
  let arg12 : BitVec 32 := Scf.iv v52 c1_i32_27 k0_t1
  let c512_i32_39 : BitVec 32 := 512#32
  let v73 : BitVec 32 := Scalar.muli arg12 c512_i32_39
  let v74 : BitVec 32 := v73
  let v75 : Index := Scalar.indexCast v74
  let c0_41 : Index := 0#32
  ![0, v75.toNat, 0]
def k0_off5 (i : grid0.Coords) (k0_t1 : Fin (k0_t1_loop i).trips) : Fin 2 → Nat :=
  let arg1 : BitVec 32 := BitVec.ofNat 32 (i 1).val
  let c1_i32 : BitVec 32 := 1#32
  let v52 : BitVec 32 := Scalar.addi arg1 c1_i32
  let c1_i32_27 : BitVec 32 := 1#32
  let arg12 : BitVec 32 := Scf.iv v52 c1_i32_27 k0_t1
  let c512_i32_39 : BitVec 32 := 512#32
  let v73 : BitVec 32 := Scalar.muli arg12 c512_i32_39
  let v74 : BitVec 32 := v73
  let v78 : Index := Scalar.indexCast v74
  let c0_42 : Index := 0#32
  ![v78.toNat, 0]
def k0_off6 (i : grid0.Coords) (k0_t1 : Fin (k0_t1_loop i).trips) : Fin 3 → Nat :=
  let c0_46 : Index := 0#32
  let arg1 : BitVec 32 := BitVec.ofNat 32 (i 1).val
  let c1_i32 : BitVec 32 := 1#32
  let v52 : BitVec 32 := Scalar.addi arg1 c1_i32
  let c1_i32_27 : BitVec 32 := 1#32
  let arg12 : BitVec 32 := Scf.iv v52 c1_i32_27 k0_t1
  let c512_i32_39 : BitVec 32 := 512#32
  let v73 : BitVec 32 := Scalar.muli arg12 c512_i32_39
  let v74 : BitVec 32 := v73
  let v89 : Index := Scalar.indexCast v74
  let c0_47 : Index := 0#32
  ![0, v89.toNat, 0]
@[reducible] def k0_t2_loop (i : grid0.Coords) : Scf.Loop 32 :=
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_26 : BitVec 32 := 1#32
  let v55 : BitVec 32 := Scalar.divsi v53 c1_i32_26
  let v56 : BitVec 32 := Scalar.muli v55 c1_i32_26
  let v57 : BitVec 32 := Scalar.addi v52 v56
  let v54 : BitVec 32 := Scalar.addi v52 v53
  let c1_i32_28 : BitVec 32 := 1#32
  ⟨v57, v54, c1_i32_28⟩
def k0_mult3 (i : grid0.Coords) (k0_t2 : Fin (k0_t2_loop i).trips) : BitVec 32 :=
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_26 : BitVec 32 := 1#32
  let v55 : BitVec 32 := Scalar.divsi v53 c1_i32_26
  let v56 : BitVec 32 := Scalar.muli v55 c1_i32_26
  let v57 : BitVec 32 := Scalar.addi v52 v56
  let c1_i32_28 : BitVec 32 := 1#32
  let arg12 : BitVec 32 := Scf.iv v57 c1_i32_28 k0_t2
  let c512_i32_39 : BitVec 32 := 512#32
  let v73 : BitVec 32 := Scalar.muli arg12 c512_i32_39
  v73
def k0_off7 (i : grid0.Coords) (k0_t2 : Fin (k0_t2_loop i).trips) : Fin 3 → Nat :=
  let c0_40 : Index := 0#32
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_26 : BitVec 32 := 1#32
  let v55 : BitVec 32 := Scalar.divsi v53 c1_i32_26
  let v56 : BitVec 32 := Scalar.muli v55 c1_i32_26
  let v57 : BitVec 32 := Scalar.addi v52 v56
  let c1_i32_28 : BitVec 32 := 1#32
  let arg12 : BitVec 32 := Scf.iv v57 c1_i32_28 k0_t2
  let c512_i32_39 : BitVec 32 := 512#32
  let v73 : BitVec 32 := Scalar.muli arg12 c512_i32_39
  let v74 : BitVec 32 := v73
  let v75 : Index := Scalar.indexCast v74
  let c0_41 : Index := 0#32
  ![0, v75.toNat, 0]
def k0_off8 (i : grid0.Coords) (k0_t2 : Fin (k0_t2_loop i).trips) : Fin 2 → Nat :=
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_26 : BitVec 32 := 1#32
  let v55 : BitVec 32 := Scalar.divsi v53 c1_i32_26
  let v56 : BitVec 32 := Scalar.muli v55 c1_i32_26
  let v57 : BitVec 32 := Scalar.addi v52 v56
  let c1_i32_28 : BitVec 32 := 1#32
  let arg12 : BitVec 32 := Scf.iv v57 c1_i32_28 k0_t2
  let c512_i32_39 : BitVec 32 := 512#32
  let v73 : BitVec 32 := Scalar.muli arg12 c512_i32_39
  let v74 : BitVec 32 := v73
  let v78 : Index := Scalar.indexCast v74
  let c0_42 : Index := 0#32
  ![v78.toNat, 0]
def k0_off9 (i : grid0.Coords) (k0_t2 : Fin (k0_t2_loop i).trips) : Fin 3 → Nat :=
  let c0_46 : Index := 0#32
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_26 : BitVec 32 := 1#32
  let v55 : BitVec 32 := Scalar.divsi v53 c1_i32_26
  let v56 : BitVec 32 := Scalar.muli v55 c1_i32_26
  let v57 : BitVec 32 := Scalar.addi v52 v56
  let c1_i32_28 : BitVec 32 := 1#32
  let arg12 : BitVec 32 := Scf.iv v57 c1_i32_28 k0_t2
  let c512_i32_39 : BitVec 32 := 512#32
  let v73 : BitVec 32 := Scalar.muli arg12 c512_i32_39
  let v74 : BitVec 32 := v73
  let v89 : Index := Scalar.indexCast v74
  let c0_47 : Index := 0#32
  ![0, v89.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((Real.sqrt 128)⁻¹ * (Real.log 2)⁻¹ : ℝ) : EReal)
  | "scale" => some (((Real.sqrt 128)⁻¹ : ℝ) : EReal)
  | _ => none
-- ==== ReferenceIdeal.lean ====
abbrev S3x4096x2048 : Shape := ⟨3, ![3, 4096, 2048]⟩
abbrev S4096x16 : Shape := ⟨2, ![4096, 16]⟩
abbrev S4096x2048 : Shape := ⟨2, ![4096, 2048]⟩
abbrev S1x4096x2048 : Shape := ⟨3, ![1, 4096, 2048]⟩
abbrev S4096x16x128 : Shape := ⟨3, ![4096, 16, 128]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x128x4096 : Shape := ⟨3, ![16, 128, 4096]⟩
abbrev S16x4096x128 : Shape := ⟨3, ![16, 4096, 128]⟩
abbrev S16x8x1x512 : Shape := ⟨4, ![16, 8, 1, 512]⟩

abbrev nBuf : Space → Nat
  | .hbm => 136
  | .vmem => 0
  | .smem => 0
  | _ => 0

abbrev hbmTy0_0 (i : Nat) : BufTy := match i % 128 with
  | 0 => ⟨S3x4096x2048, .bf16⟩
  | 1 => ⟨S4096x16, .f32⟩
  | 2 => ⟨S4096x2048, .bf16⟩
  | 3 => ⟨S3x4096x2048, .bf16⟩
  | 4 => ⟨S1x4096x2048, .bf16⟩
  | 5 => ⟨S4096x2048, .bf16⟩
  | 6 => ⟨S1x4096x2048, .bf16⟩
  | 7 => ⟨S4096x2048, .bf16⟩
  | 8 => ⟨S1x4096x2048, .bf16⟩
  | 9 => ⟨S4096x2048, .bf16⟩
  | 10 => ⟨S4096x2048, .f32⟩
  | 11 => ⟨S4096x16x128, .f32⟩
  | 12 => ⟨S4096x2048, .f32⟩
  | 13 => ⟨S4096x16x128, .f32⟩
  | 14 => ⟨S4096x2048, .f32⟩
  | 15 => ⟨S4096x16x128, .f32⟩
  | 16 => ⟨S4096x2048, .f32⟩
  | 17 => ⟨S4096x16x128, .f32⟩
  | 18 => ⟨S16x4096x4096, .f32⟩
  | 19 => ⟨S_, .f32⟩
  | 20 => ⟨S_, .f32⟩
  | 21 => ⟨S16x4096x4096, .f32⟩
  | 22 => ⟨S16x4096x4096, .f32⟩
  | 23 => ⟨S16x4096, .f32⟩
  | 24 => ⟨S16x4096x1, .f32⟩
  | 25 => ⟨S16x4096, .f32⟩
  | 26 => ⟨S16x1x4096, .f32⟩
  | 27 => ⟨S16x4096x4096, .f32⟩
  | 28 => ⟨S16x4096x4096, .f32⟩
  | 29 => ⟨S16x4096x4096, .f32⟩
  | 30 => ⟨S16x4096x4096, .f32⟩
  | 31 => ⟨S4096, .i32⟩
  | 32 => ⟨S4096x1, .i32⟩
  | 33 => ⟨S4096, .i32⟩
  | 34 => ⟨S1x4096, .i32⟩
  | 35 => ⟨S4096x4096, .i32⟩
  | 36 => ⟨S4096x4096, .i32⟩
  | 37 => ⟨S4096x4096, .i1⟩
  | 38 => ⟨S_, .f32⟩
  | 39 => ⟨S_, .f32⟩
  | 40 => ⟨S16x4096x4096, .i1⟩
  | 41 => ⟨S16x4096x4096, .f32⟩
  | 42 => ⟨S16x4096x4096, .f32⟩
  | 43 => ⟨S_, .f32⟩
  | 44 => ⟨S16x4096x4096, .f32⟩
  | 45 => ⟨S_, .f32⟩
  | 46 => ⟨S16x4096, .f32⟩
  | 47 => ⟨S16x4096x1, .f32⟩
  | 48 => ⟨S16x4096x4096, .f32⟩
  | 49 => ⟨S16x4096x4096, .i1⟩
  | 50 => ⟨S16x4096x4096, .f32⟩
  | 51 => ⟨S_, .f32⟩
  | 52 => ⟨S16x4096, .f32⟩
  | 53 => ⟨S_, .f32⟩
  | 54 => ⟨S16x4096, .f32⟩
  | 55 => ⟨S16x4096, .f32⟩
  | 56 => ⟨S_, .f32⟩
  | 57 => ⟨S16x4096, .f32⟩
  | 58 => ⟨S16x4096, .i1⟩
  | 59 => ⟨S_, .f32⟩
  | 60 => ⟨S16x4096, .f32⟩
  | 61 => ⟨S16x4096, .i1⟩
  | 62 => ⟨S_, .f32⟩
  | 63 => ⟨S16x4096, .f32⟩
  | 64 => ⟨S_, .f32⟩
  | 65 => ⟨S16x4096, .f32⟩
  | 66 => ⟨S_, .f32⟩
  | 67 => ⟨S16x4096, .f32⟩
  | 68 => ⟨S16x4096, .f32⟩
  | 69 => ⟨S16x4096, .f32⟩
  | 70 => ⟨S16x4096x1, .f32⟩
  | 71 => ⟨S16x4096x4096, .f32⟩
  | 72 => ⟨S16x4096x4096, .f32⟩
  | 73 => ⟨S16x4096x4096, .f32⟩
  | 74 => ⟨S_, .f32⟩
  | 75 => ⟨S16x4096, .f32⟩
  | 76 => ⟨S16x4096x1, .f32⟩
  | 77 => ⟨S16x4096x4096, .f32⟩
  | 78 => ⟨S16x4096x4096, .f32⟩
  | 79 => ⟨S16x4096x1, .f32⟩
  | 80 => ⟨S_, .f32⟩
  | 81 => ⟨S16x4096x1, .f32⟩
  | 82 => ⟨S16x4096x1, .f32⟩
  | 83 => ⟨S16x128x4096, .f32⟩
  | 84 => ⟨S4096x16x128, .f32⟩
  | 85 => ⟨S16x128x4096, .f32⟩
  | 86 => ⟨S16x4096x4096, .f32⟩
  | 87 => ⟨S16x128x4096, .f32⟩
  | 88 => ⟨S4096x16x128, .f32⟩
  | 89 => ⟨S16x4096x4096, .f32⟩
  | 90 => ⟨S16x4096x4096, .f32⟩
  | 91 => ⟨S16x4096x4096, .f32⟩
  | 92 => ⟨S_, .f32⟩
  | 93 => ⟨S16x4096, .f32⟩
  | 94 => ⟨S16x4096x1, .f32⟩
  | 95 => ⟨S16x4096x1, .f32⟩
  | 96 => ⟨S16x4096x4096, .f32⟩
  | 97 => ⟨S16x4096x4096, .f32⟩
  | 98 => ⟨S_, .f32⟩
  | 99 => ⟨S16x4096, .f32⟩
  | 100 => ⟨S16x4096x4096, .f32⟩
  | 101 => ⟨S16x4096x4096, .f32⟩
  | 102 => ⟨S16x4096x4096, .f32⟩
  | 103 => ⟨S_, .f32⟩
  | 104 => ⟨S16x4096x4096, .f32⟩
  | 105 => ⟨S16x4096x4096, .f32⟩
  | 106 => ⟨S_, .f32⟩
  | 107 => ⟨S16x4096, .f32⟩
  | 108 => ⟨S16x4096x1, .f32⟩
  | 109 => ⟨S16x4096x4096, .f32⟩
  | 110 => ⟨S_, .f32⟩
  | 111 => ⟨S16x4096, .f32⟩
  | 112 => ⟨S16x1x4096, .f32⟩
  | 113 => ⟨S_, .f32⟩
  | 114 => ⟨S16x4096, .f32⟩
  | 115 => ⟨S4096x16, .f32⟩
  | 116 => ⟨S_, .f32⟩
  | 117 => ⟨S16x4096, .f32⟩
  | 118 => ⟨S4096x16, .f32⟩
  | 119 => ⟨S4096x16, .f32⟩
  | 120 => ⟨S16x4096x4096, .f32⟩
  | 121 => ⟨S16x4096x4096, .f32⟩
  | 122 => ⟨S16x4096x128, .f32⟩
  | 123 => ⟨S4096x16x128, .f32⟩
  | 124 => ⟨S4096x2048, .f32⟩
  | 125 => ⟨S4096x2048, .bf16⟩
  | 126 => ⟨S4096x2048, .f32⟩
  | 127 => ⟨S4096x2048, .bf16⟩
  | _ => ⟨S3x4096x2048, .bf16⟩

abbrev hbmTy0_1 (i : Nat) : BufTy := match i % 128 with
  | 0 => ⟨S1x4096x2048, .bf16⟩
  | 1 => ⟨S4096x2048, .bf16⟩
  | 2 => ⟨S1x4096x2048, .bf16⟩
  | 3 => ⟨S1x4096x2048, .bf16⟩
  | 4 => ⟨S1x4096x2048, .bf16⟩
  | 5 => ⟨S3x4096x2048, .bf16⟩
  | 6 => ⟨S16x4096, .f32⟩
  | 7 => ⟨S16x8x1x512, .f32⟩
  | _ => ⟨S3x4096x2048, .bf16⟩

abbrev hbmTy (i : Nat) : BufTy := match i / 128 with
  | 0 => hbmTy0_0 i
  | 1 => hbmTy0_1 i
  | _ => ⟨S3x4096x2048, .bf16⟩

abbrev bufTy : (tb : Table) → Fin (tcTables nBuf tb) → BufTy
  | .hbm, ⟨i, _⟩ => hbmTy i
  | _, _ => ⟨S3x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_call0_v0 : Ref sig .tc := ⟨.hbm, 39, rfl⟩
abbrev main_v33_1 : Ref sig .tc := ⟨.hbm, 40, rfl⟩
abbrev main_call0_v2 : Ref sig .tc := ⟨.hbm, 41, rfl⟩
abbrev main_v33_0 : Ref sig .tc := ⟨.hbm, 42, rfl⟩
abbrev main_call0_cst : Ref sig .tc := ⟨.hbm, 43, rfl⟩
abbrev main_v33_2 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_call1_cst : Ref sig .tc := ⟨.hbm, 103, rfl⟩
abbrev main_call1_v0 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_14 : Ref sig .tc := ⟨.hbm, 110, rfl⟩
abbrev main_v84 : Ref sig .tc := ⟨.hbm, 111, rfl⟩
abbrev main_v85 : Ref sig .tc := ⟨.hbm, 112, rfl⟩
abbrev main_cst_15 : Ref sig .tc := ⟨.hbm, 113, rfl⟩
abbrev main_v86 : Ref sig .tc := ⟨.hbm, 114, rfl⟩
abbrev main_v87 : Ref sig .tc := ⟨.hbm, 115, rfl⟩
abbrev main_cst_16 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩

abbrev nD : Nat := 1
abbrev τ : Topo := Topo.v7x

variable {F : FTy → Type} [FloatOps F]
-- ==== KernelDown.lean ====
abbrev S4096x2048 : Shape := ⟨2, ![4096, 2048]⟩
abbrev S5632x2048 : Shape := ⟨2, ![5632, 2048]⟩
abbrev S4096x5632 : Shape := ⟨2, ![4096, 5632]⟩
abbrev S1x4096x2048 : Shape := ⟨3, ![1, 4096, 2048]⟩
abbrev S1x5632x2048 : Shape := ⟨3, ![1, 5632, 2048]⟩
abbrev S1x4096x5632 : Shape := ⟨3, ![1, 4096, 5632]⟩
abbrev S1x512x2048 : Shape := ⟨3, ![1, 512, 2048]⟩
abbrev S1x1408x2048 : Shape := ⟨3, ![1, 1408, 2048]⟩
abbrev S1x512x1408 : Shape := ⟨3, ![1, 512, 1408]⟩
abbrev S512x2048 : Shape := ⟨2, ![512, 2048]⟩
abbrev S1408x2048 : Shape := ⟨2, ![1408, 2048]⟩
abbrev S512x1408 : Shape := ⟨2, ![512, 1408]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S1x4096x2048, .bf16⟩
  | .hbm, ⟨5, _⟩ => ⟨S1x5632x2048, .bf16⟩
  | .hbm, ⟨6, _⟩ => ⟨S1x4096x5632, .bf16⟩
  | .hbm, ⟨7, _⟩ => ⟨S1x4096x5632, .bf16⟩
  | .hbm, ⟨8, _⟩ => ⟨S1x4096x5632, .bf16⟩
  | .hbm, ⟨9, _⟩ => ⟨S1x4096x5632, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x512x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceDownIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩
abbrev S1x4096x5632 : Shape := ⟨3, ![1, 4096, 5632]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S5632x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | .hbm, ⟨31, _⟩ => ⟨S1x4096x5632, .bf16⟩
  | .hbm, ⟨32, _⟩ => ⟨S4096x5632, .bf16⟩
  | .hbm, ⟨33, _⟩ => ⟨S1x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== KernelDownW.lean ====
abbrev S4096x5632 : Shape := ⟨2, ![4096, 5632]⟩
abbrev S4096x2048 : Shape := ⟨2, ![4096, 2048]⟩
abbrev S1x4096x5632 : Shape := ⟨3, ![1, 4096, 5632]⟩
abbrev S1x4096x2048 : Shape := ⟨3, ![1, 4096, 2048]⟩
abbrev S1x5632x2048 : Shape := ⟨3, ![1, 5632, 2048]⟩
abbrev S1x2048x1408 : Shape := ⟨3, ![1, 2048, 1408]⟩
abbrev S1x2048x1024 : Shape := ⟨3, ![1, 2048, 1024]⟩
abbrev S1x1408x1024 : Shape := ⟨3, ![1, 1408, 1024]⟩
abbrev S1408x1024 : Shape := ⟨2, ![1408, 1024]⟩
abbrev S2048x1408 : Shape := ⟨2, ![2048, 1408]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S1x4096x5632, .bf16⟩
  | .hbm, ⟨3, _⟩ => ⟨S1x4096x2048, .bf16⟩
  | .hbm, ⟨4, _⟩ => ⟨S1x5632x2048, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownWIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S1x5632x2048 : Shape := ⟨3, ![1, 5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S_, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | .hbm, ⟨10, _⟩ => ⟨S1x5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelInW.lean ====
abbrev S4096x2048 : Shape := ⟨2, ![4096, 2048]⟩
abbrev S4096x5632 : Shape := ⟨2, ![4096, 5632]⟩
abbrev S1x4096x2048 : Shape := ⟨3, ![1, 4096, 2048]⟩
abbrev S1x4096x5632 : Shape := ⟨3, ![1, 4096, 5632]⟩
abbrev S4x2048x1408 : Shape := ⟨3, ![4, 2048, 1408]⟩
abbrev S1x2048x1024 : Shape := ⟨3, ![1, 2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1024 : Shape := ⟨2, ![2048, 1024]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S1x4096x2048, .bf16⟩
  | .hbm, ⟨3, _⟩ => ⟨S1x4096x5632, .bf16⟩
  | .hbm, ⟨4, _⟩ => ⟨S4x2048x1408, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg0.toNat, v1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInWIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x2048, .f32⟩
  | .hbm, ⟨3, _⟩ => ⟨S_, .f32⟩
  | .hbm, ⟨4, _⟩ => ⟨S2048x5632, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | .hbm, ⟨10, _⟩ => ⟨S2048x4x1408, .bf16⟩
  | .hbm, ⟨11, _⟩ => ⟨S4x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelGateX.lean ====
abbrev S4096x5632 : Shape := ⟨2, ![4096, 5632]⟩
abbrev S4x2048x1408 : Shape := ⟨3, ![4, 2048, 1408]⟩
abbrev S1x4096x5632 : Shape := ⟨3, ![1, 4096, 5632]⟩
abbrev S1x4096x2048 : Shape := ⟨3, ![1, 4096, 2048]⟩
abbrev S1x512x1408 : Shape := ⟨3, ![1, 512, 1408]⟩
abbrev S1x2048x1408 : Shape := ⟨3, ![1, 2048, 1408]⟩
abbrev S1x512x2048 : Shape := ⟨3, ![1, 512, 2048]⟩
abbrev S512x2048 : Shape := ⟨2, ![512, 2048]⟩
abbrev S512x1408 : Shape := ⟨2, ![512, 1408]⟩
abbrev S2048x1408 : Shape := ⟨2, ![2048, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4x2048x1408, .bf16⟩
  | .hbm, ⟨2, _⟩ => ⟨S1x4096x5632, .bf16⟩
  | .hbm, ⟨3, _⟩ => ⟨S1x4096x2048, .f32⟩
  | .local _ .vmem, ⟨0, _⟩ => ⟨S1x512x1408, .bf16⟩
  | .local _ .vmem, ⟨1, _⟩ => ⟨S1x512x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x2048, .f32⟩
  | .local _ .vmem, ⟨5, _⟩ => ⟨S1x512x2048, .f32⟩
  | .local _ .vmem, ⟨6, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c1_i32_0 : BitVec 32 := 1#32
  let v1 : BitVec 32 := Scalar.remsi arg2 c1_i32_0
  let c0_i32 : BitVec 32 := 0#32
  ![v0.toNat, arg1.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGateXIdeal.lean ====
abbrev S4096x5632 : Shape := ⟨2, ![4096, 5632]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S_ : Shape := ⟨0, ![]⟩
abbrev S4096x2048 : Shape := ⟨2, ![4096, 2048]⟩
abbrev S1x4096x2048 : Shape := ⟨3, ![1, 4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x2048x1408, .bf16⟩
  | .hbm, ⟨2, _⟩ => ⟨S4x2048x1408, .f32⟩
  | .hbm, ⟨3, _⟩ => ⟨S2048x4x1408, .f32⟩
  | .hbm, ⟨4, _⟩ => ⟨S2048x5632, .f32⟩
  | .hbm, ⟨5, _⟩ => ⟨S_, .f32⟩
  | .hbm, ⟨6, _⟩ => ⟨S4096x2048, .f32⟩
  | .hbm, ⟨7, _⟩ => ⟨S4096x5632, .f32⟩
  | .hbm, ⟨8, _⟩ => ⟨S4096x5632, .f32⟩
  | .hbm, ⟨9, _⟩ => ⟨S4096x2048, .f32⟩
  | .hbm, ⟨10, _⟩ => ⟨S1x4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelUpX.lean ====
abbrev S4096x5632 : Shape := ⟨2, ![4096, 5632]⟩
abbrev S4x2048x1408 : Shape := ⟨3, ![4, 2048, 1408]⟩
abbrev S1x4096x2048 : Shape := ⟨3, ![1, 4096, 2048]⟩
abbrev S1x4096x5632 : Shape := ⟨3, ![1, 4096, 5632]⟩
abbrev S1x512x1408 : Shape := ⟨3, ![1, 512, 1408]⟩
abbrev S1x2048x1408 : Shape := ⟨3, ![1, 2048, 1408]⟩
abbrev S1x512x2048 : Shape := ⟨3, ![1, 512, 2048]⟩
abbrev S512x2048 : Shape := ⟨2, ![512, 2048]⟩
abbrev S512x1408 : Shape := ⟨2, ![512, 1408]⟩
abbrev S2048x1408 : Shape := ⟨2, ![2048, 1408]⟩

abbrev nBuf : Space → Nat
  | .hbm => 5
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S4x2048x1408, .bf16⟩
  | .hbm, ⟨2, _⟩ => ⟨S1x4096x2048, .f32⟩
  | .hbm, ⟨3, _⟩ => ⟨S1x4096x5632, .bf16⟩
  | .hbm, ⟨4, _⟩ => ⟨S1x4096x2048, .bf16⟩
  | .local _ .vmem, ⟨0, _⟩ => ⟨S1x512x1408, .bf16⟩
  | .local _ .vmem, ⟨1, _⟩ => ⟨S1x512x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x2048, .f32⟩
  | .local _ .vmem, ⟨5, _⟩ => ⟨S1x512x2048, .f32⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c1_i32_0 : BitVec 32 := 1#32
  let v1 : BitVec 32 := Scalar.remsi arg2 c1_i32_0
  let c0_i32 : BitVec 32 := 0#32
  ![v0.toNat, arg1.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceUpXIdeal.lean ====
abbrev S4096x5632 : Shape := ⟨2, ![4096, 5632]⟩
abbrev S4x2048x1408 : Shape := ⟨3, ![4, 2048, 1408]⟩
abbrev S1x4096x2048 : Shape := ⟨3, ![1, 4096, 2048]⟩
abbrev S2048x4x1408 : Shape := ⟨3, ![2048, 4, 1408]⟩
abbrev S2048x5632 : Shape := ⟨2, ![2048, 5632]⟩
abbrev S_ : Shape := ⟨0, ![]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x2048x1408, .bf16⟩
  | .hbm, ⟨2, _⟩ => ⟨S1x4096x2048, .f32⟩
  | .hbm, ⟨3, _⟩ => ⟨S4x2048x1408, .f32⟩
  | .hbm, ⟨4, _⟩ => ⟨S2048x4x1408, .f32⟩
  | .hbm, ⟨5, _⟩ => ⟨S2048x5632, .f32⟩
  | .hbm, ⟨6, _⟩ => ⟨S_, .f32⟩
  | .hbm, ⟨7, _⟩ => ⟨S4096x2048, .f32⟩
  | .hbm, ⟨8, _⟩ => ⟨S4096x5632, .f32⟩
  | .hbm, ⟨9, _⟩ => ⟨S4096x5632, .f32⟩
  | .hbm, ⟨10, _⟩ => ⟨S4096x2048, .f32⟩
  | .hbm, ⟨11, _⟩ => ⟨S1x4096x2048, .f32⟩
  | .hbm, ⟨12, _⟩ => ⟨S1x4096x2048, .f32⟩
  | .hbm, ⟨13, _⟩ => ⟨S1x4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelGate.lean ====
abbrev S4096x2048 : Shape := ⟨2, ![4096, 2048]⟩
abbrev S4x2048x1408 : Shape := ⟨3, ![4, 2048, 1408]⟩
abbrev S1x4096x2048 : Shape := ⟨3, ![1, 4096, 2048]⟩
abbrev S1x4096x5632 : Shape := ⟨3, ![1, 4096, 5632]⟩
abbrev S1x1024x2048 : Shape := ⟨3, ![1, 1024, 2048]⟩
abbrev S1x2048x1408 : Shape := ⟨3, ![1, 2048, 1408]⟩
abbrev S1x1024x1408 : Shape := ⟨3, ![1, 1024, 1408]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S1x4096x2048, .bf16⟩
  | .hbm, ⟨3, _⟩ => ⟨S1x4096x5632, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg2.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGateIdeal.lean ====
abbrev S4096x2048 : Shape := ⟨2, ![4096, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4096x5632 : Shape := ⟨2, ![4096, 5632]⟩
abbrev S1x4096x5632 : Shape := ⟨3, ![1, 4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4096x2048, .f32⟩
  | .hbm, ⟨3, _⟩ => ⟨S4x2048x1408, .f32⟩
  | .hbm, ⟨4, _⟩ => ⟨S2048x4x1408, .f32⟩
  | .hbm, ⟨5, _⟩ => ⟨S2048x5632, .f32⟩
  | .hbm, ⟨6, _⟩ => ⟨S4096x5632, .f32⟩
  | .hbm, ⟨7, _⟩ => ⟨S4096x5632, .bf16⟩
  | .hbm, ⟨8, _⟩ => ⟨S1x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== KernelUp.lean ====
abbrev S4096x2048 : Shape := ⟨2, ![4096, 2048]⟩
abbrev S4x2048x1408 : Shape := ⟨3, ![4, 2048, 1408]⟩
abbrev S4096x5632 : Shape := ⟨2, ![4096, 5632]⟩
abbrev S1x4096x2048 : Shape := ⟨3, ![1, 4096, 2048]⟩
abbrev S1x4096x5632 : Shape := ⟨3, ![1, 4096, 5632]⟩
abbrev S1x1024x2048 : Shape := ⟨3, ![1, 1024, 2048]⟩
abbrev S1x2048x1408 : Shape := ⟨3, ![1, 2048, 1408]⟩
abbrev S1x1024x1408 : Shape := ⟨3, ![1, 1024, 1408]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4096x5632, .bf16⟩
  | .hbm, ⟨3, _⟩ => ⟨S1x4096x2048, .bf16⟩
  | .hbm, ⟨4, _⟩ => ⟨S1x4096x5632, .bf16⟩
  | .hbm, ⟨5, _⟩ => ⟨S1x4096x5632, .bf16⟩
  | .hbm, ⟨6, _⟩ => ⟨S1x4096x5632, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg2.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceUpIdeal.lean ====
abbrev S4096x2048 : Shape := ⟨2, ![4096, 2048]⟩
abbrev S4x2048x1408 : Shape := ⟨3, ![4, 2048, 1408]⟩
abbrev S4096x5632 : Shape := ⟨2, ![4096, 5632]⟩
abbrev S2048x4x1408 : Shape := ⟨3, ![2048, 4, 1408]⟩
abbrev S2048x5632 : Shape := ⟨2, ![2048, 5632]⟩
abbrev S1x4096x5632 : Shape := ⟨3, ![1, 4096, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4096x5632, .bf16⟩
  | .hbm, ⟨3, _⟩ => ⟨S4096x2048, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S4096x5632, .f32⟩
  | .hbm, ⟨8, _⟩ => ⟨S4096x5632, .bf16⟩
  | .hbm, ⟨9, _⟩ => ⟨S1x4096x5632, .bf16⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .bf16⟩
  | .hbm, ⟨22, _⟩ => ⟨S1x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== KernelOut.lean ====
abbrev S4096x5632 : Shape := ⟨2, ![4096, 5632]⟩
abbrev S5632x2048 : Shape := ⟨2, ![5632, 2048]⟩
abbrev S4096x2048 : Shape := ⟨2, ![4096, 2048]⟩
abbrev S1x4096x5632 : Shape := ⟨3, ![1, 4096, 5632]⟩
abbrev S1x5632x2048 : Shape := ⟨3, ![1, 5632, 2048]⟩
abbrev S1x4096x2048 : Shape := ⟨3, ![1, 4096, 2048]⟩
abbrev S1x1024x1408 : Shape := ⟨3, ![1, 1024, 1408]⟩
abbrev S1x1408x1024 : Shape := ⟨3, ![1, 1408, 1024]⟩
abbrev S1x1024x1024 : Shape := ⟨3, ![1, 1024, 1024]⟩
abbrev S1024x1024 : Shape := ⟨2, ![1024, 1024]⟩
abbrev S1024x1408 : Shape := ⟨2, ![1024, 1408]⟩
abbrev S1408x1024 : Shape := ⟨2, ![1408, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x4096x5632, .bf16⟩
  | .hbm, ⟨4, _⟩ => ⟨S1x5632x2048, .bf16⟩
  | .hbm, ⟨5, _⟩ => ⟨S1x4096x2048, .f32⟩
  | .hbm, ⟨6, _⟩ => ⟨S1x4096x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutIdeal.lean ====
abbrev S4096x5632 : Shape := ⟨2, ![4096, 5632]⟩
abbrev S5632x2048 : Shape := ⟨2, ![5632, 2048]⟩
abbrev S4096x2048 : Shape := ⟨2, ![4096, 2048]⟩
abbrev S1x4096x2048 : Shape := ⟨3, ![1, 4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S1x4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelProjW.lean ====
abbrev S4096x2048 : Shape := ⟨2, ![4096, 2048]⟩
abbrev S1x4096x2048 : Shape := ⟨3, ![1, 4096, 2048]⟩
abbrev S1x2048x2048 : Shape := ⟨3, ![1, 2048, 2048]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x4096x2048, .bf16⟩
  | .hbm, ⟨3, _⟩ => ⟨S1x4096x2048, .bf16⟩
  | .hbm, ⟨4, _⟩ => ⟨S1x2048x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjWIdeal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelProjX.lean ====
abbrev S4096x2048 : Shape := ⟨2, ![4096, 2048]⟩
abbrev S2048x2048 : Shape := ⟨2, ![2048, 2048]⟩
abbrev S1x4096x2048 : Shape := ⟨3, ![1, 4096, 2048]⟩
abbrev S1x2048x2048 : Shape := ⟨3, ![1, 2048, 2048]⟩
abbrev S1x512x2048 : Shape := ⟨3, ![1, 512, 2048]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S1x4096x2048, .bf16⟩
  | .hbm, ⟨3, _⟩ => ⟨S1x2048x2048, .bf16⟩
  | .hbm, ⟨4, _⟩ => ⟨S1x4096x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x2048x2048, .bf16⟩
  | .local _ .vmem, ⟨3, _⟩ => ⟨S1x512x2048, .bf16⟩
  | .local _ .vmem, ⟨4, _⟩ => ⟨S1x512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjXIdeal.lean ====
abbrev S4096x2048 : Shape := ⟨2, ![4096, 2048]⟩
abbrev S2048x2048 : Shape := ⟨2, ![2048, 2048]⟩
abbrev S_ : Shape := ⟨0, ![]⟩
abbrev S1x4096x2048 : Shape := ⟨3, ![1, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S1x4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelQkvW.lean ====
abbrev S4096x2048 : Shape := ⟨2, ![4096, 2048]⟩
abbrev S3x4096x2048 : Shape := ⟨3, ![3, 4096, 2048]⟩
abbrev S1x4096x2048 : Shape := ⟨3, ![1, 4096, 2048]⟩
abbrev S1x2048x6144 : Shape := ⟨3, ![1, 2048, 6144]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S1x4096x2048, .bf16⟩
  | .hbm, ⟨3, _⟩ => ⟨S1x2048x6144, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c2_i32_0 : BitVec 32 := 2#32
  let v1 : BitVec 32 := Scalar.addi v0 c2_i32_0
  let c3_i32 : BitVec 32 := 3#32
  let v2 : BitVec 32 := Scalar.remsi v1 c3_i32
  let c2_i32_1 : BitVec 32 := 2#32
  let v3 : BitVec 32 := Scalar.remsi arg1 c2_i32_1
  let c0_i32 : BitVec 32 := 0#32
  ![v2.toNat, arg2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvWIdeal.lean ====
abbrev S4096x2048 : Shape := ⟨2, ![4096, 2048]⟩
abbrev S3x4096x2048 : Shape := ⟨3, ![3, 4096, 2048]⟩
abbrev S1x4096x2048 : Shape := ⟨3, ![1, 4096, 2048]⟩
abbrev S_ : Shape := ⟨0, ![]⟩
abbrev S2048x6144 : Shape := ⟨2, ![2048, 6144]⟩
abbrev S4096x6144 : Shape := ⟨2, ![4096, 6144]⟩
abbrev S6144x2048 : Shape := ⟨2, ![6144, 2048]⟩
abbrev S1x2048x6144 : Shape := ⟨3, ![1, 2048, 6144]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S4096x2048, .f32⟩
  | .hbm, ⟨3, _⟩ => ⟨S3x4096x2048, .f32⟩
  | .hbm, ⟨4, _⟩ => ⟨S1x4096x2048, .f32⟩
  | .hbm, ⟨5, _⟩ => ⟨S4096x2048, .f32⟩
  | .hbm, ⟨6, _⟩ => ⟨S1x4096x2048, .f32⟩
  | .hbm, ⟨7, _⟩ => ⟨S4096x2048, .f32⟩
  | .hbm, ⟨8, _⟩ => ⟨S1x4096x2048, .f32⟩
  | .hbm, ⟨9, _⟩ => ⟨S4096x2048, .f32⟩
  | .hbm, ⟨10, _⟩ => ⟨S_, .f32⟩
  | .hbm, ⟨11, _⟩ => ⟨S2048x6144, .f32⟩
  | .hbm, ⟨12, _⟩ => ⟨S4096x6144, .f32⟩
  | .hbm, ⟨13, _⟩ => ⟨S4096x6144, .f32⟩
  | .hbm, ⟨14, _⟩ => ⟨S6144x2048, .f32⟩
  | .hbm, ⟨15, _⟩ => ⟨S2048x6144, .f32⟩
  | .hbm, ⟨16, _⟩ => ⟨S2048x6144, .bf16⟩
  | .hbm, ⟨17, _⟩ => ⟨S1x2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== KernelQkvX.lean ====
abbrev S3x4096x2048 : Shape := ⟨3, ![3, 4096, 2048]⟩
abbrev S2048x6144 : Shape := ⟨2, ![2048, 6144]⟩
abbrev S1x2048x6144 : Shape := ⟨3, ![1, 2048, 6144]⟩
abbrev S1x4096x2048 : Shape := ⟨3, ![1, 4096, 2048]⟩
abbrev S1x512x2048 : Shape := ⟨3, ![1, 512, 2048]⟩
abbrev S1x2048x2048 : Shape := ⟨3, ![1, 2048, 2048]⟩
abbrev S512x2048 : Shape := ⟨2, ![512, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S3x4096x2048, .bf16⟩
  | .hbm, ⟨1, _⟩ => ⟨S2048x6144, .bf16⟩
  | .hbm, ⟨2, _⟩ => ⟨S1x2048x6144, .bf16⟩
  | .hbm, ⟨3, _⟩ => ⟨S1x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x512x2048, .f32⟩
  | .local _ .vmem, ⟨5, _⟩ => ⟨S1x512x2048, .f32⟩
  | .local _ .vmem, ⟨6, _⟩ => ⟨S512x2048, .f32⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c2_i32 : BitVec 32 := 2#32
  let v1 : BitVec 32 := Scalar.addi v0 c2_i32
  let c3_i32 : BitVec 32 := 3#32
  let v2 : BitVec 32 := Scalar.remsi v1 c3_i32
  let c1_i32_0 : BitVec 32 := 1#32
  let v3 : BitVec 32 := Scalar.remsi arg2 c1_i32_0
  let c0_i32 : BitVec 32 := 0#32
  ![v2.toNat, arg0.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvXIdeal.lean ====
abbrev S3x4096x2048 : Shape := ⟨3, ![3, 4096, 2048]⟩
abbrev S2048x6144 : Shape := ⟨2, ![2048, 6144]⟩
abbrev S1x4096x2048 : Shape := ⟨3, ![1, 4096, 2048]⟩
abbrev S4096x2048 : Shape := ⟨2, ![4096, 2048]⟩
abbrev S_ : Shape := ⟨0, ![]⟩
abbrev S4096x6144 : Shape := ⟨2, ![4096, 6144]⟩

abbrev nBuf : Space → Nat
  | .hbm => 16
  | .vmem => 0
  | .smem => 0
  | _ => 0

abbrev bufTy : (tb : Table) → Fin (tcTables nBuf tb) → BufTy
  | .hbm, ⟨0, _⟩ => ⟨S3x4096x2048, .bf16⟩
  | .hbm, ⟨1, _⟩ => ⟨S2048x6144, .bf16⟩
  | .hbm, ⟨2, _⟩ => ⟨S2048x6144, .f32⟩
  | .hbm, ⟨3, _⟩ => ⟨S3x4096x2048, .f32⟩
  | .hbm, ⟨4, _⟩ => ⟨S1x4096x2048, .f32⟩
  | .hbm, ⟨5, _⟩ => ⟨S4096x2048, .f32⟩
  | .hbm, ⟨6, _⟩ => ⟨S1x4096x2048, .f32⟩
  | .hbm, ⟨7, _⟩ => ⟨S4096x2048, .f32⟩
  | .hbm, ⟨8, _⟩ => ⟨S1x4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x6144, .f32⟩
  | .hbm, ⟨13, _⟩ => ⟨S4096x6144, .f32⟩
  | .hbm, ⟨14, _⟩ => ⟨S4096x2048, .f32⟩
  | .hbm, ⟨15, _⟩ => ⟨S1x4096x2048, .f32⟩
  | _, _ => ⟨S3x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== KernelProj.lean ====
abbrev S4096x2048 : Shape := ⟨2, ![4096, 2048]⟩
abbrev S2048x2048 : Shape := ⟨2, ![2048, 2048]⟩
abbrev S1x4096x2048 : Shape := ⟨3, ![1, 4096, 2048]⟩
abbrev S1x2048x2048 : Shape := ⟨3, ![1, 2048, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S1x4096x2048, .bf16⟩
  | .hbm, ⟨3, _⟩ => ⟨S1x2048x2048, .bf16⟩
  | .hbm, ⟨4, _⟩ => ⟨S1x4096x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjIdeal.lean ====
abbrev S4096x2048 : Shape := ⟨2, ![4096, 2048]⟩
abbrev S2048x2048 : Shape := ⟨2, ![2048, 2048]⟩
abbrev S1x4096x2048 : Shape := ⟨3, ![1, 4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | .hbm, ⟨6, _⟩ => ⟨S1x4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelProjRes.lean ====
abbrev S4096x2048 : Shape := ⟨2, ![4096, 2048]⟩
abbrev S2048x2048 : Shape := ⟨2, ![2048, 2048]⟩
abbrev S1x4096x2048 : Shape := ⟨3, ![1, 4096, 2048]⟩
abbrev S1x2048x2048 : Shape := ⟨3, ![1, 2048, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x4096x2048, .bf16⟩
  | .hbm, ⟨4, _⟩ => ⟨S1x2048x2048, .bf16⟩
  | .hbm, ⟨5, _⟩ => ⟨S1x4096x2048, .f32⟩
  | .hbm, ⟨6, _⟩ => ⟨S1x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceProjResIdeal.lean ====
abbrev S4096x2048 : Shape := ⟨2, ![4096, 2048]⟩
abbrev S2048x2048 : Shape := ⟨2, ![2048, 2048]⟩
abbrev S1x4096x2048 : Shape := ⟨3, ![1, 4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S1x4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelQkv.lean ====
abbrev S4096x2048 : Shape := ⟨2, ![4096, 2048]⟩
abbrev S2048x6144 : Shape := ⟨2, ![2048, 6144]⟩
abbrev S1x4096x2048 : Shape := ⟨3, ![1, 4096, 2048]⟩
abbrev S1x2048x6144 : Shape := ⟨3, ![1, 2048, 6144]⟩
abbrev S3x4096x2048 : Shape := ⟨3, ![3, 4096, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S1x4096x2048, .bf16⟩
  | .hbm, ⟨3, _⟩ => ⟨S1x2048x6144, .bf16⟩
  | .hbm, ⟨4, _⟩ => ⟨S3x4096x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c2_i32_0 : BitVec 32 := 2#32
  let v1 : BitVec 32 := Scalar.remsi arg1 c2_i32_0
  let c0_i32 : BitVec 32 := 0#32
  ![v0.toNat, arg0.toNat, v1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvIdeal.lean ====
abbrev S4096x2048 : Shape := ⟨2, ![4096, 2048]⟩
abbrev S2048x6144 : Shape := ⟨2, ![2048, 6144]⟩
abbrev S4096x6144 : Shape := ⟨2, ![4096, 6144]⟩
abbrev S4096x3x2048 : Shape := ⟨3, ![4096, 3, 2048]⟩
abbrev S3x4096x2048 : Shape := ⟨3, ![3, 4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x6144, .bf16⟩
  | .hbm, ⟨6, _⟩ => ⟨S4096x3x2048, .bf16⟩
  | .hbm, ⟨7, _⟩ => ⟨S3x4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelAdamEvIn.lean ====
abbrev S1x2048x1280 : Shape := ⟨3, ![1, 2048, 1280]⟩
abbrev S2048x1280 : Shape := ⟨2, ![2048, 1280]⟩
abbrev S1x256x1280 : Shape := ⟨3, ![1, 256, 1280]⟩
abbrev S256x1280 : Shape := ⟨2, ![256, 1280]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1280, .f32⟩
  | .hbm, ⟨1, _⟩ => ⟨S1x2048x1280, .f32⟩
  | .hbm, ⟨2, _⟩ => ⟨S1x2048x1280, .f32⟩
  | .hbm, ⟨3, _⟩ => ⟨S1x2048x1280, .f32⟩
  | .hbm, ⟨4, _⟩ => ⟨S2048x1280, .f32⟩
  | .hbm, ⟨5, _⟩ => ⟨S2048x1280, .f32⟩
  | .hbm, ⟨6, _⟩ => ⟨S2048x1280, .f32⟩
  | .hbm, ⟨7, _⟩ => ⟨S2048x1280, .f32⟩
  | .local _ .vmem, ⟨0, _⟩ => ⟨S1x256x1280, .f32⟩
  | .local _ .vmem, ⟨1, _⟩ => ⟨S1x256x1280, .f32⟩
  | .local _ .vmem, ⟨2, _⟩ => ⟨S1x256x1280, .f32⟩
  | .local _ .vmem, ⟨3, _⟩ => ⟨S1x256x1280, .f32⟩
  | .local _ .vmem, ⟨4, _⟩ => ⟨S1x256x1280, .f32⟩
  | .local _ .vmem, ⟨5, _⟩ => ⟨S1x256x1280, .f32⟩
  | .local _ .vmem, ⟨6, _⟩ => ⟨S1x256x1280, .f32⟩
  | .local _ .vmem, ⟨7, _⟩ => ⟨S1x256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | .local _ .vmem, ⟨14, _⟩ => ⟨S256x1280, .f32⟩
  | .local _ .vmem, ⟨15, _⟩ => ⟨S256x1280, .f32⟩
  | _, _ => ⟨S1x2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAdamEvInIdeal.lean ====
abbrev S1x2048x1280 : Shape := ⟨3, ![1, 2048, 1280]⟩
abbrev S2048x1280 : Shape := ⟨2, ![2048, 1280]⟩
abbrev S1x256x1280 : Shape := ⟨3, ![1, 256, 1280]⟩
abbrev S256x1280 : Shape := ⟨2, ![256, 1280]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1280, .f32⟩
  | .hbm, ⟨1, _⟩ => ⟨S1x2048x1280, .f32⟩
  | .hbm, ⟨2, _⟩ => ⟨S1x2048x1280, .f32⟩
  | .hbm, ⟨3, _⟩ => ⟨S1x2048x1280, .f32⟩
  | .hbm, ⟨4, _⟩ => ⟨S2048x1280, .f32⟩
  | .hbm, ⟨5, _⟩ => ⟨S2048x1280, .f32⟩
  | .hbm, ⟨6, _⟩ => ⟨S2048x1280, .f32⟩
  | .hbm, ⟨7, _⟩ => ⟨S2048x1280, .f32⟩
  | .local _ .vmem, ⟨0, _⟩ => ⟨S1x256x1280, .f32⟩
  | .local _ .vmem, ⟨1, _⟩ => ⟨S1x256x1280, .f32⟩
  | .local _ .vmem, ⟨2, _⟩ => ⟨S1x256x1280, .f32⟩
  | .local _ .vmem, ⟨3, _⟩ => ⟨S1x256x1280, .f32⟩
  | .local _ .vmem, ⟨4, _⟩ => ⟨S1x256x1280, .f32⟩
  | .local _ .vmem, ⟨5, _⟩ => ⟨S1x256x1280, .f32⟩
  | .local _ .vmem, ⟨6, _⟩ => ⟨S1x256x1280, .f32⟩
  | .local _ .vmem, ⟨7, _⟩ => ⟨S1x256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | .local _ .vmem, ⟨14, _⟩ => ⟨S256x1280, .f32⟩
  | .local _ .vmem, ⟨15, _⟩ => ⟨S256x1280, .f32⟩
  | _, _ => ⟨S1x2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamEvInIdeal.lean ====
abbrev S1x2048x1280 : Shape := ⟨3, ![1, 2048, 1280]⟩
abbrev S2048x1280 : Shape := ⟨2, ![2048, 1280]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x2048x1280, .f32⟩
  | .hbm, ⟨1, _⟩ => ⟨S1x2048x1280, .f32⟩
  | .hbm, ⟨2, _⟩ => ⟨S1x2048x1280, .f32⟩
  | .hbm, ⟨3, _⟩ => ⟨S1x2048x1280, .f32⟩
  | .hbm, ⟨4, _⟩ => ⟨S2048x1280, .f32⟩
  | .hbm, ⟨5, _⟩ => ⟨S2048x1280, .f32⟩
  | .hbm, ⟨6, _⟩ => ⟨S2048x1280, .f32⟩
  | .hbm, ⟨7, _⟩ => ⟨S2048x1280, .f32⟩
  | .hbm, ⟨8, _⟩ => ⟨S_, .f32⟩
  | .hbm, ⟨9, _⟩ => ⟨S2048x1280, .f32⟩
  | .hbm, ⟨10, _⟩ => ⟨S2048x1280, .f32⟩
  | .hbm, ⟨11, _⟩ => ⟨S_, .f32⟩
  | .hbm, ⟨12, _⟩ => ⟨S2048x1280, .f32⟩
  | .hbm, ⟨13, _⟩ => ⟨S2048x1280, .f32⟩
  | .hbm, ⟨14, _⟩ => ⟨S2048x1280, .f32⟩
  | .hbm, ⟨15, _⟩ => ⟨S_, .f32⟩
  | .hbm, ⟨16, _⟩ => ⟨S2048x1280, .f32⟩
  | .hbm, ⟨17, _⟩ => ⟨S2048x1280, .f32⟩
  | .hbm, ⟨18, _⟩ => ⟨S2048x1280, .f32⟩
  | .hbm, ⟨19, _⟩ => ⟨S_, .f32⟩
  | .hbm, ⟨20, _⟩ => ⟨S2048x1280, .f32⟩
  | .hbm, ⟨21, _⟩ => ⟨S2048x1280, .f32⟩
  | .hbm, ⟨22, _⟩ => ⟨S2048x1280, .f32⟩
  | .hbm, ⟨23, _⟩ => ⟨S_, .f32⟩
  | .hbm, ⟨24, _⟩ => ⟨S2048x1280, .f32⟩
  | .hbm, ⟨25, _⟩ => ⟨S2048x1280, .f32⟩
  | .hbm, ⟨26, _⟩ => ⟨S_, .f32⟩
  | .hbm, ⟨27, _⟩ => ⟨S2048x1280, .f32⟩
  | .hbm, ⟨28, _⟩ => ⟨S2048x1280, .f32⟩
  | .hbm, ⟨29, _⟩ => ⟨S2048x1280, .f32⟩
  | .hbm, ⟨30, _⟩ => ⟨S_, .f32⟩
  | .hbm, ⟨31, _⟩ => ⟨S2048x1280, .f32⟩
  | .hbm, ⟨32, _⟩ => ⟨S2048x1280, .f32⟩
  | .hbm, ⟨33, _⟩ => ⟨S2048x1280, .f32⟩
  | .hbm, ⟨34, _⟩ => ⟨S_, .f32⟩
  | .hbm, ⟨35, _⟩ => ⟨S2048x1280, .f32⟩
  | .hbm, ⟨36, _⟩ => ⟨S2048x1280, .f32⟩
  | .hbm, ⟨37, _⟩ => ⟨S2048x1280, .f32⟩
  | .hbm, ⟨38, _⟩ => ⟨S_, .f32⟩
  | .hbm, ⟨39, _⟩ => ⟨S2048x1280, .f32⟩
  | .hbm, ⟨40, _⟩ => ⟨S2048x1280, .f32⟩
  | _, _ => ⟨S1x2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelAdamPool.lean ====
abbrev S1x256x256 : Shape := ⟨3, ![1, 256, 256]⟩
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x256x256, .f32⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KernelAdamPoolIdeal.lean ====
abbrev S1x256x256 : Shape := ⟨3, ![1, 256, 256]⟩
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x256x256, .f32⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamPoolIdeal.lean ====
abbrev S1x256x256 : Shape := ⟨3, ![1, 256, 256]⟩
abbrev S256x256 : Shape := ⟨2, ![256, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x256x256, .f32⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | _, _ => ⟨S1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelAdamOut.lean ====
abbrev S1x512x2048 : Shape := ⟨3, ![1, 512, 2048]⟩
abbrev S512x2048 : Shape := ⟨2, ![512, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAdamOutIdeal.lean ====
abbrev S1x512x2048 : Shape := ⟨3, ![1, 512, 2048]⟩
abbrev S512x2048 : Shape := ⟨2, ![512, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamOutIdeal.lean ====
abbrev S1x512x2048 : Shape := ⟨3, ![1, 512, 2048]⟩
abbrev S512x2048 : Shape := ⟨2, ![512, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S_, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S_, .f32⟩
  | .hbm, ⟨39, _⟩ => ⟨S512x2048, .f32⟩
  | .hbm, ⟨40, _⟩ => ⟨S512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelAdamOdIn.lean ====
abbrev S1x2048x1540 : Shape := ⟨3, ![1, 2048, 1540]⟩
abbrev S2048x1540 : Shape := ⟨2, ![2048, 1540]⟩
abbrev S1x256x1540 : Shape := ⟨3, ![1, 256, 1540]⟩
abbrev S256x1540 : Shape := ⟨2, ![256, 1540]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1540, .f32⟩
  | .hbm, ⟨1, _⟩ => ⟨S1x2048x1540, .f32⟩
  | .hbm, ⟨2, _⟩ => ⟨S1x2048x1540, .f32⟩
  | .hbm, ⟨3, _⟩ => ⟨S1x2048x1540, .f32⟩
  | .hbm, ⟨4, _⟩ => ⟨S2048x1540, .f32⟩
  | .hbm, ⟨5, _⟩ => ⟨S2048x1540, .f32⟩
  | .hbm, ⟨6, _⟩ => ⟨S2048x1540, .f32⟩
  | .hbm, ⟨7, _⟩ => ⟨S2048x1540, .f32⟩
  | .local _ .vmem, ⟨0, _⟩ => ⟨S1x256x1540, .f32⟩
  | .local _ .vmem, ⟨1, _⟩ => ⟨S1x256x1540, .f32⟩
  | .local _ .vmem, ⟨2, _⟩ => ⟨S1x256x1540, .f32⟩
  | .local _ .vmem, ⟨3, _⟩ => ⟨S1x256x1540, .f32⟩
  | .local _ .vmem, ⟨4, _⟩ => ⟨S1x256x1540, .f32⟩
  | .local _ .vmem, ⟨5, _⟩ => ⟨S1x256x1540, .f32⟩
  | .local _ .vmem, ⟨6, _⟩ => ⟨S1x256x1540, .f32⟩
  | .local _ .vmem, ⟨7, _⟩ => ⟨S1x256x1540, .f32⟩
  | .local _ .vmem, ⟨8, _⟩ => ⟨S256x1540, .f32⟩
  | .local _ .vmem, ⟨9, _⟩ => ⟨S256x1540, .f32⟩
  | .local _ .vmem, ⟨10, _⟩ => ⟨S256x1540, .f32⟩
  | .local _ .vmem, ⟨11, _⟩ => ⟨S256x1540, .f32⟩
  | .local _ .vmem, ⟨12, _⟩ => ⟨S256x1540, .f32⟩
  | .local _ .vmem, ⟨13, _⟩ => ⟨S256x1540, .f32⟩
  | .local _ .vmem, ⟨14, _⟩ => ⟨S256x1540, .f32⟩
  | .local _ .vmem, ⟨15, _⟩ => ⟨S256x1540, .f32⟩
  | _, _ => ⟨S1x2048x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1540 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAdamOdInIdeal.lean ====
abbrev S1x2048x1540 : Shape := ⟨3, ![1, 2048, 1540]⟩
abbrev S2048x1540 : Shape := ⟨2, ![2048, 1540]⟩
abbrev S1x256x1540 : Shape := ⟨3, ![1, 256, 1540]⟩
abbrev S256x1540 : Shape := ⟨2, ![256, 1540]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1540, .f32⟩
  | .hbm, ⟨1, _⟩ => ⟨S1x2048x1540, .f32⟩
  | .hbm, ⟨2, _⟩ => ⟨S1x2048x1540, .f32⟩
  | .hbm, ⟨3, _⟩ => ⟨S1x2048x1540, .f32⟩
  | .hbm, ⟨4, _⟩ => ⟨S2048x1540, .f32⟩
  | .hbm, ⟨5, _⟩ => ⟨S2048x1540, .f32⟩
  | .hbm, ⟨6, _⟩ => ⟨S2048x1540, .f32⟩
  | .hbm, ⟨7, _⟩ => ⟨S2048x1540, .f32⟩
  | .local _ .vmem, ⟨0, _⟩ => ⟨S1x256x1540, .f32⟩
  | .local _ .vmem, ⟨1, _⟩ => ⟨S1x256x1540, .f32⟩
  | .local _ .vmem, ⟨2, _⟩ => ⟨S1x256x1540, .f32⟩
  | .local _ .vmem, ⟨3, _⟩ => ⟨S1x256x1540, .f32⟩
  | .local _ .vmem, ⟨4, _⟩ => ⟨S1x256x1540, .f32⟩
  | .local _ .vmem, ⟨5, _⟩ => ⟨S1x256x1540, .f32⟩
  | .local _ .vmem, ⟨6, _⟩ => ⟨S1x256x1540, .f32⟩
  | .local _ .vmem, ⟨7, _⟩ => ⟨S1x256x1540, .f32⟩
  | .local _ .vmem, ⟨8, _⟩ => ⟨S256x1540, .f32⟩
  | .local _ .vmem, ⟨9, _⟩ => ⟨S256x1540, .f32⟩
  | .local _ .vmem, ⟨10, _⟩ => ⟨S256x1540, .f32⟩
  | .local _ .vmem, ⟨11, _⟩ => ⟨S256x1540, .f32⟩
  | .local _ .vmem, ⟨12, _⟩ => ⟨S256x1540, .f32⟩
  | .local _ .vmem, ⟨13, _⟩ => ⟨S256x1540, .f32⟩
  | .local _ .vmem, ⟨14, _⟩ => ⟨S256x1540, .f32⟩
  | .local _ .vmem, ⟨15, _⟩ => ⟨S256x1540, .f32⟩
  | _, _ => ⟨S1x2048x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1540 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamOdInIdeal.lean ====
abbrev S1x2048x1540 : Shape := ⟨3, ![1, 2048, 1540]⟩
abbrev S2048x1540 : Shape := ⟨2, ![2048, 1540]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x2048x1540, .f32⟩
  | .hbm, ⟨1, _⟩ => ⟨S1x2048x1540, .f32⟩
  | .hbm, ⟨2, _⟩ => ⟨S1x2048x1540, .f32⟩
  | .hbm, ⟨3, _⟩ => ⟨S1x2048x1540, .f32⟩
  | .hbm, ⟨4, _⟩ => ⟨S2048x1540, .f32⟩
  | .hbm, ⟨5, _⟩ => ⟨S2048x1540, .f32⟩
  | .hbm, ⟨6, _⟩ => ⟨S2048x1540, .f32⟩
  | .hbm, ⟨7, _⟩ => ⟨S2048x1540, .f32⟩
  | .hbm, ⟨8, _⟩ => ⟨S_, .f32⟩
  | .hbm, ⟨9, _⟩ => ⟨S2048x1540, .f32⟩
  | .hbm, ⟨10, _⟩ => ⟨S2048x1540, .f32⟩
  | .hbm, ⟨11, _⟩ => ⟨S_, .f32⟩
  | .hbm, ⟨12, _⟩ => ⟨S2048x1540, .f32⟩
  | .hbm, ⟨13, _⟩ => ⟨S2048x1540, .f32⟩
  | .hbm, ⟨14, _⟩ => ⟨S2048x1540, .f32⟩
  | .hbm, ⟨15, _⟩ => ⟨S_, .f32⟩
  | .hbm, ⟨16, _⟩ => ⟨S2048x1540, .f32⟩
  | .hbm, ⟨17, _⟩ => ⟨S2048x1540, .f32⟩
  | .hbm, ⟨18, _⟩ => ⟨S2048x1540, .f32⟩
  | .hbm, ⟨19, _⟩ => ⟨S_, .f32⟩
  | .hbm, ⟨20, _⟩ => ⟨S2048x1540, .f32⟩
  | .hbm, ⟨21, _⟩ => ⟨S2048x1540, .f32⟩
  | .hbm, ⟨22, _⟩ => ⟨S2048x1540, .f32⟩
  | .hbm, ⟨23, _⟩ => ⟨S_, .f32⟩
  | .hbm, ⟨24, _⟩ => ⟨S2048x1540, .f32⟩
  | .hbm, ⟨25, _⟩ => ⟨S2048x1540, .f32⟩
  | .hbm, ⟨26, _⟩ => ⟨S_, .f32⟩
  | .hbm, ⟨27, _⟩ => ⟨S2048x1540, .f32⟩
  | .hbm, ⟨28, _⟩ => ⟨S2048x1540, .f32⟩
  | .hbm, ⟨29, _⟩ => ⟨S2048x1540, .f32⟩
  | .hbm, ⟨30, _⟩ => ⟨S_, .f32⟩
  | .hbm, ⟨31, _⟩ => ⟨S2048x1540, .f32⟩
  | .hbm, ⟨32, _⟩ => ⟨S2048x1540, .f32⟩
  | .hbm, ⟨33, _⟩ => ⟨S2048x1540, .f32⟩
  | .hbm, ⟨34, _⟩ => ⟨S_, .f32⟩
  | .hbm, ⟨35, _⟩ => ⟨S2048x1540, .f32⟩
  | .hbm, ⟨36, _⟩ => ⟨S2048x1540, .f32⟩
  | .hbm, ⟨37, _⟩ => ⟨S2048x1540, .f32⟩
  | .hbm, ⟨38, _⟩ => ⟨S_, .f32⟩
  | .hbm, ⟨39, _⟩ => ⟨S2048x1540, .f32⟩
  | .hbm, ⟨40, _⟩ => ⟨S2048x1540, .f32⟩
  | _, _ => ⟨S1x2048x1540, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelAdamXa.lean ====
abbrev S2x512x2048 : Shape := ⟨3, ![2, 512, 2048]⟩
abbrev S1024x2048 : Shape := ⟨2, ![1024, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAdamXaIdeal.lean ====
abbrev S2x512x2048 : Shape := ⟨3, ![2, 512, 2048]⟩
abbrev S1024x2048 : Shape := ⟨2, ![1024, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamXaIdeal.lean ====
abbrev S2x512x2048 : Shape := ⟨3, ![2, 512, 2048]⟩
abbrev S1024x2048 : Shape := ⟨2, ![1024, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S_, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelAdamKv.lean ====
abbrev S2x2048x1024 : Shape := ⟨3, ![2, 2048, 1024]⟩
abbrev S4096x1024 : Shape := ⟨2, ![4096, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAdamKvIdeal.lean ====
abbrev S2x2048x1024 : Shape := ⟨3, ![2, 2048, 1024]⟩
abbrev S4096x1024 : Shape := ⟨2, ![4096, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamKvIdeal.lean ====
abbrev S2x2048x1024 : Shape := ⟨3, ![2, 2048, 1024]⟩
abbrev S4096x1024 : Shape := ⟨2, ![4096, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelAdamFf.lean ====
abbrev S2x2048x1408 : Shape := ⟨3, ![2, 2048, 1408]⟩
abbrev S4096x1408 : Shape := ⟨2, ![4096, 1408]⟩
abbrev S1x256x1408 : Shape := ⟨3, ![1, 256, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAdamFfIdeal.lean ====
abbrev S2x2048x1408 : Shape := ⟨3, ![2, 2048, 1408]⟩
abbrev S4096x1408 : Shape := ⟨2, ![4096, 1408]⟩
abbrev S1x256x1408 : Shape := ⟨3, ![1, 256, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamFfIdeal.lean ====
abbrev S2x2048x1408 : Shape := ⟨3, ![2, 2048, 1408]⟩
abbrev S4096x1408 : Shape := ⟨2, ![4096, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S_, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S4096x1408, .f32⟩
  | .hbm, ⟨23, _⟩ => ⟨S_, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | .hbm, ⟨37, _⟩ => ⟨S4096x1408, .f32⟩
  | .hbm, ⟨38, _⟩ => ⟨S_, .f32⟩
  | .hbm, ⟨39, _⟩ => ⟨S4096x1408, .f32⟩
  | .hbm, ⟨40, _⟩ => ⟨S4096x1408, .f32⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelAdamDown.lean ====
abbrev S2x1408x2048 : Shape := ⟨3, ![2, 1408, 2048]⟩
abbrev S2816x2048 : Shape := ⟨2, ![2816, 2048]⟩
abbrev S1x176x2048 : Shape := ⟨3, ![1, 176, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .local _ .vmem, ⟨0, _⟩ => ⟨S1x176x2048, .f32⟩
  | .local _ .vmem, ⟨1, _⟩ => ⟨S1x176x2048, .f32⟩
  | .local _ .vmem, ⟨2, _⟩ => ⟨S1x176x2048, .f32⟩
  | .local _ .vmem, ⟨3, _⟩ => ⟨S1x176x2048, .f32⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAdamDownIdeal.lean ====
abbrev S2x1408x2048 : Shape := ⟨3, ![2, 1408, 2048]⟩
abbrev S2816x2048 : Shape := ⟨2, ![2816, 2048]⟩
abbrev S1x176x2048 : Shape := ⟨3, ![1, 176, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .local _ .vmem, ⟨0, _⟩ => ⟨S1x176x2048, .f32⟩
  | .local _ .vmem, ⟨1, _⟩ => ⟨S1x176x2048, .f32⟩
  | .local _ .vmem, ⟨2, _⟩ => ⟨S1x176x2048, .f32⟩
  | .local _ .vmem, ⟨3, _⟩ => ⟨S1x176x2048, .f32⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamDownIdeal.lean ====
abbrev S2x1408x2048 : Shape := ⟨3, ![2, 1408, 2048]⟩
abbrev S2816x2048 : Shape := ⟨2, ![2816, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .hbm, ⟨8, _⟩ => ⟨S_, .f32⟩
  | .hbm, ⟨9, _⟩ => ⟨S2816x2048, .f32⟩
  | .hbm, ⟨10, _⟩ => ⟨S2816x2048, .f32⟩
  | .hbm, ⟨11, _⟩ => ⟨S_, .f32⟩
  | .hbm, ⟨12, _⟩ => ⟨S2816x2048, .f32⟩
  | .hbm, ⟨13, _⟩ => ⟨S2816x2048, .f32⟩
  | .hbm, ⟨14, _⟩ => ⟨S2816x2048, .f32⟩
  | .hbm, ⟨15, _⟩ => ⟨S_, .f32⟩
  | .hbm, ⟨16, _⟩ => ⟨S2816x2048, .f32⟩
  | .hbm, ⟨17, _⟩ => ⟨S2816x2048, .f32⟩
  | .hbm, ⟨18, _⟩ => ⟨S2816x2048, .f32⟩
  | .hbm, ⟨19, _⟩ => ⟨S_, .f32⟩
  | .hbm, ⟨20, _⟩ => ⟨S2816x2048, .f32⟩
  | .hbm, ⟨21, _⟩ => ⟨S2816x2048, .f32⟩
  | .hbm, ⟨22, _⟩ => ⟨S2816x2048, .f32⟩
  | .hbm, ⟨23, _⟩ => ⟨S_, .f32⟩
  | .hbm, ⟨24, _⟩ => ⟨S2816x2048, .f32⟩
  | .hbm, ⟨25, _⟩ => ⟨S2816x2048, .f32⟩
  | .hbm, ⟨26, _⟩ => ⟨S_, .f32⟩
  | .hbm, ⟨27, _⟩ => ⟨S2816x2048, .f32⟩
  | .hbm, ⟨28, _⟩ => ⟨S2816x2048, .f32⟩
  | .hbm, ⟨29, _⟩ => ⟨S2816x2048, .f32⟩
  | .hbm, ⟨30, _⟩ => ⟨S_, .f32⟩
  | .hbm, ⟨31, _⟩ => ⟨S2816x2048, .f32⟩
  | .hbm, ⟨32, _⟩ => ⟨S2816x2048, .f32⟩
  | .hbm, ⟨33, _⟩ => ⟨S2816x2048, .f32⟩
  | .hbm, ⟨34, _⟩ => ⟨S_, .f32⟩
  | .hbm, ⟨35, _⟩ => ⟨S2816x2048, .f32⟩
  | .hbm, ⟨36, _⟩ => ⟨S2816x2048, .f32⟩
  | .hbm, ⟨37, _⟩ => ⟨S2816x2048, .f32⟩
  | .hbm, ⟨38, _⟩ => ⟨S_, .f32⟩
  | .hbm, ⟨39, _⟩ => ⟨S2816x2048, .f32⟩
  | .hbm, ⟨40, _⟩ => ⟨S2816x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelAdamSmall.lean ====
abbrev S1x16x2048 : Shape := ⟨3, ![1, 16, 2048]⟩
abbrev S16x2048 : Shape := ⟨2, ![16, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x16x2048, .f32⟩
  | .hbm, ⟨1, _⟩ => ⟨S1x16x2048, .f32⟩
  | .hbm, ⟨2, _⟩ => ⟨S1x16x2048, .f32⟩
  | .hbm, ⟨3, _⟩ => ⟨S1x16x2048, .f32⟩
  | .hbm, ⟨4, _⟩ => ⟨S16x2048, .f32⟩
  | .hbm, ⟨5, _⟩ => ⟨S16x2048, .f32⟩
  | .hbm, ⟨6, _⟩ => ⟨S16x2048, .f32⟩
  | .hbm, ⟨7, _⟩ => ⟨S16x2048, .f32⟩
  | .local _ .vmem, ⟨0, _⟩ => ⟨S1x16x2048, .f32⟩
  | .local _ .vmem, ⟨1, _⟩ => ⟨S1x16x2048, .f32⟩
  | .local _ .vmem, ⟨2, _⟩ => ⟨S1x16x2048, .f32⟩
  | .local _ .vmem, ⟨3, _⟩ => ⟨S1x16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | _, _ => ⟨S1x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1x16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamSmallIdeal.lean ====
abbrev S1x16x2048 : Shape := ⟨3, ![1, 16, 2048]⟩
abbrev S16x2048 : Shape := ⟨2, ![16, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x16x2048, .f32⟩
  | .hbm, ⟨1, _⟩ => ⟨S1x16x2048, .f32⟩
  | .hbm, ⟨2, _⟩ => ⟨S1x16x2048, .f32⟩
  | .hbm, ⟨3, _⟩ => ⟨S1x16x2048, .f32⟩
  | .hbm, ⟨4, _⟩ => ⟨S16x2048, .f32⟩
  | .hbm, ⟨5, _⟩ => ⟨S16x2048, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S_, .f32⟩
  | .hbm, ⟨12, _⟩ => ⟨S16x2048, .f32⟩
  | .hbm, ⟨13, _⟩ => ⟨S16x2048, .f32⟩
  | .hbm, ⟨14, _⟩ => ⟨S16x2048, .f32⟩
  | .hbm, ⟨15, _⟩ => ⟨S_, .f32⟩
  | .hbm, ⟨16, _⟩ => ⟨S16x2048, .f32⟩
  | .hbm, ⟨17, _⟩ => ⟨S16x2048, .f32⟩
  | .hbm, ⟨18, _⟩ => ⟨S16x2048, .f32⟩
  | .hbm, ⟨19, _⟩ => ⟨S_, .f32⟩
  | .hbm, ⟨20, _⟩ => ⟨S16x2048, .f32⟩
  | .hbm, ⟨21, _⟩ => ⟨S16x2048, .f32⟩
  | .hbm, ⟨22, _⟩ => ⟨S16x2048, .f32⟩
  | .hbm, ⟨23, _⟩ => ⟨S_, .f32⟩
  | .hbm, ⟨24, _⟩ => ⟨S16x2048, .f32⟩
  | .hbm, ⟨25, _⟩ => ⟨S16x2048, .f32⟩
  | .hbm, ⟨26, _⟩ => ⟨S_, .f32⟩
  | .hbm, ⟨27, _⟩ => ⟨S16x2048, .f32⟩
  | .hbm, ⟨28, _⟩ => ⟨S16x2048, .f32⟩
  | .hbm, ⟨29, _⟩ => ⟨S16x2048, .f32⟩
  | .hbm, ⟨30, _⟩ => ⟨S_, .f32⟩
  | .hbm, ⟨31, _⟩ => ⟨S16x2048, .f32⟩
  | .hbm, ⟨32, _⟩ => ⟨S16x2048, .f32⟩
  | .hbm, ⟨33, _⟩ => ⟨S16x2048, .f32⟩
  | .hbm, ⟨34, _⟩ => ⟨S_, .f32⟩
  | .hbm, ⟨35, _⟩ => ⟨S16x2048, .f32⟩
  | .hbm, ⟨36, _⟩ => ⟨S16x2048, .f32⟩
  | .hbm, ⟨37, _⟩ => ⟨S16x2048, .f32⟩
  | .hbm, ⟨38, _⟩ => ⟨S_, .f32⟩
  | .hbm, ⟨39, _⟩ => ⟨S16x2048, .f32⟩
  | .hbm, ⟨40, _⟩ => ⟨S16x2048, .f32⟩
  | _, _ => ⟨S1x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Loop.lean ====
/- The kernel's loop over the row blocks after the diagonal one: what one trip leaves of the three sums it carries,
   and an induction over the trips. -/
module

public import proofs.«01_k».proof.Proof.Gen.KernelIdeal.Loops
public import Idealize.ShloMosaic.Lib.WholeRead
public import Idealize.ShloMosaic.Lib.Pipeline.ValueKit

@[expose] public section

set_option maxRecDepth 16384

noncomputable section

namespace Cert.KernelIdeal.Own

open Cert.KernelIdeal Cert.KernelIdeal.Gen Idealize.ShloMosaic Idealize.ShloMosaic.TcCoe Idealize.SL.Sem

/-- A load of a whole buffer held at the contents that read `X` is the load of `X`. -/
theorem readAt_ld {κ : Kind} {sp : Space} {s : Shape} {e : EltTy} {M : Memref sig κ sp s e} (h : M.IsWhole) (X : s.Idx → Elt Ideal e) (r : Rect s) :
    View.readAt (Elt Ideal) M.view r.toLoadRect (h.unread X) = View.ld X r :=
  funext fun x => h.readAt_unread X r.toLoadRect x

variable (c : Dev nD) (i : grid0.Coords) (arg2 : Memref sig .tc .vmem S1x4096x128 .bf16) (harg2 : arg2.IsWhole)
  (arg3 : Memref sig .tc .vmem S1x512x128 .bf16) (harg3 : arg3.IsWhole) (arg4 : Memref sig .tc .vmem S1x512x128 .bf16) (harg4 : arg4.IsWhole)
  (arg5 : Memref sig .tc .vmem S1x1x1x512 .f32) (harg5 : arg5.IsWhole) (arg6 : Memref sig .tc .vmem S4096x128 .bf16) (harg6 : arg6.IsWhole)
  (arg7 : Memref sig .tc .vmem S1x4096x1 .f32) (harg7 : arg7.IsWhole) (arg8 : Memref sig .tc .vmem S1x4096x1 .f32) (harg8 : arg8.IsWhole)
  (arg9 : Memref sig .tc .hbm S3x4096x2048 .bf16) (harg9 : arg9.IsWhole) (arg10 : Memref sig .tc .vmem S2x512x128 .bf16) (harg10 : arg10.IsWhole)
  (arg11 : Memref sig .tc .vmem S1x1x1x512 .f32) (harg11 : arg11.IsWhole) (arg1 : BitVec 32) (v1 v3 : FVec Ideal S512x128 .bf16) (v5 : FVec Ideal S1x512 .f32)
  (v6 v7 : FVec Ideal S512x128 .f32) (v8 : FVec Ideal S1x512 .f32) (v10 : BitVec 32) (v13 : FVec Ideal S512x128 .bf16) (v15 : Vec Ideal S512x128 .bf16)
  (v34 : FVec Ideal S512x512 .f32) (x0 : Vec Ideal S1x4096x128 .bf16) (x4 : Vec Ideal S4096x128 .bf16) (x5 x6 : Vec Ideal S1x4096x1 .f32)
  (init : FVec Ideal S512x128 .f32 × FVec Ideal S512x128 .f32 × FVec Ideal S1x512 .f32)

/-- The three sums after one more block of rows. -/
def step (k : Fin (k0_t1_loop i).trips) (acc : FVec Ideal S512x128 .f32 × FVec Ideal S512x128 .f32 × FVec Ideal S1x512 .f32) :
    FVec Ideal S512x128 .f32 × FVec Ideal S512x128 .f32 × FVec Ideal S1x512 .f32 :=
  let v76 : Vec Ideal S1x512x128 .bf16 := View.ld x0 (Rect.unit (s := S1x4096x128) (k0_off4 i k) S1x512x128.size (Gen.k0_off4_inb i k))
  let v79 : Vec Ideal S512x128 .bf16 := View.ld x4 (Rect.unit (s := S4096x128) (k0_off5 i k) S512x128.size (Gen.k0_off5_inb i k))
  let v90 : Vec Ideal S1x512x1 .f32 := View.ld x5 (Rect.unit (s := S1x4096x1) (k0_off6 i k) S1x512x1.size (Gen.k0_off6_inb i k))
  let v100 : Vec Ideal S1x512x1 .f32 := View.ld x6 (Rect.unit (s := S1x4096x1) (k0_off6 i k) S1x512x1.size (Gen.k0_off6_inb i k))
  (k0_pay19 v1 v3 v5 acc.1 v76 v79 v90 v100, k0_pay17 v1 v5 acc.2.1 v76 v79 v90, k0_pay20 v1 v3 v5 acc.2.2 v76 v79 v90 v100)

/-- One trip, run on whole buffers that read `x0`, `x4`, `x5`, `x6`, is `step`. -/
theorem trip_eq (k : Fin (k0_t1_loop i).trips) (acc) :
    tripR_k0_t1 (F := Ideal) Variants.none c none i arg2 harg2 arg3 harg3 arg4 harg4 arg5 harg5 arg6 harg6 arg7 harg7 arg8 harg8 arg9 harg9 arg10 harg10 arg11 harg11
      arg1 v1 v3 v5 v6 v7 v8 v10 v13 v15 v34 (harg2.unread x0) (harg6.unread x4) (harg7.unread x5) (harg8.unread x6) k acc
      = step i v1 v3 v5 x0 x4 x5 x6 k acc := by
  unfold tripR_k0_t1 trip_k0_t1 step
  dsimp only
  rw [readAt_ld harg2, readAt_ld harg6, readAt_ld harg7, readAt_ld harg8]

/-- What holds of the initial sums and passes from trip to trip holds of the sums before trip `n`. -/
theorem loop_ind (M : ℕ → FVec Ideal S512x128 .f32 × FVec Ideal S512x128 .f32 × FVec Ideal S1x512 .f32 → Prop) (h0 : M 0 init)
    (hs : ∀ (k : Fin (k0_t1_loop i).trips) acc, M k.val acc → M (k.val + 1) (step i v1 v3 v5 x0 x4 x5 x6 k acc))
    (n : ℕ) (hn : n ≤ (k0_t1_loop i).trips) : M n (st_k0_t1 (F := Ideal) Variants.none c none i arg2 harg2 arg3 harg3 arg4 harg4 arg5 harg5 arg6 harg6 arg7 harg7 arg8 harg8 arg9 harg9 arg10 harg10 arg11 harg11
      arg1 v1 v3 v5 v6 v7 v8 v10 v13 v15 v34 (harg2.unread x0) (harg6.unread x4) (harg7.unread x5) (harg8.unread x6) init n) := by
  induction n with
  | zero => exact h0
  | succ n ih =>
    rw [show n + 1 = (⟨n, hn⟩ : Fin (k0_t1_loop i).trips).val + 1 from rfl, st_k0_t1_succ, trip_eq]
    exact hs ⟨n, hn⟩ _ (ih (Nat.le_of_lt hn))

end Cert.KernelIdeal.Own

end
-- ==== Proof.Lift.lean ====
/- Real numbers inside the extended reals: sums, quotients and maxima of real values stay real. -/
module

public import Mathlib.Data.EReal.Operations
public import Mathlib.Data.EReal.Basic
public import Mathlib.Analysis.SpecialFunctions.Pow.Real
public import Idealize.ShloMosaic.PureOps.Ideal

@[expose] public section

namespace Cert.Lift

open Idealize.ShloMosaic

/-- A finite sum of real numbers, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of finitely many values, none of them `⊤` and one of them real, is real. -/
theorem fold_max_real {n : Nat} (g : Fin n → EReal) (htop : ∀ i, g i ≠ ⊤) (i₀ : Fin n) (h₀ : g i₀ ≠ ⊥) :
    ∃ M : ℝ, (Finset.univ : Finset (Fin n)).fold max ⊥ g = (M : EReal) := by
  have hle : ∀ s : Finset (Fin n), s.fold max ⊥ g ≠ ⊤ := by
    intro s
    induction s using Finset.induction_on with
    | empty => simp
    | insert a s ha ih =>
      rw [Finset.fold_insert ha]
      rcases max_choice (g a) (s.fold max ⊥ g) with h | h <;> rw [h]
      · exact htop a
      · exact ih
  have hge : g i₀ ≤ (Finset.univ : Finset (Fin n)).fold max ⊥ g := by
    rw [Finset.le_fold_max]
    exact Or.inr ⟨i₀, Finset.mem_univ _, le_rfl⟩
  have hbot : (Finset.univ : Finset (Fin n)).fold max ⊥ g ≠ ⊥ := fun h => h₀ (le_bot_iff.mp (h ▸ hge))
  exact ⟨_, (EReal.coe_toReal (hle _) hbot).symm⟩

/-- A value whose absolute value is below `⊤` is real. -/
theorem real_of_abs_lt_top {x : EReal} (h : max x (-x) < ⊤) : ∃ r : ℝ, x = (r : EReal) := by
  refine ⟨x.toReal, (EReal.coe_toReal ?_ ?_).symm⟩
  · rintro rfl; simp at h
  · rintro rfl; simp at h

/-- A power of two of a scaled exponent is an exponential. -/
theorem two_rpow (x : ℝ) : Real.rpow 2 (x * (Real.log 2)⁻¹) = Real.exp x := by
  have h2 : Real.log 2 ≠ 0 := (Real.log_pos one_lt_two).ne'
  show (2 : ℝ) ^ (x * (Real.log 2)⁻¹) = _
  rw [Real.rpow_def_of_pos two_pos]
  congr 1
  field_simp

/-- The word of minus infinity. -/
theorem neg_inf : Ideal.ofBits .f32 0xFF800000#32 = ⊥ := by
  simp [Ideal.ofBits, Ideal.ieee]

/-- The word of 128. -/
theorem w128 : Ideal.ofBits .f32 0x43000000#32 = ((128 : ℝ) : EReal) := by
  simp [Ideal.ofBits, Ideal.ieee, -EReal.coe_mul]; norm_num

/-- The word of 2. -/
theorem w2 : Ideal.ofBits .f32 0x40000000#32 = ((2 : ℝ) : EReal) := by
  simp [Ideal.ofBits, Ideal.ieee, -EReal.coe_mul]; norm_num

end Cert.Lift

end
-- ==== Proof.Block.lean ====
/- One block of the kernel's step at real inputs: `q`, `o` are 512 rows of the queries and of the cotangent, `L`, `e` those
   rows' saved logarithm (base 2) and mean, `k`, `v`, `f` the key block with its values and gates. -/
module

public import proofs.«01_k».proof.Proof.Gen.KernelIdeal.Skeleton
public import proofs.«01_k».proof.Proof.Lift
public import Idealize.ShloMosaic.Lib.Pointwise
public import Idealize.ShloMosaic.PureOps.IdealRules
public import Idealize.ShloMosaic.Lib.WordCmp

@[expose] public section

set_option maxRecDepth 16384

noncomputable section

namespace Cert.KernelIdeal.Own

open Cert.KernelIdeal Cert.KernelIdeal.Gen Idealize.ShloMosaic

variable (q o : Fin 512 → Fin 128 → ℝ) (L e : Fin 512 → ℝ) (k v : Fin 512 → Fin 128 → ℝ) (f : Fin 512 → ℝ)

theorem qscale : Named.named (F := Ideal) κ "qscale" (φ := .f32) 0x3E0293EE#32 = (((Real.sqrt 128)⁻¹ * (Real.log 2)⁻¹ : ℝ) : EReal) :=
  IdealRules.named_const.ideal_named_scalar _ _ _ _ rfl
theorem log2e : Named.named (F := Ideal) κ "log2e" (φ := .f32) 0x3FB8AA3B#32 = (((Real.log 2)⁻¹ : ℝ) : EReal) :=
  IdealRules.named_const.ideal_named_scalar _ _ _ _ rfl
theorem scale : Named.named (F := Ideal) κ "scale" (φ := .f32) 0x3DB504F3#32 = (((Real.sqrt 128)⁻¹ : ℝ) : EReal) :=
  IdealRules.named_const.ideal_named_scalar _ _ _ _ rfl

/-- The weight of key `u` for row `r`. -/
def pB (r u : Fin 512) : ℝ :=
  Real.rpow 2 ((∑ d, q r d * ((Real.sqrt 128)⁻¹ * (Real.log 2)⁻¹) * k u d) - f u * (Real.log 2)⁻¹ - L r)

/-- The cotangent of that weight's score. -/
def dB (r u : Fin 512) (p : ℝ) : ℝ := p * ((∑ d, o r d * v u d) - e r)

/-- The real values of one block: a weight, after a key block that lies before the rows. -/
theorem pay16 (r u : Fin 512) :
    k0_pay16 (F := Ideal) (fun j => (k (j 0) (j 1) : EReal)) (fun j => (f (j 1) : EReal)) (fun j => (q (j 1) (j 2) : EReal)) (fun j => (L (j 1) : EReal)) (ix2 r u)
      = (pB q L k f r u : EReal) := by
  unfold k0_pay16 k0_pay15
  pointwise
  simp only [qscale, log2e, ← EReal.coe_mul, Lift.coe_sum, ← EReal.coe_sub]
  exact Ideal.exp2_coe _

theorem pay18 (r u : Fin 512) :
    k0_pay18 (F := Ideal) (fun j => (k (j 0) (j 1) : EReal)) (fun j => (v (j 0) (j 1) : EReal)) (fun j => (f (j 1) : EReal)) (fun j => (q (j 1) (j 2) : EReal))
      (fun j => (o (j 0) (j 1) : EReal)) (fun j => (L (j 1) : EReal)) (fun j => (e (j 1) : EReal)) (ix2 r u)
      = (dB o e v r u (pB q L k f r u) : EReal) := by
  unfold k0_pay18
  pointwise
  rw [pay16]
  simp only [← EReal.coe_mul, Lift.coe_sum, ← EReal.coe_sub]
  rfl

theorem pay17 (A : FVec Ideal S512x128 .f32) (u : Fin 512) (d : Fin 128) :
    k0_pay17 (F := Ideal) (fun j => (k (j 0) (j 1) : EReal)) (fun j => (f (j 1) : EReal)) A (fun j => (q (j 1) (j 2) : EReal))
      (fun j => (o (j 0) (j 1) : EReal)) (fun j => (L (j 1) : EReal)) (ix2 u d)
      = A (ix2 u d) + ((∑ r, pB q L k f r u * o r d : ℝ) : EReal) := by
  unfold k0_pay17
  pointwise
  simp only [pay16, ← EReal.coe_mul, Lift.coe_sum]

theorem pay19 (A : FVec Ideal S512x128 .f32) (u : Fin 512) (d : Fin 128) :
    k0_pay19 (F := Ideal) (fun j => (k (j 0) (j 1) : EReal)) (fun j => (v (j 0) (j 1) : EReal)) (fun j => (f (j 1) : EReal)) A (fun j => (q (j 1) (j 2) : EReal))
      (fun j => (o (j 0) (j 1) : EReal)) (fun j => (L (j 1) : EReal)) (fun j => (e (j 1) : EReal)) (ix2 u d)
      = A (ix2 u d) + ((∑ r, dB o e v r u (pB q L k f r u) * q r d : ℝ) : EReal) := by
  unfold k0_pay19 k0_pay15
  pointwise
  simp only [pay18, ← EReal.coe_mul, Lift.coe_sum]

theorem pay20 (A : FVec Ideal S1x512 .f32) (u : Fin 512) :
    k0_pay20 (F := Ideal) (fun j => (k (j 0) (j 1) : EReal)) (fun j => (v (j 0) (j 1) : EReal)) (fun j => (f (j 1) : EReal)) A (fun j => (q (j 1) (j 2) : EReal))
      (fun j => (o (j 0) (j 1) : EReal)) (fun j => (L (j 1) : EReal)) (fun j => (e (j 1) : EReal)) (ix2 0 u)
      = A (ix2 0 u) - ((∑ r, dB o e v r u (pB q L k f r u) : ℝ) : EReal) := by
  unfold k0_pay20
  pointwise
  simp only [pay18, Lift.coe_sum]

/-- The weight in the diagonal block: zero for a later key. -/
def mB (r u : Fin 512) : ℝ := if u ≤ r then pB q L k f r u else 0

theorem pay10 (r u : Fin 512) :
    k0_pay10 (F := Ideal) (k0_pay9 (fun j => (k (j 1) (j 2) : EReal)) (fun j => (f (j 3) : EReal)) (fun j => (q (j 1) (j 2) : EReal)) (fun j => (L (j 1) : EReal))) (ix2 r u)
      = (mB q L k f r u : EReal) := by
  unfold k0_pay10 k0_pay9 k0_pay2 k0_pay4 k0_pay8
  pointwise
  simp only [qscale, log2e, ← EReal.coe_mul, Lift.coe_sum, ← EReal.coe_sub]
  rw [WordCmp.cmpi_sle_ofNat (by omega) (by omega), Lift.neg_inf]
  by_cases h : u ≤ r
  · have h' : decide (u.val ≤ r.val) = true := decide_eq_true h
    simp only [h', mB, if_pos h, BitVec.ofBool_true, Scalar.select, if_true, ← EReal.coe_sub]
    exact Ideal.exp2_coe _
  · have h' : decide (u.val ≤ r.val) = false := decide_eq_false h
    simp only [h', mB, if_neg h, BitVec.ofBool_false, Scalar.select, EReal.bot_sub]
    exact Ideal.exp2_bot

theorem pay12 (r u : Fin 512) (s : FVec Ideal S512x512 .f32) (p : Fin 512 → Fin 512 → ℝ) (hp : ∀ r u, k0_pay10 (F := Ideal) s (ix2 r u) = (p r u : EReal)) :
    k0_pay12 (F := Ideal) (fun j => (v (j 0) (j 1) : EReal)) (fun j => (o (j 0) (j 1) : EReal)) s (fun j => (e (j 1) : EReal)) (ix2 r u)
      = (dB o e v r u (p r u) : EReal) := by
  unfold k0_pay12
  pointwise
  rw [hp]
  simp only [← EReal.coe_mul, Lift.coe_sum, ← EReal.coe_sub]
  rfl

theorem pay11 (u : Fin 512) (d : Fin 128) (s : FVec Ideal S512x512 .f32) (p : Fin 512 → Fin 512 → ℝ) (hp : ∀ r u, k0_pay10 (F := Ideal) s (ix2 r u) = (p r u : EReal)) :
    k0_pay11 (F := Ideal) (k0_pay6 (F := Ideal)) (fun j => (o (j 0) (j 1) : EReal)) s (ix2 u d) = ((∑ r, p r u * o r d : ℝ) : EReal) := by
  unfold k0_pay11 k0_pay6
  pointwise
  simp only [hp, ← EReal.coe_mul, Lift.coe_sum]

theorem pay13 (u : Fin 512) (d : Fin 128) (s : FVec Ideal S512x512 .f32) (p : Fin 512 → Fin 512 → ℝ) (hp : ∀ r u, k0_pay10 (F := Ideal) s (ix2 r u) = (p r u : EReal)) :
    k0_pay13 (F := Ideal) (fun j => (v (j 0) (j 1) : EReal)) (k0_pay5 (F := Ideal)) (fun j => (q (j 0) (j 1) : EReal)) (fun j => (o (j 0) (j 1) : EReal)) s
      (fun j => (e (j 1) : EReal)) (ix2 u d) = ((∑ r, dB o e v r u (p r u) * q r d : ℝ) : EReal) := by
  unfold k0_pay13 k0_pay5
  pointwise
  simp only [pay12 o e v _ _ s p hp, ← EReal.coe_mul, Lift.coe_sum]

theorem pay14 (u : Fin 512) (s : FVec Ideal S512x512 .f32) (p : Fin 512 → Fin 512 → ℝ) (hp : ∀ r u, k0_pay10 (F := Ideal) s (ix2 r u) = (p r u : EReal)) :
    k0_pay14 (F := Ideal) (fun j => (v (j 0) (j 1) : EReal)) (k0_pay7 (F := Ideal)) (fun j => (o (j 0) (j 1) : EReal)) s
      (fun j => (e (j 1) : EReal)) (ix2 0 u) = ((0 - ∑ r, dB o e v r u (p r u) : ℝ) : EReal) := by
  unfold k0_pay14 k0_pay7
  pointwise
  simp only [pay12 o e v _ _ s p hp, Lift.coe_sum]
  rw [EReal.coe_sub]; rfl

/-- The blocks as they are loaded, without their unit axes. -/
theorem pay2 : k0_pay2 (F := Ideal) (fun j => (k (j 1) (j 2) : EReal)) = fun j => (k (j 0) (j 1) : EReal) := by
  funext j; idx_vars j; unfold k0_pay2; pointwise
theorem pay3 : k0_pay3 (F := Ideal) (fun j => (v (j 1) (j 2) : EReal)) = fun j => (v (j 0) (j 1) : EReal) := by
  funext j; idx_vars j; unfold k0_pay3; pointwise
theorem pay4 : k0_pay4 (F := Ideal) (fun j => (f (j 3) : EReal)) = fun j => (f (j 1) : EReal) := by
  funext j; idx_vars j; unfold k0_pay4; pointwise
theorem pay8 : k0_pay8 (F := Ideal) (fun j => (q (j 1) (j 2) : EReal)) = fun j => (q (j 0) (j 1) : EReal) := by
  funext j; idx_vars j; unfold k0_pay8; pointwise

/-- The block of the keys' gradient that is stored, its sum being real. -/
theorem pay27 (A : FVec Ideal S512x128 .f32) (u : Fin 512) (d : Fin 128) (a : ℝ) (h : A (ix2 u d) = (a : EReal)) :
    k0_pay27 (F := Ideal) A (ix3 0 u d) = ((a * (Real.sqrt 128)⁻¹ : ℝ) : EReal) := by
  unfold k0_pay27
  pointwise
  rw [h, scale, EReal.coe_mul]

theorem pay28 (A : FVec Ideal S512x128 .f32) (u : Fin 512) (d : Fin 128) : k0_pay28 (F := Ideal) A (ix3 0 u d) = A (ix2 u d) := by
  unfold k0_pay28
  pointwise

theorem pay1 (A : FVec Ideal S1x512 .f32) (u : Fin 512) : k0_pay1 (F := Ideal) A (ix4 0 0 0 u) = A (ix2 0 u) := by
  unfold k0_pay1
  pointwise

end Cert.KernelIdeal.Own

end
-- ==== Proof.Out.lean ====
/- What one grid point of the kernel writes, at real inputs: the sums over the diagonal block of rows and over the blocks after it. -/
module

public import proofs.«01_k».proof.Proof.Gen.KernelIdeal.Value
public import proofs.«01_k».proof.Proof.Loop
public import proofs.«01_k».proof.Proof.Block

@[expose] public section

set_option maxRecDepth 16384

noncomputable section

namespace Cert.KernelIdeal.Own

open Cert.KernelIdeal Cert.KernelIdeal.Gen Idealize.ShloMosaic Idealize.ShloMosaic.TcCoe Idealize.SL.Sem

variable (m : (ℓ : Loc nD τ sig) → Buf (Elt Ideal) ℓ)

/-- The loop runs over the blocks after the grid point's own one, -/
theorem trips1 : ∀ t : Fin cfg0.N, (k0_t1_loop (grid0.coords t)).trips = 7 - (grid0.coords t 1).val :=
  (by decide +kernel : ∀ t : Fin grid0.N, (k0_t1_loop (grid0.coords t)).trips = 7 - (grid0.coords t 1).val)
/-- and its remainder over none. -/
theorem trips2 : ∀ t : Fin cfg0.N, (k0_t2_loop (grid0.coords t)).trips = 0 :=
  (by decide +kernel : ∀ t : Fin grid0.N, (k0_t2_loop (grid0.coords t)).trips = 0)
theorem off1 : ∀ t : Fin cfg0.N, k0_off1 (grid0.coords t) = ![0, (grid0.coords t 1).val * 512, 0] ∧
    k0_off2 (grid0.coords t) = ![(grid0.coords t 1).val * 512, 0] ∧ k0_off3 (grid0.coords t) = ![0, (grid0.coords t 1).val * 512, 0] :=
  (by decide +kernel : ∀ t : Fin grid0.N, k0_off1 (grid0.coords t) = ![0, (grid0.coords t 1).val * 512, 0] ∧
    k0_off2 (grid0.coords t) = ![(grid0.coords t 1).val * 512, 0] ∧ k0_off3 (grid0.coords t) = ![0, (grid0.coords t 1).val * 512, 0])
theorem off4 : ∀ (t : Fin cfg0.N) (k : Fin (k0_t1_loop (grid0.coords t)).trips),
    k0_off4 (grid0.coords t) k = ![0, ((grid0.coords t 1).val + 1 + k.val) * 512, 0] ∧
    k0_off5 (grid0.coords t) k = ![((grid0.coords t 1).val + 1 + k.val) * 512, 0] ∧ k0_off6 (grid0.coords t) k = ![0, ((grid0.coords t 1).val + 1 + k.val) * 512, 0] :=
  (by decide +kernel : ∀ (t : Fin grid0.N) (k : Fin (k0_t1_loop (grid0.coords t)).trips),
    k0_off4 (grid0.coords t) k = ![0, ((grid0.coords t 1).val + 1 + k.val) * 512, 0] ∧
    k0_off5 (grid0.coords t) k = ![((grid0.coords t 1).val + 1 + k.val) * 512, 0] ∧ k0_off6 (grid0.coords t) k = ![0, ((grid0.coords t 1).val + 1 + k.val) * 512, 0])

variable (q o : Fin 4096 → Fin 128 → ℝ) (L e : Fin 4096 → ℝ) (k v : Fin 512 → Fin 128 → ℝ) (f : Fin 512 → ℝ)

/-- Row `r` of block `n`. -/
def row (n : ℕ) (r : Fin 512) : Fin 4096 := Fin.ofNat 4096 (n * 512 + r.val)

/-- The rows of block `n`. -/
def rows {α : Type} (x : Fin 4096 → α) (n : ℕ) (r : Fin 512) : α := x (row n r)

/-- Row values loaded from row `n * 512` on. -/
theorem ld_col (n : ℕ) (off : Fin 3 → ℕ) (h : off = ![0, n * 512, 0]) (inb) :
    View.ld (Val := Elt Ideal) (e' := .f32) (fun j : S1x4096x1.Idx => (L (j 1) : EReal)) (Rect.unit (s := S1x4096x1) off S1x512x1.size inb)
      = (fun j : S1x512x1.Idx => ((rows L n (j 1) : ℝ) : EReal)) := by
  subst h
  have hn : n * 512 + 512 ≤ 4096 := inb 1
  refine funext fun (j : S1x512x1.Idx) => congrArg (fun t => ((L t : ℝ) : EReal)) (Fin.ext ?_)
  have hj : (j 1).val < 512 := (j 1).isLt
  simp [row, Nat.mod_eq_of_lt (show n * 512 + (j 1).val < 4096 by omega)]

theorem ld_rows (n : ℕ) (off : Fin 3 → ℕ) (h : off = ![0, n * 512, 0]) (inb) :
    View.ld (Val := Elt Ideal) (e' := .bf16) (fun j : S1x4096x128.Idx => (q (j 1) (j 2) : EReal)) (Rect.unit (s := S1x4096x128) off S1x512x128.size inb)
      = (fun j : S1x512x128.Idx => ((rows q n (j 1) (j 2) : ℝ) : EReal)) := by
  subst h
  have hn : n * 512 + 512 ≤ 4096 := inb 1
  refine funext fun (j : S1x512x128.Idx) => congrArg₂ (fun t d => ((q t d : ℝ) : EReal)) (Fin.ext ?_) (Fin.ext ?_)
  · have hj : (j 1).val < 512 := (j 1).isLt
    simp [row, Nat.mod_eq_of_lt (show n * 512 + (j 1).val < 4096 by omega)]
  · simp

theorem ld_mat (n : ℕ) (off : Fin 2 → ℕ) (h : off = ![n * 512, 0]) (inb) :
    View.ld (Val := Elt Ideal) (e' := .bf16) (fun j : S4096x128.Idx => (o (j 0) (j 1) : EReal)) (Rect.unit (s := S4096x128) off S512x128.size inb)
      = (fun j : S512x128.Idx => ((rows o n (j 0) (j 1) : ℝ) : EReal)) := by
  subst h
  have hn : n * 512 + 512 ≤ 4096 := inb 0
  refine funext fun (j : S512x128.Idx) => congrArg₂ (fun t d => ((o t d : ℝ) : EReal)) (Fin.ext ?_) (Fin.ext ?_)
  · have hj : (j 0).val < 512 := (j 0).isLt
    simp [row, Nat.mod_eq_of_lt (show n * 512 + (j 0).val < 4096 by omega)]
  · simp

/-- The sums after the diagonal block `b` of rows and `n` blocks of rows after it: of the values' gradient, -/
def accV (b n : ℕ) (u : Fin 512) (d : Fin 128) : ℝ :=
  (∑ r, mB (rows q b) (rows L b) k f r u * rows o b r d)
    + ∑ i ∈ Finset.range n, ∑ r, pB (rows q (b + 1 + i)) (rows L (b + 1 + i)) k f r u * rows o (b + 1 + i) r d

/-- of the keys' gradient before its scale, -/
def accK (b n : ℕ) (u : Fin 512) (d : Fin 128) : ℝ :=
  (∑ r, dB (rows o b) (rows e b) v r u (mB (rows q b) (rows L b) k f r u) * rows q b r d)
    + ∑ i ∈ Finset.range n, ∑ r, dB (rows o (b + 1 + i)) (rows e (b + 1 + i)) v r u (pB (rows q (b + 1 + i)) (rows L (b + 1 + i)) k f r u) * rows q (b + 1 + i) r d

/-- of the gates' gradient with its sign turned. -/
def accF (b n : ℕ) (u : Fin 512) : ℝ :=
  (∑ r, dB (rows o b) (rows e b) v r u (mB (rows q b) (rows L b) k f r u))
    + ∑ i ∈ Finset.range n, ∑ r, dB (rows o (b + 1 + i)) (rows e (b + 1 + i)) v r u (pB (rows q (b + 1 + i)) (rows L (b + 1 + i)) k f r u)

/-- The loop's carried values are these sums. -/
def Holds (b n : ℕ) (acc : FVec Ideal S512x128 .f32 × FVec Ideal S512x128 .f32 × FVec Ideal S1x512 .f32) : Prop :=
  (∀ u d, acc.1 (ix2 u d) = (accK q o L e k v f b n u d : EReal)) ∧ (∀ u d, acc.2.1 (ix2 u d) = (accV q o L k f b n u d : EReal)) ∧
    ∀ u, acc.2.2 (ix2 0 u) = ((-accF q o L e k v f b n u : ℝ) : EReal)

theorem holds_step (t : Fin cfg0.N) (n : Fin (k0_t1_loop (grid0.coords t)).trips) (acc) (h : Holds q o L e k v f (grid0.coords t 1).val n.val acc) :
    Holds q o L e k v f (grid0.coords t 1).val (n.val + 1) (step (grid0.coords t) (fun j => (k (j 0) (j 1) : EReal)) (fun j => (v (j 0) (j 1) : EReal)) (fun j => (f (j 1) : EReal))
      (fun j => (q (j 1) (j 2) : EReal)) (fun j => (o (j 0) (j 1) : EReal)) (fun j => (L (j 1) : EReal)) (fun j => (e (j 1) : EReal)) n acc) := by
  obtain ⟨h4, h5, h6⟩ := off4 t n
  unfold step
  rw [ld_rows q _ _ h4, ld_mat o _ _ h5, ld_col L _ _ h6, ld_col e _ _ h6]
  obtain ⟨hK, hV, hF⟩ := h
  refine ⟨fun u d => ?_, fun u d => ?_, fun u => ?_⟩
  · simp only [pay19, hK, ← EReal.coe_add, accK, Finset.sum_range_succ, add_assoc]
  · simp only [pay17, hV, ← EReal.coe_add, accV, Finset.sum_range_succ, add_assoc]
  · simp only [pay20, hF, ← EReal.coe_sub, accF, Finset.sum_range_succ]
    congr 1; ring

/-- The sums after the diagonal block. -/
theorem holds_init (b : ℕ) :
    Holds q o L e k v f b 0
      (k0_pay13 (F := Ideal) (fun j => (v (j 0) (j 1) : EReal)) k0_pay5 (fun j => ((rows q b (j 0) (j 1) : ℝ) : EReal)) (fun j => ((rows o b (j 0) (j 1) : ℝ) : EReal))
          (k0_pay9 (fun j => (k (j 1) (j 2) : EReal)) (fun j => (f (j 3) : EReal)) (fun j => ((rows q b (j 1) (j 2) : ℝ) : EReal)) (fun j => ((rows L b (j 1) : ℝ) : EReal))) (fun j => ((rows e b (j 1) : ℝ) : EReal)),
        k0_pay11 (F := Ideal) k0_pay6 (fun j => ((rows o b (j 0) (j 1) : ℝ) : EReal))
          (k0_pay9 (fun j => (k (j 1) (j 2) : EReal)) (fun j => (f (j 3) : EReal)) (fun j => ((rows q b (j 1) (j 2) : ℝ) : EReal)) (fun j => ((rows L b (j 1) : ℝ) : EReal))),
        k0_pay14 (F := Ideal) (fun j => (v (j 0) (j 1) : EReal)) k0_pay7 (fun j => ((rows o b (j 0) (j 1) : ℝ) : EReal))
          (k0_pay9 (fun j => (k (j 1) (j 2) : EReal)) (fun j => (f (j 3) : EReal)) (fun j => ((rows q b (j 1) (j 2) : ℝ) : EReal)) (fun j => ((rows L b (j 1) : ℝ) : EReal))) (fun j => ((rows e b (j 1) : ℝ) : EReal))) := by
  have hp := pay10 (rows q b) (rows L b) k f
  refine ⟨fun u d => ?_, fun u d => ?_, fun u => ?_⟩
  · refine (pay13 (rows q b) (rows o b) (rows e b) v u d _ _ hp).trans ?_; simp [accK]
  · refine (pay11 (rows o b) u d _ _ hp).trans ?_; simp [accV]
  · refine (pay14 (rows o b) (rows e b) v u _ _ hp).trans ?_; simp [accF]

theorem ix3_of_val (x : S1x512x128.Idx) {u : Fin 512} {d : Fin 128} (h0 : (x 0).val = 0) (h1 : u.val = (x 1).val) (h2 : d.val = (x 2).val) : x = ix3 0 u d := by
  idx_vars x
  have e0 : _ = (0 : Fin 1) := Fin.ext h0
  have e1 : _ = u := Fin.ext h1.symm
  have e2 : _ = d := Fin.ext h2.symm
  simp_all

/-- The stored pair read back: the scaled sum `A` in slot 0, the sum `B` in slot 1. -/
theorem pair (A B : FVec Ideal S512x128 .f32) (u : Fin 512) (d : Fin 128) (a b : ℝ) (hA : A (ix2 u d) = (a : EReal)) (hB : B (ix2 u d) = (b : EReal)) (i : Fin 2) :
    View.canon (Val := Elt Ideal) (e := .bf16)
        [⟨Rect.unit (s := S2x512x128) ![1, 0, 0] S1x512x128.size inb_S2x512x128_S1x512x128_1_0_0, k0_pay28 B⟩,
          ⟨Rect.unit (s := S2x512x128) ![0, 0, 0] S1x512x128.size inb_S2x512x128_S1x512x128_0_0_0, k0_pay27 A⟩] (ix3 i u d)
      = ((if i = 0 then a * (Real.sqrt 128)⁻¹ else b : ℝ) : EReal) := by
  canon_tiles x hx
  · have h0 : i.val = 1 + (x 0).val := hx0
    rw [show x = ix3 0 u d from ix3_of_val x (by omega) hx1 hx2, pay28, hB, if_neg (show i ≠ 0 by omega)]
  · have h0 : i.val = (x 0).val := hx0
    rw [show x = ix3 0 u d from ix3_of_val x (by omega) hx1 hx2, pay27 (h := hA), if_pos (show i = 0 by omega)]

section
variable (c : Dev nD) (t : Fin cfg0.N) (arg2 : Memref sig .tc .vmem S1x4096x128 .bf16) (harg2 : arg2.IsWhole)
  (arg3 : Memref sig .tc .vmem S1x512x128 .bf16) (harg3 : arg3.IsWhole) (arg4 : Memref sig .tc .vmem S1x512x128 .bf16) (harg4 : arg4.IsWhole)
  (arg5 : Memref sig .tc .vmem S1x1x1x512 .f32) (harg5 : arg5.IsWhole) (arg6 : Memref sig .tc .vmem S4096x128 .bf16) (harg6 : arg6.IsWhole)
  (arg7 : Memref sig .tc .vmem S1x4096x1 .f32) (harg7 : arg7.IsWhole) (arg8 : Memref sig .tc .vmem S1x4096x1 .f32) (harg8 : arg8.IsWhole)
  (arg9 : Memref sig .tc .hbm S3x4096x2048 .bf16) (harg9 : arg9.IsWhole) (arg10 : Memref sig .tc .vmem S2x512x128 .bf16) (harg10 : arg10.IsWhole)
  (arg11 : Memref sig .tc .vmem S1x1x1x512 .f32) (harg11 : arg11.IsWhole) (arg1 : BitVec 32)
  (v6 v7 : FVec Ideal S512x128 .f32) (v8 : FVec Ideal S1x512 .f32) (v10 : BitVec 32) (v13 : FVec Ideal S512x128 .bf16) (v15 : Vec Ideal S512x128 .bf16)
  (v34 : FVec Ideal S512x512 .f32) (init : FVec Ideal S512x128 .f32 × FVec Ideal S512x128 .f32 × FVec Ideal S1x512 .f32)

/-- The loop's result: the sums over every block of rows from the diagonal one on. -/
theorem holds_loop (hi : Holds q o L e k v f (grid0.coords t 1).val 0 init) (n : ℕ) (hn : n = (k0_t1_loop (grid0.coords t)).trips) :
    Holds q o L e k v f (grid0.coords t 1).val (7 - (grid0.coords t 1).val)
      (st_k0_t1 (F := Ideal) Variants.none c none (grid0.coords t) arg2 harg2 arg3 harg3 arg4 harg4 arg5 harg5 arg6 harg6 arg7 harg7 arg8 harg8 arg9 harg9 arg10 harg10 arg11 harg11
      arg1 (fun j => (k (j 0) (j 1) : EReal)) (fun j => (v (j 0) (j 1) : EReal)) (fun j => (f (j 1) : EReal)) v6 v7 v8 v10 v13 v15 v34
      (harg2.unread fun j => (q (j 1) (j 2) : EReal)) (harg6.unread fun j => (o (j 0) (j 1) : EReal)) (harg7.unread fun j => (L (j 1) : EReal)) (harg8.unread fun j => (e (j 1) : EReal)) init n) := by
  rw [← trips1 t]
  subst hn
  exact loop_ind (M := Holds q o L e k v f (grid0.coords t 1).val) (h0 := hi) (hs := fun n acc h => holds_step q o L e k v f t n acc h) (hn := le_rfl) ..

/-- The remainder loop adds nothing. -/
theorem rest_zero (i : grid0.Coords) (v1 v3 : FVec Ideal S512x128 .bf16) (v5 : FVec Ideal S1x512 .f32) (X2 X6 X7 X8) (n : ℕ) (hn : n = 0) :
    st_k0_t2 (F := Ideal) Variants.none c none i arg2 harg2 arg3 harg3 arg4 harg4 arg5 harg5 arg6 harg6 arg7 harg7 arg8 harg8 arg9 harg9 arg10 harg10 arg11 harg11
      arg1 v1 v3 v5 v6 v7 v8 v10 v13 v15 v34 X2 X6 X7 X8 init n = init := by
  subst hn; rfl

/-- The inputs of a grid point, as blocks of real numbers. -/
structure RealIn (x0 : Vec Ideal S1x4096x128 .bf16) (x1 x2 : Vec Ideal S1x512x128 .bf16) (x3 : Vec Ideal S1x1x1x512 .f32) (x4 : Vec Ideal S4096x128 .bf16)
    (x5 x6 : Vec Ideal S1x4096x1 .f32) : Prop where
  q : x0 = fun j => (q (j 1) (j 2) : EReal)
  k : x1 = fun j => (k (j 1) (j 2) : EReal)
  v : x2 = fun j => (v (j 1) (j 2) : EReal)
  f : x3 = fun j => (f (j 3) : EReal)
  o : x4 = fun j => (o (j 0) (j 1) : EReal)
  L : x5 = fun j => (L (j 1) : EReal)
  e : x6 = fun j => (e (j 1) : EReal)

variable (x0 : Vec Ideal S1x4096x128 .bf16) (x1 x2 : Vec Ideal S1x512x128 .bf16) (x3 : Vec Ideal S1x1x1x512 .f32) (x4 : Vec Ideal S4096x128 .bf16)
  (x5 x6 : Vec Ideal S1x4096x1 .f32) (hx : RealIn q o L e k v f x0 x1 x2 x3 x4 x5 x6)
include hx

/-- The block of the gates' gradient. -/
theorem out_F (u : Fin 512) :
    out0_A_8 (F := Ideal) c (grid0.coords t) arg2 harg2 arg3 harg3 arg4 harg4 arg5 harg5 arg6 harg6 arg7 harg7 arg8 harg8 arg10 harg10 arg11 harg11 x0 x1 x2 x3 x4 x5 x6 (ix4 0 0 0 u)
      = ((-accF q o L e k v f (grid0.coords t 1).val (7 - (grid0.coords t 1).val) u : ℝ) : EReal) := by
  obtain ⟨h1, h2, h3⟩ := off1 t
  obtain ⟨rfl, rfl, rfl, rfl, rfl, rfl, rfl⟩ := hx
  frame_out
  rw [ld_rows q _ _ h1, ld_mat o _ _ h2, ld_col L _ _ h3, ld_col e _ _ h3, pay2, pay3, pay4, pay8, pay1]
  refine (congrArg (fun x : FVec Ideal S512x128 .f32 × FVec Ideal S512x128 .f32 × FVec Ideal S1x512 .f32 => x.2.2 (ix2 0 u)) (rest_zero (hn := trips2 t) ..)).trans ?_
  exact (holds_loop (hi := holds_init q o L e k v f _) (hn := rfl) ..).2.2 u

set_option maxHeartbeats 1000000 in
/-- The blocks of the keys' and of the values' gradients: the two slots of the stored pair. -/
theorem out_KV (i : Fin 2) (u : Fin 512) (d : Fin 128) :
    out0_A_7 (F := Ideal) c (grid0.coords t) arg2 harg2 arg3 harg3 arg4 harg4 arg5 harg5 arg6 harg6 arg7 harg7 arg8 harg8 arg10 harg10 arg11 harg11 x0 x1 x2 x3 x4 x5 x6 (ix3 i u d)
      = ((if i = 0 then accK q o L e k v f (grid0.coords t 1).val (7 - (grid0.coords t 1).val) u d * (Real.sqrt 128)⁻¹
          else accV q o L k f (grid0.coords t 1).val (7 - (grid0.coords t 1).val) u d : ℝ) : EReal) := by
  obtain ⟨h1, h2, h3⟩ := off1 t
  obtain ⟨rfl, rfl, rfl, rfl, rfl, rfl, rfl⟩ := hx
  frame_out
  rw [ld_rows q _ _ h1, ld_mat o _ _ h2, ld_col L _ _ h3, ld_col e _ _ h3, pay2, pay3, pay4, pay8]
  rw [rest_zero (hn := trips2 t)]
  exact pair _ _ u d _ _ ((holds_loop (hi := holds_init q o L e k v f _) (hn := rfl) ..).1 u d) ((holds_loop (hi := holds_init q o L e k v f _) (hn := rfl) ..).2.1 u d) i
end

end Cert.KernelIdeal.Own

end
-- ==== Proof.Model.lean ====
/- Forgetting attention of one head over the real numbers, and the gradients of its keys, values and gates.
   `q`, `k`, `v` are the rows of the head, `o` the cotangent of its result, `F` the cumulative log gates. -/
module

public import Mathlib.Analysis.SpecialFunctions.Exp
public import Mathlib.Analysis.SpecialFunctions.Log.Basic
public import Mathlib.Analysis.SpecialFunctions.Pow.Real

@[expose] public section

noncomputable section

namespace Cert.Model

variable {T D : Nat}

/-- The score of key `u` for query `t`, without the term that is the same for the whole row. -/
def sc (q k : Fin T → Fin D → ℝ) (F : Fin T → ℝ) (t u : Fin T) : ℝ :=
  (∑ d, q t d * k u d) * (Real.sqrt 128)⁻¹ - F u

/-- The unnormalised weight of key `u` for query `t`: zero for a later key. -/
def W (q k : Fin T → Fin D → ℝ) (F : Fin T → ℝ) (t u : Fin T) : ℝ :=
  if u ≤ t then Real.exp (sc q k F t u) else 0

/-- The normaliser of a row. -/
def Z (q k : Fin T → Fin D → ℝ) (F : Fin T → ℝ) (t : Fin T) : ℝ := ∑ u, W q k F t u

/-- The attention weight. -/
def P (q k : Fin T → Fin D → ℝ) (F : Fin T → ℝ) (t u : Fin T) : ℝ := W q k F t u / Z q k F t

/-- The cotangent of a weight. -/
def DP (v o : Fin T → Fin D → ℝ) (t u : Fin T) : ℝ := ∑ d, o t d * v u d

/-- The mean of the weights' cotangents over a row. -/
def DL (q k v o : Fin T → Fin D → ℝ) (F : Fin T → ℝ) (t : Fin T) : ℝ := ∑ u, P q k F t u * DP v o t u

/-- The cotangent of a score. -/
def DS (q k v o : Fin T → Fin D → ℝ) (F : Fin T → ℝ) (t u : Fin T) : ℝ :=
  P q k F t u * (DP v o t u - DL q k v o F t)

/-- The gradient of the values. -/
def DV (q k o : Fin T → Fin D → ℝ) (F : Fin T → ℝ) (u : Fin T) (d : Fin D) : ℝ := ∑ t, P q k F t u * o t d

/-- The gradient of the keys. -/
def DK (q k v o : Fin T → Fin D → ℝ) (F : Fin T → ℝ) (u : Fin T) (d : Fin D) : ℝ :=
  (∑ t, DS q k v o F t u * q t d) * (Real.sqrt 128)⁻¹

/-- The gradient of the queries. -/
def DQ (q k v o : Fin T → Fin D → ℝ) (F : Fin T → ℝ) (t : Fin T) (d : Fin D) : ℝ :=
  (∑ u, DS q k v o F t u * k u d) * (Real.sqrt 128)⁻¹

/-- The gradient of the gates. -/
def DF (q k v o : Fin T → Fin D → ℝ) (F : Fin T → ℝ) (u : Fin T) : ℝ := -∑ t, DS q k v o F t u

variable (q k v o : Fin T → Fin D → ℝ) (F : Fin T → ℝ)

theorem W_nonneg (t u : Fin T) : 0 ≤ W q k F t u := by
  unfold W; split
  · exact (Real.exp_pos _).le
  · exact le_rfl

theorem Z_pos (t : Fin T) : 0 < Z q k F t := by
  refine Finset.sum_pos' (fun u _ => W_nonneg q k F t u) ⟨t, Finset.mem_univ _, ?_⟩
  simp [W, Real.exp_pos]

/-- No weight falls on a later key. -/
theorem P_later {t u : Fin T} (h : t < u) : P q k F t u = 0 := by simp [P, W, not_le.mpr h]

theorem DS_later {t u : Fin T} (h : t < u) : DS q k v o F t u = 0 := by simp [DS, P_later q k F h]

/-- The weight as one exponential: the saved logarithm of the normaliser is subtracted from the score. -/
theorem P_exp {t u : Fin T} (h : u ≤ t) : P q k F t u = Real.exp (sc q k F t u - Real.log (Z q k F t)) := by
  rw [Real.exp_sub, Real.exp_log (Z_pos q k F t)]
  simp [P, W, h]

/-- The weights of a row add up to one. -/
theorem P_sum (t : Fin T) : ∑ u, P q k F t u = 1 := by
  simp only [P, div_eq_mul_inv, ← Finset.sum_mul]
  exact mul_inv_cancel₀ (Z_pos q k F t).ne'

/-- The cotangents of a row's scores add up to zero, so a term common to the row has no gradient. -/
theorem DS_sum (t : Fin T) : ∑ u, DS q k v o F t u = 0 := by
  have h : ∀ u, DS q k v o F t u = P q k F t u * DP v o t u - P q k F t u * DL q k v o F t := fun u => by
    unfold DS; ring
  simp only [h, Finset.sum_sub_distrib, ← Finset.sum_mul, P_sum, one_mul]
  exact sub_self _

/-- The weights do not change when a number `c` of the row is added to its scores. -/
theorem P_shift (t u : Fin T) (c : ℝ) :
    (if u ≤ t then Real.exp (sc q k F t u + c) else 0) / (∑ u', if u' ≤ t then Real.exp (sc q k F t u' + c) else 0)
      = P q k F t u := by
  have h : ∀ u', (if u' ≤ t then Real.exp (sc q k F t u' + c) else 0) = W q k F t u' * Real.exp c := fun u' => by
    unfold W; split <;> simp [Real.exp_add]
  simp only [h, ← Finset.sum_mul]
  exact mul_div_mul_right _ _ (Real.exp_pos c).ne'

/-- The logarithm of the normaliser from the shifted sum. -/
theorem log_Z_shift (t : Fin T) (c : ℝ) :
    c + Real.log (∑ u, if u ≤ t then Real.exp (sc q k F t u - c) else 0) = Real.log (Z q k F t) := by
  have h : ∀ u, (if u ≤ t then Real.exp (sc q k F t u - c) else 0) = W q k F t u * Real.exp (-c) := fun u => by
    unfold W; split <;> simp [Real.exp_add, sub_eq_add_neg]
  simp only [h, ← Finset.sum_mul]
  show c + Real.log (Z q k F t * Real.exp (-c)) = _
  rw [Real.log_mul (Z_pos q k F t).ne' (Real.exp_pos _).ne', Real.log_exp]
  ring

/-- A sum over `m * b` rows, block by block, of a function that vanishes before block `j`:
    block `j` and the `m - j - 1` blocks after it. -/
theorem sum_from_block {m b : Nat} (f : Fin (m * b) → ℝ) (g : Nat → Fin b → ℝ)
    (hg : ∀ (i : Fin m) (r : Fin b) (t : Fin (m * b)), t.val = i.val * b + r.val → f t = g i.val r) (j : Nat) (hj : j < m)
    (hz : ∀ i < j, ∀ r, g i r = 0) :
    ∑ t, f t = (∑ r, g j r) + ∑ n ∈ Finset.range (m - j - 1), ∑ r, g (j + 1 + n) r := by
  have h1 : ∑ t, f t = ∑ i : Fin m, ∑ r : Fin b, g i.val r := by
    rw [← Fintype.sum_prod_type', ← (finProdFinEquiv (m := m) (n := b)).sum_comp]
    refine Finset.sum_congr rfl fun x _ => hg x.1 x.2 _ ?_
    simp [finProdFinEquiv, Nat.mul_comm, Nat.add_comm]
  rw [h1, Fin.sum_univ_eq_sum_range (fun i => ∑ r, g i r) m]
  have hm : m = j + (1 + (m - j - 1)) := by omega
  conv_lhs => rw [hm]
  rw [Finset.sum_range_add, Finset.sum_eq_zero (fun i hi => ?_), zero_add, Finset.sum_range_add]
  · simp [Nat.add_assoc]
  · exact Finset.sum_eq_zero fun r _ => hz i (Finset.mem_range.mp hi) r

end Cert.Model

end

end
-- ==== Proof.Sums.lean ====
/- The sums that the kernel forms block by block are the gradients of the model. -/
module

public import proofs.«01_k».proof.Proof.Out
public import proofs.«01_k».proof.Proof.Model

@[expose] public section

set_option maxRecDepth 16384

noncomputable section

namespace Cert.KernelIdeal.Own

open Cert.KernelIdeal Cert.Model

variable (q k v o : Fin 4096 → Fin 128 → ℝ) (F : Fin 4096 → ℝ)

/-- A row's log-sum as it is saved, in base 2. -/
def lse (t : Fin 4096) : ℝ := Real.log (Z q k F t) * (Real.log 2)⁻¹

theorem row_val (b : ℕ) (hb : b < 8) (r : Fin 512) : (row b r).val = b * 512 + r.val := by
  have := r.isLt
  exact Nat.mod_eq_of_lt (by omega)

/-- The kernel's power of two is the attention weight, for a key that isn't later than the row. -/
theorem pB_eq (n b : ℕ) (r u : Fin 512) (h : row b u ≤ row n r) :
    pB (rows q n) (rows (lse q k F) n) (rows k b) (rows F b) r u = P q k F (row n r) (row b u) := by
  rw [P_exp q k F h, ← Lift.two_rpow]
  unfold pB
  congr 1
  simp only [rows, lse, sc, sub_mul, Finset.sum_mul]
  congr 2
  exact Finset.sum_congr rfl fun d _ => by ring

theorem mB_eq (b : ℕ) (hb : b < 8) (r u : Fin 512) :
    mB (rows q b) (rows (lse q k F) b) (rows k b) (rows F b) r u = P q k F (row b r) (row b u) := by
  unfold mB
  split
  · next h => exact pB_eq q k F b b r u (by rw [Fin.le_def, row_val b hb, row_val b hb]; have := Fin.le_def.mp h; omega)
  · next h => exact (P_later q k F (by rw [Fin.lt_def, row_val b hb, row_val b hb]; have := Fin.lt_def.mp (not_le.mp h); omega)).symm

theorem dB_eq (n b : ℕ) (r u : Fin 512) (p : ℝ) (hp : p = P q k F (row n r) (row b u)) :
    dB (rows o n) (rows (DL q k v o F) n) (rows v b) r u p = DS q k v o F (row n r) (row b u) := by
  subst hp; rfl

/-- A sum over all rows of what vanishes at the rows before block `b`. -/
theorem sum_rows (f : Fin 4096 → ℝ) (b : ℕ) (hb : b < 8) (hz : ∀ i < b, ∀ r, f (row i r) = 0) :
    ∑ t, f t = (∑ r, f (row b r)) + ∑ n ∈ Finset.range (7 - b), ∑ r, f (row (b + 1 + n) r) := by
  rw [show 7 - b = 8 - b - 1 by omega]
  exact sum_from_block (m := 8) (b := 512) f (fun i r => f (row i r)) (fun i r t h => congrArg f (Fin.ext (by rw [row_val i.val i.isLt, h]))) b hb hz

theorem row_lt {i b : ℕ} (h : i < b) (hb : b < 8) (r u : Fin 512) : row i r < row b u := by
  rw [Fin.lt_def, row_val i (by omega), row_val b hb]
  omega

theorem row_le {i b : ℕ} (h : b < i) (hi : i < 8) (r u : Fin 512) : row b u ≤ row i r := (row_lt h hi u r).le

theorem accV_eq (b : ℕ) (hb : b < 8) (u : Fin 512) (d : Fin 128) :
    accV q o (lse q k F) (rows k b) (rows F b) b (7 - b) u d = DV q k o F (row b u) d := by
  unfold DV accV
  rw [sum_rows _ b hb fun i hi r => by rw [P_later q k F (row_lt hi hb r u), zero_mul]]
  congr 1
  · exact Finset.sum_congr rfl fun r _ => by rw [mB_eq q k F b hb]; rfl
  · exact Finset.sum_congr rfl fun n hn => Finset.sum_congr rfl fun r _ => by
      have := Finset.mem_range.mp hn
      rw [pB_eq q k F _ b r u (row_le (by omega) (by omega) r u)]; rfl

theorem accK_eq (b : ℕ) (hb : b < 8) (u : Fin 512) (d : Fin 128) :
    accK q o (lse q k F) (DL q k v o F) (rows k b) (rows v b) (rows F b) b (7 - b) u d * (Real.sqrt 128)⁻¹ = DK q k v o F (row b u) d := by
  unfold DK accK
  congr 1
  rw [sum_rows _ b hb fun i hi r => by rw [DS_later q k v o F (row_lt hi hb r u), zero_mul]]
  congr 1
  · exact Finset.sum_congr rfl fun r _ => by rw [dB_eq q k v o F b b r u _ (mB_eq q k F b hb r u)]; rfl
  · exact Finset.sum_congr rfl fun n hn => Finset.sum_congr rfl fun r _ => by
      have := Finset.mem_range.mp hn
      rw [dB_eq q k v o F _ b r u _ (pB_eq q k F _ b r u (row_le (by omega) (by omega) r u))]; rfl

theorem accF_eq (b : ℕ) (hb : b < 8) (u : Fin 512) :
    -accF q o (lse q k F) (DL q k v o F) (rows k b) (rows v b) (rows F b) b (7 - b) u = DF q k v o F (row b u) := by
  unfold DF accF
  congr 1
  rw [sum_rows (fun t => DS q k v o F t (row b u)) b hb fun i hi r => DS_later q k v o F (row_lt hi hb r u)]
  congr 1
  · exact Finset.sum_congr rfl fun r _ => dB_eq q k v o F b b r u _ (mB_eq q k F b hb r u)
  · exact Finset.sum_congr rfl fun n hn => Finset.sum_congr rfl fun r _ => by
      have := Finset.mem_range.mp hn
      exact dB_eq q k v o F _ b r u _ (pB_eq q k F _ b r u (row_le (by omega) (by omega) r u))

end Cert.KernelIdeal.Own

end
-- ==== Proof.Host.lean ====
/- What the host hands the kernel: each row's log-sum in base 2, its delta, and the gates by blocks. -/
module

public import proofs.«01_k».proof.Proof.Gen.KernelIdeal.Value
public import proofs.«01_k».proof.Proof.Model
public import proofs.«01_k».proof.Proof.Lift
public import Idealize.ShloMosaic.Lib.Pointwise
public import Idealize.ShloMosaic.Lib.Claim
public import Idealize.ShloMosaic.Lib.WordCmp
public import Idealize.ShloMosaic.Lib.StableHlo.RunRead
public import Idealize.ShloMosaic.Lib.Pipeline.ValueKit

@[expose] public section

set_option maxRecDepth 16384

noncomputable section

namespace Cert.KernelIdeal.Own

open Cert.KernelIdeal Cert.KernelIdeal.Gen Idealize.ShloMosaic Idealize.ShloMosaic.TcCoe Idealize.SL.Sem

/-- A number of heads of one of the three arrays of `qkv`, as (row, head, element). -/
def hq (X : Vec Ideal S3x4096x2048 .bf16) : Vec Ideal S4096x16x128 .f32 :=
  shapeCast S4096x16x128 (extf (F := Ideal) (φ := .bf16) .f32 (shapeCast S4096x2048 (extractStridedSlice S1x4096x2048 ![0, 0, 0] X slices_S3x4096x2048_S1x4096x2048_0_0_0) shapeCasts_S1x4096x2048_S4096x2048) bitsLt_bf16_f32) shapeCasts_S4096x2048_S4096x16x128
def hk (X : Vec Ideal S3x4096x2048 .bf16) : Vec Ideal S4096x16x128 .f32 :=
  shapeCast S4096x16x128 (extf (F := Ideal) (φ := .bf16) .f32 (shapeCast S4096x2048 (extractStridedSlice S1x4096x2048 ![1, 0, 0] X slices_S3x4096x2048_S1x4096x2048_1_0_0) shapeCasts_S1x4096x2048_S4096x2048) bitsLt_bf16_f32) shapeCasts_S4096x2048_S4096x16x128
def hv (X : Vec Ideal S3x4096x2048 .bf16) : Vec Ideal S4096x16x128 .f32 :=
  shapeCast S4096x16x128 (extf (F := Ideal) (φ := .bf16) .f32 (shapeCast S4096x2048 (extractStridedSlice S1x4096x2048 ![2, 0, 0] X slices_S3x4096x2048_S1x4096x2048_2_0_0) shapeCasts_S1x4096x2048_S4096x2048) bitsLt_bf16_f32) shapeCasts_S4096x2048_S4096x16x128
def ho (D : Vec Ideal S4096x2048 .bf16) : Vec Ideal S4096x16x128 .f32 :=
  shapeCast S4096x16x128 (extf (F := Ideal) (φ := .bf16) .f32 D bitsLt_bf16_f32) shapeCasts_S4096x2048_S4096x16x128

/-- The masked scores without their row's term. -/
def hs (X : Vec Ideal S3x4096x2048 .bf16) (G : Vec Ideal S4096x16 .f32) : Vec Ideal S16x4096x4096 .f32 :=
  select (broadcastInDim S16x4096x4096 ![1, 2] bcast_S4096x4096_S16x4096x4096_1_2
      (cmpi .sge (broadcastInDim S4096x4096 ![0, 1] bcast_S4096x1_S4096x4096_0_1 (broadcastInDim S4096x1 ![0] bcast_S4096_S4096x1_0 (iotaInDim S4096 32 0)))
        (broadcastInDim S4096x4096 ![0, 1] bcast_S1x4096_S4096x4096_0_1 (broadcastInDim S1x4096 ![1] bcast_S4096_S1x4096_1 (iotaInDim S4096 32 0)))))
    (subf (Host.divf (Host.dotGeneral (φ₁ := .f32) (φ₂ := .f32) dot_S4096x16x128_S4096x16x128_S16x4096x4096_2_2_0_0_1_1 none (hq X) (hk X) : FVec Ideal S16x4096x4096 .f32)
        (broadcastInDim S16x4096x4096 ![] bcast_S_S16x4096x4096 (Host.sqrt (constant S_ .f32 0x43000000#32 : FVec Ideal S_ .f32))))
      (broadcastInDim S16x4096x4096 ![0, 1, 2] bcast_S16x1x4096_S16x4096x4096_0_1_2 (broadcastInDim S16x1x4096 ![0, 2] bcast_S16x4096_S16x1x4096_0_2
        (transpose S16x4096 [1, 0] G transposes_S4096x16_S16x4096_1_0))))
    (broadcastInDim S16x4096x4096 ![] bcast_S_S16x4096x4096 (constant S_ .f32 0xFF800000#32 : FVec Ideal S_ .f32))

/-- The rows' maxima, -/
def hm (s : Vec Ideal S16x4096x4096 .f32) : Vec Ideal S16x4096x1 .f32 :=
  broadcastInDim S16x4096x1 ![0, 1] bcast_S16x4096_S16x4096x1_0_1
    (Host.reduce FloatOps.maximumf s (constant S_ .f32 0xFF800000#32) reducesTo_S16x4096x4096_S16x4096_d2 h_S_ : FVec Ideal S16x4096 .f32)

/-- the exponentials, -/
def he (s : Vec Ideal S16x4096x4096 .f32) (a : Vec Ideal S16x4096x1 .f32) : Vec Ideal S16x4096x4096 .f32 :=
  Host.exp (subf s (broadcastInDim S16x4096x4096 ![0, 1, 2] bcast_S16x4096x1_S16x4096x4096_0_1_2 a) : FVec Ideal S16x4096x4096 .f32)

/-- their sums over a row, -/
def hl (x : Vec Ideal S16x4096x4096 .f32) : Vec Ideal S16x4096x1 .f32 :=
  broadcastInDim S16x4096x1 ![0, 1] bcast_S16x4096_S16x4096x1_0_1
    (Host.reduceAdd x (constant S_ .f32 0x00000000#32) reducesTo_S16x4096x4096_S16x4096_d2 h_S_ : FVec Ideal S16x4096 .f32)

/-- the log-sums, -/
def hlse (a l : Vec Ideal S16x4096x1 .f32) : Vec Ideal S16x4096x1 .f32 :=
  Host.divf (addf a (Host.log l : FVec Ideal S16x4096x1 .f32)) (broadcastInDim S16x4096x1 ![] bcast_S_S16x4096x1 (Host.log (constant S_ .f32 0x40000000#32 : FVec Ideal S_ .f32)))

/-- and the deltas. -/
def hdelta (x : Vec Ideal S16x4096x4096 .f32) (l : Vec Ideal S16x4096x1 .f32) (dp : Vec Ideal S16x4096x4096 .f32) : Vec Ideal S16x4096x1 .f32 :=
  hl (mulf (Host.divf (x : FVec Ideal S16x4096x4096 .f32) (broadcastInDim S16x4096x4096 ![0, 1, 2] bcast_S16x4096x1_S16x4096x4096_0_1_2 l)) dp : FVec Ideal S16x4096x4096 .f32)

def hdp (X : Vec Ideal S3x4096x2048 .bf16) (D : Vec Ideal S4096x2048 .bf16) : Vec Ideal S16x4096x4096 .f32 :=
  (Host.dotGeneral (φ₁ := .f32) (φ₂ := .f32) dot_S4096x16x128_S4096x16x128_S16x4096x4096_2_2_0_0_1_1 none (ho D) (hv X) : FVec Ideal S16x4096x4096 .f32)

/-- The column of the array that holds element `d` of head `h`. -/
def col (h : Fin 16) (d : Fin 128) : Fin 2048 := ⟨h.val * 128 + d.val, by omega⟩

variable (X : S3x4096x2048.Idx → ℝ) (D : S4096x2048.Idx → ℝ) (G : S4096x16.Idx → ℝ)

/-- One of the three arrays of head `h`, and the head of a plain array. -/
def part (i : Fin 3) (h : Fin 16) (t : Fin 4096) (d : Fin 128) : ℝ := X (ix3 i t (col h d))
def head (h : Fin 16) (t : Fin 4096) (d : Fin 128) : ℝ := D (ix2 t (col h d))
def gate (h : Fin 16) (t : Fin 4096) : ℝ := G (ix2 t h)

theorem hq_at (t : Fin 4096) (h : Fin 16) (d : Fin 128) : hq (fun j => (X j : EReal)) (ix3 t h d) = (part X 0 h t d : EReal) := by
  unfold hq; pointwise; rfl
theorem hk_at (t : Fin 4096) (h : Fin 16) (d : Fin 128) : hk (fun j => (X j : EReal)) (ix3 t h d) = (part X 1 h t d : EReal) := by
  unfold hk; pointwise; rfl
theorem hv_at (t : Fin 4096) (h : Fin 16) (d : Fin 128) : hv (fun j => (X j : EReal)) (ix3 t h d) = (part X 2 h t d : EReal) := by
  unfold hv; pointwise; rfl
theorem ho_at (t : Fin 4096) (h : Fin 16) (d : Fin 128) : ho (fun j => (D j : EReal)) (ix3 t h d) = (head D h t d : EReal) := by
  unfold ho; pointwise; rfl

theorem sqrt128 : (Real.sqrt 128) ≠ 0 := by positivity

open Model in
theorem hs_at (h : Fin 16) (t u : Fin 4096) :
    hs (fun j => (X j : EReal)) (fun j => (G j : EReal)) (ix3 h t u) = if u ≤ t then (sc (part X 0 h) (part X 1 h) (gate G h) t u : EReal) else ⊥ := by
  unfold hs
  pointwise
  simp only [hq_at, hk_at]
  rw [WordCmp.cmpi_sge_ofNat (by omega) (by omega), Lift.neg_inf, Lift.w128, Ideal.sqrt_coe]
  by_cases hu : u ≤ t
  · have h' : decide (u.val ≤ t.val) = true := decide_eq_true hu
    simp only [h', if_pos hu, BitVec.ofBool_true, Scalar.select, if_true, ← EReal.coe_mul, Lift.coe_sum, if_neg (show ¬ (128 : ℝ) < 0 by norm_num), Ideal.div_coe sqrt128, ← EReal.coe_sub, sc, gate, one_div]
  · have h' : decide (u.val ≤ t.val) = false := decide_eq_false hu
    simp only [h', if_neg hu, BitVec.ofBool_false, Scalar.select]
    rfl

theorem he_at (s : Vec Ideal S16x4096x4096 .f32) (a : Vec Ideal S16x4096x1 .f32) (h : Fin 16) (t u : Fin 4096) :
   he s a (ix3 h t u) = Ideal.exp (s (ix3 h t u) - a (ix3 h t 0)) := by
  unfold he; pointwise

theorem hl_at (x : Vec Ideal S16x4096x4096 .f32) (h : Fin 16) (t : Fin 4096) :
   hl x (ix3 h t 0) = ∑ u : Fin 4096, x (ix3 h t u) := by
  unfold hl; pointwise

theorem hm_at (x : Vec Ideal S16x4096x4096 .f32) (h : Fin 16) (t : Fin 4096) :
   hm x (ix3 h t 0) = Finset.univ.fold max ⊥ fun u : Fin 4096 => x (ix3 h t u) := by
  unfold hm; pointwise; rw [Lift.neg_inf]

theorem hlse_at (a l : Vec Ideal S16x4096x1 .f32) (h : Fin 16) (t : Fin 4096) :
   hlse a l (ix3 h t 0) = Ideal.div (a (ix3 h t 0) + Ideal.log (l (ix3 h t 0))) (Real.log 2 : ℝ) := by
  unfold hlse; pointwise; rw [Lift.w2, Ideal.log_coe, if_neg (by norm_num)]

theorem hdelta_at (x : Vec Ideal S16x4096x4096 .f32) (l : Vec Ideal S16x4096x1 .f32) (dp : Vec Ideal S16x4096x4096 .f32) (h : Fin 16) (t : Fin 4096) :
   hdelta x l dp (ix3 h t 0) = ∑ u : Fin 4096, Ideal.div (x (ix3 h t u)) (l (ix3 h t 0)) * dp (ix3 h t u) := by
  unfold hdelta; rw [hl_at]; pointwise

theorem hdp_at (h : Fin 16) (t u : Fin 4096) :
    hdp (fun j => (X j : EReal)) (fun j => (D j : EReal)) (ix3 h t u) = (Model.DP (part X 2 h) (head D h) t u : EReal) := by
  unfold hdp
  pointwise
  simp only [ho_at, hv_at, ← EReal.coe_mul, Lift.coe_sum]
  rfl

/-- The largest score of a row is a real number. -/
theorem max_real (h : Fin 16) (t : Fin 4096) : ∃ M : ℝ, hm (hs (fun j => (X j : EReal)) (fun j => (G j : EReal))) (ix3 h t 0) = (M : EReal) := by
  rw [hm_at]
  simp only [hs_at]
  refine Lift.fold_max_real _ (fun u => ?_) t ?_
  · split
    · exact EReal.coe_ne_top _
    · exact bot_ne_top
  · rw [if_pos le_rfl]; exact EReal.coe_ne_bot _

/-- The exponentials of a row whose largest score is `M`, -/
theorem he_real (h : Fin 16) (t : Fin 4096) (M : ℝ) (hM : hm (hs (fun j => (X j : EReal)) (fun j => (G j : EReal))) (ix3 h t 0) = (M : EReal)) (u : Fin 4096) :
    he (hs (fun j => (X j : EReal)) (fun j => (G j : EReal))) (hm (hs (fun j => (X j : EReal)) (fun j => (G j : EReal)))) (ix3 h t u)
      = ((if u ≤ t then Real.exp (Model.sc (part X 0 h) (part X 1 h) (gate G h) t u - M) else 0 : ℝ) : EReal) := by
  rw [he_at, hM, hs_at]
  split
  · rw [← EReal.coe_sub, Ideal.exp_coe]
  · rw [EReal.bot_sub, Ideal.exp_bot]; rfl

/-- and their sum, a positive number. -/
theorem hl_real (h : Fin 16) (t : Fin 4096) (M : ℝ) (hM : hm (hs (fun j => (X j : EReal)) (fun j => (G j : EReal))) (ix3 h t 0) = (M : EReal)) :
    hl (he (hs (fun j => (X j : EReal)) (fun j => (G j : EReal))) (hm (hs (fun j => (X j : EReal)) (fun j => (G j : EReal))))) (ix3 h t 0)
      = ((∑ u, if u ≤ t then Real.exp (Model.sc (part X 0 h) (part X 1 h) (gate G h) t u - M) else 0 : ℝ) : EReal) := by
  rw [hl_at]
  simp only [he_real X G h t M hM, Lift.coe_sum]

theorem sum_pos (h : Fin 16) (t : Fin 4096) (M : ℝ) :
    0 < ∑ u, if u ≤ t then Real.exp (Model.sc (part X 0 h) (part X 1 h) (gate G h) t u - M) else 0 := by
  refine Finset.sum_pos' (fun u _ => ?_) ⟨t, Finset.mem_univ _, ?_⟩
  · split
    · exact (Real.exp_pos _).le
    · exact le_rfl
  · rw [if_pos le_rfl]; exact Real.exp_pos _

/-- The saved log-sum is the logarithm of the row's normaliser, in base 2. -/
theorem hlse_real (h : Fin 16) (t : Fin 4096) :
    hlse (hm (hs (fun j => (X j : EReal)) (fun j => (G j : EReal)))) (hl (he (hs (fun j => (X j : EReal)) (fun j => (G j : EReal))) (hm (hs (fun j => (X j : EReal)) (fun j => (G j : EReal)))))) (ix3 h t 0)
      = ((Real.log (Model.Z (part X 0 h) (part X 1 h) (gate G h) t) * (Real.log 2)⁻¹ : ℝ) : EReal) := by
  obtain ⟨M, hM⟩ := max_real X G h t
  rw [hlse_at, hM, hl_real X G h t M hM, Ideal.log_coe, if_neg (not_le.mpr (sum_pos X G h t M)), ← EReal.coe_add, Model.log_Z_shift,
    Ideal.div_coe (Real.log_pos one_lt_two).ne', ← EReal.coe_mul, one_div]

/-- The saved delta is the mean of the weights' cotangents. -/
theorem hdelta_real (h : Fin 16) (t : Fin 4096) :
    hdelta (he (hs (fun j => (X j : EReal)) (fun j => (G j : EReal))) (hm (hs (fun j => (X j : EReal)) (fun j => (G j : EReal)))))
      (hl (he (hs (fun j => (X j : EReal)) (fun j => (G j : EReal))) (hm (hs (fun j => (X j : EReal)) (fun j => (G j : EReal))))))
      (hdp (fun j => (X j : EReal)) (fun j => (D j : EReal))) (ix3 h t 0)
      = (Model.DL (part X 0 h) (part X 1 h) (part X 2 h) (head D h) (gate G h) t : EReal) := by
  obtain ⟨M, hM⟩ := max_real X G h t
  rw [hdelta_at, hl_real X G h t M hM]
  simp only [he_real X G h t M hM, hdp_at, Ideal.div_coe (sum_pos X G h t M).ne', ← EReal.coe_mul, Lift.coe_sum]
  refine congrArg _ (Finset.sum_congr rfl fun u _ => ?_)
  rw [← Model.P_shift (part X 0 h) (part X 1 h) (gate G h) t u (-M)]
  simp only [sub_eq_add_neg, div_eq_mul_inv, one_mul]

variable (m : (ℓ : Loc nD τ sig) → Buf (Elt Ideal) ℓ) (c : Dev nD)

theorem V44 : V m c main_v44 = shapeCast S16x8x1x512 (transpose S16x4096 [1, 0] (m (c.tc.loc main_arg1)) transposes_S4096x16_S16x4096_1_0) shapeCasts_S16x4096_S16x8x1x512 := by
  unfold V
  simp only [List.flatten_cons, List.flatten_nil, List.append_nil]
  after_reads_simp
  rfl

theorem V49 : V m c main_v49 = hlse (hm (hs (m (c.tc.loc main_arg0)) (m (c.tc.loc main_arg1))))
    (hl (he (hs (m (c.tc.loc main_arg0)) (m (c.tc.loc main_arg1))) (hm (hs (m (c.tc.loc main_arg0)) (m (c.tc.loc main_arg1)))))) := by
  unfold V
  simp only [List.flatten_cons, List.flatten_nil, List.append_nil]
  after_reads_simp
  rfl

theorem V42 : V m c main_v42 = hdelta (he (hs (m (c.tc.loc main_arg0)) (m (c.tc.loc main_arg1))) (hm (hs (m (c.tc.loc main_arg0)) (m (c.tc.loc main_arg1)))))
    (hl (he (hs (m (c.tc.loc main_arg0)) (m (c.tc.loc main_arg1))) (hm (hs (m (c.tc.loc main_arg0)) (m (c.tc.loc main_arg1))))))
    (hdp (m (c.tc.loc main_arg0)) (m (c.tc.loc main_arg2))) := by
  unfold V
  simp only [List.flatten_cons, List.flatten_nil, List.append_nil]
  after_reads_simp
  rfl

theorem V50 : V m c main_v50_0 = m (c.tc.loc main_arg3) := by
  unfold V
  simp only [List.flatten_cons, List.flatten_nil, List.append_nil]
  after_reads_simp
  rfl

end Cert.KernelIdeal.Own

end
-- ==== Proof.Array.lean ====
/- What the two result arrays hold: the gradients of the model, head by head. -/
module

public import proofs.«01_k».proof.Proof.Sums
public import proofs.«01_k».proof.Proof.Host

@[expose] public section

set_option maxRecDepth 16384

noncomputable section

namespace Cert.KernelIdeal.Own

open Cert.KernelIdeal Cert.KernelIdeal.Gen Idealize.ShloMosaic Idealize.ShloMosaic.TcCoe Idealize.SL.Sem
open Idealize.ShloMosaic.Pipeline (Dat)

/-- The blocks of a grid point: its head's columns, its key block. -/
theorem idx : ∀ t : Fin cfg0.N, win0_0.index t = ![0, 0, (grid0.coords t 0).val] ∧ win0_1.index t = ![1, (grid0.coords t 1).val, (grid0.coords t 0).val]
      ∧ win0_2.index t = ![2, (grid0.coords t 1).val, (grid0.coords t 0).val] ∧ win0_3.index t = ![(grid0.coords t 0).val, (grid0.coords t 1).val, 0, 0]
      ∧ win0_4.index t = ![0, (grid0.coords t 0).val] ∧ win0_5.index t = ![(grid0.coords t 0).val, 0, 0] ∧ win0_6.index t = ![(grid0.coords t 0).val, 0, 0]
      ∧ win0_7.index t = ![0, (grid0.coords t 1).val, (grid0.coords t 0).val] ∧ win0_8.index t = ![(grid0.coords t 0).val, (grid0.coords t 1).val, 0, 0] :=
  (by decide +kernel : ∀ t : Fin grid0.N, win0_0.index t = ![0, 0, (grid0.coords t 0).val] ∧ win0_1.index t = ![1, (grid0.coords t 1).val, (grid0.coords t 0).val]
      ∧ win0_2.index t = ![2, (grid0.coords t 1).val, (grid0.coords t 0).val] ∧ win0_3.index t = ![(grid0.coords t 0).val, (grid0.coords t 1).val, 0, 0]
      ∧ win0_4.index t = ![0, (grid0.coords t 0).val] ∧ win0_5.index t = ![(grid0.coords t 0).val, 0, 0] ∧ win0_6.index t = ![(grid0.coords t 0).val, 0, 0]
      ∧ win0_7.index t = ![0, (grid0.coords t 1).val, (grid0.coords t 0).val] ∧ win0_8.index t = ![(grid0.coords t 0).val, (grid0.coords t 1).val, 0, 0])

variable (m : (ℓ : Loc nD τ sig) → Buf (Elt Ideal) ℓ) (c : Dev nD)
variable (X : S3x4096x2048.Idx → ℝ) (D : S4096x2048.Idx → ℝ) (G : S4096x16.Idx → ℝ)

/-- The head and the key block of a grid point. -/
def hd (t : Fin cfg0.N) : Fin 16 := ⟨(grid0.coords t 0).val, (grid0.coords t 0).isLt⟩
def kb (t : Fin cfg0.N) : Fin 8 := ⟨(grid0.coords t 1).val, (grid0.coords t 1).isLt⟩

theorem in0 (hX : m (c.tc.loc main_arg0) = fun j => (X j : EReal)) (t : Fin cfg0.N) :
    (iblk m c 0 t : Vec Ideal S1x4096x128 .bf16) = fun j => (part X 0 (hd t) (j 1) (j 2) : EReal) := by
  funext j; idx_vars j
  blk_simp [iblk]
  rw [V_main_arg0, hX]
  refine congrArg (fun i => (X i : EReal)) ?_
  blk_ext [idx t, hd, col]

theorem in1 (hX : m (c.tc.loc main_arg0) = fun j => (X j : EReal)) (t : Fin cfg0.N) :
    (iblk m c 1 t : Vec Ideal S1x512x128 .bf16) = fun j => (part X 1 (hd t) (row (kb t).val (j 1)) (j 2) : EReal) := by
  funext j; idx_vars j
  blk_simp [iblk]
  rw [V_main_arg0, hX]
  refine congrArg (fun i => (X i : EReal)) ?_
  blk_ext [idx t, hd, kb, col]
  exact (row_val (kb t).val (kb t).isLt _).symm

theorem in2 (hX : m (c.tc.loc main_arg0) = fun j => (X j : EReal)) (t : Fin cfg0.N) :
    (iblk m c 2 t : Vec Ideal S1x512x128 .bf16) = fun j => (part X 2 (hd t) (row (kb t).val (j 1)) (j 2) : EReal) := by
  funext j; idx_vars j
  blk_simp [iblk]
  rw [V_main_arg0, hX]
  refine congrArg (fun i => (X i : EReal)) ?_
  blk_ext [idx t, hd, kb, col]
  exact (row_val (kb t).val (kb t).isLt _).symm

/-- The gates by blocks. -/
theorem gates_at (h : Fin 16) (b : Fin 8) (u : Fin 512) :
    (shapeCast S16x8x1x512 (transpose S16x4096 [1, 0] (fun j => (G j : EReal)) transposes_S4096x16_S16x4096_1_0) shapeCasts_S16x4096_S16x8x1x512 : Vec Ideal S16x8x1x512 .f32)
      (ix4 h b 0 u) = (gate G h (row b.val u) : EReal) := by
  pointwise
  refine congrArg (fun i => (G i : EReal)) ?_
  blk_ext []
  rw [row_val b.val b.isLt]

theorem in3 (hG : m (c.tc.loc main_arg1) = fun j => (G j : EReal)) (t : Fin cfg0.N) :
    (iblk m c 3 t : Vec Ideal S1x1x1x512 .f32) = fun j => (gate G (hd t) (row (kb t).val (j 3)) : EReal) := by
  funext j; idx_vars j
  blk_simp [iblk]
  rw [V44, hG]
  refine (congrArg _ (?_ : _ = ix4 (hd t) (kb t) 0 _)).trans (gates_at G (hd t) (kb t) _)
  blk_ext [idx t, hd, kb]

theorem in4 (hD : m (c.tc.loc main_arg2) = fun j => (D j : EReal)) (t : Fin cfg0.N) :
    (iblk m c 4 t : Vec Ideal S4096x128 .bf16) = fun j => (head D (hd t) (j 0) (j 1) : EReal) := by
  funext j; idx_vars j
  blk_simp [iblk]
  rw [V_main_arg2, hD]
  refine congrArg (fun i => (D i : EReal)) ?_
  blk_ext [idx t, hd, col]

open Model in
theorem in5 (hX : m (c.tc.loc main_arg0) = fun j => (X j : EReal)) (hG : m (c.tc.loc main_arg1) = fun j => (G j : EReal)) (t : Fin cfg0.N) :
    (iblk m c 5 t : Vec Ideal S1x4096x1 .f32) = fun j => ((Real.log (Z (part X 0 (hd t)) (part X 1 (hd t)) (gate G (hd t)) (j 1)) * (Real.log 2)⁻¹ : ℝ) : EReal) := by
  funext j; idx_vars j
  blk_simp [iblk]
  rw [V49, hX, hG]
  refine (congrArg (hlse _ _) (?_ : _ = ix3 (hd t) _ 0)).trans (hlse_real X G (hd t) _)
  blk_ext [idx t, hd]

open Model in
theorem in6 (hX : m (c.tc.loc main_arg0) = fun j => (X j : EReal)) (hG : m (c.tc.loc main_arg1) = fun j => (G j : EReal)) (hD : m (c.tc.loc main_arg2) = fun j => (D j : EReal)) (t : Fin cfg0.N) :
    (iblk m c 6 t : Vec Ideal S1x4096x1 .f32) = fun j => (DL (part X 0 (hd t)) (part X 1 (hd t)) (part X 2 (hd t)) (head D (hd t)) (gate G (hd t)) (j 1) : EReal) := by
  funext j; idx_vars j
  blk_simp [iblk]
  rw [V42, hX, hG, hD]
  refine (congrArg (hdelta _ _ _) (?_ : _ = ix3 (hd t) _ 0)).trans (hdelta_real X D G (hd t) _)
  blk_ext [idx t, hd]

/-- The inputs of a grid point are blocks of real numbers. -/
theorem real_in (hX : m (c.tc.loc main_arg0) = fun j => (X j : EReal)) (hG : m (c.tc.loc main_arg1) = fun j => (G j : EReal)) (hD : m (c.tc.loc main_arg2) = fun j => (D j : EReal)) (t : Fin cfg0.N) :
    RealIn (part X 0 (hd t)) (head D (hd t)) (lse (part X 0 (hd t)) (part X 1 (hd t)) (gate G (hd t)))
      (Model.DL (part X 0 (hd t)) (part X 1 (hd t)) (part X 2 (hd t)) (head D (hd t)) (gate G (hd t)))
      (rows (part X 1 (hd t)) (kb t).val) (rows (part X 2 (hd t)) (kb t).val) (rows (gate G (hd t)) (kb t).val)
      (iblk m c 0 t) (iblk m c 1 t) (iblk m c 2 t) (iblk m c 3 t) (iblk m c 4 t) (iblk m c 5 t) (iblk m c 6 t) :=
  ⟨in0 m c X hX t, in1 m c X hX t, in2 m c X hX t, in3 m c G hG t, in4 m c D hD t, in5 m c X G hX hG t, in6 m c X D G hX hG hD t⟩

/-- The head of a column, and its element of the head. -/
def hc (x : Fin 2048) : Fin 16 := ⟨x.val / 128, by omega⟩
def el (x : Fin 2048) : Fin 128 := ⟨x.val % 128, by omega⟩

/-- The gradient of the keys, of the values and of the gates, of all the heads. -/
def gradK (t : Fin 4096) (x : Fin 2048) : ℝ := Model.DK (part X 0 (hc x)) (part X 1 (hc x)) (part X 2 (hc x)) (head D (hc x)) (gate G (hc x)) t (el x)
def gradV (t : Fin 4096) (x : Fin 2048) : ℝ := Model.DV (part X 0 (hc x)) (part X 1 (hc x)) (head D (hc x)) (gate G (hc x)) t (el x)
def gradF (h : Fin 16) (t : Fin 4096) : ℝ := Model.DF (part X 0 h) (part X 1 h) (part X 2 h) (head D h) (gate G h) t

theorem arr8 (hX : m (c.tc.loc main_arg0) = fun j => (X j : EReal)) (hG : m (c.tc.loc main_arg1) = fun j => (G j : EReal)) (hD : m (c.tc.loc main_arg2) = fun j => (D j : EReal)) :
    (dats m 0 c).arrAt 8 cfg0.N = fun j : S16x8x1x512.Idx => (gradF X D G (j 0) (row (j 1).val (j 3)) : EReal) := by
  refine (dats m 0 c).arrAt_eq_of_covers 8 _ (by decide +kernel) fun t hf y => ?_
  idx_vars y
  blk_simp
  rw [after0_8]
  have h0 : y0 = 0 := Subsingleton.elim _ _
  have h1 : y1 = 0 := Subsingleton.elim _ _
  have h2 : y2 = 0 := Subsingleton.elim _ _
  subst h0 h1 h2
  simp only [outsAt0]
  rw [out_F (hx := real_in m c X D G hX hG hD t)]
  refine congrArg _ ((accF_eq (part X 0 (hd t)) (part X 1 (hd t)) (part X 2 (hd t)) (head D (hd t)) (gate G (hd t)) (kb t).val (kb t).isLt y3).trans ?_)
  refine congrArg₂ (gradF X D G) ?_ (congrArg₂ row ?_ ?_)
  · refine Fin.ext ?_
    blk_simp [idx t, hd]
    rfl
  · simp [idx t, kb]
  · refine Fin.ext ?_
    blk_simp [idx t]

theorem hc_col (h : Fin 16) (d : Fin 128) : hc (col h d) = h := Fin.ext (by simp [hc, col]; omega)
theorem el_col (h : Fin 16) (d : Fin 128) : el (col h d) = d := Fin.ext (by simp [el, col])
theorem gradK_col (t : Fin 4096) (h : Fin 16) (d : Fin 128) :
    gradK X D G t (col h d) = Model.DK (part X 0 h) (part X 1 h) (part X 2 h) (head D h) (gate G h) t d := by
  unfold gradK; rw [hc_col, el_col]
theorem gradV_col (t : Fin 4096) (h : Fin 16) (d : Fin 128) :
    gradV X D G t (col h d) = Model.DV (part X 0 h) (part X 1 h) (head D h) (gate G h) t d := by
  unfold gradV; rw [hc_col, el_col]

/-- Where the stored pair's elements lie in the array. -/
theorem emb7 (t : Fin cfg0.N) (y : ((cfg0.win 7).xblock (grid0.coords t)).Idx) (z0 : Fin 2) (z1 : Fin 512) (z2 : Fin 128)
    (hz : (cfg0.win 7).xinj (grid0.coords t) y = (ix3 z0 z1 z2 : S2x512x128.Idx)) :
    (((cfg0.win 7).blk t).view.emb y : S3x4096x2048.Idx) = ix3 (Fin.castLE (by decide) z0) (row (kb t).val z1) (col (hd t) z2) := by
  have h0 := congrArg (fun w : S2x512x128.Idx => (w 0).val) hz
  have h1 := congrArg (fun w : S2x512x128.Idx => (w 1).val) hz
  have h2 := congrArg (fun w : S2x512x128.Idx => (w 2).val) hz
  have hr := row_val (kb t).val (kb t).isLt z1
  blk_ext [idx t, hd, kb, col]
  · exact h0
  · exact (congrArg (_ + ·) h1).trans hr.symm
  · exact congrArg (_ + ·) h2

/-- What a grid point leaves for the array of pairs. -/
theorem after7 (hX : m (c.tc.loc main_arg0) = fun j => (X j : EReal)) (hG : m (c.tc.loc main_arg1) = fun j => (G j : EReal)) (hD : m (c.tc.loc main_arg2) = fun j => (D j : EReal))
    (t : Fin cfg0.N) (i : Fin 2) (u : Fin 512) (d : Fin 128) :
    (outsAt0 m c t).1 (ix3 i u d) = ((if i.val = 0 then gradK X D G (row (kb t).val u) (col (hd t) d) else gradV X D G (row (kb t).val u) (col (hd t) d) : ℝ) : EReal) := by
  simp only [outsAt0]
  rw [out_KV (hx := real_in m c X D G hX hG hD t)]
  refine congrArg _ ?_
  rw [gradK_col, gradV_col]
  by_cases h0 : i = 0
  · rw [if_pos h0]
    refine Eq.trans ?_ (if_pos (congrArg Fin.val h0)).symm
    exact accK_eq (part X 0 (hd t)) (part X 1 (hd t)) (part X 2 (hd t)) (head D (hd t)) (gate G (hd t)) (kb t).val (kb t).isLt u d
  · rw [if_neg h0]
    refine Eq.trans ?_ (if_neg fun h => h0 (Fin.ext h)).symm
    exact accV_eq (part X 0 (hd t)) (part X 1 (hd t)) (head D (hd t)) (gate G (hd t)) (kb t).val (kb t).isLt u d

/-- The blocks of pairs fill the array but its last slot. -/
theorem covers7 : (cfg0.win 7).CoversWhere (fun β => β ⟨0, by decide⟩ = 0) := by decide +kernel

theorem arr7 (hX : m (c.tc.loc main_arg0) = fun j => (X j : EReal)) (hG : m (c.tc.loc main_arg1) = fun j => (G j : EReal)) (hD : m (c.tc.loc main_arg2) = fun j => (D j : EReal)) :
    (dats m 0 c).arrAt 7 cfg0.N = fun j : S3x4096x2048.Idx => if (j 0).val < 2 then
      ((if (j 0).val = 0 then gradK X D G (j 1) (j 2) else gradV X D G (j 1) (j 2) : ℝ) : EReal) else (dats m 0 c).A 7 j := by
  refine (dats m 0 c).arrAt_eq_of_coversWhere 7 _ _ covers7 (fun t hf y => ?_) (fun j => by blk_simp [Pipeline.Window.cell_apply]; omega)
  obtain ⟨z, hz⟩ : ∃ z : S2x512x128.Idx, (cfg0.win 7).xinj (grid0.coords t) y = z := ⟨_, rfl⟩
  idx_vars z
  rw [after0_7]
  refine Eq.trans ?_ (congrArg (fun j : S3x4096x2048.Idx => ((if (j 0).val = 0 then gradK X D G (j 1) (j 2) else gradV X D G (j 1) (j 2) : ℝ) : EReal)) (emb7 t y z0 z1 z2 hz)).symm
  exact (congrArg (outsAt0 m c t).1 hz).trans (after7 m c X D G hX hG hD t z0 z1 z2)

end Cert.KernelIdeal.Own

end
-- ==== Proof.Ref.lean ====
/- What the reference computes from real inputs: the gradients of the model, head by head. -/
module

public import proofs.«01_k».proof.Proof.Host
public import proofs.«01_k».proof.Proof.Gen.ReferenceIdeal.Read

@[expose] public section

set_option maxRecDepth 16384

noncomputable section

namespace Cert.ReferenceIdeal.Own

open Cert.ReferenceIdeal Cert.ReferenceIdeal.Gen Cert.ReferenceIdeal.Read Idealize.ShloMosaic
open Cert.KernelIdeal.Own (part head gate col sqrt128)

variable (X : S3x4096x2048.Idx → ℝ) (D : S4096x2048.Idx → ℝ) (G : S4096x16.Idx → ℝ)

/-- The arrays whose elements are the given real numbers. -/
abbrev rx : Vec Ideal S3x4096x2048 .bf16 := fun j => (X j : EReal)
abbrev rd : Vec Ideal S4096x2048 .bf16 := fun j => (D j : EReal)
abbrev rg : Vec Ideal S4096x16 .f32 := fun j => (G j : EReal)

theorem q_at (t : Fin 4096) (h : Fin 16) (d : Fin 128) : val_main_v7 (F := Ideal) (rx X) (ix3 t h d) = (part X 0 h t d : EReal) := by
  unfold val_main_v7 val_main_v6 val_main_v1 val_main_v0; pointwise; rfl
theorem k_at (t : Fin 4096) (h : Fin 16) (d : Fin 128) : val_main_v9 (F := Ideal) (rx X) (ix3 t h d) = (part X 1 h t d : EReal) := by
  unfold val_main_v9 val_main_v8 val_main_v3 val_main_v2; pointwise; rfl
theorem v_at (t : Fin 4096) (h : Fin 16) (d : Fin 128) : val_main_v11 (F := Ideal) (rx X) (ix3 t h d) = (part X 2 h t d : EReal) := by
  unfold val_main_v11 val_main_v10 val_main_v5 val_main_v4; pointwise; rfl
theorem o_at (t : Fin 4096) (h : Fin 16) (d : Fin 128) : val_main_v13 (F := Ideal) (rd D) (ix3 t h d) = (head D h t d : EReal) := by
  unfold val_main_v13 val_main_v12; pointwise; rfl

/-- The mask: key `u` is not later than query `t`. -/
theorem mask_at (h : Fin 16) (t u : Fin 4096) : val_main_v33_1 (F := Ideal) (ix3 h t u) = BitVec.ofBool (decide (u.val ≤ t.val)) := by
  unfold val_main_v33_1 val_main_v32 val_main_v30 val_main_v31 val_main_v27 val_main_v29 val_main_v26 val_main_v28
  pointwise
  rw [WordCmp.cmpi_sge_ofNat (by omega) (by omega)]

/-- The root of the head's size. -/
theorem root_at (i : S16x4096x4096.Idx) : val_main_v16 (F := Ideal) i = (Real.sqrt 128 : ℝ) := by
  unfold val_main_v16 val_main_v15 val_main_cst
  idx_vars i
  pointwise
  rw [Lift.w128, Ideal.sqrt_coe, if_neg (by norm_num)]

/-- The scores with their row's gate, -/
theorem s_at (h : Fin 16) (t u : Fin 4096) :
    val_main_v25 (F := Ideal) (rx X) (rg G) (ix3 h t u) = ((Model.sc (part X 0 h) (part X 1 h) (gate G h) t u + gate G h t : ℝ) : EReal) := by
  unfold val_main_v25 val_main_v24 val_main_v22 val_main_v23 val_main_v19 val_main_v21 val_main_v18 val_main_v20 val_main_v17 val_main_v14
  pointwise
  rw [root_at]
  simp only [q_at, k_at, ← EReal.coe_mul, Lift.coe_sum, Ideal.div_coe sqrt128, ← EReal.coe_sub, ← EReal.coe_add, one_div]
  refine congrArg _ ?_
  unfold Model.sc gate
  ring

/-- and masked. -/
theorem sm_at (h : Fin 16) (t u : Fin 4096) :
    val_main_v33_0 (F := Ideal) (rx X) (rg G) (ix3 h t u) = if u ≤ t then ((Model.sc (part X 0 h) (part X 1 h) (gate G h) t u + gate G h t : ℝ) : EReal) else ⊥ := by
  unfold val_main_v33_0
  pointwise
  rw [mask_at, s_at]
  by_cases hu : u ≤ t
  · have h' : decide (u.val ≤ t.val) = true := decide_eq_true hu
    simp only [h', if_pos hu, BitVec.ofBool_true, Scalar.select, if_true]
  · have h' : decide (u.val ≤ t.val) = false := decide_eq_false hu
    simp only [h', if_neg hu, BitVec.ofBool_false, Scalar.select]
    unfold val_main_call0_v2 val_main_call0_v0 val_main_cst_0
    pointwise
    exact Lift.neg_inf

theorem fold_at (x : Vec Ideal S16x4096x4096 .f32) (h : Fin 16) (t : Fin 4096) :
    (Host.reduce FloatOps.maximumf x (constant S_ .f32 0xFF800000#32) reducesTo_S16x4096x4096_S16x4096_d2 h_S_ : FVec Ideal S16x4096 .f32) (ix2 h t)
      = Finset.univ.fold max ⊥ fun u : Fin 4096 => x (ix3 h t u) := by
  pointwise; rw [Lift.neg_inf]

theorem bot_at (h : Fin 16) (t : Fin 4096) : val_main_v40 (F := Ideal) (ix2 h t) = (⊥ : EReal) := by
  unfold val_main_v40 val_main_cst_3
  pointwise
  rw [Lift.neg_inf]

/-- The largest score of a row is a real number. -/
theorem max_real (h : Fin 16) (t : Fin 4096) : ∃ M : ℝ, val_main_v41 (F := Ideal) (rx X) (rg G) (ix2 h t) = (M : EReal) := by
  have hm : val_main_v41 (F := Ideal) (rx X) (rg G) (ix2 h t) = Finset.univ.fold max ⊥ fun u : Fin 4096 => val_main_v33_0 (F := Ideal) (rx X) (rg G) (ix3 h t u) := by
    rw [val_main_v41_apply, bot_at]
    refine (max_eq_right bot_le : max (⊥ : EReal) _ = _).trans ?_
    exact fold_at _ h t
  rw [hm]
  simp only [sm_at]
  refine Lift.fold_max_real _ (fun u => ?_) t ?_
  · split
    · exact EReal.coe_ne_top _
    · exact bot_ne_top
  · rw [if_pos le_rfl]; exact EReal.coe_ne_bot _

/-- A row's exponentials when its largest score is `M`, and their sum. -/
def E (h : Fin 16) (M : ℝ) (t u : Fin 4096) : ℝ :=
  if u ≤ t then Real.exp (Model.sc (part X 0 h) (part X 1 h) (gate G h) t u + (gate G h t - M)) else 0
def S (h : Fin 16) (M : ℝ) (t : Fin 4096) : ℝ := ∑ u, E X G h M t u

theorem S_pos (h : Fin 16) (M : ℝ) (t : Fin 4096) : 0 < S X G h M t := by
  refine Finset.sum_pos' (fun u _ => ?_) ⟨t, Finset.mem_univ _, ?_⟩
  · unfold E; split
    · exact (Real.exp_pos _).le
    · exact le_rfl
  · unfold E; rw [if_pos le_rfl]; exact Real.exp_pos _

theorem E_div (h : Fin 16) (M : ℝ) (t u : Fin 4096) : E X G h M t u / S X G h M t = Model.P (part X 0 h) (part X 1 h) (gate G h) t u :=
  Model.P_shift (part X 0 h) (part X 1 h) (gate G h) t u (gate G h t - M)

theorem e_at (h : Fin 16) (t : Fin 4096) (M : ℝ) (hM : val_main_v41 (F := Ideal) (rx X) (rg G) (ix2 h t) = (M : EReal)) (u : Fin 4096) :
    val_main_v54 (F := Ideal) (rx X) (rg G) (ix3 h t u) = (E X G h M t u : EReal) := by
  unfold val_main_v54 val_main_v53 val_main_v52 val_main_v51
  pointwise
  rw [hM, sm_at]
  unfold E
  split
  · rw [← EReal.coe_sub, Ideal.exp_coe, add_sub_assoc]
  · rw [EReal.bot_sub, Ideal.exp_bot]; rfl

theorem l_at (h : Fin 16) (t : Fin 4096) (M : ℝ) (hM : val_main_v41 (F := Ideal) (rx X) (rg G) (ix2 h t) = (M : EReal)) :
    val_main_v55 (F := Ideal) (rx X) (rg G) (ix2 h t) = (S X G h M t : EReal) := by
  unfold val_main_v55 val_main_cst_9
  pointwise
  simp only [e_at X G h t M hM, Lift.coe_sum]
  rfl

/-- The softmax is the model's weights. -/
theorem p_at (h : Fin 16) (t u : Fin 4096) : val_main_v58 (F := Ideal) (rx X) (rg G) (ix3 h t u) = (Model.P (part X 0 h) (part X 1 h) (gate G h) t u : EReal) := by
  obtain ⟨M, hM⟩ := max_real X G h t
  unfold val_main_v58 val_main_v57 val_main_v56
  pointwise
  rw [e_at X G h t M hM, l_at X G h t M hM, Ideal.div_coe (S_pos X G h M t).ne', ← EReal.coe_mul, mul_one_div, E_div]

theorem dp_at (h : Fin 16) (t u : Fin 4096) : val_main_v65 (F := Ideal) (rx X) (rd D) (ix3 h t u) = (Model.DP (part X 2 h) (head D h) t u : EReal) := by
  unfold val_main_v65 val_main_v64
  pointwise
  simp only [o_at, v_at, ← EReal.coe_mul, Lift.coe_sum]
  rfl

/-- The cotangents of the weights, weighted and summed over a row. -/
theorem w_at (h : Fin 16) (t : Fin 4096) (M : ℝ) (hM : val_main_v41 (F := Ideal) (rx X) (rg G) (ix2 h t) = (M : EReal)) :
    val_main_v76 (F := Ideal) (rx X) (rg G) (rd D) (ix2 h t)
      = ((-∑ u, Model.DP (part X 2 h) (head D h) t u * (1 / (S X G h M t * S X G h M t)) * E X G h M t u : ℝ) : EReal) := by
  unfold val_main_v76 val_main_cst_12 val_main_v73 val_main_v72 val_main_v71 val_main_cst_11 val_main_v70 val_main_v69 val_main_v68 val_main_v61 val_main_v60 val_main_cst_10 val_main_v59 val_main_v56
  pointwise
  have hS := (S_pos X G h M t).ne'
  simp only [Fin.sum_univ_one, l_at X G h t M hM, e_at X G h t M hM, dp_at, ← EReal.coe_mul, Ideal.div_coe (mul_ne_zero hS hS), one_mul, Lift.coe_sum, ← EReal.coe_neg]

/-- The cotangent of a masked score. -/
theorem ds_at (h : Fin 16) (t u : Fin 4096) :
    val_main_v80 (F := Ideal) (rx X) (rg G) (rd D) (ix3 h t u) = (Model.DS (part X 0 h) (part X 1 h) (part X 2 h) (head D h) (gate G h) t u : EReal) := by
  obtain ⟨M, hM⟩ := max_real X G h t
  have hS := (S_pos X G h M t).ne'
  have h79 : val_main_v79 (F := Ideal) (rx X) (rg G) (rd D) (ix3 h t u) = (Model.DS (part X 0 h) (part X 1 h) (part X 2 h) (head D h) (gate G h) t u : EReal) := by
    unfold val_main_v79 val_main_v78 val_main_v77 val_main_v75 val_main_v74 val_main_v56
    pointwise
    rw [e_at X G h t M hM, dp_at, l_at X G h t M hM, w_at X D G h t M hM]
    simp only [Ideal.div_coe hS, ← EReal.coe_mul, ← EReal.coe_add]
    refine congrArg _ ?_
    unfold Model.DS Model.DL
    simp only [← E_div X G h M]
    have hw : ∑ u, Model.DP (part X 2 h) (head D h) t u * (1 / (S X G h M t * S X G h M t)) * E X G h M t u
        = (∑ u, E X G h M t u / S X G h M t * Model.DP (part X 2 h) (head D h) t u) * (S X G h M t)⁻¹ := by
      rw [Finset.sum_mul]
      refine Finset.sum_congr rfl fun u _ => ?_
      field_simp
    rw [hw]
    field_simp
    ring
  unfold val_main_v80
  pointwise
  rw [mask_at, h79]
  by_cases hu : u ≤ t
  · have h' : decide (u.val ≤ t.val) = true := decide_eq_true hu
    simp only [h', BitVec.ofBool_true, Scalar.select, if_true]
  · have h' : decide (u.val ≤ t.val) = false := decide_eq_false hu
    rw [Model.DS_later _ _ _ _ _ (not_le.mp hu)]
    simp only [h', BitVec.ofBool_false, Scalar.select]
    unfold val_main_call1_v0 val_main_call1_cst
    pointwise
    simp

/-- The gradient of the gates. -/
theorem df_at (h : Fin 16) (u : Fin 4096) :
    val_main_v90 (F := Ideal) (rx X) (rg G) (rd D) (ix2 u h) = (Model.DF (part X 0 h) (part X 1 h) (part X 2 h) (head D h) (gate G h) u : EReal) := by
  unfold val_main_v90 val_main_v87 val_main_v86 val_main_cst_15 val_main_v85 val_main_v84 val_main_cst_14 val_main_v83 val_main_v89 val_main_v88 val_main_cst_16 val_main_v82 val_main_v81 val_main_cst_13
  pointwise
  simp only [Fin.sum_univ_one, ds_at, ← EReal.coe_neg, Lift.coe_sum, ← EReal.coe_add, Model.DS_sum]
  refine congrArg _ ?_
  unfold Model.DF
  simp

/-- The gradient of the keys, -/
theorem dk_at (t : Fin 4096) (h : Fin 16) (d : Fin 128) :
    val_main_v94 (F := Ideal) (rx X) (rg G) (rd D) (ix3 t h d) = (Model.DK (part X 0 h) (part X 1 h) (part X 2 h) (head D h) (gate G h) t d : EReal) := by
  have h92 : ∀ a b, val_main_v92 (F := Ideal) (rx X) (rg G) (rd D) (ix3 h a b) = ((Model.DS (part X 0 h) (part X 1 h) (part X 2 h) (head D h) (gate G h) a b * (1 / Real.sqrt 128) : ℝ) : EReal) := fun a b => by
    rw [val_main_v92_apply, ds_at]
    refine (congrArg _ (root_at (ix3 h a b))).trans ?_
    exact (Ideal.div_coe sqrt128 _).trans (EReal.coe_mul _ _).symm
  unfold val_main_v94 val_main_v93
  pointwise
  simp only [h92, q_at, ← EReal.coe_mul, Lift.coe_sum]
  refine congrArg _ ?_
  unfold Model.DK
  rw [Finset.sum_mul]
  refine Finset.sum_congr rfl fun a _ => ?_
  ring

/-- and of the values. -/
theorem dv_at (t : Fin 4096) (h : Fin 16) (d : Fin 128) :
    val_main_v67 (F := Ideal) (rx X) (rg G) (rd D) (ix3 t h d) = (Model.DV (part X 0 h) (part X 1 h) (head D h) (gate G h) t d : EReal) := by
  unfold val_main_v67 val_main_v66 val_main_v64
  pointwise
  simp only [o_at, p_at, ← EReal.coe_mul, Lift.coe_sum]
  refine congrArg _ ?_
  unfold Model.DV
  exact Finset.sum_congr rfl fun a _ => mul_comm _ _

end Cert.ReferenceIdeal.Own

end
-- ==== Proof.Results.lean ====
/- The reference's two results are the arrays that the kernel leaves. -/
module

public import proofs.«01_k».proof.Proof.Array
public import proofs.«01_k».proof.Proof.Ref

@[expose] public section

set_option maxRecDepth 16384

noncomputable section

namespace Cert.ReferenceIdeal.Own

open Cert.ReferenceIdeal Cert.ReferenceIdeal.Gen Cert.ReferenceIdeal.Read Idealize.ShloMosaic
open Cert.KernelIdeal.Own (part head gate col row row_val gradK gradV gradF hc el)

variable (X : S3x4096x2048.Idx → ℝ) (D : S4096x2048.Idx → ℝ) (G : S4096x16.Idx → ℝ)

theorem k_array (t : Fin 4096) (x : Fin 2048) : val_main_v96 (F := Ideal) (rx X) (rg G) (rd D) (ix2 t x) = (gradK X D G t x : EReal) := by
  unfold val_main_v96 val_main_v95
  pointwise
  exact dk_at X D G t (hc x) (el x)

theorem v_array (t : Fin 4096) (x : Fin 2048) : val_main_v98 (F := Ideal) (rx X) (rg G) (rd D) (ix2 t x) = (gradV X D G t x : EReal) := by
  unfold val_main_v98 val_main_v97
  pointwise
  exact dv_at X D G t (hc x) (el x)

/-- The first result: the gradients of k and v and the array's own third slot. -/
theorem out0 (A : Vec Ideal S3x4096x2048 .bf16) : val_main_v104 (F := Ideal) (rx X) (rg G) (rd D) A
    = fun j => if (j 0).val < 2 then ((if (j 0).val = 0 then gradK X D G (j 1) (j 2) else gradV X D G (j 1) (j 2) : ℝ) : EReal) else A j := by
  funext j; idx_vars j
  unfold val_main_v104 val_main_v101 val_main_v102 val_main_v103 val_main_v100 val_main_v99
  pointwise
  simp only [k_array, v_array]
  fin_vals j0 with hk
  · obtain rfl : j0 = 0 := Fin.ext hk
    rfl
  · obtain rfl : j0 = 1 := Fin.ext hk
    rfl
  · obtain rfl : j0 = 2 := Fin.ext hk
    rfl

/-- The second result: the gradients of the gates, by blocks. -/
theorem out1 : val_main_v106 (F := Ideal) (rx X) (rg G) (rd D) = fun j => (gradF X D G (j 0) (row (j 1).val (j 3)) : EReal) := by
  funext j; idx_vars j
  unfold val_main_v106 val_main_v105
  pointwise
  refine (df_at X D G j0 _).trans ?_
  unfold gradF
  exact congrArg (fun u => ((Model.DF (part X 0 j0) (part X 1 j0) (part X 2 j0) (head D j0) (gate G j0) u : ℝ) : EReal)) (Fin.ext (row_val j1.val j1.isLt j3).symm)

end Cert.ReferenceIdeal.Own

end
-- ==== Proof.Pre.lean ====
/- The precondition says that every number that the attention reads is a real number. -/
module

public import proofs.«01_k».proof.Proof.Gen.Pre_finite
public import proofs.«01_k».proof.Proof.Lift
public import Idealize.ShloMosaic.Lib.Pointwise
public import Idealize.ShloMosaic.Lib.ReduceAll

@[expose] public section

set_option maxRecDepth 16384

noncomputable section

namespace Cert.Pre_finite.Own

open Cert.Pre_finite Cert.Pre_finite.Facts Idealize.ShloMosaic

instance : Subsingleton S_.Idx := ⟨fun a b => funext fun i => i.elim0⟩

/-- The word of the infinity. -/
theorem inf : Ideal.ofBits .f32 0x7F800000#32 = ⊤ := by
  simp [Ideal.ofBits, Ideal.ieee]

theorem lt_top {x : EReal} (h : FloatOps.cmpf (F := Ideal) (φ := .f32) .olt (FloatOps.absf (F := Ideal) (φ := .f32) x) (Ideal.ofBits .f32 0x7F800000#32) = 1#1) : ∃ r : ℝ, x = (r : EReal) := by
  rw [inf] at h
  refine Lift.real_of_abs_lt_top (?_ : max x (-x) < ⊤)
  by_contra hx
  have h' : BitVec.ofBool (decide (max x (-x) < ⊤)) = 1#1 := h
  rw [decide_eq_false hx] at h'
  exact absurd h' (by decide)

variable [Facts]

theorem reals (x0 : FVec Ideal S3x4096x2048 .bf16) (x1 : FVec Ideal S4096x16 .f32) (x2 : FVec Ideal S4096x2048 .bf16) (x3 : FVec Ideal S3x4096x2048 .bf16)
    (h : fn (F := Ideal) x0 x1 x2 x3 = fun _ => 1#1) :
    (∃ X : S3x4096x2048.Idx → ℝ, x0 = fun j => (X j : EReal)) ∧ (∃ G : S4096x16.Idx → ℝ, x1 = fun j => (G j : EReal))
      ∧ ∃ D : S4096x2048.Idx → ℝ, x2 = fun j => (D j : EReal) := by
  have e := congrFun h (fun a => a.elim0)
  unfold fn at e
  obtain ⟨e', h2⟩ := IntOp.andi_eq_one.1 e
  obtain ⟨h0, h1⟩ := IntOp.andi_eq_one.1 e'
  have r0 : ∀ j, ∃ r : ℝ, x0 j = (r : EReal) := fun j => lt_top (Host.reduce_andi_all _ _ _ _ _ h0 j)
  have r1 : ∀ j, ∃ r : ℝ, x1 j = (r : EReal) := fun j => lt_top (Host.reduce_andi_all _ _ _ _ _ h1 j)
  have r2 : ∀ j, ∃ r : ℝ, x2 j = (r : EReal) := fun j => lt_top (Host.reduce_andi_all _ _ _ _ _ h2 j)
  exact ⟨⟨fun j => (r0 j).choose, funext fun j => (r0 j).choose_spec⟩, ⟨fun j => (r1 j).choose, funext fun j => (r1 j).choose_spec⟩,
    ⟨fun j => (r2 j).choose, funext fun j => (r2 j).choose_spec⟩⟩

end Cert.Pre_finite.Own

end
-- ==== Proof.PreDown.lean ====
/- The precondition of the SwiGLU network's backward pass says that the cotangent, the down weight and the up product are real. -/
module

public import proofs.«01_k».proof.Proof.Gen.Pre_finite_down
public import proofs.«01_k».proof.Proof.Pre

@[expose] public section

set_option maxRecDepth 16384

noncomputable section

namespace Cert.Pre_finite_down.Own

open Cert.Pre_finite_down Cert.Pre_finite_down.Facts Idealize.ShloMosaic

instance : Subsingleton S_.Idx := ⟨fun a b => funext fun i => i.elim0⟩

variable [Facts]

theorem reals (x0 : FVec Ideal S4096x2048 .bf16) (x1 : FVec Ideal S5632x2048 .bf16) (x2 x3 : FVec Ideal S4096x5632 .bf16)
    (h : fn (F := Ideal) x0 x1 x2 x3 = fun _ => 1#1) :
    (∀ j, ∃ r : ℝ, x0 j = (r : EReal)) ∧ (∀ j, ∃ r : ℝ, x1 j = (r : EReal)) ∧ ∀ j, ∃ r : ℝ, x3 j = (r : EReal) := by
  have e := congrFun h (fun a => a.elim0)
  unfold fn at e
  obtain ⟨e', h2⟩ := IntOp.andi_eq_one.1 e
  obtain ⟨h0, h1⟩ := IntOp.andi_eq_one.1 e'
  exact ⟨fun j => Cert.Pre_finite.Own.lt_top (Host.reduce_andi_all _ _ _ _ _ h0 j), fun j => Cert.Pre_finite.Own.lt_top (Host.reduce_andi_all _ _ _ _ _ h1 j),
    fun j => Cert.Pre_finite.Own.lt_top (Host.reduce_andi_all _ _ _ _ _ h2 j)⟩

end Cert.Pre_finite_down.Own

end
-- ==== Proof.Blocked.lean ====
/- Sums over an axis that is cut into blocks. -/
module

public import Mathlib.Data.EReal.Operations
public import Mathlib.Algebra.BigOperators.Fin
public import Idealize.ShloMosaic.Lib.Pointwise
public import Idealize.ShloMosaic.Lib.Claim
public import Idealize.ShloMosaic.Lib.StableHlo.RunRead
public import Idealize.ShloMosaic.Lib.Pipeline.ValueKit
public import Idealize.ShloMosaic.Lib.Pipeline.ReadBack
public import Idealize.ShloMosaic.Lib.Quiescent

@[expose] public section

namespace Cert.Blocked

/-- Element `k` of block `i`. -/
def pos {n b N : ℕ} (h : n * b = N) (i : Fin n) (k : Fin b) : Fin N :=
  ⟨i.val * b + k.val, by
    have h1 : i.val * b + b ≤ n * b := (Nat.succ_mul i.val b) ▸ Nat.mul_le_mul_right b i.isLt
    have := k.isLt
    omega⟩

/-- A sum over the axis is one over the blocks and over each block's elements. -/
theorem sum_pos {n b N : ℕ} (h : n * b = N) (f : Fin N → EReal) : ∑ x, f x = ∑ i : Fin n, ∑ k : Fin b, f (pos h i k) := by
  subst h
  rw [← Fintype.sum_prod_type', ← finProdFinEquiv.sum_comp]
  exact Finset.sum_congr rfl fun x _ => congrArg f (Fin.ext ((Nat.add_comm _ _).trans (congrArg (· + x.2.val) (Nat.mul_comm _ _))))

end Cert.Blocked

end
-- ==== Proof.Down.lean ====
/- The gradients of the SwiGLU network's gate and up product: what the kernel and the reference compute, element by element. -/
module

public import proofs.«01_k».proof.Defs
public import proofs.«01_k».proof.Proof.Gen.KernelDownIdeal.Value
public import proofs.«01_k».proof.Proof.Gen.ReferenceDownIdeal.Read
public import proofs.«01_k».proof.Proof.PreDown
public import proofs.«01_k».proof.Proof.Blocked

@[expose] public section

set_option maxRecDepth 16384

noncomputable section

namespace Cert.KernelDownIdeal.Own

open Cert.KernelDownIdeal Cert.KernelDownIdeal.Gen Idealize.ShloMosaic Idealize.ShloMosaic.TcCoe Idealize.SL.Sem
open Idealize.ShloMosaic.Pipeline (Dat)
open Cert.Blocked (pos)

/-- The sigmoid, with its limits at the infinities. -/
def sg (a : EReal) : EReal := Ideal.div 1 (1 + Ideal.exp (-a))

/-- The two ways to write the derivative of a·sg(a), each times a real x. -/
theorem silu_vjp (x : ℝ) (a : EReal) : x * sg a * (1 + a * (1 - sg a)) = x * sg a + a * x * (sg a * (1 - sg a)) := by
  unfold sg
  induction a with
  | bot =>
    have h : Ideal.div 1 (1 + Ideal.exp (-⊥)) = 0 := by
      show Ideal.div 1 (1 + ⊤) = 0
      rw [EReal.add_top_of_ne_bot (by decide)]
      simp [Ideal.div]
    rw [h]; simp
  | top =>
    have h : Ideal.div 1 (1 + Ideal.exp (-⊤)) = 1 := by
      show Ideal.div 1 (1 + 0) = 1
      rw [add_zero, ← EReal.coe_one, Ideal.div_coe one_ne_zero, div_one, EReal.coe_one, one_mul]
    have h1 : (1 : EReal) - 1 = 0 := by rw [← EReal.coe_one, ← EReal.coe_sub, sub_self, EReal.coe_zero]
    rw [h, h1]; simp
  | coe r =>
    have hp : (1 + Real.exp (-r)) ≠ 0 := by positivity
    have h : Ideal.div 1 (1 + Ideal.exp (-(r : EReal))) = ((1 / (1 + Real.exp (-r)) : ℝ) : EReal) := by
      rw [← EReal.coe_neg, Ideal.exp_coe, ← EReal.coe_one, ← EReal.coe_add, Ideal.div_coe hp, EReal.coe_one, one_mul]
    rw [h]
    generalize 1 / (1 + Real.exp (-r)) = s
    rw [← EReal.coe_one]
    simp only [← EReal.coe_mul, ← EReal.coe_add, ← EReal.coe_sub]
    congr 1
    ring

/-- The blocks of a grid point. -/
theorem idx : ∀ t : Fin cfg0.N, win0_0.index t = ![0, t.val / 4, 0] ∧ win0_1.index t = ![0, t.val % 4, 0] ∧ win0_2.index t = ![0, t.val / 4, t.val % 4] ∧ win0_3.index t = ![0, t.val / 4, t.val % 4] ∧ win0_4.index t = ![0, t.val / 4, t.val % 4] ∧ win0_5.index t = ![0, t.val / 4, t.val % 4] :=
  (by decide +kernel : ∀ t : Fin grid0.N, win0_0.index t = ![0, t.val / 4, 0] ∧ win0_1.index t = ![0, t.val % 4, 0] ∧ win0_2.index t = ![0, t.val / 4, t.val % 4] ∧ win0_3.index t = ![0, t.val / 4, t.val % 4] ∧ win0_4.index t = ![0, t.val / 4, t.val % 4] ∧ win0_5.index t = ![0, t.val / 4, t.val % 4])

variable (m : (ℓ : Loc nD τ sig) → Buf (Elt Ideal) ℓ) (c : Dev nD)

abbrev E : Vec Ideal S4096x2048 .bf16 := m (c.tc.loc main_arg0)
abbrev W : Vec Ideal S5632x2048 .bf16 := m (c.tc.loc main_arg1)
abbrev A : Vec Ideal S4096x5632 .bf16 := m (c.tc.loc main_arg2)
abbrev B : Vec Ideal S4096x5632 .bf16 := m (c.tc.loc main_arg3)

theorem V0 : V m c main_v0 = shapeCast S1x4096x2048 (E m c) shapeCasts_S4096x2048_S1x4096x2048 := by
  unfold V; after_reads_simp; rfl
theorem V1 : V m c main_v1 = shapeCast S1x5632x2048 (W m c) shapeCasts_S5632x2048_S1x5632x2048 := by
  unfold V; after_reads_simp; rfl
theorem V2 : V m c main_v2 = shapeCast S1x4096x5632 (A m c) shapeCasts_S4096x5632_S1x4096x5632 := by
  unfold V; after_reads_simp; rfl
theorem V3 : V m c main_v3 = shapeCast S1x4096x5632 (B m c) shapeCasts_S4096x5632_S1x4096x5632 := by
  unfold V; after_reads_simp; rfl

variable (t : Fin cfg0.N) (i : Fin 8) (hi : t.val / 4 = i.val) (n : Fin 4) (hn : t.val % 4 = n.val)
include hi hn

omit hn in
theorem in0 (u : Fin 512) (k : Fin 2048) :
    (iblk m c 0 t : Vec Ideal S1x512x2048 .bf16) (ix3 0 u k) = E m c (ix2 (pos (by decide) i u) k) := by
  blk_simp [iblk]
  rw [V0]
  pointwise
  blk_ext [idx t, pos]

omit hi in
theorem in1 (v : Fin 1408) (k : Fin 2048) :
    (iblk m c 1 t : Vec Ideal S1x1408x2048 .bf16) (ix3 0 v k) = W m c (ix2 (pos (by decide) n v) k) := by
  blk_simp [iblk]
  rw [V1]
  pointwise
  blk_ext [idx t, pos]

theorem in2 (u : Fin 512) (v : Fin 1408) :
    (iblk m c 2 t : Vec Ideal S1x512x1408 .bf16) (ix3 0 u v) = A m c (ix2 (pos (by decide) i u) (pos (by decide) n v)) := by
  blk_simp [iblk]
  rw [V2]
  pointwise
  blk_ext [idx t, pos]

theorem in3 (u : Fin 512) (v : Fin 1408) :
    (iblk m c 3 t : Vec Ideal S1x512x1408 .bf16) (ix3 0 u v) = B m c (ix2 (pos (by decide) i u) (pos (by decide) n v)) := by
  blk_simp [iblk]
  rw [V3]
  pointwise
  blk_ext [idx t, pos]

omit hi hn in
/-- The product of two blocks. -/
theorem pay2 (x : Vec Ideal S1x512x2048 .bf16) (y : Vec Ideal S1x1408x2048 .bf16) (u : Fin 512) (v : Fin 1408) :
    k0_pay2 (F := Ideal) x y (ix2 u v) = ∑ k : Fin 2048, x (ix3 0 u k) * y (ix3 0 v k) := by
  unfold k0_pay2; pointwise

omit hi hn in
/-- The gate, and its sigmoid. -/
theorem pay3 (x : Vec Ideal S1x512x1408 .bf16) (u : Fin 512) (v : Fin 1408) : k0_pay3 (F := Ideal) x (ix2 u v) = x (ix3 0 u v) := by
  unfold k0_pay3; pointwise

omit hi hn in
theorem pay4 (x : Vec Ideal S1x512x1408 .bf16) (u : Fin 512) (v : Fin 1408) : k0_pay4 (F := Ideal) x (ix2 u v) = sg (x (ix3 0 u v)) := by
  unfold k0_pay4 sg
  pointwise
  rw [pay3, zero_sub]

/-- The cotangent of the gated product. -/
def ds (E : Vec Ideal S4096x2048 .bf16) (W : Vec Ideal S5632x2048 .bf16) (u : Fin 4096) (v : Fin 5632) : EReal :=
  ∑ k : Fin 2048, (E (ix2 u k) * W (ix2 v k) : EReal)

/-- The two results. -/
def da (E : Vec Ideal S4096x2048 .bf16) (W : Vec Ideal S5632x2048 .bf16) (A B : Vec Ideal S4096x5632 .bf16) (u : Fin 4096) (v : Fin 5632) : EReal :=
  ds E W u v * B (ix2 u v) * sg (A (ix2 u v)) * (1 + A (ix2 u v) * (1 - sg (A (ix2 u v))))
def db (E : Vec Ideal S4096x2048 .bf16) (W : Vec Ideal S5632x2048 .bf16) (A : Vec Ideal S4096x5632 .bf16) (u : Fin 4096) (v : Fin 5632) : EReal :=
  ds E W u v * A (ix2 u v) * sg (A (ix2 u v))

/-- They as the arrays of the results. -/
def resultA (E : Vec Ideal S4096x2048 .bf16) (W : Vec Ideal S5632x2048 .bf16) (A B : Vec Ideal S4096x5632 .bf16) : Vec Ideal S1x4096x5632 .bf16 :=
  fun j => da E W A B (j 1) (j 2)
def resultB (E : Vec Ideal S4096x2048 .bf16) (W : Vec Ideal S5632x2048 .bf16) (A : Vec Ideal S4096x5632 .bf16) : Vec Ideal S1x4096x5632 .bf16 :=
  fun j => db E W A (j 1) (j 2)

theorem ds_at (u : Fin 512) (v : Fin 1408) :
    (k0_pay2 (F := Ideal) (iblk m c 0 t) (iblk m c 1 t) (ix2 u v) : EReal) = ds (E m c) (W m c) (pos (by decide) i u) (pos (by decide) n v) := by
  refine (pay2 _ _ _ _).trans (Finset.sum_congr rfl fun k _ => ?_)
  rw [in0 m c t i hi u k, in1 m c t n hn v k]

theorem da_at (u : Fin 512) (v : Fin 1408) :
    (k0_pay5 (F := Ideal) (iblk m c 0 t) (iblk m c 1 t) (iblk m c 2 t) (iblk m c 3 t) (ix3 0 u v) : EReal) = da (E m c) (W m c) (A m c) (B m c) (pos (by decide) i u) (pos (by decide) n v) := by
  unfold k0_pay5 da
  pointwise
  rw [ds_at m c t i hi n hn u v, pay3, pay4, in2 m c t i hi n hn u v, in3 m c t i hi n hn u v]

theorem db_at (u : Fin 512) (v : Fin 1408) :
    (k0_pay1 (F := Ideal) (k0_pay6 (iblk m c 0 t) (iblk m c 1 t) (iblk m c 2 t)) (ix3 0 u v) : EReal) = db (E m c) (W m c) (A m c) (pos (by decide) i u) (pos (by decide) n v) := by
  unfold k0_pay1 k0_pay6 db
  pointwise
  rw [ds_at m c t i hi n hn u v, pay3, pay4, in2 m c t i hi n hn u v]

omit hi hn
theorem arrayA : (dats m 0 c).arrAt 4 cfg0.N = resultA (E m c) (W m c) (A m c) (B m c) := by
  refine (dats m 0 c).arrAt_eq_of_covers 4 _ (by decide +kernel) fun t hf y => ?_
  have hN : t.val < 32 := t.isLt
  idx_vars y
  blk_simp
  rw [after0_4]
  frame_out
  obtain rfl : y0 = 0 := Subsingleton.elim _ _
  refine (da_at m c t ⟨t.val / 4, by omega⟩ rfl ⟨t.val % 4, by omega⟩ rfl y1 y2).trans ?_
  refine congrArg₂ (da (E m c) (W m c) (A m c) (B m c)) (Fin.ext ?_) (Fin.ext ?_)
  · blk_simp [idx t]; rfl
  · blk_simp [idx t]; rfl

theorem arrayB : (dats m 0 c).arrAt 5 cfg0.N = resultB (E m c) (W m c) (A m c) := by
  refine (dats m 0 c).arrAt_eq_of_covers 5 _ (by decide +kernel) fun t hf y => ?_
  have hN : t.val < 32 := t.isLt
  idx_vars y
  blk_simp
  rw [after0_5]
  frame_out
  obtain rfl : y0 = 0 := Subsingleton.elim _ _
  refine (db_at m c t ⟨t.val / 4, by omega⟩ rfl ⟨t.val % 4, by omega⟩ rfl y1 y2).trans ?_
  refine congrArg₂ (db (E m c) (W m c) (A m c)) (Fin.ext ?_) (Fin.ext ?_)
  · blk_simp [idx t]; rfl
  · blk_simp [idx t]; rfl

end Cert.KernelDownIdeal.Own

namespace Cert.ReferenceDownIdeal.Own

open Cert.ReferenceDownIdeal Cert.ReferenceDownIdeal.Gen Cert.ReferenceDownIdeal.Read Idealize.ShloMosaic
open Cert.KernelDownIdeal.Own (sg ds)

variable (E : Vec Ideal S4096x2048 .bf16) (W : Vec Ideal S5632x2048 .bf16) (A B : Vec Ideal S4096x5632 .bf16)

theorem ds_at (u : Fin 4096) (v : Fin 5632) : (val_main_v7 (F := Ideal) E W (ix2 u v) : EReal) = ds E W u v := by
  unfold val_main_v7 val_main_v6 val_main_v0; pointwise; rfl

theorem sg_at (u : Fin 4096) (v : Fin 5632) : (val_main_v3_2 (F := Ideal) A (ix2 u v) : EReal) = sg (A (ix2 u v)) := by
  unfold val_main_v3_2 val_main_call0_v4 val_main_call0_cst_0 val_main_call0_v3 val_main_call0_v2 val_main_call0_cst val_main_call0_v1 val_main_call0_v0 val_main_v1
  pointwise; rfl

/-- The cotangent of a gated product is real where the arrays are. -/
theorem ds_real (h0 : ∀ j, ∃ r : ℝ, E j = (r : EReal)) (h1 : ∀ j, ∃ r : ℝ, W j = (r : EReal)) (u : Fin 4096) (v : Fin 5632) : ∃ r : ℝ, ds E W u v = (r : EReal) := by
  choose e he using h0
  choose w hw using h1
  refine ⟨∑ k : Fin 2048, e (ix2 u k) * w (ix2 v k), ?_⟩
  unfold ds
  rw [← Lift.coe_sum]
  refine Finset.sum_congr rfl fun k _ => ?_
  rw [he, hw, EReal.coe_mul]

/-- The reference's first result, where its arrays are real. -/
theorem arrayA (h0 : ∀ j, ∃ r : ℝ, E j = (r : EReal)) (h1 : ∀ j, ∃ r : ℝ, W j = (r : EReal)) (h3 : ∀ j, ∃ r : ℝ, B j = (r : EReal)) :
    val_main_v12 (F := Ideal) E W A B = Cert.KernelDownIdeal.Own.resultA E W A B := by
  funext j; idx_vars j
  unfold val_main_v12 val_main_v11 val_main_v10 val_main_call1_v1 val_main_call1_v2 val_main_call1_v0 val_main_v9 val_main_v3_1 val_main_call0_v7 val_main_call0_v6 val_main_call0_cst_1 val_main_v2 val_main_v1
  pointwise
  rw [ds_at, sg_at]
  show _ = Cert.KernelDownIdeal.Own.da E W A B j1 j2
  unfold Cert.KernelDownIdeal.Own.da
  obtain ⟨d, hd⟩ := ds_real E W h0 h1 j1 j2
  obtain ⟨b, hb⟩ := h3 (ix2 j1 j2)
  rw [hd, hb, ← EReal.coe_mul]
  exact (Cert.KernelDownIdeal.Own.silu_vjp _ _).symm

/-- The reference's second result. -/
theorem arrayB : val_main_v14 (F := Ideal) E W A = Cert.KernelDownIdeal.Own.resultB E W A := by
  funext j; idx_vars j
  unfold val_main_v14 val_main_v13 val_main_v8 val_main_v3_0 val_main_v1
  pointwise
  rw [ds_at, sg_at]
  show _ = Cert.KernelDownIdeal.Own.db E W A j1 j2
  unfold Cert.KernelDownIdeal.Own.db
  rw [mul_comm, mul_assoc]

end Cert.ReferenceDownIdeal.Own

namespace Cert.Proof

open Idealize.ShloMosaic Idealize.ShloMosaic.TcCoe Idealize.SL.Sem

/-- The reference leaves its arguments as they were, and it has no counters. -/
theorem frame_r_down : quiescent_ReferenceDownIdeal (hReferenceDownIdeal := Cert.ReferenceDownIdeal.Gen.facts) := fun m g _ =>
  (θ_run _ _ _).mono (fun r h => ⟨fun c => (h c).2.2, sem_eq_zero_of_no_sems (by decide) r.2⟩) (Cert.ReferenceDownIdeal.Value.run m g)

/-- Over the reals the kernel and the reference end with the same gradients of the gate and of the up product. -/
theorem algebraic_down : algebraic_KernelDownIdeal_ReferenceDownIdeal_pre_finite_down (hKernelDownIdeal := Cert.KernelDownIdeal.Gen.facts) (hReferenceDownIdeal := Cert.ReferenceDownIdeal.Gen.facts) (hPre_finite_down := Cert.Pre_finite_down.Gen.facts) := by
  intro m g m' g' hpre hargs
  refine ⟨fun c => Cert.KernelDownIdeal.Own.resultA (Cert.KernelDownIdeal.Own.E m c) (Cert.KernelDownIdeal.Own.W m c) (Cert.KernelDownIdeal.Own.A m c) (Cert.KernelDownIdeal.Own.B m c),
    fun c => Cert.KernelDownIdeal.Own.resultB (Cert.KernelDownIdeal.Own.E m c) (Cert.KernelDownIdeal.Own.W m c) (Cert.KernelDownIdeal.Own.A m c), ?_, ?_⟩
  · refine (θ_run _ _ _).mono (fun r h c => ?_) (Cert.KernelDownIdeal.Value.run_blocks m g)
    obtain ⟨h0, h1, ha⟩ := h c
    exact ⟨h0.trans (Cert.KernelDownIdeal.Own.arrayA m c), h1.trans (Cert.KernelDownIdeal.Own.arrayB m c), ha⟩
  · refine (θ_run _ _ _).mono (fun r h c => ?_) (Cert.ReferenceDownIdeal.Value.run m' g')
    obtain ⟨h0, h1, ha⟩ := h c
    obtain ⟨e0, e1, e2, e3⟩ := hargs c
    obtain ⟨r0, r1, r3⟩ := Cert.Pre_finite_down.Own.reals _ _ _ _ (hpre c)
    refine ⟨h0.trans ((Cert.ReferenceDownIdeal.Read.val_main_v12_eq _ _ _ _).trans ?_), h1.trans ((Cert.ReferenceDownIdeal.Read.val_main_v14_eq _ _ _).trans ?_), ha⟩
    · rw [e0, e1, e2, e3]
      exact Cert.ReferenceDownIdeal.Own.arrayA _ _ _ _ r0 r1 r3
    · rw [e0, e1, e2]
      exact Cert.ReferenceDownIdeal.Own.arrayB _ _ _

end Cert.Proof

end
-- ==== Proof.DownW.lean ====
/- The gradient of w_down: what the kernel and the reference compute, element by element. -/
module

public import proofs.«01_k».proof.Defs
public import proofs.«01_k».proof.Proof.Gen.KernelDownWIdeal.Value
public import proofs.«01_k».proof.Proof.Gen.ReferenceDownWIdeal.Read
public import proofs.«01_k».proof.Proof.Blocked

@[expose] public section

set_option maxRecDepth 16384

noncomputable section

namespace Cert.KernelDownWIdeal.Own

open Cert.KernelDownWIdeal Cert.KernelDownWIdeal.Gen Idealize.ShloMosaic Idealize.ShloMosaic.TcCoe Idealize.SL.Sem
open Idealize.ShloMosaic.Pipeline (Dat)
open Cert.Blocked (pos sum_pos)

/-- The blocks of a grid point. -/
theorem idx : ∀ t : Fin cfg0.N, win0_0.index t = ![0, t.val % 2, t.val / 4] ∧ win0_1.index t = ![0, t.val % 2, t.val / 2 % 2] ∧ win0_2.index t = ![0, t.val / 4, t.val / 2 % 2] :=
  (by decide +kernel : ∀ t : Fin grid0.N, win0_0.index t = ![0, t.val % 2, t.val / 4] ∧ win0_1.index t = ![0, t.val % 2, t.val / 2 % 2] ∧ win0_2.index t = ![0, t.val / 4, t.val / 2 % 2])

variable (m : (ℓ : Loc nD τ sig) → Buf (Elt Ideal) ℓ) (c : Dev nD)

abbrev S : Vec Ideal S4096x5632 .bf16 := m (c.tc.loc main_arg0)
abbrev D : Vec Ideal S4096x2048 .bf16 := m (c.tc.loc main_arg1)

theorem V0 : V m c main_v0 = shapeCast S1x4096x5632 (S m c) shapeCasts_S4096x5632_S1x4096x5632 := by
  unfold V; after_reads_simp; rfl
theorem V1 : V m c main_v1 = shapeCast S1x4096x2048 (D m c) shapeCasts_S4096x2048_S1x4096x2048 := by
  unfold V; after_reads_simp; rfl

theorem in0 (t : Fin cfg0.N) (k : Fin 2048) (u : Fin 1408) (i : Fin 2) (hi : t.val % 2 = i.val) (j : Fin 4) (hj : t.val / 4 = j.val) :
    (iblk m c 0 t : Vec Ideal S1x2048x1408 .bf16) (ix3 0 k u) = S m c (ix2 (pos (by decide) i k) (pos (by decide) j u)) := by
  blk_simp [iblk]
  rw [V0]
  pointwise
  blk_ext [idx t, pos]

theorem in1 (t : Fin cfg0.N) (k : Fin 2048) (u : Fin 1024) (i : Fin 2) (hi : t.val % 2 = i.val) (j : Fin 2) (hj : t.val / 2 % 2 = j.val) :
    (iblk m c 1 t : Vec Ideal S1x2048x1024 .bf16) (ix3 0 k u) = D m c (ix2 (pos (by decide) i k) (pos (by decide) j u)) := by
  blk_simp [iblk]
  rw [V1]
  pointwise
  blk_ext [idx t, pos]

/-- The product of two blocks. -/
theorem pay1 (x : Vec Ideal S1x2048x1408 .bf16) (y : Vec Ideal S1x2048x1024 .bf16) (u : Fin 1408) (v : Fin 1024) :
    k0_pay1 (F := Ideal) x y (ix2 u v) = ∑ k : Fin 2048, x (ix3 0 k u) * y (ix3 0 k v) := by
  unfold k0_pay1; pointwise

/-- The accumulator after the last block of rows: the sum over both. -/
theorem acc (t : Fin cfg0.N) (h : t.val % 2 = 1) (u : Fin 1408) (v : Fin 1024) :
    (outsAt0 m c t.val t.isLt).2 (ix2 u v) = 0 + ∑ s : Fin 2, k0_pay1 (F := Ideal) (iblk m c 0 ⟨2 * (t.val / 2) + s.val, Pipeline.run_point_lt_of_flush t h s⟩) (iblk m c 1 ⟨2 * (t.val / 2) + s.val, Pipeline.run_point_lt_of_flush t h s⟩) (ix2 u v) := by
  refine Pipeline.eq_sum_fin_of_reset_step_apply_of_flush (fun n h => (outsAt0 m c n h).2) 2 (fun _ => 0)
    (fun p => k0_pay1 (F := Ideal) (iblk m c 0 p) (iblk m c 1 p)) (fun p hp j => ?_) (fun p hp j => ?_) t h (ix2 u v)
  · rw [outsAt0_A m c p hp (by omega) (by omega)]
    frame_out
    idx_vars j
    unfold k0_pay2
    pointwise
  · rw [outsAt0_B m c p hp (by omega) (by omega)]
    frame_out
    idx_vars j
    simp only [read_unread_whole]
    unfold k0_pay3
    pointwise

/-- The last point of a run writes its accumulator. -/
theorem wrote (t : Fin cfg0.N) (h : t.val % 2 = 1) : (outsAt0 m c t.val t.isLt).1 = k0_pay4 (outsAt0 m c t.val t.isLt).2 := by
  rw [outsAt0_B m c t (by omega) h h]
  frame_out

/-- The product of the two arrays over their rows. -/
def product (S : Vec Ideal S4096x5632 .bf16) (D : Vec Ideal S4096x2048 .bf16) (u : Fin 5632) (v : Fin 2048) : EReal :=
  ∑ k : Fin 4096, S (ix2 k u) * D (ix2 k v)

theorem block (t : Fin cfg0.N) (h : t.val % 2 = 1) (u : Fin 1408) (v : Fin 1024) (i : Fin 4) (hi : t.val / 4 = i.val) (j : Fin 2) (hj : t.val / 2 % 2 = j.val) :
    ((outsAt0 m c t.val t.isLt).1 (ix3 0 u v) : EReal) = product (S m c) (D m c) (pos (by decide) i u) (pos (by decide) j v) := by
  rw [wrote m c t h]
  unfold k0_pay4 product
  pointwise
  rw [acc m c t h, sum_pos (by decide : 2 * 2048 = 4096), zero_add]
  refine Finset.sum_congr rfl fun s _ => (pay1 _ _ _ _).trans (Finset.sum_congr rfl fun k _ => ?_)
  rw [in0 m c _ k u s (by dsimp only; omega) i (by dsimp only; omega), in1 m c _ k v s (by dsimp only; omega) j (by dsimp only; omega)]

/-- It as the array of the result. -/
def result (S : Vec Ideal S4096x5632 .bf16) (D : Vec Ideal S4096x2048 .bf16) : Vec Ideal S1x5632x2048 .bf16 := fun j => product S D (j 1) (j 2)

theorem array : (dats m 0 c).arrAt 2 cfg0.N = result (S m c) (D m c) := by
  refine (dats m 0 c).arrAt_eq_of_covers 2 _ (by decide +kernel) fun t hf y => ?_
  have hN : t.val < 16 := t.isLt
  idx_vars y
  blk_simp
  rw [after0_2]
  obtain rfl : y0 = 0 := Subsingleton.elim _ _
  refine (block m c t ((flush0_2 t).mp hf) y1 y2 ⟨t.val / 4, by omega⟩ rfl ⟨t.val / 2 % 2, by omega⟩ rfl).trans ?_
  refine congrArg₂ (product (S m c) (D m c)) (Fin.ext ?_) (Fin.ext ?_)
  · blk_simp [idx t]; rfl
  · blk_simp [idx t]; rfl

end Cert.KernelDownWIdeal.Own

namespace Cert.ReferenceDownWIdeal.Own

open Cert.ReferenceDownWIdeal Cert.ReferenceDownWIdeal.Gen Cert.ReferenceDownWIdeal.Read Idealize.ShloMosaic

/-- The reference's result is that product. -/
theorem array (S : Vec Ideal S4096x5632 .bf16) (D : Vec Ideal S4096x2048 .bf16) :
    val_main_v7 (F := Ideal) S D = Cert.KernelDownWIdeal.Own.result S D := by
  funext j; idx_vars j
  unfold val_main_v7 val_main_v6 val_main_v5 val_main_v4 val_main_v3 val_main_v0
  pointwise
  exact Finset.sum_congr rfl fun k _ => mul_comm (_ : EReal) _

end Cert.ReferenceDownWIdeal.Own

namespace Cert.Proof

open Idealize.ShloMosaic Idealize.ShloMosaic.TcCoe Idealize.SL.Sem

/-- The reference leaves its arguments as they were, and it has no counters. -/
theorem frame_r_down_w : quiescent_ReferenceDownWIdeal (hReferenceDownWIdeal := Cert.ReferenceDownWIdeal.Gen.facts) := fun m g _ =>
  (θ_run _ _ _).mono (fun r h => ⟨fun c => (h c).2, sem_eq_zero_of_no_sems (by decide) r.2⟩) (Cert.ReferenceDownWIdeal.Value.run m g)

/-- Over the reals the kernel and the reference end with the same gradient of w_down. -/
theorem algebraic_down_w : algebraic_KernelDownWIdeal_ReferenceDownWIdeal (hKernelDownWIdeal := Cert.KernelDownWIdeal.Gen.facts) (hReferenceDownWIdeal := Cert.ReferenceDownWIdeal.Gen.facts) := by
  intro m g m' g' _ hargs
  refine ⟨fun c => Cert.KernelDownWIdeal.Own.result (Cert.KernelDownWIdeal.Own.S m c) (Cert.KernelDownWIdeal.Own.D m c), ?_, ?_⟩
  · refine (θ_run _ _ _).mono (fun r h c => ?_) (Cert.KernelDownWIdeal.Value.run_blocks m g)
    obtain ⟨h0, ha⟩ := h c
    exact ⟨h0.trans (Cert.KernelDownWIdeal.Own.array m c), ha⟩
  · refine (θ_run _ _ _).mono (fun r h c => ?_) (Cert.ReferenceDownWIdeal.Value.run m' g')
    obtain ⟨h0, ha⟩ := h c
    obtain ⟨e0, e1⟩ := hargs c
    refine ⟨h0.trans ((Cert.ReferenceDownWIdeal.Read.val_main_v7_eq _ _).trans ?_), ha⟩
    rw [e0, e1]
    exact Cert.ReferenceDownWIdeal.Own.array _ _

end Cert.Proof

end
-- ==== Proof.InW.lean ====
/- The gradient of w_gate and of w_up, in pieces of columns: what the kernel and the reference compute, element by element. -/
module

public import proofs.«01_k».proof.Defs
public import proofs.«01_k».proof.Proof.Gen.KernelInWIdeal.Value
public import proofs.«01_k».proof.Proof.Gen.ReferenceInWIdeal.Read
public import proofs.«01_k».proof.Proof.Blocked

@[expose] public section

set_option maxRecDepth 16384

noncomputable section

namespace Cert.KernelInWIdeal.Own

open Cert.KernelInWIdeal Cert.KernelInWIdeal.Gen Idealize.ShloMosaic Idealize.ShloMosaic.TcCoe Idealize.SL.Sem
open Idealize.ShloMosaic.Pipeline (Dat)
open Cert.Blocked (pos sum_pos)

/-- The blocks of a grid point. -/
theorem idx : ∀ t : Fin cfg0.N, win0_0.index t = ![0, t.val % 2, t.val / 8] ∧ win0_1.index t = ![0, t.val % 2, t.val / 2 % 4] ∧ win0_2.index t = ![t.val / 2 % 4, t.val / 8, 0] :=
  (by decide +kernel : ∀ t : Fin grid0.N, win0_0.index t = ![0, t.val % 2, t.val / 8] ∧ win0_1.index t = ![0, t.val % 2, t.val / 2 % 4] ∧ win0_2.index t = ![t.val / 2 % 4, t.val / 8, 0])

variable (m : (ℓ : Loc nD τ sig) → Buf (Elt Ideal) ℓ) (c : Dev nD)

abbrev H : Vec Ideal S4096x2048 .bf16 := m (c.tc.loc main_arg0)
abbrev A : Vec Ideal S4096x5632 .bf16 := m (c.tc.loc main_arg1)

theorem V0 : V m c main_v0 = shapeCast S1x4096x2048 (H m c) shapeCasts_S4096x2048_S1x4096x2048 := by
  unfold V; after_reads_simp; rfl
theorem V1 : V m c main_v1 = shapeCast S1x4096x5632 (A m c) shapeCasts_S4096x5632_S1x4096x5632 := by
  unfold V; after_reads_simp; rfl

theorem in0 (t : Fin cfg0.N) (k : Fin 2048) (u : Fin 1024) (i : Fin 2) (hi : t.val % 2 = i.val) (j : Fin 2) (hj : t.val / 8 = j.val) :
    (iblk m c 0 t : Vec Ideal S1x2048x1024 .bf16) (ix3 0 k u) = H m c (ix2 (pos (by decide) i k) (pos (by decide) j u)) := by
  blk_simp [iblk]
  rw [V0]
  pointwise
  blk_ext [idx t, pos]

theorem in1 (t : Fin cfg0.N) (k : Fin 2048) (u : Fin 1408) (i : Fin 2) (hi : t.val % 2 = i.val) (j : Fin 4) (hj : t.val / 2 % 4 = j.val) :
    (iblk m c 1 t : Vec Ideal S1x2048x1408 .bf16) (ix3 0 k u) = A m c (ix2 (pos (by decide) i k) (pos (by decide) j u)) := by
  blk_simp [iblk]
  rw [V1]
  pointwise
  blk_ext [idx t, pos]

/-- The product of two blocks. -/
theorem pay1 (x : Vec Ideal S1x2048x1024 .bf16) (y : Vec Ideal S1x2048x1408 .bf16) (u : Fin 1024) (v : Fin 1408) :
    k0_pay1 (F := Ideal) x y (ix2 u v) = ∑ k : Fin 2048, x (ix3 0 k u) * y (ix3 0 k v) := by
  unfold k0_pay1; pointwise

/-- The accumulator after the last block of rows: the sum over both. -/
theorem acc (t : Fin cfg0.N) (h : t.val % 2 = 1) (u : Fin 1024) (v : Fin 1408) :
    (outsAt0 m c t.val t.isLt).2 (ix2 u v) = 0 + ∑ s : Fin 2, k0_pay1 (F := Ideal) (iblk m c 0 ⟨2 * (t.val / 2) + s.val, Pipeline.run_point_lt_of_flush t h s⟩) (iblk m c 1 ⟨2 * (t.val / 2) + s.val, Pipeline.run_point_lt_of_flush t h s⟩) (ix2 u v) := by
  refine Pipeline.eq_sum_fin_of_reset_step_apply_of_flush (fun n h => (outsAt0 m c n h).2) 2 (fun _ => 0)
    (fun p => k0_pay1 (F := Ideal) (iblk m c 0 p) (iblk m c 1 p)) (fun p hp j => ?_) (fun p hp j => ?_) t h (ix2 u v)
  · rw [outsAt0_A m c p hp (by omega) (by omega)]
    frame_out
    idx_vars j
    unfold k0_pay2
    pointwise
  · rw [outsAt0_B m c p hp (by omega) (by omega)]
    frame_out
    idx_vars j
    simp only [read_unread_whole]
    unfold k0_pay3
    pointwise

/-- The last point of a run writes its accumulator. -/
theorem wrote (t : Fin cfg0.N) (h : t.val % 2 = 1) : (outsAt0 m c t.val t.isLt).1 = k0_pay4 (outsAt0 m c t.val t.isLt).2 := by
  rw [outsAt0_B m c t (by omega) h h]
  frame_out

/-- Piece `n` of the product of the two arrays over their rows. -/
def product (H : Vec Ideal S4096x2048 .bf16) (A : Vec Ideal S4096x5632 .bf16) (n : Fin 4) (u : Fin 2048) (v : Fin 1408) : EReal :=
  ∑ k : Fin 4096, H (ix2 k u) * A (ix2 k (pos (by decide) n v))

/-- The pieces as the array of the result. -/
def result (H : Vec Ideal S4096x2048 .bf16) (A : Vec Ideal S4096x5632 .bf16) : Vec Ideal S4x2048x1408 .bf16 := fun j => product H A (j 0) (j 1) (j 2)

theorem block (t : Fin cfg0.N) (h : t.val % 2 = 1) (u : Fin 1024) (v : Fin 1408) (i : Fin 2) (hi : t.val / 8 = i.val) (j : Fin 4) (hj : t.val / 2 % 4 = j.val) :
    ((outsAt0 m c t.val t.isLt).1 (ix3 0 u v) : EReal) = product (H m c) (A m c) j (pos (by decide) i u) v := by
  rw [wrote m c t h]
  unfold k0_pay4 product
  pointwise
  rw [acc m c t h, sum_pos (by decide : 2 * 2048 = 4096), zero_add]
  refine Finset.sum_congr rfl fun s _ => (pay1 _ _ _ _).trans (Finset.sum_congr rfl fun k _ => ?_)
  rw [in0 m c _ k u s (by dsimp only; omega) i (by dsimp only; omega), in1 m c _ k v s (by dsimp only; omega) j (by dsimp only; omega)]

theorem array : (dats m 0 c).arrAt 2 cfg0.N = result (H m c) (A m c) := by
  refine (dats m 0 c).arrAt_eq_of_covers 2 _ (by decide +kernel) fun t hf y => ?_
  have hN : t.val < 16 := t.isLt
  idx_vars y
  blk_simp
  rw [after0_2]
  obtain rfl : y0 = 0 := Subsingleton.elim _ _
  refine (block m c t ((flush0_2 t).mp hf) y1 y2 ⟨t.val / 8, by omega⟩ rfl ⟨t.val / 2 % 4, by omega⟩ rfl).trans ?_
  refine congr (congrArg₂ (product (H m c) (A m c)) (Fin.ext ?_) (Fin.ext ?_)) (Fin.ext ?_)
  · blk_simp [idx t]; rfl
  · blk_simp [idx t]; rfl
  · blk_simp [idx t]

end Cert.KernelInWIdeal.Own

namespace Cert.ReferenceInWIdeal.Own

open Cert.ReferenceInWIdeal Cert.ReferenceInWIdeal.Gen Cert.ReferenceInWIdeal.Read Idealize.ShloMosaic

/-- The reference's result is that product. -/
theorem array (H : Vec Ideal S4096x2048 .bf16) (A : Vec Ideal S4096x5632 .bf16) :
    val_main_v8 (F := Ideal) H A = Cert.KernelInWIdeal.Own.result H A := by
  funext j; idx_vars j
  unfold val_main_v8 val_main_v7 val_main_v6 val_main_v5 val_main_v4 val_main_v3 val_main_v0
  pointwise
  show _ = Cert.KernelInWIdeal.Own.product H A j0 j1 j2
  exact Finset.sum_congr rfl fun k _ => mul_comm (_ : EReal) _

end Cert.ReferenceInWIdeal.Own

namespace Cert.Proof

open Idealize.ShloMosaic Idealize.ShloMosaic.TcCoe Idealize.SL.Sem

/-- The reference leaves its arguments as they were, and it has no counters. -/
theorem frame_r_in_w : quiescent_ReferenceInWIdeal (hReferenceInWIdeal := Cert.ReferenceInWIdeal.Gen.facts) := fun m g _ =>
  (θ_run _ _ _).mono (fun r h => ⟨fun c => (h c).2, sem_eq_zero_of_no_sems (by decide) r.2⟩) (Cert.ReferenceInWIdeal.Value.run m g)

/-- Over the reals the kernel and the reference end with the same gradient of w_gate. -/
theorem algebraic_in_w : algebraic_KernelInWIdeal_ReferenceInWIdeal (hKernelInWIdeal := Cert.KernelInWIdeal.Gen.facts) (hReferenceInWIdeal := Cert.ReferenceInWIdeal.Gen.facts) := by
  intro m g m' g' _ hargs
  refine ⟨fun c => Cert.KernelInWIdeal.Own.result (Cert.KernelInWIdeal.Own.H m c) (Cert.KernelInWIdeal.Own.A m c), ?_, ?_⟩
  · refine (θ_run _ _ _).mono (fun r h c => ?_) (Cert.KernelInWIdeal.Value.run_blocks m g)
    obtain ⟨h0, ha⟩ := h c
    exact ⟨h0.trans (Cert.KernelInWIdeal.Own.array m c), ha⟩
  · refine (θ_run _ _ _).mono (fun r h c => ?_) (Cert.ReferenceInWIdeal.Value.run m' g')
    obtain ⟨h0, ha⟩ := h c
    obtain ⟨e0, e1⟩ := hargs c
    refine ⟨h0.trans ((Cert.ReferenceInWIdeal.Read.val_main_v8_eq _ _).trans ?_), ha⟩
    rw [e0, e1]
    exact Cert.ReferenceInWIdeal.Own.array _ _

end Cert.Proof

end
-- ==== Proof.GateX.lean ====
/- The gradient that h gets from the gate: what the kernel and the reference compute, element by element. -/
module

public import proofs.«01_k».proof.Defs
public import proofs.«01_k».proof.Proof.Gen.KernelGateXIdeal.Value
public import proofs.«01_k».proof.Proof.Gen.ReferenceGateXIdeal.Read
public import proofs.«01_k».proof.Proof.Blocked

@[expose] public section

set_option maxRecDepth 16384

noncomputable section

namespace Cert.KernelGateXIdeal.Own

open Cert.KernelGateXIdeal Cert.KernelGateXIdeal.Gen Idealize.ShloMosaic Idealize.ShloMosaic.TcCoe Idealize.SL.Sem
open Idealize.ShloMosaic.Pipeline (Dat)
open Cert.Blocked (pos sum_pos)

/-- The blocks of a grid point. -/
theorem idx : ∀ t : Fin cfg0.N, win0_0.index t = ![0, t.val / 4, t.val % 4] ∧ win0_1.index t = ![t.val % 4, 0, 0] ∧ win0_2.index t = ![0, t.val / 4, 0] :=
  (by decide +kernel : ∀ t : Fin grid0.N, win0_0.index t = ![0, t.val / 4, t.val % 4] ∧ win0_1.index t = ![t.val % 4, 0, 0] ∧ win0_2.index t = ![0, t.val / 4, 0])

variable (m : (ℓ : Loc nD τ sig) → Buf (Elt Ideal) ℓ) (c : Dev nD)

abbrev A : Vec Ideal S4096x5632 .bf16 := m (c.tc.loc main_arg0)
abbrev W : Vec Ideal S4x2048x1408 .bf16 := m (c.tc.loc main_arg1)

theorem V0 : V m c main_v0 = shapeCast S1x4096x5632 (A m c) shapeCasts_S4096x5632_S1x4096x5632 := by
  unfold V; after_reads_simp; rfl

theorem in0 (t : Fin cfg0.N) (u : Fin 512) (k : Fin 1408) (i : Fin 8) (hi : t.val / 4 = i.val) (n : Fin 4) (hn : t.val % 4 = n.val) :
    (iblk m c 0 t : Vec Ideal S1x512x1408 .bf16) (ix3 0 u k) = A m c (ix2 (pos (by decide) i u) (pos (by decide) n k)) := by
  blk_simp [iblk]
  rw [V0]
  pointwise
  blk_ext [idx t, pos]

theorem in1 (t : Fin cfg0.N) (v : Fin 2048) (k : Fin 1408) (n : Fin 4) (hn : t.val % 4 = n.val) :
    (iblk m c 1 t : Vec Ideal S1x2048x1408 .bf16) (ix3 0 v k) = W m c (ix3 n v k) := by
  blk_simp [iblk]
  rw [V_main_arg1]
  blk_ext [idx t]

/-- The product of two blocks. -/
theorem pay1 (x : Vec Ideal S1x512x1408 .bf16) (y : Vec Ideal S1x2048x1408 .bf16) (u : Fin 512) (v : Fin 2048) :
    k0_pay1 (F := Ideal) x y (ix2 u v) = ∑ k : Fin 1408, x (ix3 0 u k) * y (ix3 0 v k) := by
  unfold k0_pay1; pointwise

/-- The accumulator after the last block of columns: the sum over the four. -/
theorem acc (t : Fin cfg0.N) (h : t.val % 4 = 3) (u : Fin 512) (v : Fin 2048) :
    (outsAt0 m c t.val t.isLt).2 (ix2 u v) = 0 + ∑ s : Fin 4, k0_pay1 (F := Ideal) (iblk m c 0 ⟨4 * (t.val / 4) + s.val, Pipeline.run_point_lt_of_flush t h s⟩) (iblk m c 1 ⟨4 * (t.val / 4) + s.val, Pipeline.run_point_lt_of_flush t h s⟩) (ix2 u v) := by
  refine Pipeline.eq_sum_fin_of_reset_step_apply_of_flush (fun n h => (outsAt0 m c n h).2) 4 (fun _ => 0)
    (fun p => k0_pay1 (F := Ideal) (iblk m c 0 p) (iblk m c 1 p)) (fun p hp j => ?_) (fun p hp j => ?_) t h (ix2 u v)
  · rw [outsAt0_A m c p hp (by omega) (by omega)]
    frame_out
    idx_vars j
    unfold k0_pay2
    pointwise
  · by_cases h3 : p.val % 4 = 3
    · rw [outsAt0_C m c p hp (by omega) h3]
      frame_out
      idx_vars j
      simp only [read_unread_whole]
      unfold k0_pay3
      pointwise
    · rw [outsAt0_B m c p hp (by omega) h3]
      frame_out
      idx_vars j
      simp only [read_unread_whole]
      unfold k0_pay3
      pointwise

/-- The last point of a run writes its accumulator. -/
theorem wrote (t : Fin cfg0.N) (h : t.val % 4 = 3) : (outsAt0 m c t.val t.isLt).1 = k0_pay4 (outsAt0 m c t.val t.isLt).2 := by
  rw [outsAt0_C m c t (by omega) (by omega) h]
  frame_out

/-- The product of the array and the transposed weight, over the weight's pieces of columns. -/
def product (A : Vec Ideal S4096x5632 .bf16) (W : Vec Ideal S4x2048x1408 .bf16) (u : Fin 4096) (v : Fin 2048) : EReal :=
  ∑ n : Fin 4, ∑ k : Fin 1408, A (ix2 u (pos (by decide) n k)) * W (ix3 n v k)

/-- It as the array of the result. -/
def result (A : Vec Ideal S4096x5632 .bf16) (W : Vec Ideal S4x2048x1408 .bf16) : Vec Ideal S1x4096x2048 .f32 := fun j => product A W (j 1) (j 2)

theorem block (t : Fin cfg0.N) (h : t.val % 4 = 3) (u : Fin 512) (v : Fin 2048) (i : Fin 8) (hi : t.val / 4 = i.val) :
    ((outsAt0 m c t.val t.isLt).1 (ix3 0 u v) : EReal) = product (A m c) (W m c) (pos (by decide) i u) v := by
  rw [wrote m c t h]
  unfold k0_pay4 product
  pointwise
  rw [acc m c t h, zero_add]
  refine Finset.sum_congr rfl fun s _ => (pay1 _ _ _ _).trans (Finset.sum_congr rfl fun k _ => ?_)
  rw [in0 m c _ u k i (by dsimp only; omega) s (by dsimp only; omega), in1 m c _ v k s (by dsimp only; omega)]

theorem array : (dats m 0 c).arrAt 2 cfg0.N = result (A m c) (W m c) := by
  refine (dats m 0 c).arrAt_eq_of_covers 2 _ (by decide +kernel) fun t hf y => ?_
  have hN : t.val < 32 := t.isLt
  idx_vars y
  blk_simp
  rw [after0_2]
  obtain rfl : y0 = 0 := Subsingleton.elim _ _
  refine (block m c t ((flush0_2 t).mp hf) y1 y2 ⟨t.val / 4, by omega⟩ rfl).trans ?_
  refine congrArg₂ (product (A m c) (W m c)) (Fin.ext ?_) (Fin.ext ?_)
  · blk_simp [idx t]; rfl
  · blk_simp [idx t]

end Cert.KernelGateXIdeal.Own

namespace Cert.ReferenceGateXIdeal.Own

open Cert.ReferenceGateXIdeal Cert.ReferenceGateXIdeal.Gen Cert.ReferenceGateXIdeal.Read Idealize.ShloMosaic
open Cert.Blocked (pos sum_pos)

/-- A column of the whole weight lies in its piece. -/
theorem whole_at (W : Vec Ideal S4x2048x1408 .bf16) (v : Fin 2048) (n : Fin 4) (k : Fin 1408) :
    val_main_v2 (F := Ideal) W (ix2 v (pos (by decide) n k)) = W (ix3 n v k) := by
  unfold val_main_v2 val_main_v1 val_main_v0
  pointwise
  blk_ext [pos]

/-- The reference's result is that product. -/
theorem array (A : Vec Ideal S4096x5632 .bf16) (W : Vec Ideal S4x2048x1408 .bf16) :
    val_main_v7 (F := Ideal) A W = Cert.KernelGateXIdeal.Own.result A W := by
  funext j; idx_vars j
  unfold val_main_v7 val_main_v6 val_main_v5
  pointwise
  show (∑ x : Fin 5632, A (ix2 j1 x) * val_main_v2 (F := Ideal) W (ix2 j2 x) : EReal) = Cert.KernelGateXIdeal.Own.product A W j1 j2
  rw [sum_pos (by decide : 4 * 1408 = 5632)]
  simp only [whole_at]
  rfl

end Cert.ReferenceGateXIdeal.Own

namespace Cert.Proof

open Idealize.ShloMosaic Idealize.ShloMosaic.TcCoe Idealize.SL.Sem

/-- The reference leaves its arguments as they were, and it has no counters. -/
theorem frame_r_gate_x : quiescent_ReferenceGateXIdeal (hReferenceGateXIdeal := Cert.ReferenceGateXIdeal.Gen.facts) := fun m g _ =>
  (θ_run _ _ _).mono (fun r h => ⟨fun c => (h c).2, sem_eq_zero_of_no_sems (by decide) r.2⟩) (Cert.ReferenceGateXIdeal.Value.run m g)

/-- Over the reals the kernel and the reference end with the same gradient of h. -/
theorem algebraic_gate_x : algebraic_KernelGateXIdeal_ReferenceGateXIdeal (hKernelGateXIdeal := Cert.KernelGateXIdeal.Gen.facts) (hReferenceGateXIdeal := Cert.ReferenceGateXIdeal.Gen.facts) := by
  intro m g m' g' _ hargs
  refine ⟨fun c => Cert.KernelGateXIdeal.Own.result (Cert.KernelGateXIdeal.Own.A m c) (Cert.KernelGateXIdeal.Own.W m c), ?_, ?_⟩
  · refine (θ_run _ _ _).mono (fun r h c => ?_) (Cert.KernelGateXIdeal.Value.run_blocks m g)
    obtain ⟨h0, ha⟩ := h c
    exact ⟨h0.trans (Cert.KernelGateXIdeal.Own.array m c), ha⟩
  · refine (θ_run _ _ _).mono (fun r h c => ?_) (Cert.ReferenceGateXIdeal.Value.run m' g')
    obtain ⟨h0, ha⟩ := h c
    obtain ⟨e0, e1⟩ := hargs c
    refine ⟨h0.trans ((Cert.ReferenceGateXIdeal.Read.val_main_v7_eq _ _).trans ?_), ha⟩
    rw [e0, e1]
    exact Cert.ReferenceGateXIdeal.Own.array _ _

end Cert.Proof

end
-- ==== Proof.UpX.lean ====
/- The gradient of h, of what it has got from the gate: what the kernel and the reference compute, element by element. -/
module

public import proofs.«01_k».proof.Defs
public import proofs.«01_k».proof.Proof.Gen.KernelUpXIdeal.Value
public import proofs.«01_k».proof.Proof.Gen.ReferenceUpXIdeal.Read
public import proofs.«01_k».proof.Proof.GateX

@[expose] public section

set_option maxRecDepth 16384

noncomputable section

namespace Cert.KernelUpXIdeal.Own

open Cert.KernelUpXIdeal Cert.KernelUpXIdeal.Gen Idealize.ShloMosaic Idealize.ShloMosaic.TcCoe Idealize.SL.Sem
open Idealize.ShloMosaic.Pipeline (Dat)
open Cert.Blocked (pos sum_pos)
open Cert.KernelGateXIdeal.Own (product)

/-- The blocks of a grid point. -/
theorem idx : ∀ t : Fin cfg0.N, win0_0.index t = ![0, t.val / 4, t.val % 4] ∧ win0_1.index t = ![t.val % 4, 0, 0] ∧ win0_2.index t = ![0, t.val / 4, 0] ∧ win0_3.index t = ![0, t.val / 4, 0] :=
  (by decide +kernel : ∀ t : Fin grid0.N, win0_0.index t = ![0, t.val / 4, t.val % 4] ∧ win0_1.index t = ![t.val % 4, 0, 0] ∧ win0_2.index t = ![0, t.val / 4, 0] ∧ win0_3.index t = ![0, t.val / 4, 0])

variable (m : (ℓ : Loc nD τ sig) → Buf (Elt Ideal) ℓ) (c : Dev nD)

abbrev B : Vec Ideal S4096x5632 .bf16 := m (c.tc.loc main_arg0)
abbrev W : Vec Ideal S4x2048x1408 .bf16 := m (c.tc.loc main_arg1)
abbrev E : Vec Ideal S1x4096x2048 .f32 := m (c.tc.loc main_arg2)

theorem V0 : V m c main_v0 = shapeCast S1x4096x5632 (B m c) shapeCasts_S4096x5632_S1x4096x5632 := by
  unfold V; after_reads_simp; rfl

theorem in0 (t : Fin cfg0.N) (u : Fin 512) (k : Fin 1408) (i : Fin 8) (hi : t.val / 4 = i.val) (n : Fin 4) (hn : t.val % 4 = n.val) :
    (iblk m c 0 t : Vec Ideal S1x512x1408 .bf16) (ix3 0 u k) = B m c (ix2 (pos (by decide) i u) (pos (by decide) n k)) := by
  blk_simp [iblk]
  rw [V0]
  pointwise
  blk_ext [idx t, pos]

theorem in1 (t : Fin cfg0.N) (v : Fin 2048) (k : Fin 1408) (n : Fin 4) (hn : t.val % 4 = n.val) :
    (iblk m c 1 t : Vec Ideal S1x2048x1408 .bf16) (ix3 0 v k) = W m c (ix3 n v k) := by
  blk_simp [iblk]
  rw [V_main_arg1]
  blk_ext [idx t]

theorem in2 (t : Fin cfg0.N) (u : Fin 512) (v : Fin 2048) (i : Fin 8) (hi : t.val / 4 = i.val) :
    (iblk m c 2 t : Vec Ideal S1x512x2048 .f32) (ix3 0 u v) = E m c (ix3 0 (pos (by decide) i u) v) := by
  blk_simp [iblk]
  rw [V_main_arg2]
  blk_ext [idx t, pos]

/-- The product of two blocks. -/
theorem pay1 (x : Vec Ideal S1x512x1408 .bf16) (y : Vec Ideal S1x2048x1408 .bf16) (u : Fin 512) (v : Fin 2048) :
    k0_pay1 (F := Ideal) x y (ix2 u v) = ∑ k : Fin 1408, x (ix3 0 u k) * y (ix3 0 v k) := by
  unfold k0_pay1; pointwise

/-- The accumulator after the last block of columns: the sum over the four. -/
theorem acc (t : Fin cfg0.N) (h : t.val % 4 = 3) (u : Fin 512) (v : Fin 2048) :
    (outsAt0 m c t.val t.isLt).2 (ix2 u v) = 0 + ∑ s : Fin 4, k0_pay1 (F := Ideal) (iblk m c 0 ⟨4 * (t.val / 4) + s.val, Pipeline.run_point_lt_of_flush t h s⟩) (iblk m c 1 ⟨4 * (t.val / 4) + s.val, Pipeline.run_point_lt_of_flush t h s⟩) (ix2 u v) := by
  refine Pipeline.eq_sum_fin_of_reset_step_apply_of_flush (fun n h => (outsAt0 m c n h).2) 4 (fun _ => 0)
    (fun p => k0_pay1 (F := Ideal) (iblk m c 0 p) (iblk m c 1 p)) (fun p hp j => ?_) (fun p hp j => ?_) t h (ix2 u v)
  · rw [outsAt0_A m c p hp (by omega) (by omega)]
    frame_out
    idx_vars j
    unfold k0_pay2
    pointwise
  · by_cases h3 : p.val % 4 = 3
    · rw [outsAt0_C m c p hp (by omega) h3]
      frame_out
      idx_vars j
      simp only [read_unread_whole]
      unfold k0_pay3
      pointwise
    · rw [outsAt0_B m c p hp (by omega) h3]
      frame_out
      idx_vars j
      simp only [read_unread_whole]
      unfold k0_pay3
      pointwise

/-- The last point of a run writes its accumulator, with the third array added. -/
theorem wrote (t : Fin cfg0.N) (h : t.val % 4 = 3) : (outsAt0 m c t.val t.isLt).1 = k0_pay4 (outsAt0 m c t.val t.isLt).2 (iblk m c 2 t) := by
  rw [outsAt0_C m c t (by omega) (by omega) h]
  frame_out

/-- The third array and the product of the other two. -/
def result (B : Vec Ideal S4096x5632 .bf16) (W : Vec Ideal S4x2048x1408 .bf16) (E : Vec Ideal S1x4096x2048 .f32) : Vec Ideal S1x4096x2048 .bf16 :=
  fun j => (E (ix3 0 (j 1) (j 2)) + product B W (j 1) (j 2) : EReal)

theorem block (t : Fin cfg0.N) (h : t.val % 4 = 3) (u : Fin 512) (v : Fin 2048) (i : Fin 8) (hi : t.val / 4 = i.val) :
    ((outsAt0 m c t.val t.isLt).1 (ix3 0 u v) : EReal) = result (B m c) (W m c) (E m c) (ix3 0 (pos (by decide) i u) v) := by
  rw [wrote m c t h]
  unfold k0_pay4 result product
  pointwise
  rw [acc m c t h, zero_add, in2 m c t u v i hi, add_comm]
  refine congrArg (fun x : EReal => E m c (ix3 0 (pos (by decide) i u) v) + x) ?_
  refine Finset.sum_congr rfl fun s _ => (pay1 _ _ _ _).trans (Finset.sum_congr rfl fun k _ => ?_)
  rw [in0 m c _ u k i (by dsimp only; omega) s (by dsimp only; omega), in1 m c _ v k s (by dsimp only; omega)]

theorem array : (dats m 0 c).arrAt 3 cfg0.N = result (B m c) (W m c) (E m c) := by
  refine (dats m 0 c).arrAt_eq_of_covers 3 _ (by decide +kernel) fun t hf y => ?_
  have hN : t.val < 32 := t.isLt
  idx_vars y
  blk_simp
  rw [after0_3]
  obtain rfl : y0 = 0 := Subsingleton.elim _ _
  refine (block m c t ((flush0_3 t).mp hf) y1 y2 ⟨t.val / 4, by omega⟩ rfl).trans (congrArg (result (B m c) (W m c) (E m c)) ?_)
  blk_ext [idx t, pos]

end Cert.KernelUpXIdeal.Own

namespace Cert.ReferenceUpXIdeal.Own

open Cert.ReferenceUpXIdeal Cert.ReferenceUpXIdeal.Gen Cert.ReferenceUpXIdeal.Read Idealize.ShloMosaic

/-- The reference's result is that sum: its product is the one of the gate. -/
theorem array (B : Vec Ideal S4096x5632 .bf16) (W : Vec Ideal S4x2048x1408 .bf16) (E : Vec Ideal S1x4096x2048 .f32) :
    val_main_v9 (F := Ideal) B W E = Cert.KernelUpXIdeal.Own.result B W E := by
  have h : val_main_v7 (F := Ideal) B W = Cert.KernelGateXIdeal.Own.result B W := Cert.ReferenceGateXIdeal.Own.array B W
  funext j; idx_vars j
  obtain rfl : j0 = 0 := Subsingleton.elim _ _
  unfold val_main_v9 val_main_v8
  rw [h]
  pointwise
  rfl

end Cert.ReferenceUpXIdeal.Own

namespace Cert.Proof

open Idealize.ShloMosaic Idealize.ShloMosaic.TcCoe Idealize.SL.Sem

/-- The reference leaves its arguments as they were, and it has no counters. -/
theorem frame_r_up_x : quiescent_ReferenceUpXIdeal (hReferenceUpXIdeal := Cert.ReferenceUpXIdeal.Gen.facts) := fun m g _ =>
  (θ_run _ _ _).mono (fun r h => ⟨fun c => (h c).2, sem_eq_zero_of_no_sems (by decide) r.2⟩) (Cert.ReferenceUpXIdeal.Value.run m g)

/-- Over the reals the kernel and the reference end with the same gradient of h. -/
theorem algebraic_up_x : algebraic_KernelUpXIdeal_ReferenceUpXIdeal (hKernelUpXIdeal := Cert.KernelUpXIdeal.Gen.facts) (hReferenceUpXIdeal := Cert.ReferenceUpXIdeal.Gen.facts) := by
  intro m g m' g' _ hargs
  refine ⟨fun c => Cert.KernelUpXIdeal.Own.result (Cert.KernelUpXIdeal.Own.B m c) (Cert.KernelUpXIdeal.Own.W m c) (Cert.KernelUpXIdeal.Own.E m c), ?_, ?_⟩
  · refine (θ_run _ _ _).mono (fun r h c => ?_) (Cert.KernelUpXIdeal.Value.run_blocks m g)
    obtain ⟨h0, ha⟩ := h c
    exact ⟨h0.trans (Cert.KernelUpXIdeal.Own.array m c), ha⟩
  · refine (θ_run _ _ _).mono (fun r h c => ?_) (Cert.ReferenceUpXIdeal.Value.run m' g')
    obtain ⟨h0, ha⟩ := h c
    obtain ⟨e0, e1, e2⟩ := hargs c
    refine ⟨h0.trans ((Cert.ReferenceUpXIdeal.Read.val_main_v9_eq _ _ _).trans ?_), ha⟩
    rw [e0, e1, e2]
    exact Cert.ReferenceUpXIdeal.Own.array _ _ _

end Cert.Proof

end
-- ==== Proof.Gate.lean ====
/- The gate of the SwiGLU network: what the kernel and the reference compute, element by element. -/
module

public import proofs.«01_k».proof.Defs
public import proofs.«01_k».proof.Proof.Gen.KernelGateIdeal.Value
public import proofs.«01_k».proof.Proof.Gen.ReferenceGateIdeal.Read
public import proofs.«01_k».proof.Proof.Blocked

@[expose] public section

set_option maxRecDepth 16384

noncomputable section

namespace Cert.KernelGateIdeal.Own

open Cert.KernelGateIdeal Cert.KernelGateIdeal.Gen Idealize.ShloMosaic Idealize.ShloMosaic.TcCoe Idealize.SL.Sem
open Idealize.ShloMosaic.Pipeline (Dat)
open Cert.Blocked (pos)

/-- The blocks of a grid point. -/
theorem idx : ∀ t : Fin cfg0.N, win0_0.index t = ![0, t.val / 4, 0] ∧ win0_1.index t = ![t.val % 4, 0, 0] ∧ win0_2.index t = ![0, t.val / 4, t.val % 4] :=
  (by decide +kernel : ∀ t : Fin grid0.N, win0_0.index t = ![0, t.val / 4, 0] ∧ win0_1.index t = ![t.val % 4, 0, 0] ∧ win0_2.index t = ![0, t.val / 4, t.val % 4])

variable (m : (ℓ : Loc nD τ sig) → Buf (Elt Ideal) ℓ) (c : Dev nD)

abbrev H : Vec Ideal S4096x2048 .bf16 := m (c.tc.loc main_arg0)
abbrev W : Vec Ideal S4x2048x1408 .bf16 := m (c.tc.loc main_arg1)

theorem V0 : V m c main_v0 = shapeCast S1x4096x2048 (H m c) shapeCasts_S4096x2048_S1x4096x2048 := by
  unfold V; after_reads_simp; rfl

theorem in0 (t : Fin cfg0.N) (u : Fin 1024) (k : Fin 2048) (i : Fin 4) (hi : t.val / 4 = i.val) :
    (iblk m c 0 t : Vec Ideal S1x1024x2048 .bf16) (ix3 0 u k) = H m c (ix2 (pos (by decide) i u) k) := by
  blk_simp [iblk]
  rw [V0]
  pointwise
  blk_ext [idx t, pos]

theorem in1 (t : Fin cfg0.N) (k : Fin 2048) (v : Fin 1408) (n : Fin 4) (hn : t.val % 4 = n.val) :
    (iblk m c 1 t : Vec Ideal S1x2048x1408 .bf16) (ix3 0 k v) = W m c (ix3 n k v) := by
  blk_simp [iblk]
  rw [V_main_arg1]
  blk_ext [idx t]

/-- The product of two blocks. -/
theorem pay1 (x : Vec Ideal S1x1024x2048 .bf16) (y : Vec Ideal S1x2048x1408 .bf16) (u : Fin 1024) (v : Fin 1408) :
    k0_pay1 (F := Ideal) x y (ix3 0 u v) = ∑ k : Fin 2048, x (ix3 0 u k) * y (ix3 0 k v) := by
  unfold k0_pay1; pointwise

/-- The product of the first array and the whole matrix whose four blocks of columns the second array has. -/
def product (H : Vec Ideal S4096x2048 .bf16) (W : Vec Ideal S4x2048x1408 .bf16) (u : Fin 4096) (n : Fin 4) (v : Fin 1408) : EReal :=
  ∑ k : Fin 2048, (H (ix2 u k) * W (ix3 n k v) : EReal)

/-- A column's block and its place in it. -/
def block (v : Fin 5632) : Fin 4 := ⟨v.val / 1408, by omega⟩
def place (v : Fin 5632) : Fin 1408 := ⟨v.val % 1408, by omega⟩

/-- The product as the array of the result. -/
def result (H : Vec Ideal S4096x2048 .bf16) (W : Vec Ideal S4x2048x1408 .bf16) : Vec Ideal S1x4096x5632 .bf16 :=
  fun j => product H W (j 1) (block (j 2)) (place (j 2))

theorem element (t : Fin cfg0.N) (u : Fin 1024) (v : Fin 1408) (i : Fin 4) (hi : t.val / 4 = i.val) (n : Fin 4) (hn : t.val % 4 = n.val) :
    (k0_pay1 (F := Ideal) (iblk m c 0 t) (iblk m c 1 t) (ix3 0 u v) : EReal) = product (H m c) (W m c) (pos (by decide) i u) n v := by
  refine (pay1 _ _ _ _).trans (Finset.sum_congr rfl fun k _ => ?_)
  rw [in0 m c t u k i hi, in1 m c t k v n hn]

theorem array : (dats m 0 c).arrAt 2 cfg0.N = result (H m c) (W m c) := by
  refine (dats m 0 c).arrAt_eq_of_covers 2 _ (by decide +kernel) fun t hf y => ?_
  have hN : t.val < 16 := t.isLt
  idx_vars y
  blk_simp
  rw [after0_2]
  frame_out
  obtain rfl : y0 = 0 := Subsingleton.elim _ _
  have h2 : y2.val < 1408 := y2.isLt
  refine (element m c t y1 y2 ⟨t.val / 4, by omega⟩ rfl ⟨t.val % 4, by omega⟩ rfl).trans ?_
  have e (p q : Fin 4096) (n n' : Fin 4) (v v' : Fin 1408) (hp : p = q) (hn : n = n') (hv : v = v') : product (H m c) (W m c) p n v = product (H m c) (W m c) q n' v' := by rw [hp, hn, hv]
  refine e _ _ _ _ _ _ (Fin.ext ?_) (Fin.ext ?_) (Fin.ext ?_)
  · blk_simp [idx t]; rfl
  · blk_simp [idx t, block]; show t.val % 4 = (t.val % 4 * 1408 + y2.val) / 1408; omega
  · blk_simp [idx t, place]; show y2.val = (t.val % 4 * 1408 + y2.val) % 1408; omega

end Cert.KernelGateIdeal.Own

namespace Cert.ReferenceGateIdeal.Own

open Cert.ReferenceGateIdeal Cert.ReferenceGateIdeal.Gen Cert.ReferenceGateIdeal.Read Idealize.ShloMosaic
open Cert.KernelGateIdeal.Own (product block place)

/-- The whole weight has the four blocks of columns side by side. -/
theorem whole_at (W : Vec Ideal S4x2048x1408 .bf16) (k : Fin 2048) (v : Fin 5632) :
    val_main_v3 (F := Ideal) W (ix2 k v) = W (ix3 (block v) k (place v)) := by
  unfold val_main_v3 val_main_v2 val_main_v1
  pointwise
  blk_ext [block, place]

/-- The reference's product. -/
theorem product_at (H : Vec Ideal S4096x2048 .bf16) (W : Vec Ideal S4x2048x1408 .bf16) (u : Fin 4096) (v : Fin 5632) :
    (val_main_v4 (F := Ideal) H W (ix2 u v) : EReal) = product H W u (block v) (place v) := by
  unfold val_main_v4 val_main_v0
  pointwise
  show (∑ x : Fin 2048, H (ix2 u x) * val_main_v3 (F := Ideal) W (ix2 x v) : EReal) = _
  simp only [whole_at]
  rfl

/-- The reference's result is that product. -/
theorem array (H : Vec Ideal S4096x2048 .bf16) (W : Vec Ideal S4x2048x1408 .bf16) :
    val_main_v6 (F := Ideal) H W = Cert.KernelGateIdeal.Own.result H W := by
  funext j; idx_vars j
  unfold val_main_v6 val_main_v5
  pointwise
  exact product_at H W j1 j2

end Cert.ReferenceGateIdeal.Own

namespace Cert.Proof

open Idealize.ShloMosaic Idealize.ShloMosaic.TcCoe Idealize.SL.Sem

/-- The reference leaves its arguments as they were, and it has no counters. -/
theorem frame_r_gate : quiescent_ReferenceGateIdeal (hReferenceGateIdeal := Cert.ReferenceGateIdeal.Gen.facts) := fun m g _ =>
  (θ_run _ _ _).mono (fun r h => ⟨fun c => (h c).2, sem_eq_zero_of_no_sems (by decide) r.2⟩) (Cert.ReferenceGateIdeal.Value.run m g)

/-- Over the reals the kernel and the reference end with the same gate. -/
theorem algebraic_gate : algebraic_KernelGateIdeal_ReferenceGateIdeal (hKernelGateIdeal := Cert.KernelGateIdeal.Gen.facts) (hReferenceGateIdeal := Cert.ReferenceGateIdeal.Gen.facts) := by
  intro m g m' g' _ hargs
  refine ⟨fun c => Cert.KernelGateIdeal.Own.result (Cert.KernelGateIdeal.Own.H m c) (Cert.KernelGateIdeal.Own.W m c), ?_, ?_⟩
  · refine (θ_run _ _ _).mono (fun r h c => ?_) (Cert.KernelGateIdeal.Value.run_blocks m g)
    obtain ⟨h0, ha⟩ := h c
    exact ⟨h0.trans (Cert.KernelGateIdeal.Own.array m c), ha⟩
  · refine (θ_run _ _ _).mono (fun r h c => ?_) (Cert.ReferenceGateIdeal.Value.run m' g')
    obtain ⟨h0, ha⟩ := h c
    obtain ⟨e0, e1⟩ := hargs c
    refine ⟨h0.trans ((Cert.ReferenceGateIdeal.Read.val_main_v6_eq _ _).trans ?_), ha⟩
    rw [e0, e1]
    exact Cert.ReferenceGateIdeal.Own.array _ _

end Cert.Proof

end
-- ==== Proof.Up.lean ====
/- The up product of the SwiGLU network and its gated form: what the kernel and the reference compute, element by element. -/
module

public import proofs.«01_k».proof.Defs
public import proofs.«01_k».proof.Proof.Gen.KernelUpIdeal.Value
public import proofs.«01_k».proof.Proof.Gen.ReferenceUpIdeal.Read
public import proofs.«01_k».proof.Proof.Gate

@[expose] public section

set_option maxRecDepth 16384

noncomputable section

namespace Cert.KernelUpIdeal.Own

open Cert.KernelUpIdeal Cert.KernelUpIdeal.Gen Idealize.ShloMosaic Idealize.ShloMosaic.TcCoe Idealize.SL.Sem
open Idealize.ShloMosaic.Pipeline (Dat)
open Cert.Blocked (pos)
open Cert.KernelGateIdeal.Own (product block place)

/-- The blocks of a grid point. -/
theorem idx : ∀ t : Fin cfg0.N, win0_0.index t = ![0, t.val / 4, 0] ∧ win0_1.index t = ![t.val % 4, 0, 0] ∧ win0_2.index t = ![0, t.val / 4, t.val % 4] ∧ win0_3.index t = ![0, t.val / 4, t.val % 4] ∧ win0_4.index t = ![0, t.val / 4, t.val % 4] :=
  (by decide +kernel : ∀ t : Fin grid0.N, win0_0.index t = ![0, t.val / 4, 0] ∧ win0_1.index t = ![t.val % 4, 0, 0] ∧ win0_2.index t = ![0, t.val / 4, t.val % 4] ∧ win0_3.index t = ![0, t.val / 4, t.val % 4] ∧ win0_4.index t = ![0, t.val / 4, t.val % 4])

variable (m : (ℓ : Loc nD τ sig) → Buf (Elt Ideal) ℓ) (c : Dev nD)

abbrev H : Vec Ideal S4096x2048 .bf16 := m (c.tc.loc main_arg0)
abbrev W : Vec Ideal S4x2048x1408 .bf16 := m (c.tc.loc main_arg1)
abbrev A : Vec Ideal S4096x5632 .bf16 := m (c.tc.loc main_arg2)

theorem V0 : V m c main_v0 = shapeCast S1x4096x2048 (H m c) shapeCasts_S4096x2048_S1x4096x2048 := by
  unfold V; after_reads_simp; rfl
theorem V1 : V m c main_v1 = shapeCast S1x4096x5632 (A m c) shapeCasts_S4096x5632_S1x4096x5632 := by
  unfold V; after_reads_simp; rfl

theorem in0 (t : Fin cfg0.N) (u : Fin 1024) (k : Fin 2048) (i : Fin 4) (hi : t.val / 4 = i.val) :
    (iblk m c 0 t : Vec Ideal S1x1024x2048 .bf16) (ix3 0 u k) = H m c (ix2 (pos (by decide) i u) k) := by
  blk_simp [iblk]
  rw [V0]
  pointwise
  blk_ext [idx t, pos]

theorem in1 (t : Fin cfg0.N) (k : Fin 2048) (v : Fin 1408) (n : Fin 4) (hn : t.val % 4 = n.val) :
    (iblk m c 1 t : Vec Ideal S1x2048x1408 .bf16) (ix3 0 k v) = W m c (ix3 n k v) := by
  blk_simp [iblk]
  rw [V_main_arg1]
  blk_ext [idx t]

theorem in2 (t : Fin cfg0.N) (u : Fin 1024) (v : Fin 1408) (i : Fin 4) (hi : t.val / 4 = i.val) (n : Fin 4) (hn : t.val % 4 = n.val) :
    (iblk m c 2 t : Vec Ideal S1x1024x1408 .bf16) (ix3 0 u v) = A m c (ix2 (pos (by decide) i u) (pos (by decide) n v)) := by
  blk_simp [iblk]
  rw [V1]
  pointwise
  blk_ext [idx t, pos]

/-- The product of two blocks. -/
theorem pay1 (x : Vec Ideal S1x1024x2048 .bf16) (y : Vec Ideal S1x2048x1408 .bf16) (u : Fin 1024) (v : Fin 1408) :
    k0_pay1 (F := Ideal) x y (ix2 u v) = ∑ k : Fin 2048, x (ix3 0 u k) * y (ix3 0 k v) := by
  unfold k0_pay1; pointwise

/-- A number times its sigmoid. -/
def silu (a : EReal) : EReal := a * Ideal.div 1 (1 + Ideal.exp (-a))

/-- The gated product as the array of the result. -/
def gated (H : Vec Ideal S4096x2048 .bf16) (W : Vec Ideal S4x2048x1408 .bf16) (A : Vec Ideal S4096x5632 .bf16) : Vec Ideal S1x4096x5632 .bf16 :=
  fun j => silu (A (ix2 (j 1) (j 2))) * product H W (j 1) (block (j 2)) (place (j 2))

theorem sum_at (t : Fin cfg0.N) (u : Fin 1024) (v : Fin 1408) (i : Fin 4) (hi : t.val / 4 = i.val) (n : Fin 4) (hn : t.val % 4 = n.val) :
    (k0_pay1 (F := Ideal) (iblk m c 0 t) (iblk m c 1 t) (ix2 u v) : EReal) = product (H m c) (W m c) (pos (by decide) i u) n v := by
  refine (pay1 _ _ _ _).trans (Finset.sum_congr rfl fun k _ => ?_)
  rw [in0 m c t u k i hi, in1 m c t k v n hn]

/-- The block and the place of a column given by its block and its place. -/
theorem block_pos (n : Fin 4) (v : Fin 1408) : block (pos (by decide) n v) = n := Fin.ext (show (n.val * 1408 + v.val) / 1408 = n.val by omega)
theorem place_pos (n : Fin 4) (v : Fin 1408) : place (pos (by decide) n v) = v := Fin.ext (show (n.val * 1408 + v.val) % 1408 = v.val by omega)

theorem element3 (t : Fin cfg0.N) (u : Fin 1024) (v : Fin 1408) (i : Fin 4) (hi : t.val / 4 = i.val) (n : Fin 4) (hn : t.val % 4 = n.val) :
    (k0_pay2 (F := Ideal) (iblk m c 0 t) (iblk m c 1 t) (ix3 0 u v) : EReal) = Cert.KernelGateIdeal.Own.result (H m c) (W m c) (ix3 0 (pos (by decide) i u) (pos (by decide) n v)) := by
  unfold k0_pay2 Cert.KernelGateIdeal.Own.result
  pointwise
  rw [sum_at m c t u v i hi n hn, block_pos, place_pos]

theorem element4 (t : Fin cfg0.N) (u : Fin 1024) (v : Fin 1408) (i : Fin 4) (hi : t.val / 4 = i.val) (n : Fin 4) (hn : t.val % 4 = n.val) :
    (k0_pay3 (F := Ideal) (iblk m c 0 t) (iblk m c 1 t) (iblk m c 2 t) (ix3 0 u v) : EReal) = gated (H m c) (W m c) (A m c) (ix3 0 (pos (by decide) i u) (pos (by decide) n v)) := by
  unfold k0_pay3 gated silu
  pointwise
  rw [sum_at m c t u v i hi n hn, in2 m c t u v i hi n hn, block_pos, place_pos, zero_sub]

theorem array3 : (dats m 0 c).arrAt 3 cfg0.N = Cert.KernelGateIdeal.Own.result (H m c) (W m c) := by
  refine (dats m 0 c).arrAt_eq_of_covers 3 _ (by decide +kernel) fun t hf y => ?_
  have hN : t.val < 16 := t.isLt
  idx_vars y
  blk_simp
  rw [after0_3]
  frame_out
  obtain rfl : y0 = 0 := Subsingleton.elim _ _
  refine (element3 m c t y1 y2 ⟨t.val / 4, by omega⟩ rfl ⟨t.val % 4, by omega⟩ rfl).trans (congrArg (Cert.KernelGateIdeal.Own.result (H m c) (W m c)) ?_)
  blk_ext [idx t, pos]

theorem array4 : (dats m 0 c).arrAt 4 cfg0.N = gated (H m c) (W m c) (A m c) := by
  refine (dats m 0 c).arrAt_eq_of_covers 4 _ (by decide +kernel) fun t hf y => ?_
  have hN : t.val < 16 := t.isLt
  idx_vars y
  blk_simp
  rw [after0_4]
  frame_out
  obtain rfl : y0 = 0 := Subsingleton.elim _ _
  refine (element4 m c t y1 y2 ⟨t.val / 4, by omega⟩ rfl ⟨t.val % 4, by omega⟩ rfl).trans (congrArg (gated (H m c) (W m c) (A m c)) ?_)
  blk_ext [idx t, pos]

end Cert.KernelUpIdeal.Own

namespace Cert.ReferenceUpIdeal.Own

open Cert.ReferenceUpIdeal Cert.ReferenceUpIdeal.Gen Cert.ReferenceUpIdeal.Read Idealize.ShloMosaic

/-- The reference's product is the one of the gate. -/
theorem product_at (H : Vec Ideal S4096x2048 .bf16) (W : Vec Ideal S4x2048x1408 .bf16) (u : Fin 4096) (v : Fin 5632) :
    (val_main_v4 (F := Ideal) H W (ix2 u v) : EReal) = Cert.KernelGateIdeal.Own.product H W u (Cert.KernelGateIdeal.Own.block v) (Cert.KernelGateIdeal.Own.place v) :=
  Cert.ReferenceGateIdeal.Own.product_at H W u v

theorem array3 (H : Vec Ideal S4096x2048 .bf16) (W : Vec Ideal S4x2048x1408 .bf16) :
    val_main_v6 (F := Ideal) H W = Cert.KernelGateIdeal.Own.result H W :=
  Cert.ReferenceGateIdeal.Own.array H W

theorem array4 (H : Vec Ideal S4096x2048 .bf16) (W : Vec Ideal S4x2048x1408 .bf16) (A : Vec Ideal S4096x5632 .bf16) :
    val_main_v11 (F := Ideal) H W A = Cert.KernelUpIdeal.Own.gated H W A := by
  funext j; idx_vars j
  unfold val_main_v11 val_main_v10 val_main_v9 val_main_v8 val_main_call0_v5 val_main_call0_v4 val_main_call0_cst_0 val_main_call0_v3 val_main_call0_v2 val_main_call0_cst val_main_call0_v1 val_main_call0_v0 val_main_v7
  pointwise
  rw [product_at H W j1 j2]
  rfl

end Cert.ReferenceUpIdeal.Own

namespace Cert.Proof

open Idealize.ShloMosaic Idealize.ShloMosaic.TcCoe Idealize.SL.Sem

/-- The reference leaves its arguments as they were, and it has no counters. -/
theorem frame_r_up : quiescent_ReferenceUpIdeal (hReferenceUpIdeal := Cert.ReferenceUpIdeal.Gen.facts) := fun m g _ =>
  (θ_run _ _ _).mono (fun r h => ⟨fun c => (h c).2.2, sem_eq_zero_of_no_sems (by decide) r.2⟩) (Cert.ReferenceUpIdeal.Value.run m g)

/-- Over the reals the kernel and the reference end with the same product and the same gated product. -/
theorem algebraic_up : algebraic_KernelUpIdeal_ReferenceUpIdeal (hKernelUpIdeal := Cert.KernelUpIdeal.Gen.facts) (hReferenceUpIdeal := Cert.ReferenceUpIdeal.Gen.facts) := by
  intro m g m' g' _ hargs
  refine ⟨fun c => Cert.KernelGateIdeal.Own.result (Cert.KernelUpIdeal.Own.H m c) (Cert.KernelUpIdeal.Own.W m c),
    fun c => Cert.KernelUpIdeal.Own.gated (Cert.KernelUpIdeal.Own.H m c) (Cert.KernelUpIdeal.Own.W m c) (Cert.KernelUpIdeal.Own.A m c), ?_, ?_⟩
  · refine (θ_run _ _ _).mono (fun r h c => ?_) (Cert.KernelUpIdeal.Value.run_blocks m g)
    obtain ⟨h0, h1, ha⟩ := h c
    exact ⟨h0.trans (Cert.KernelUpIdeal.Own.array3 m c), h1.trans (Cert.KernelUpIdeal.Own.array4 m c), ha⟩
  · refine (θ_run _ _ _).mono (fun r h c => ?_) (Cert.ReferenceUpIdeal.Value.run m' g')
    obtain ⟨h0, h1, ha⟩ := h c
    obtain ⟨e0, e1, e2⟩ := hargs c
    refine ⟨h0.trans ((Cert.ReferenceUpIdeal.Read.val_main_v6_eq _ _).trans ?_), h1.trans ((Cert.ReferenceUpIdeal.Read.val_main_v11_eq _ _ _).trans ?_), ha⟩
    · rw [e0, e1]
      exact Cert.ReferenceUpIdeal.Own.array3 _ _
    · rw [e0, e1, e2]
      exact Cert.ReferenceUpIdeal.Own.array4 _ _ _

end Cert.Proof

end
-- ==== Proof.OutF.lean ====
/- The output of the SwiGLU network with its residual: what the kernel and the reference compute, element by element. -/
module

public import proofs.«01_k».proof.Defs
public import proofs.«01_k».proof.Proof.Gen.KernelOutIdeal.Value
public import proofs.«01_k».proof.Proof.Gen.ReferenceOutIdeal.Read
public import proofs.«01_k».proof.Proof.Blocked

@[expose] public section

set_option maxRecDepth 16384

noncomputable section

namespace Cert.KernelOutIdeal.Own

open Cert.KernelOutIdeal Cert.KernelOutIdeal.Gen Idealize.ShloMosaic Idealize.ShloMosaic.TcCoe Idealize.SL.Sem
open Idealize.ShloMosaic.Pipeline (Dat)
open Cert.Blocked (pos sum_pos)

/-- The blocks of a grid point. -/
theorem idx : ∀ t : Fin cfg0.N, win0_0.index t = ![0, t.val / 8, t.val % 4] ∧ win0_1.index t = ![0, t.val % 4, t.val / 4 % 2] ∧ win0_2.index t = ![0, t.val / 8, t.val / 4 % 2] ∧ win0_3.index t = ![0, t.val / 8, t.val / 4 % 2] :=
  (by decide +kernel : ∀ t : Fin grid0.N, win0_0.index t = ![0, t.val / 8, t.val % 4] ∧ win0_1.index t = ![0, t.val % 4, t.val / 4 % 2] ∧ win0_2.index t = ![0, t.val / 8, t.val / 4 % 2] ∧ win0_3.index t = ![0, t.val / 8, t.val / 4 % 2])

variable (m : (ℓ : Loc nD τ sig) → Buf (Elt Ideal) ℓ) (c : Dev nD)

abbrev S : Vec Ideal S4096x5632 .bf16 := m (c.tc.loc main_arg0)
abbrev W : Vec Ideal S5632x2048 .bf16 := m (c.tc.loc main_arg1)
abbrev X : Vec Ideal S4096x2048 .f32 := m (c.tc.loc main_arg2)

theorem V0 : V m c main_v0 = shapeCast S1x4096x5632 (S m c) shapeCasts_S4096x5632_S1x4096x5632 := by
  unfold V; after_reads_simp; rfl
theorem V1 : V m c main_v1 = shapeCast S1x5632x2048 (W m c) shapeCasts_S5632x2048_S1x5632x2048 := by
  unfold V; after_reads_simp; rfl
theorem V2 : V m c main_v2 = shapeCast S1x4096x2048 (X m c) shapeCasts_S4096x2048_S1x4096x2048 := by
  unfold V; after_reads_simp; rfl

theorem in0 (t : Fin cfg0.N) (u : Fin 1024) (k : Fin 1408) (i : Fin 4) (hi : t.val / 8 = i.val) (n : Fin 4) (hn : t.val % 4 = n.val) :
    (iblk m c 0 t : Vec Ideal S1x1024x1408 .bf16) (ix3 0 u k) = S m c (ix2 (pos (by decide) i u) (pos (by decide) n k)) := by
  blk_simp [iblk]
  rw [V0]
  pointwise
  blk_ext [idx t, pos]

theorem in1 (t : Fin cfg0.N) (k : Fin 1408) (v : Fin 1024) (n : Fin 4) (hn : t.val % 4 = n.val) (j : Fin 2) (hj : t.val / 4 % 2 = j.val) :
    (iblk m c 1 t : Vec Ideal S1x1408x1024 .bf16) (ix3 0 k v) = W m c (ix2 (pos (by decide) n k) (pos (by decide) j v)) := by
  blk_simp [iblk]
  rw [V1]
  pointwise
  blk_ext [idx t, pos]

theorem in2 (t : Fin cfg0.N) (u v : Fin 1024) (i : Fin 4) (hi : t.val / 8 = i.val) (j : Fin 2) (hj : t.val / 4 % 2 = j.val) :
    (iblk m c 2 t : Vec Ideal S1x1024x1024 .f32) (ix3 0 u v) = X m c (ix2 (pos (by decide) i u) (pos (by decide) j v)) := by
  blk_simp [iblk]
  rw [V2]
  pointwise
  blk_ext [idx t, pos]

/-- The product of two blocks. -/
theorem pay1 (x : Vec Ideal S1x1024x1408 .bf16) (y : Vec Ideal S1x1408x1024 .bf16) (u v : Fin 1024) :
    k0_pay1 (F := Ideal) x y (ix2 u v) = ∑ k : Fin 1408, x (ix3 0 u k) * y (ix3 0 k v) := by
  unfold k0_pay1; pointwise

/-- The accumulator after the last block of the summed axis: the sum over the four. -/
theorem acc (t : Fin cfg0.N) (h : t.val % 4 = 3) (u v : Fin 1024) :
    (outsAt0 m c t.val t.isLt).2 (ix2 u v) = 0 + ∑ s : Fin 4, k0_pay1 (F := Ideal) (iblk m c 0 ⟨4 * (t.val / 4) + s.val, Pipeline.run_point_lt_of_flush t h s⟩) (iblk m c 1 ⟨4 * (t.val / 4) + s.val, Pipeline.run_point_lt_of_flush t h s⟩) (ix2 u v) := by
  refine Pipeline.eq_sum_fin_of_reset_step_apply_of_flush (fun n h => (outsAt0 m c n h).2) 4 (fun _ => 0)
    (fun p => k0_pay1 (F := Ideal) (iblk m c 0 p) (iblk m c 1 p)) (fun p hp j => ?_) (fun p hp j => ?_) t h (ix2 u v)
  · rw [outsAt0_A m c p hp (by omega) (by omega)]
    frame_out
    idx_vars j
    unfold k0_pay2
    pointwise
  · by_cases h3 : p.val % 4 = 3
    · rw [outsAt0_C m c p hp (by omega) h3]
      frame_out
      idx_vars j
      simp only [read_unread_whole]
      unfold k0_pay3
      pointwise
    · rw [outsAt0_B m c p hp (by omega) h3]
      frame_out
      idx_vars j
      simp only [read_unread_whole]
      unfold k0_pay3
      pointwise

/-- The last point of a run writes its accumulator, with the residual added. -/
theorem wrote (t : Fin cfg0.N) (h : t.val % 4 = 3) : (outsAt0 m c t.val t.isLt).1 = k0_pay4 (outsAt0 m c t.val t.isLt).2 (iblk m c 2 t) := by
  rw [outsAt0_C m c t (by omega) (by omega) h]
  frame_out

/-- The residual and the product of the other two arrays. -/
def total (S : Vec Ideal S4096x5632 .bf16) (W : Vec Ideal S5632x2048 .bf16) (X : Vec Ideal S4096x2048 .f32) (u : Fin 4096) (v : Fin 2048) : EReal :=
  X (ix2 u v) + ∑ k : Fin 5632, (S (ix2 u k) * W (ix2 k v) : EReal)

/-- It as the array of the result. -/
def result (S : Vec Ideal S4096x5632 .bf16) (W : Vec Ideal S5632x2048 .bf16) (X : Vec Ideal S4096x2048 .f32) : Vec Ideal S1x4096x2048 .f32 :=
  fun j => total S W X (j 1) (j 2)

theorem block (t : Fin cfg0.N) (h : t.val % 4 = 3) (u v : Fin 1024) (i : Fin 4) (hi : t.val / 8 = i.val) (j : Fin 2) (hj : t.val / 4 % 2 = j.val) :
    ((outsAt0 m c t.val t.isLt).1 (ix3 0 u v) : EReal) = total (S m c) (W m c) (X m c) (pos (by decide) i u) (pos (by decide) j v) := by
  rw [wrote m c t h]
  unfold k0_pay4 total
  pointwise
  rw [acc m c t h, zero_add, in2 m c t u v i hi j hj, add_comm, sum_pos (by decide : 4 * 1408 = 5632)]
  refine congrArg (fun x : EReal => X m c (ix2 (pos (by decide) i u) (pos (by decide) j v)) + x) ?_
  refine Finset.sum_congr rfl fun s _ => (pay1 _ _ _ _).trans (Finset.sum_congr rfl fun k _ => ?_)
  rw [in0 m c _ u k i (by dsimp only; omega) s (by dsimp only; omega), in1 m c _ k v s (by dsimp only; omega) j (by dsimp only; omega)]

theorem array : (dats m 0 c).arrAt 3 cfg0.N = result (S m c) (W m c) (X m c) := by
  refine (dats m 0 c).arrAt_eq_of_covers 3 _ (by decide +kernel) fun t hf y => ?_
  have hN : t.val < 32 := t.isLt
  idx_vars y
  blk_simp
  rw [after0_3]
  obtain rfl : y0 = 0 := Subsingleton.elim _ _
  refine (block m c t ((flush0_3 t).mp hf) y1 y2 ⟨t.val / 8, by omega⟩ rfl ⟨t.val / 4 % 2, by omega⟩ rfl).trans ?_
  refine congrArg₂ (total (S m c) (W m c) (X m c)) (Fin.ext ?_) (Fin.ext ?_)
  · blk_simp [idx t]; rfl
  · blk_simp [idx t]; rfl

end Cert.KernelOutIdeal.Own

namespace Cert.ReferenceOutIdeal.Own

open Cert.ReferenceOutIdeal Cert.ReferenceOutIdeal.Gen Cert.ReferenceOutIdeal.Read Idealize.ShloMosaic

/-- The reference's result is that sum. -/
theorem array (S : Vec Ideal S4096x5632 .bf16) (W : Vec Ideal S5632x2048 .bf16) (X : Vec Ideal S4096x2048 .f32) :
    val_main_v4 (F := Ideal) S W X = Cert.KernelOutIdeal.Own.result S W X := by
  funext j; idx_vars j
  unfold val_main_v4 val_main_v3 val_main_v2 val_main_v1 val_main_v0
  pointwise
  rfl

end Cert.ReferenceOutIdeal.Own

namespace Cert.Proof

open Idealize.ShloMosaic Idealize.ShloMosaic.TcCoe Idealize.SL.Sem

/-- The reference leaves its arguments as they were, and it has no counters. -/
theorem frame_r_out : quiescent_ReferenceOutIdeal (hReferenceOutIdeal := Cert.ReferenceOutIdeal.Gen.facts) := fun m g _ =>
  (θ_run _ _ _).mono (fun r h => ⟨fun c => (h c).2, sem_eq_zero_of_no_sems (by decide) r.2⟩) (Cert.ReferenceOutIdeal.Value.run m g)

/-- Over the reals the kernel and the reference end with the same output. -/
theorem algebraic_out : algebraic_KernelOutIdeal_ReferenceOutIdeal (hKernelOutIdeal := Cert.KernelOutIdeal.Gen.facts) (hReferenceOutIdeal := Cert.ReferenceOutIdeal.Gen.facts) := by
  intro m g m' g' _ hargs
  refine ⟨fun c => Cert.KernelOutIdeal.Own.result (Cert.KernelOutIdeal.Own.S m c) (Cert.KernelOutIdeal.Own.W m c) (Cert.KernelOutIdeal.Own.X m c), ?_, ?_⟩
  · refine (θ_run _ _ _).mono (fun r h c => ?_) (Cert.KernelOutIdeal.Value.run_blocks m g)
    obtain ⟨h0, ha⟩ := h c
    exact ⟨h0.trans (Cert.KernelOutIdeal.Own.array m c), ha⟩
  · refine (θ_run _ _ _).mono (fun r h c => ?_) (Cert.ReferenceOutIdeal.Value.run m' g')
    obtain ⟨h0, ha⟩ := h c
    obtain ⟨e0, e1, e2⟩ := hargs c
    refine ⟨h0.trans ((Cert.ReferenceOutIdeal.Read.val_main_v4_eq _ _ _).trans ?_), ha⟩
    rw [e0, e1, e2]
    exact Cert.ReferenceOutIdeal.Own.array _ _ _

end Cert.Proof

end
-- ==== Proof.ProjW.lean ====
/- The gradient of a d by d weight: what the kernel and the reference compute, element by element. -/
module

public import proofs.«01_k».proof.Defs
public import proofs.«01_k».proof.Proof.Gen.KernelProjWIdeal.Value
public import proofs.«01_k».proof.Proof.Gen.ReferenceProjWIdeal.Read
public import proofs.«01_k».proof.Proof.Blocked

@[expose] public section

set_option maxRecDepth 16384

noncomputable section

namespace Cert.KernelProjWIdeal.Own

open Cert.KernelProjWIdeal Cert.KernelProjWIdeal.Gen Idealize.ShloMosaic Idealize.ShloMosaic.TcCoe Idealize.SL.Sem
open Idealize.ShloMosaic.Pipeline (Dat)
open Cert.Blocked (pos sum_pos)

/-- The blocks of a grid point. -/
theorem idx : ∀ t : Fin cfg0.N, win0_0.index t = ![0, t.val % 2, t.val / 4] ∧ win0_1.index t = ![0, t.val % 2, t.val / 2 % 2] ∧ win0_2.index t = ![0, t.val / 4, t.val / 2 % 2] :=
  (by decide +kernel : ∀ t : Fin grid0.N, win0_0.index t = ![0, t.val % 2, t.val / 4] ∧ win0_1.index t = ![0, t.val % 2, t.val / 2 % 2] ∧ win0_2.index t = ![0, t.val / 4, t.val / 2 % 2])

variable (m : (ℓ : Loc nD τ sig) → Buf (Elt Ideal) ℓ) (c : Dev nD)

abbrev H : Vec Ideal S4096x2048 .bf16 := m (c.tc.loc main_arg0)
abbrev D : Vec Ideal S4096x2048 .bf16 := m (c.tc.loc main_arg1)

theorem V0 : V m c main_v0 = shapeCast S1x4096x2048 (H m c) shapeCasts_S4096x2048_S1x4096x2048 := by
  unfold V; after_reads_simp; rfl
theorem V1 : V m c main_v1 = shapeCast S1x4096x2048 (D m c) shapeCasts_S4096x2048_S1x4096x2048 := by
  unfold V; after_reads_simp; rfl

theorem in0 (t : Fin cfg0.N) (k : Fin 2048) (u : Fin 1024) (i : Fin 2) (hi : t.val % 2 = i.val) (j : Fin 2) (hj : t.val / 4 = j.val) :
    (iblk m c 0 t : Vec Ideal S1x2048x1024 .bf16) (ix3 0 k u) = H m c (ix2 (pos (by decide) i k) (pos (by decide) j u)) := by
  blk_simp [iblk]
  rw [V0]
  pointwise
  blk_ext [idx t, pos]

theorem in1 (t : Fin cfg0.N) (k : Fin 2048) (u : Fin 1024) (i : Fin 2) (hi : t.val % 2 = i.val) (j : Fin 2) (hj : t.val / 2 % 2 = j.val) :
    (iblk m c 1 t : Vec Ideal S1x2048x1024 .bf16) (ix3 0 k u) = D m c (ix2 (pos (by decide) i k) (pos (by decide) j u)) := by
  blk_simp [iblk]
  rw [V1]
  pointwise
  blk_ext [idx t, pos]

/-- The product of two blocks. -/
theorem pay1 (x y : Vec Ideal S1x2048x1024 .bf16) (u v : Fin 1024) :
    k0_pay1 (F := Ideal) x y (ix2 u v) = ∑ k : Fin 2048, x (ix3 0 k u) * y (ix3 0 k v) := by
  unfold k0_pay1; pointwise

/-- The accumulator after the last block of rows: the sum over both. -/
theorem acc (t : Fin cfg0.N) (h : t.val % 2 = 1) (u v : Fin 1024) :
    (outsAt0 m c t.val t.isLt).2 (ix2 u v) = 0 + ∑ s : Fin 2, k0_pay1 (F := Ideal) (iblk m c 0 ⟨2 * (t.val / 2) + s.val, Pipeline.run_point_lt_of_flush t h s⟩) (iblk m c 1 ⟨2 * (t.val / 2) + s.val, Pipeline.run_point_lt_of_flush t h s⟩) (ix2 u v) := by
  refine Pipeline.eq_sum_fin_of_reset_step_apply_of_flush (fun n h => (outsAt0 m c n h).2) 2 (fun _ => 0)
    (fun p => k0_pay1 (F := Ideal) (iblk m c 0 p) (iblk m c 1 p)) (fun p hp j => ?_) (fun p hp j => ?_) t h (ix2 u v)
  · rw [outsAt0_A m c p hp (by omega) (by omega)]
    frame_out
    idx_vars j
    unfold k0_pay2
    pointwise
  · rw [outsAt0_B m c p hp (by omega) (by omega)]
    frame_out
    idx_vars j
    simp only [read_unread_whole]
    unfold k0_pay3
    pointwise

/-- The last point of a run writes its accumulator. -/
theorem wrote (t : Fin cfg0.N) (h : t.val % 2 = 1) : (outsAt0 m c t.val t.isLt).1 = k0_pay4 (outsAt0 m c t.val t.isLt).2 := by
  rw [outsAt0_B m c t (by omega) h h]
  frame_out

/-- The product of the two arrays over their rows. -/
def product (H D : Vec Ideal S4096x2048 .bf16) (u v : Fin 2048) : EReal :=
  ∑ k : Fin 4096, H (ix2 k u) * D (ix2 k v)

theorem block (t : Fin cfg0.N) (h : t.val % 2 = 1) (u v : Fin 1024) (i : Fin 2) (hi : t.val / 4 = i.val) (j : Fin 2) (hj : t.val / 2 % 2 = j.val) :
    ((outsAt0 m c t.val t.isLt).1 (ix3 0 u v) : EReal) = product (H m c) (D m c) (pos (by decide) i u) (pos (by decide) j v) := by
  rw [wrote m c t h]
  unfold k0_pay4 product
  pointwise
  rw [acc m c t h, sum_pos (by decide : 2 * 2048 = 4096), zero_add]
  refine Finset.sum_congr rfl fun s _ => (pay1 _ _ _ _).trans (Finset.sum_congr rfl fun k _ => ?_)
  rw [in0 m c _ k u s (by dsimp only; omega) i (by dsimp only; omega), in1 m c _ k v s (by dsimp only; omega) j (by dsimp only; omega)]

/-- It as the array of the result. -/
def result (H D : Vec Ideal S4096x2048 .bf16) : Vec Ideal S1x2048x2048 .bf16 := fun j => product H D (j 1) (j 2)

theorem array : (dats m 0 c).arrAt 2 cfg0.N = result (H m c) (D m c) := by
  refine (dats m 0 c).arrAt_eq_of_covers 2 _ (by decide +kernel) fun t hf y => ?_
  have hN : t.val < 8 := t.isLt
  idx_vars y
  blk_simp
  rw [after0_2]
  obtain rfl : y0 = 0 := Subsingleton.elim _ _
  refine (block m c t ((flush0_2 t).mp hf) y1 y2 ⟨t.val / 4, by omega⟩ rfl ⟨t.val / 2 % 2, by omega⟩ rfl).trans ?_
  refine congrArg₂ (product (H m c) (D m c)) (Fin.ext ?_) (Fin.ext ?_)
  · blk_simp [idx t]; rfl
  · blk_simp [idx t]; rfl

end Cert.KernelProjWIdeal.Own

namespace Cert.ReferenceProjWIdeal.Own

open Cert.ReferenceProjWIdeal Cert.ReferenceProjWIdeal.Gen Cert.ReferenceProjWIdeal.Read Idealize.ShloMosaic

/-- The reference's result is that product. -/
theorem array (H D : Vec Ideal S4096x2048 .bf16) :
    val_main_v7 (F := Ideal) H D = Cert.KernelProjWIdeal.Own.result H D := by
  funext j; idx_vars j
  unfold val_main_v7 val_main_v6 val_main_v5 val_main_v4 val_main_v3 val_main_v0
  pointwise
  exact Finset.sum_congr rfl fun k _ => mul_comm (_ : EReal) _

end Cert.ReferenceProjWIdeal.Own

namespace Cert.Proof

open Idealize.ShloMosaic Idealize.ShloMosaic.TcCoe Idealize.SL.Sem

/-- The reference leaves its arguments as they were, and it has no counters. -/
theorem frame_r_proj_w : quiescent_ReferenceProjWIdeal (hReferenceProjWIdeal := Cert.ReferenceProjWIdeal.Gen.facts) := fun m g _ =>
  (θ_run _ _ _).mono (fun r h => ⟨fun c => (h c).2, sem_eq_zero_of_no_sems (by decide) r.2⟩) (Cert.ReferenceProjWIdeal.Value.run m g)

/-- Over the reals the kernel and the reference end with the same gradient of the weight. -/
theorem algebraic_proj_w : algebraic_KernelProjWIdeal_ReferenceProjWIdeal (hKernelProjWIdeal := Cert.KernelProjWIdeal.Gen.facts) (hReferenceProjWIdeal := Cert.ReferenceProjWIdeal.Gen.facts) := by
  intro m g m' g' _ hargs
  refine ⟨fun c => Cert.KernelProjWIdeal.Own.result (Cert.KernelProjWIdeal.Own.H m c) (Cert.KernelProjWIdeal.Own.D m c), ?_, ?_⟩
  · refine (θ_run _ _ _).mono (fun r h c => ?_) (Cert.KernelProjWIdeal.Value.run_blocks m g)
    obtain ⟨h0, ha⟩ := h c
    exact ⟨h0.trans (Cert.KernelProjWIdeal.Own.array m c), ha⟩
  · refine (θ_run _ _ _).mono (fun r h c => ?_) (Cert.ReferenceProjWIdeal.Value.run m' g')
    obtain ⟨h0, ha⟩ := h c
    obtain ⟨e0, e1⟩ := hargs c
    refine ⟨h0.trans ((Cert.ReferenceProjWIdeal.Read.val_main_v7_eq _ _).trans ?_), ha⟩
    rw [e0, e1]
    exact Cert.ReferenceProjWIdeal.Own.array _ _

end Cert.Proof

end
-- ==== Proof.ProjX.lean ====
/- The gradient of the input of a product with a d by d weight: what the kernel and the reference compute, element by element. -/
module

public import proofs.«01_k».proof.Defs
public import proofs.«01_k».proof.Proof.Gen.KernelProjXIdeal.Value
public import proofs.«01_k».proof.Proof.Gen.ReferenceProjXIdeal.Read
public import proofs.«01_k».proof.Proof.Blocked

@[expose] public section

set_option maxRecDepth 16384

noncomputable section

namespace Cert.KernelProjXIdeal.Own

open Cert.KernelProjXIdeal Cert.KernelProjXIdeal.Gen Idealize.ShloMosaic Idealize.ShloMosaic.TcCoe Idealize.SL.Sem
open Idealize.ShloMosaic.Pipeline (Dat)
open Cert.Blocked (pos)

/-- The blocks of a grid point. -/
theorem idx : ∀ t : Fin cfg0.N, win0_0.index t = ![0, t.val, 0] ∧ win0_1.index t = ![0, 0, 0] ∧ win0_2.index t = ![0, t.val, 0] :=
  (by decide +kernel : ∀ t : Fin grid0.N, win0_0.index t = ![0, t.val, 0] ∧ win0_1.index t = ![0, 0, 0] ∧ win0_2.index t = ![0, t.val, 0])

variable (m : (ℓ : Loc nD τ sig) → Buf (Elt Ideal) ℓ) (c : Dev nD)

abbrev D : Vec Ideal S4096x2048 .bf16 := m (c.tc.loc main_arg0)
abbrev W : Vec Ideal S2048x2048 .bf16 := m (c.tc.loc main_arg1)

theorem V0 : V m c main_v0 = shapeCast S1x4096x2048 (D m c) shapeCasts_S4096x2048_S1x4096x2048 := by
  unfold V; after_reads_simp; rfl
theorem V1 : V m c main_v1 = shapeCast S1x2048x2048 (W m c) shapeCasts_S2048x2048_S1x2048x2048 := by
  unfold V; after_reads_simp; rfl

theorem in0 (t : Fin cfg0.N) (u : Fin 512) (k : Fin 2048) (i : Fin 8) (hi : t.val = i.val) :
    (iblk m c 0 t : Vec Ideal S1x512x2048 .bf16) (ix3 0 u k) = D m c (ix2 (pos (by decide) i u) k) := by
  blk_simp [iblk]
  rw [V0]
  pointwise
  blk_ext [idx t, pos]

theorem in1 (t : Fin cfg0.N) (v k : Fin 2048) :
    (iblk m c 1 t : Vec Ideal S1x2048x2048 .bf16) (ix3 0 v k) = W m c (ix2 v k) := by
  blk_simp [iblk]
  rw [V1]
  pointwise
  blk_ext [idx t]

/-- The product of two blocks. -/
theorem pay1 (x : Vec Ideal S1x512x2048 .bf16) (y : Vec Ideal S1x2048x2048 .bf16) (u : Fin 512) (v : Fin 2048) :
    k0_pay1 (F := Ideal) x y (ix3 0 u v) = ∑ k : Fin 2048, x (ix3 0 u k) * y (ix3 0 v k) := by
  unfold k0_pay1; pointwise

/-- The product of the array and the transposed weight. -/
def product (D : Vec Ideal S4096x2048 .bf16) (W : Vec Ideal S2048x2048 .bf16) (u : Fin 4096) (v : Fin 2048) : EReal :=
  ∑ k : Fin 2048, (D (ix2 u k) * W (ix2 v k) : EReal)

/-- It as the array of the result. -/
def result (D : Vec Ideal S4096x2048 .bf16) (W : Vec Ideal S2048x2048 .bf16) : Vec Ideal S1x4096x2048 .bf16 := fun j => product D W (j 1) (j 2)

theorem element (t : Fin cfg0.N) (u : Fin 512) (v : Fin 2048) (i : Fin 8) (hi : t.val = i.val) :
    (k0_pay1 (F := Ideal) (iblk m c 0 t) (iblk m c 1 t) (ix3 0 u v) : EReal) = product (D m c) (W m c) (pos (by decide) i u) v := by
  refine (pay1 _ _ _ _).trans (Finset.sum_congr rfl fun k _ => ?_)
  rw [in0 m c t u k i hi, in1 m c t v k]

theorem array : (dats m 0 c).arrAt 2 cfg0.N = result (D m c) (W m c) := by
  refine (dats m 0 c).arrAt_eq_of_covers 2 _ (by decide +kernel) fun t hf y => ?_
  have hN : t.val < 8 := t.isLt
  idx_vars y
  blk_simp
  rw [after0_2]
  frame_out
  obtain rfl : y0 = 0 := Subsingleton.elim _ _
  refine (element m c t y1 y2 ⟨t.val, by omega⟩ rfl).trans ?_
  refine congrArg₂ (product (D m c) (W m c)) (Fin.ext ?_) (Fin.ext ?_)
  · blk_simp [idx t]; rfl
  · blk_simp [idx t]

end Cert.KernelProjXIdeal.Own

namespace Cert.ReferenceProjXIdeal.Own

open Cert.ReferenceProjXIdeal Cert.ReferenceProjXIdeal.Gen Cert.ReferenceProjXIdeal.Read Idealize.ShloMosaic

/-- The reference's result is that product. -/
theorem array (D : Vec Ideal S4096x2048 .bf16) (W : Vec Ideal S2048x2048 .bf16) :
    val_main_v6 (F := Ideal) D W = Cert.KernelProjXIdeal.Own.result D W := by
  funext j; idx_vars j
  unfold val_main_v6 val_main_v5 val_main_v4 val_main_v3 val_main_v0
  pointwise
  rfl

end Cert.ReferenceProjXIdeal.Own

namespace Cert.Proof

open Idealize.ShloMosaic Idealize.ShloMosaic.TcCoe Idealize.SL.Sem

/-- The reference leaves its arguments as they were, and it has no counters. -/
theorem frame_r_proj_x : quiescent_ReferenceProjXIdeal (hReferenceProjXIdeal := Cert.ReferenceProjXIdeal.Gen.facts) := fun m g _ =>
  (θ_run _ _ _).mono (fun r h => ⟨fun c => (h c).2, sem_eq_zero_of_no_sems (by decide) r.2⟩) (Cert.ReferenceProjXIdeal.Value.run m g)

/-- Over the reals the kernel and the reference end with the same gradient of the input. -/
theorem algebraic_proj_x : algebraic_KernelProjXIdeal_ReferenceProjXIdeal (hKernelProjXIdeal := Cert.KernelProjXIdeal.Gen.facts) (hReferenceProjXIdeal := Cert.ReferenceProjXIdeal.Gen.facts) := by
  intro m g m' g' _ hargs
  refine ⟨fun c => Cert.KernelProjXIdeal.Own.result (Cert.KernelProjXIdeal.Own.D m c) (Cert.KernelProjXIdeal.Own.W m c), ?_, ?_⟩
  · refine (θ_run _ _ _).mono (fun r h c => ?_) (Cert.KernelProjXIdeal.Value.run_blocks m g)
    obtain ⟨h0, ha⟩ := h c
    exact ⟨h0.trans (Cert.KernelProjXIdeal.Own.array m c), ha⟩
  · refine (θ_run _ _ _).mono (fun r h c => ?_) (Cert.ReferenceProjXIdeal.Value.run m' g')
    obtain ⟨h0, ha⟩ := h c
    obtain ⟨e0, e1⟩ := hargs c
    refine ⟨h0.trans ((Cert.ReferenceProjXIdeal.Read.val_main_v6_eq _ _).trans ?_), ha⟩
    rw [e0, e1]
    exact Cert.ReferenceProjXIdeal.Own.array _ _

end Cert.Proof

end
-- ==== Proof.QkvX.lean ====
/- The gradient of the input of the queries, keys and values: what the kernel and the reference compute, element by element. -/
module

public import proofs.«01_k».proof.Defs
public import proofs.«01_k».proof.Proof.Gen.KernelQkvXIdeal.Frame
public import Idealize.ShloMosaic.Lib.Pipeline.Value
public import proofs.«01_k».proof.Proof.Gen.ReferenceQkvXIdeal.Read
public import proofs.«01_k».proof.Proof.Blocked

@[expose] public section

set_option maxRecDepth 16384

noncomputable section

namespace Cert.KernelQkvXIdeal.Own

open Cert.KernelQkvXIdeal Cert.KernelQkvXIdeal.Gen Idealize.ShloMosaic Idealize.ShloMosaic.TcCoe Idealize.SL.Sem
open Idealize.ShloMosaic.Pipeline (Dat)
open Cert.Blocked (pos sum_pos)

/-- The blocks of a grid point: of the three gradients, that of the queries first, which the array holds last. -/
theorem idx : ∀ t : Fin cfg0.N, win0_0.index t = ![(t.val % 3 + 2) % 3, t.val / 3, 0] ∧ win0_1.index t = ![0, 0, t.val % 3] ∧ win0_2.index t = ![0, t.val / 3, 0] :=
  (by decide +kernel : ∀ t : Fin grid0.N, win0_0.index t = ![(t.val % 3 + 2) % 3, t.val / 3, 0] ∧ win0_1.index t = ![0, 0, t.val % 3] ∧ win0_2.index t = ![0, t.val / 3, 0])

variable (m : (ℓ : Loc nD τ sig) → Buf (Elt Ideal) ℓ) (c : Dev nD)

abbrev Z : Vec Ideal S3x4096x2048 .bf16 := m (c.tc.loc main_arg0)
abbrev W : Vec Ideal S2048x6144 .bf16 := m (c.tc.loc main_arg1)

theorem V0 : V m c main_v0 = shapeCast S1x2048x6144 (W m c) shapeCasts_S2048x6144_S1x2048x6144 := by
  unfold V; after_reads_simp; rfl

/-- Where the array holds the gradients of the queries, the keys and the values. -/
def slot (n : Fin 3) : Fin 3 := ⟨(n.val + 2) % 3, by omega⟩

theorem in0 (t : Fin cfg0.N) (u : Fin 512) (k : Fin 2048) (i : Fin 8) (hi : t.val / 3 = i.val) (n : Fin 3) (hn : t.val % 3 = n.val) :
    (iblk m c 0 t : Vec Ideal S1x512x2048 .bf16) (ix3 0 u k) = Z m c (ix3 (slot n) (pos (by decide) i u) k) := by
  blk_simp [iblk]
  rw [V_main_arg0]
  blk_ext [idx t, pos, slot]

theorem in1 (t : Fin cfg0.N) (v k : Fin 2048) (n : Fin 3) (hn : t.val % 3 = n.val) :
    (iblk m c 1 t : Vec Ideal S1x2048x2048 .bf16) (ix3 0 v k) = W m c (ix2 v (pos (by decide) n k)) := by
  blk_simp [iblk]
  rw [V0]
  pointwise
  blk_ext [idx t, pos]

/-- The product of two blocks. -/
theorem pay1 (x : Vec Ideal S1x512x2048 .bf16) (y : Vec Ideal S1x2048x2048 .bf16) (u : Fin 512) (v : Fin 2048) :
    k0_pay1 (F := Ideal) x y (ix2 u v) = ∑ k : Fin 2048, x (ix3 0 u k) * y (ix3 0 v k) := by
  unfold k0_pay1; pointwise

/-- The accumulator after the last of the three gradients: the sum over them. -/
theorem acc (t : Fin cfg0.N) (h : t.val % 3 = 2) (u : Fin 512) (v : Fin 2048) :
    (outsAt0 m c t.val t.isLt).2 (ix2 u v) = 0 + ∑ s : Fin 3, k0_pay1 (F := Ideal) (iblk m c 0 ⟨3 * (t.val / 3) + s.val, Pipeline.run_point_lt_of_flush t h s⟩) (iblk m c 1 ⟨3 * (t.val / 3) + s.val, Pipeline.run_point_lt_of_flush t h s⟩) (ix2 u v) := by
  refine Pipeline.eq_sum_fin_of_reset_step_apply_of_flush (fun n h => (outsAt0 m c n h).2) 3 (fun _ => 0)
    (fun p => k0_pay1 (F := Ideal) (iblk m c 0 p) (iblk m c 1 p)) (fun p hp j => ?_) (fun p hp j => ?_) t h (ix2 u v)
  · rw [outsAt0_A m c p hp (by omega) (by omega)]
    frame_out
    idx_vars j
    unfold k0_pay2
    pointwise
  · by_cases h3 : p.val % 3 = 2
    · rw [outsAt0_C m c p hp (by omega) h3]
      frame_out
      idx_vars j
      simp only [read_unread_whole]
      unfold k0_pay3
      pointwise
    · rw [outsAt0_B m c p hp (by omega) h3]
      frame_out
      idx_vars j
      simp only [read_unread_whole]
      unfold k0_pay3
      pointwise

/-- The last point of a run writes its accumulator. -/
theorem wrote (t : Fin cfg0.N) (h : t.val % 3 = 2) : (outsAt0 m c t.val t.isLt).1 = k0_pay4 (outsAt0 m c t.val t.isLt).2 := by
  rw [outsAt0_C m c t (by omega) (by omega) h]
  frame_out

/-- The product of the gradients of the queries, keys and values side by side, and the transposed weight. -/
def product (Z : Vec Ideal S3x4096x2048 .bf16) (W : Vec Ideal S2048x6144 .bf16) (u : Fin 4096) (v : Fin 2048) : EReal :=
  ∑ n : Fin 3, ∑ k : Fin 2048, Z (ix3 (slot n) u k) * W (ix2 v (pos (by decide) n k))

/-- It as the array of the result. -/
def result (Z : Vec Ideal S3x4096x2048 .bf16) (W : Vec Ideal S2048x6144 .bf16) : Vec Ideal S1x4096x2048 .f32 := fun j => product Z W (j 1) (j 2)

theorem block (t : Fin cfg0.N) (h : t.val % 3 = 2) (u : Fin 512) (v : Fin 2048) (i : Fin 8) (hi : t.val / 3 = i.val) :
    ((outsAt0 m c t.val t.isLt).1 (ix3 0 u v) : EReal) = product (Z m c) (W m c) (pos (by decide) i u) v := by
  rw [wrote m c t h]
  unfold k0_pay4 product
  pointwise
  rw [acc m c t h, zero_add]
  refine Finset.sum_congr rfl fun s _ => (pay1 _ _ _ _).trans (Finset.sum_congr rfl fun k _ => ?_)
  rw [in0 m c _ u k i (by dsimp only; omega) s (by dsimp only; omega), in1 m c _ v k s (by dsimp only; omega)]

theorem array : (dats m 0 c).arrAt 2 cfg0.N = result (Z m c) (W m c) := by
  refine (dats m 0 c).arrAt_eq_of_covers 2 _ (by decide +kernel) fun t hf y => ?_
  have hN : t.val < 24 := t.isLt
  idx_vars y
  blk_simp
  rw [after0_2]
  obtain rfl : y0 = 0 := Subsingleton.elim _ _
  refine (block m c t ((flush0_2 t).mp hf) y1 y2 ⟨t.val / 3, by omega⟩ rfl).trans ?_
  refine congrArg₂ (product (Z m c) (W m c)) (Fin.ext ?_) (Fin.ext ?_)
  · blk_simp [idx t]; rfl
  · blk_simp [idx t]

/-- A run ends with that array, and with the arguments as they were. -/
theorem run_blocks (g : Dev nD → PrngReg) : θ_run defs (onTc (τ := τ) (main (F := Ideal))) ⟨m, fun _ => 0, g⟩ fun r => ∀ c : Dev nD,
    r.2.mem ((c : Thread nD τ).loc main_v1) = (dats m 0 c).arrAt 2 cfg0.N
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1 2,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m g)

end Cert.KernelQkvXIdeal.Own

namespace Cert.ReferenceQkvXIdeal.Own

open Cert.ReferenceQkvXIdeal Cert.ReferenceQkvXIdeal.Gen Cert.ReferenceQkvXIdeal.Read Idealize.ShloMosaic
open Cert.Blocked (pos sum_pos)
open Cert.KernelQkvXIdeal.Own (slot)

/-- The three gradients side by side: column `k` of the queries', the keys' or the values'. -/
theorem beside (Z : Vec Ideal S3x4096x2048 .bf16) (u : Fin 4096) (n : Fin 3) (k : Fin 2048) :
    val_main_v10 (F := Ideal) Z (ix2 u (pos (by decide) n k)) = Z (ix3 (slot n) u k) := by
  unfold val_main_v10 val_main_v7 val_main_v6 val_main_v5 val_main_v4 val_main_v3 val_main_v2 val_main_v1
  have hk : k.val < 2048 := k.isLt
  have e (n : Fin 3) : (pos (by decide : 3 * 2048 = 6144) n k).val = n.val * 2048 + k.val := rfl
  have e0 := e 0
  have e1 := e 1
  have e2 := e 2
  simp only [Fin.val_zero, Fin.val_one, Fin.val_two] at e0 e1 e2
  match n with
  | 0 =>
    pointwise
    exact (dif_pos (by omega)).trans (congrArg (fun x => Z (ix3 2 u x)) (Fin.ext (by dsimp only; omega)))
  | 1 =>
    pointwise
    refine (dif_neg ?_).trans ((dif_pos ?_).trans (congrArg (fun x => Z (ix3 0 u x)) (Fin.ext ?_)))
    · omega
    · omega
    · dsimp only; omega
  | 2 =>
    pointwise
    refine (dif_neg ?_).trans ((dif_neg ?_).trans (congrArg (fun x => Z (ix3 1 u x)) (Fin.ext ?_)))
    · omega
    · omega
    · dsimp only; omega

/-- The reference's result is that product. -/
theorem array (Z : Vec Ideal S3x4096x2048 .bf16) (W : Vec Ideal S2048x6144 .bf16) :
    val_main_v12 (F := Ideal) Z W = Cert.KernelQkvXIdeal.Own.result Z W := by
  funext j; idx_vars j
  unfold val_main_v12 val_main_v11 val_main_v0
  pointwise
  show (∑ x : Fin 6144, val_main_v10 (F := Ideal) Z (ix2 j1 x) * W (ix2 j2 x) : EReal) = Cert.KernelQkvXIdeal.Own.product Z W j1 j2
  rw [sum_pos (by decide : 3 * 2048 = 6144)]
  simp only [beside]
  rfl

end Cert.ReferenceQkvXIdeal.Own

namespace Cert.Proof

open Idealize.ShloMosaic Idealize.ShloMosaic.TcCoe Idealize.SL.Sem

/-- The reference leaves its arguments as they were, and it has no counters. -/
theorem frame_r_qkv_x : quiescent_ReferenceQkvXIdeal (hReferenceQkvXIdeal := Cert.ReferenceQkvXIdeal.Gen.facts) := fun m g _ =>
  (θ_run _ _ _).mono (fun r h => ⟨fun c => (h c).2, sem_eq_zero_of_no_sems (by decide) r.2⟩) (Cert.ReferenceQkvXIdeal.Value.run m g)

/-- Over the reals the kernel and the reference end with the same gradient of the input. -/
theorem algebraic_qkv_x : algebraic_KernelQkvXIdeal_ReferenceQkvXIdeal (hKernelQkvXIdeal := Cert.KernelQkvXIdeal.Gen.facts) (hReferenceQkvXIdeal := Cert.ReferenceQkvXIdeal.Gen.facts) := by
  intro m g m' g' _ hargs
  refine ⟨fun c => Cert.KernelQkvXIdeal.Own.result (Cert.KernelQkvXIdeal.Own.Z m c) (Cert.KernelQkvXIdeal.Own.W m c), ?_, ?_⟩
  · refine (θ_run _ _ _).mono (fun r h c => ?_) (Cert.KernelQkvXIdeal.Own.run_blocks m g)
    obtain ⟨h0, ha⟩ := h c
    exact ⟨h0.trans (Cert.KernelQkvXIdeal.Own.array m c), ha⟩
  · refine (θ_run _ _ _).mono (fun r h c => ?_) (Cert.ReferenceQkvXIdeal.Value.run m' g')
    obtain ⟨h0, ha⟩ := h c
    obtain ⟨e0, e1⟩ := hargs c
    refine ⟨h0.trans ((Cert.ReferenceQkvXIdeal.Read.val_main_v12_eq _ _).trans ?_), ha⟩
    rw [e0, e1]
    exact Cert.ReferenceQkvXIdeal.Own.array _ _

end Cert.Proof

end
-- ==== Proof.QkvW.lean ====
/- The gradient of the weight of the queries, keys and values: what the kernel and the reference compute, element by element. -/
module

public import proofs.«01_k».proof.Defs
public import proofs.«01_k».proof.Proof.Gen.KernelQkvWIdeal.Frame
public import Idealize.ShloMosaic.Lib.Pipeline.Value
public import proofs.«01_k».proof.Proof.Gen.ReferenceQkvWIdeal.Read
public import proofs.«01_k».proof.Proof.Blocked
public import proofs.«01_k».proof.Proof.QkvX

@[expose] public section

set_option maxRecDepth 16384

noncomputable section

namespace Cert.KernelQkvWIdeal.Own

open Cert.KernelQkvWIdeal Cert.KernelQkvWIdeal.Gen Idealize.ShloMosaic Idealize.ShloMosaic.TcCoe Idealize.SL.Sem
open Idealize.ShloMosaic.Pipeline (Dat)
open Cert.Blocked (pos sum_pos)

open Cert.KernelQkvXIdeal.Own (slot)

/-- The blocks of a grid point: of the three gradients, that of the queries first, which the array holds last. -/
theorem idx : ∀ t : Fin cfg0.N, win0_0.index t = ![0, t.val % 2, t.val / 12] ∧ win0_1.index t = ![(t.val / 2 % 6 / 2 + 2) % 3, t.val % 2, t.val / 2 % 6 % 2] ∧ win0_2.index t = ![0, t.val / 12, t.val / 2 % 6] :=
  (by decide +kernel : ∀ t : Fin grid0.N, win0_0.index t = ![0, t.val % 2, t.val / 12] ∧ win0_1.index t = ![(t.val / 2 % 6 / 2 + 2) % 3, t.val % 2, t.val / 2 % 6 % 2] ∧ win0_2.index t = ![0, t.val / 12, t.val / 2 % 6])

variable (m : (ℓ : Loc nD τ sig) → Buf (Elt Ideal) ℓ) (c : Dev nD)

abbrev H : Vec Ideal S4096x2048 .bf16 := m (c.tc.loc main_arg0)
abbrev Z : Vec Ideal S3x4096x2048 .bf16 := m (c.tc.loc main_arg1)

theorem V0 : V m c main_v0 = shapeCast S1x4096x2048 (H m c) shapeCasts_S4096x2048_S1x4096x2048 := by
  unfold V; after_reads_simp; rfl

theorem in0 (t : Fin cfg0.N) (k : Fin 2048) (u : Fin 1024) (i : Fin 2) (hi : t.val % 2 = i.val) (j : Fin 2) (hj : t.val / 12 = j.val) :
    (iblk m c 0 t : Vec Ideal S1x2048x1024 .bf16) (ix3 0 k u) = H m c (ix2 (pos (by decide) i k) (pos (by decide) j u)) := by
  blk_simp [iblk]
  rw [V0]
  pointwise
  blk_ext [idx t, pos]

/-- The gradient of column `v` of the queries, keys and values side by side, in row `k`. -/
def at_column (Z : Vec Ideal S3x4096x2048 .bf16) (k : Fin 4096) (v : Fin 6144) : EReal :=
  Z (ix3 (slot ⟨v.val / 2048, by omega⟩) k ⟨v.val % 2048, by omega⟩)

theorem in1 (t : Fin cfg0.N) (k : Fin 2048) (v : Fin 1024) (i : Fin 2) (hi : t.val % 2 = i.val) (j : Fin 6) (hj : t.val / 2 % 6 = j.val) :
    ((iblk m c 1 t : Vec Ideal S1x2048x1024 .bf16) (ix3 0 k v) : EReal) = at_column (Z m c) (pos (by decide) i k) (pos (by decide) j v) := by
  unfold at_column
  blk_simp [iblk]
  rw [V_main_arg1]
  blk_ext [idx t, pos, slot]

/-- The product of two blocks. -/
theorem pay1 (x y : Vec Ideal S1x2048x1024 .bf16) (u v : Fin 1024) :
    k0_pay1 (F := Ideal) x y (ix2 u v) = ∑ k : Fin 2048, x (ix3 0 k u) * y (ix3 0 k v) := by
  unfold k0_pay1; pointwise

/-- The accumulator after the last block of rows: the sum over both. -/
theorem acc (t : Fin cfg0.N) (h : t.val % 2 = 1) (u v : Fin 1024) :
    (outsAt0 m c t.val t.isLt).2 (ix2 u v) = 0 + ∑ s : Fin 2, k0_pay1 (F := Ideal) (iblk m c 0 ⟨2 * (t.val / 2) + s.val, Pipeline.run_point_lt_of_flush t h s⟩) (iblk m c 1 ⟨2 * (t.val / 2) + s.val, Pipeline.run_point_lt_of_flush t h s⟩) (ix2 u v) := by
  refine Pipeline.eq_sum_fin_of_reset_step_apply_of_flush (fun n h => (outsAt0 m c n h).2) 2 (fun _ => 0)
    (fun p => k0_pay1 (F := Ideal) (iblk m c 0 p) (iblk m c 1 p)) (fun p hp j => ?_) (fun p hp j => ?_) t h (ix2 u v)
  · rw [outsAt0_A m c p hp (by omega) (by omega)]
    frame_out
    idx_vars j
    unfold k0_pay2
    pointwise
  · rw [outsAt0_B m c p hp (by omega) (by omega)]
    frame_out
    idx_vars j
    simp only [read_unread_whole]
    unfold k0_pay3
    pointwise

/-- The last point of a run writes its accumulator. -/
theorem wrote (t : Fin cfg0.N) (h : t.val % 2 = 1) : (outsAt0 m c t.val t.isLt).1 = k0_pay4 (outsAt0 m c t.val t.isLt).2 := by
  rw [outsAt0_B m c t (by omega) h h]
  frame_out

/-- The product, over their rows, of the input and of the gradients side by side. -/
def product (H : Vec Ideal S4096x2048 .bf16) (Z : Vec Ideal S3x4096x2048 .bf16) (u : Fin 2048) (v : Fin 6144) : EReal :=
  ∑ k : Fin 4096, H (ix2 k u) * at_column Z k v

theorem block (t : Fin cfg0.N) (h : t.val % 2 = 1) (u v : Fin 1024) (i : Fin 2) (hi : t.val / 12 = i.val) (j : Fin 6) (hj : t.val / 2 % 6 = j.val) :
    ((outsAt0 m c t.val t.isLt).1 (ix3 0 u v) : EReal) = product (H m c) (Z m c) (pos (by decide) i u) (pos (by decide) j v) := by
  rw [wrote m c t h]
  unfold k0_pay4 product
  pointwise
  rw [acc m c t h, sum_pos (by decide : 2 * 2048 = 4096), zero_add]
  refine Finset.sum_congr rfl fun s _ => (pay1 _ _ _ _).trans (Finset.sum_congr rfl fun k _ => ?_)
  rw [in0 m c _ k u s (by dsimp only; omega) i (by dsimp only; omega), in1 m c _ k v s (by dsimp only; omega) j (by dsimp only; omega)]

/-- It as the array of the result. -/
def result (H : Vec Ideal S4096x2048 .bf16) (Z : Vec Ideal S3x4096x2048 .bf16) : Vec Ideal S1x2048x6144 .bf16 := fun j => product H Z (j 1) (j 2)

theorem array : (dats m 0 c).arrAt 2 cfg0.N = result (H m c) (Z m c) := by
  refine (dats m 0 c).arrAt_eq_of_covers 2 _ (by decide +kernel) fun t hf y => ?_
  have hN : t.val < 24 := t.isLt
  idx_vars y
  blk_simp
  rw [after0_2]
  obtain rfl : y0 = 0 := Subsingleton.elim _ _
  refine (block m c t ((flush0_2 t).mp hf) y1 y2 ⟨t.val / 12, by omega⟩ rfl ⟨t.val / 2 % 6, by omega⟩ rfl).trans ?_
  refine congrArg₂ (product (H m c) (Z m c)) (Fin.ext ?_) (Fin.ext ?_)
  · blk_simp [idx t]; rfl
  · blk_simp [idx t]; rfl

/-- A run ends with that array, and with the arguments as they were. -/
theorem run_blocks (g : Dev nD → PrngReg) : θ_run defs (onTc (τ := τ) (main (F := Ideal))) ⟨m, fun _ => 0, g⟩ fun r => ∀ c : Dev nD,
    r.2.mem ((c : Thread nD τ).loc main_v1) = (dats m 0 c).arrAt 2 cfg0.N
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1 2,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m g)

end Cert.KernelQkvWIdeal.Own

namespace Cert.ReferenceQkvWIdeal.Own

open Cert.ReferenceQkvWIdeal Cert.ReferenceQkvWIdeal.Gen Cert.ReferenceQkvWIdeal.Read Idealize.ShloMosaic
open Cert.Blocked (pos)

/-- The three gradients side by side. -/
theorem beside (Z : Vec Ideal S3x4096x2048 .bf16) (k : Fin 4096) (v : Fin 6144) :
    (val_main_v10 (F := Ideal) Z (ix2 k v) : EReal) = Cert.KernelQkvWIdeal.Own.at_column Z k v := by
  have e : v = pos (by decide : 3 * 2048 = 6144) ⟨v.val / 2048, by omega⟩ ⟨v.val % 2048, by omega⟩ := Fin.ext (by show v.val = v.val / 2048 * 2048 + v.val % 2048; omega)
  exact (congrArg (fun x => val_main_v10 (F := Ideal) Z (ix2 k x)) e).trans (Cert.ReferenceQkvXIdeal.Own.beside Z k _ _)

/-- The reference's result is that product. -/
theorem array (H : Vec Ideal S4096x2048 .bf16) (Z : Vec Ideal S3x4096x2048 .bf16) :
    val_main_v14 (F := Ideal) H Z = Cert.KernelQkvWIdeal.Own.result H Z := by
  funext j; idx_vars j
  unfold val_main_v14 val_main_v13 val_main_v12 val_main_v11 val_main_v0
  pointwise
  show (∑ k : Fin 4096, val_main_v10 (F := Ideal) Z (ix2 k j2) * H (ix2 k j1) : EReal) = Cert.KernelQkvWIdeal.Own.product H Z j1 j2
  simp only [beside]
  exact Finset.sum_congr rfl fun k _ => mul_comm (_ : EReal) _

end Cert.ReferenceQkvWIdeal.Own

namespace Cert.Proof

open Idealize.ShloMosaic Idealize.ShloMosaic.TcCoe Idealize.SL.Sem

/-- The reference leaves its arguments as they were, and it has no counters. -/
theorem frame_r_qkv_w : quiescent_ReferenceQkvWIdeal (hReferenceQkvWIdeal := Cert.ReferenceQkvWIdeal.Gen.facts) := fun m g _ =>
  (θ_run _ _ _).mono (fun r h => ⟨fun c => (h c).2, sem_eq_zero_of_no_sems (by decide) r.2⟩) (Cert.ReferenceQkvWIdeal.Value.run m g)

/-- Over the reals the kernel and the reference end with the same gradient of the weight. -/
theorem algebraic_qkv_w : algebraic_KernelQkvWIdeal_ReferenceQkvWIdeal (hKernelQkvWIdeal := Cert.KernelQkvWIdeal.Gen.facts) (hReferenceQkvWIdeal := Cert.ReferenceQkvWIdeal.Gen.facts) := by
  intro m g m' g' _ hargs
  refine ⟨fun c => Cert.KernelQkvWIdeal.Own.result (Cert.KernelQkvWIdeal.Own.H m c) (Cert.KernelQkvWIdeal.Own.Z m c), ?_, ?_⟩
  · refine (θ_run _ _ _).mono (fun r h c => ?_) (Cert.KernelQkvWIdeal.Own.run_blocks m g)
    obtain ⟨h0, ha⟩ := h c
    exact ⟨h0.trans (Cert.KernelQkvWIdeal.Own.array m c), ha⟩
  · refine (θ_run _ _ _).mono (fun r h c => ?_) (Cert.ReferenceQkvWIdeal.Value.run m' g')
    obtain ⟨h0, ha⟩ := h c
    obtain ⟨e0, e1⟩ := hargs c
    refine ⟨h0.trans ((Cert.ReferenceQkvWIdeal.Read.val_main_v14_eq _ _).trans ?_), ha⟩
    rw [e0, e1]
    exact Cert.ReferenceQkvWIdeal.Own.array _ _

end Cert.Proof

end
-- ==== Proof.Proj.lean ====
/- A product with a d by d weight: what the kernel and the reference compute, element by element. -/
module

public import proofs.«01_k».proof.Defs
public import proofs.«01_k».proof.Proof.Gen.KernelProjIdeal.Value
public import proofs.«01_k».proof.Proof.Gen.ReferenceProjIdeal.Read
public import proofs.«01_k».proof.Proof.Blocked

@[expose] public section

set_option maxRecDepth 16384

noncomputable section

namespace Cert.KernelProjIdeal.Own

open Cert.KernelProjIdeal Cert.KernelProjIdeal.Gen Idealize.ShloMosaic Idealize.ShloMosaic.TcCoe Idealize.SL.Sem
open Idealize.ShloMosaic.Pipeline (Dat)
open Cert.Blocked (pos)

/-- The blocks of a grid point. -/
theorem idx : ∀ t : Fin cfg0.N, win0_0.index t = ![0, t.val / 2, 0] ∧ win0_1.index t = ![0, 0, t.val % 2] ∧ win0_2.index t = ![0, t.val / 2, t.val % 2] :=
  (by decide +kernel : ∀ t : Fin grid0.N, win0_0.index t = ![0, t.val / 2, 0] ∧ win0_1.index t = ![0, 0, t.val % 2] ∧ win0_2.index t = ![0, t.val / 2, t.val % 2])

variable (m : (ℓ : Loc nD τ sig) → Buf (Elt Ideal) ℓ) (c : Dev nD)

abbrev H : Vec Ideal S4096x2048 .bf16 := m (c.tc.loc main_arg0)
abbrev W : Vec Ideal S2048x2048 .bf16 := m (c.tc.loc main_arg1)

theorem V0 : V m c main_v0 = shapeCast S1x4096x2048 (H m c) shapeCasts_S4096x2048_S1x4096x2048 := by
  unfold V; after_reads_simp; rfl
theorem V1 : V m c main_v1 = shapeCast S1x2048x2048 (W m c) shapeCasts_S2048x2048_S1x2048x2048 := by
  unfold V; after_reads_simp; rfl

theorem in0 (t : Fin cfg0.N) (u : Fin 1024) (k : Fin 2048) (i : Fin 4) (hi : t.val / 2 = i.val) :
    (iblk m c 0 t : Vec Ideal S1x1024x2048 .bf16) (ix3 0 u k) = H m c (ix2 (pos (by decide) i u) k) := by
  blk_simp [iblk]
  rw [V0]
  pointwise
  blk_ext [idx t, pos]

theorem in1 (t : Fin cfg0.N) (k : Fin 2048) (v : Fin 1024) (j : Fin 2) (hj : t.val % 2 = j.val) :
    (iblk m c 1 t : Vec Ideal S1x2048x1024 .bf16) (ix3 0 k v) = W m c (ix2 k (pos (by decide) j v)) := by
  blk_simp [iblk]
  rw [V1]
  pointwise
  blk_ext [idx t, pos]

/-- The product of two blocks. -/
theorem pay1 (x : Vec Ideal S1x1024x2048 .bf16) (y : Vec Ideal S1x2048x1024 .bf16) (u v : Fin 1024) :
    k0_pay1 (F := Ideal) x y (ix3 0 u v) = ∑ k : Fin 2048, x (ix3 0 u k) * y (ix3 0 k v) := by
  unfold k0_pay1; pointwise

/-- The product of the two arrays. -/
def product (H : Vec Ideal S4096x2048 .bf16) (W : Vec Ideal S2048x2048 .bf16) (u : Fin 4096) (v : Fin 2048) : EReal :=
  ∑ k : Fin 2048, (H (ix2 u k) * W (ix2 k v) : EReal)

/-- It as the array of the result. -/
def result (H : Vec Ideal S4096x2048 .bf16) (W : Vec Ideal S2048x2048 .bf16) : Vec Ideal S1x4096x2048 .bf16 := fun j => product H W (j 1) (j 2)

theorem element (t : Fin cfg0.N) (u v : Fin 1024) (i : Fin 4) (hi : t.val / 2 = i.val) (j : Fin 2) (hj : t.val % 2 = j.val) :
    (k0_pay1 (F := Ideal) (iblk m c 0 t) (iblk m c 1 t) (ix3 0 u v) : EReal) = product (H m c) (W m c) (pos (by decide) i u) (pos (by decide) j v) := by
  refine (pay1 _ _ _ _).trans (Finset.sum_congr rfl fun k _ => ?_)
  rw [in0 m c t u k i hi, in1 m c t k v j hj]

theorem array : (dats m 0 c).arrAt 2 cfg0.N = result (H m c) (W m c) := by
  refine (dats m 0 c).arrAt_eq_of_covers 2 _ (by decide +kernel) fun t hf y => ?_
  have hN : t.val < 8 := t.isLt
  idx_vars y
  blk_simp
  rw [after0_2]
  frame_out
  obtain rfl : y0 = 0 := Subsingleton.elim _ _
  refine (element m c t y1 y2 ⟨t.val / 2, by omega⟩ rfl ⟨t.val % 2, by omega⟩ rfl).trans ?_
  refine congrArg₂ (product (H m c) (W m c)) (Fin.ext ?_) (Fin.ext ?_)
  · blk_simp [idx t]; rfl
  · blk_simp [idx t]; rfl

end Cert.KernelProjIdeal.Own

namespace Cert.ReferenceProjIdeal.Own

open Cert.ReferenceProjIdeal Cert.ReferenceProjIdeal.Gen Cert.ReferenceProjIdeal.Read Idealize.ShloMosaic

/-- The reference's result is that product. -/
theorem array (H : Vec Ideal S4096x2048 .bf16) (W : Vec Ideal S2048x2048 .bf16) :
    val_main_v4 (F := Ideal) H W = Cert.KernelProjIdeal.Own.result H W := by
  funext j; idx_vars j
  unfold val_main_v4 val_main_v3 val_main_v2 val_main_v1 val_main_v0
  pointwise
  rfl

end Cert.ReferenceProjIdeal.Own

namespace Cert.Proof

open Idealize.ShloMosaic Idealize.ShloMosaic.TcCoe Idealize.SL.Sem

/-- The reference leaves its arguments as they were, and it has no counters. -/
theorem frame_r_proj : quiescent_ReferenceProjIdeal (hReferenceProjIdeal := Cert.ReferenceProjIdeal.Gen.facts) := fun m g _ =>
  (θ_run _ _ _).mono (fun r h => ⟨fun c => (h c).2, sem_eq_zero_of_no_sems (by decide) r.2⟩) (Cert.ReferenceProjIdeal.Value.run m g)

/-- Over the reals the kernel and the reference end with the same product. -/
theorem algebraic_proj : algebraic_KernelProjIdeal_ReferenceProjIdeal (hKernelProjIdeal := Cert.KernelProjIdeal.Gen.facts) (hReferenceProjIdeal := Cert.ReferenceProjIdeal.Gen.facts) := by
  intro m g m' g' _ hargs
  refine ⟨fun c => Cert.KernelProjIdeal.Own.result (Cert.KernelProjIdeal.Own.H m c) (Cert.KernelProjIdeal.Own.W m c), ?_, ?_⟩
  · refine (θ_run _ _ _).mono (fun r h c => ?_) (Cert.KernelProjIdeal.Value.run_blocks m g)
    obtain ⟨h0, ha⟩ := h c
    exact ⟨h0.trans (Cert.KernelProjIdeal.Own.array m c), ha⟩
  · refine (θ_run _ _ _).mono (fun r h c => ?_) (Cert.ReferenceProjIdeal.Value.run m' g')
    obtain ⟨h0, ha⟩ := h c
    obtain ⟨e0, e1⟩ := hargs c
    refine ⟨h0.trans ((Cert.ReferenceProjIdeal.Read.val_main_v4_eq _ _).trans ?_), ha⟩
    rw [e0, e1]
    exact Cert.ReferenceProjIdeal.Own.array _ _

end Cert.Proof

end
-- ==== Proof.ProjRes.lean ====
/- A product with a d by d weight, added to the residual: what the kernel and the reference compute, element by element. -/
module

public import proofs.«01_k».proof.Defs
public import proofs.«01_k».proof.Proof.Gen.KernelProjResIdeal.Value
public import proofs.«01_k».proof.Proof.Gen.ReferenceProjResIdeal.Read
public import proofs.«01_k».proof.Proof.Blocked
public import proofs.«01_k».proof.Proof.Proj

@[expose] public section

set_option maxRecDepth 16384

noncomputable section

namespace Cert.KernelProjResIdeal.Own

open Cert.KernelProjResIdeal Cert.KernelProjResIdeal.Gen Idealize.ShloMosaic Idealize.ShloMosaic.TcCoe Idealize.SL.Sem
open Idealize.ShloMosaic.Pipeline (Dat)
open Cert.Blocked (pos)

open Cert.KernelProjIdeal.Own (product)

/-- The blocks of a grid point. -/
theorem idx : ∀ t : Fin cfg0.N, win0_0.index t = ![0, t.val / 2, 0] ∧ win0_1.index t = ![0, 0, t.val % 2] ∧ win0_2.index t = ![0, t.val / 2, t.val % 2] ∧ win0_3.index t = ![0, t.val / 2, t.val % 2] :=
  (by decide +kernel : ∀ t : Fin grid0.N, win0_0.index t = ![0, t.val / 2, 0] ∧ win0_1.index t = ![0, 0, t.val % 2] ∧ win0_2.index t = ![0, t.val / 2, t.val % 2] ∧ win0_3.index t = ![0, t.val / 2, t.val % 2])

variable (m : (ℓ : Loc nD τ sig) → Buf (Elt Ideal) ℓ) (c : Dev nD)

abbrev H : Vec Ideal S4096x2048 .bf16 := m (c.tc.loc main_arg0)
abbrev W : Vec Ideal S2048x2048 .bf16 := m (c.tc.loc main_arg1)
abbrev X : Vec Ideal S4096x2048 .f32 := m (c.tc.loc main_arg2)

theorem V0 : V m c main_v0 = shapeCast S1x4096x2048 (H m c) shapeCasts_S4096x2048_S1x4096x2048 := by
  unfold V; after_reads_simp; rfl
theorem V1 : V m c main_v1 = shapeCast S1x2048x2048 (W m c) shapeCasts_S2048x2048_S1x2048x2048 := by
  unfold V; after_reads_simp; rfl
theorem V2 : V m c main_v2 = shapeCast S1x4096x2048 (X m c) shapeCasts_S4096x2048_S1x4096x2048 := by
  unfold V; after_reads_simp; rfl

theorem in0 (t : Fin cfg0.N) (u : Fin 1024) (k : Fin 2048) (i : Fin 4) (hi : t.val / 2 = i.val) :
    (iblk m c 0 t : Vec Ideal S1x1024x2048 .bf16) (ix3 0 u k) = H m c (ix2 (pos (by decide) i u) k) := by
  blk_simp [iblk]
  rw [V0]
  pointwise
  blk_ext [idx t, pos]

theorem in1 (t : Fin cfg0.N) (k : Fin 2048) (v : Fin 1024) (j : Fin 2) (hj : t.val % 2 = j.val) :
    (iblk m c 1 t : Vec Ideal S1x2048x1024 .bf16) (ix3 0 k v) = W m c (ix2 k (pos (by decide) j v)) := by
  blk_simp [iblk]
  rw [V1]
  pointwise
  blk_ext [idx t, pos]

theorem in2 (t : Fin cfg0.N) (u v : Fin 1024) (i : Fin 4) (hi : t.val / 2 = i.val) (j : Fin 2) (hj : t.val % 2 = j.val) :
    (iblk m c 2 t : Vec Ideal S1x1024x1024 .f32) (ix3 0 u v) = X m c (ix2 (pos (by decide) i u) (pos (by decide) j v)) := by
  blk_simp [iblk]
  rw [V2]
  pointwise
  blk_ext [idx t, pos]

/-- The product of two blocks, added to a third. -/
theorem pay1 (x : Vec Ideal S1x1024x2048 .bf16) (y : Vec Ideal S1x2048x1024 .bf16) (z : Vec Ideal S1x1024x1024 .f32) (u v : Fin 1024) :
    k0_pay1 (F := Ideal) x y z (ix3 0 u v) = ∑ k : Fin 2048, (x (ix3 0 u k) * y (ix3 0 k v) : EReal) + z (ix3 0 u v) := by
  unfold k0_pay1; pointwise

/-- The residual and the product, as the array of the result. -/
def result (H : Vec Ideal S4096x2048 .bf16) (W : Vec Ideal S2048x2048 .bf16) (X : Vec Ideal S4096x2048 .f32) : Vec Ideal S1x4096x2048 .f32 :=
  fun j => (X (ix2 (j 1) (j 2)) + product H W (j 1) (j 2) : EReal)

theorem element (t : Fin cfg0.N) (u v : Fin 1024) (i : Fin 4) (hi : t.val / 2 = i.val) (j : Fin 2) (hj : t.val % 2 = j.val) :
    (k0_pay1 (F := Ideal) (iblk m c 0 t) (iblk m c 1 t) (iblk m c 2 t) (ix3 0 u v) : EReal) = result (H m c) (W m c) (X m c) (ix3 0 (pos (by decide) i u) (pos (by decide) j v)) := by
  refine (pay1 _ _ _ _ _).trans ((add_comm _ _).trans (congrArg₂ (fun x y : EReal => x + y) (in2 m c t u v i hi j hj) (Finset.sum_congr rfl fun k _ => ?_)))
  rw [in0 m c t u k i hi, in1 m c t k v j hj]
  rfl

theorem array : (dats m 0 c).arrAt 3 cfg0.N = result (H m c) (W m c) (X m c) := by
  refine (dats m 0 c).arrAt_eq_of_covers 3 _ (by decide +kernel) fun t hf y => ?_
  have hN : t.val < 8 := t.isLt
  idx_vars y
  blk_simp
  rw [after0_3]
  frame_out
  obtain rfl : y0 = 0 := Subsingleton.elim _ _
  refine (element m c t y1 y2 ⟨t.val / 2, by omega⟩ rfl ⟨t.val % 2, by omega⟩ rfl).trans (congrArg (result (H m c) (W m c) (X m c)) ?_)
  blk_ext [idx t, pos]

end Cert.KernelProjResIdeal.Own

namespace Cert.ReferenceProjResIdeal.Own

open Cert.ReferenceProjResIdeal Cert.ReferenceProjResIdeal.Gen Cert.ReferenceProjResIdeal.Read Idealize.ShloMosaic

/-- The reference's result is that sum. -/
theorem array (H : Vec Ideal S4096x2048 .bf16) (W : Vec Ideal S2048x2048 .bf16) (X : Vec Ideal S4096x2048 .f32) :
    val_main_v4 (F := Ideal) H W X = Cert.KernelProjResIdeal.Own.result H W X := by
  funext j; idx_vars j
  unfold val_main_v4 val_main_v3 val_main_v2 val_main_v1 val_main_v0
  pointwise
  rfl

end Cert.ReferenceProjResIdeal.Own

namespace Cert.Proof

open Idealize.ShloMosaic Idealize.ShloMosaic.TcCoe Idealize.SL.Sem

/-- The reference leaves its arguments as they were, and it has no counters. -/
theorem frame_r_proj_res : quiescent_ReferenceProjResIdeal (hReferenceProjResIdeal := Cert.ReferenceProjResIdeal.Gen.facts) := fun m g _ =>
  (θ_run _ _ _).mono (fun r h => ⟨fun c => (h c).2, sem_eq_zero_of_no_sems (by decide) r.2⟩) (Cert.ReferenceProjResIdeal.Value.run m g)

/-- Over the reals the kernel and the reference end with the same sum. -/
theorem algebraic_proj_res : algebraic_KernelProjResIdeal_ReferenceProjResIdeal (hKernelProjResIdeal := Cert.KernelProjResIdeal.Gen.facts) (hReferenceProjResIdeal := Cert.ReferenceProjResIdeal.Gen.facts) := by
  intro m g m' g' _ hargs
  refine ⟨fun c => Cert.KernelProjResIdeal.Own.result (Cert.KernelProjResIdeal.Own.H m c) (Cert.KernelProjResIdeal.Own.W m c) (Cert.KernelProjResIdeal.Own.X m c), ?_, ?_⟩
  · refine (θ_run _ _ _).mono (fun r h c => ?_) (Cert.KernelProjResIdeal.Value.run_blocks m g)
    obtain ⟨h0, ha⟩ := h c
    exact ⟨h0.trans (Cert.KernelProjResIdeal.Own.array m c), ha⟩
  · refine (θ_run _ _ _).mono (fun r h c => ?_) (Cert.ReferenceProjResIdeal.Value.run m' g')
    obtain ⟨h0, ha⟩ := h c
    obtain ⟨e0, e1, e2⟩ := hargs c
    refine ⟨h0.trans ((Cert.ReferenceProjResIdeal.Read.val_main_v4_eq _ _ _).trans ?_), ha⟩
    rw [e0, e1, e2]
    exact Cert.ReferenceProjResIdeal.Own.array _ _ _

end Cert.Proof

end
-- ==== Proof.Qkv.lean ====
/- The queries, keys and values of the forgetting attention: what the kernel and the reference compute, element by element. -/
module

public import proofs.«01_k».proof.Defs
public import proofs.«01_k».proof.Proof.Gen.KernelQkvIdeal.Value
public import proofs.«01_k».proof.Proof.Gen.ReferenceQkvIdeal.Read
public import proofs.«01_k».proof.Proof.Blocked

@[expose] public section

set_option maxRecDepth 16384

noncomputable section

namespace Cert.KernelQkvIdeal.Own

open Cert.KernelQkvIdeal Cert.KernelQkvIdeal.Gen Idealize.ShloMosaic Idealize.ShloMosaic.TcCoe Idealize.SL.Sem
open Idealize.ShloMosaic.Pipeline (Dat)
open Cert.Blocked (pos)

/-- The blocks of a grid point. -/
theorem idx : ∀ t : Fin cfg0.N, win0_0.index t = ![0, t.val / 6, 0] ∧ win0_1.index t = ![0, 0, t.val % 6] ∧ win0_2.index t = ![t.val % 6 / 2, t.val / 6, t.val % 6 % 2] :=
  (by decide +kernel : ∀ t : Fin grid0.N, win0_0.index t = ![0, t.val / 6, 0] ∧ win0_1.index t = ![0, 0, t.val % 6] ∧ win0_2.index t = ![t.val % 6 / 2, t.val / 6, t.val % 6 % 2])

variable (m : (ℓ : Loc nD τ sig) → Buf (Elt Ideal) ℓ) (c : Dev nD)

abbrev H : Vec Ideal S4096x2048 .bf16 := m (c.tc.loc main_arg0)
abbrev W : Vec Ideal S2048x6144 .bf16 := m (c.tc.loc main_arg1)

theorem V0 : V m c main_v0 = shapeCast S1x4096x2048 (H m c) shapeCasts_S4096x2048_S1x4096x2048 := by
  unfold V; after_reads_simp; rfl
theorem V1 : V m c main_v1 = shapeCast S1x2048x6144 (W m c) shapeCasts_S2048x6144_S1x2048x6144 := by
  unfold V; after_reads_simp; rfl

theorem in0 (t : Fin cfg0.N) (u : Fin 1024) (k : Fin 2048) (i : Fin 4) (hi : t.val / 6 = i.val) :
    (iblk m c 0 t : Vec Ideal S1x1024x2048 .bf16) (ix3 0 u k) = H m c (ix2 (pos (by decide) i u) k) := by
  blk_simp [iblk]
  rw [V0]
  pointwise
  blk_ext [idx t, pos]

theorem in1 (t : Fin cfg0.N) (k : Fin 2048) (v : Fin 1024) (j : Fin 6) (hj : t.val % 6 = j.val) :
    (iblk m c 1 t : Vec Ideal S1x2048x1024 .bf16) (ix3 0 k v) = W m c (ix2 k (pos (by decide) j v)) := by
  blk_simp [iblk]
  rw [V1]
  pointwise
  blk_ext [idx t, pos]

/-- The product of two blocks. -/
theorem pay1 (x : Vec Ideal S1x1024x2048 .bf16) (y : Vec Ideal S1x2048x1024 .bf16) (u v : Fin 1024) :
    k0_pay1 (F := Ideal) x y (ix3 0 u v) = ∑ k : Fin 2048, x (ix3 0 u k) * y (ix3 0 k v) := by
  unfold k0_pay1; pointwise

/-- The product of the two arrays. -/
def product (H : Vec Ideal S4096x2048 .bf16) (W : Vec Ideal S2048x6144 .bf16) (u : Fin 4096) (v : Fin 6144) : EReal :=
  ∑ k : Fin 2048, (H (ix2 u k) * W (ix2 k v) : EReal)

/-- Its three blocks of columns as the array of the result. -/
def result (H : Vec Ideal S4096x2048 .bf16) (W : Vec Ideal S2048x6144 .bf16) : Vec Ideal S3x4096x2048 .bf16 :=
  fun j => product H W (j 1) (pos (by decide : 3 * 2048 = 6144) (j 0) (j 2))

theorem element (t : Fin cfg0.N) (u v : Fin 1024) (i : Fin 4) (hi : t.val / 6 = i.val) (j : Fin 6) (hj : t.val % 6 = j.val) :
    (k0_pay1 (F := Ideal) (iblk m c 0 t) (iblk m c 1 t) (ix3 0 u v) : EReal) = product (H m c) (W m c) (pos (by decide) i u) (pos (by decide) j v) := by
  refine (pay1 _ _ _ _).trans (Finset.sum_congr rfl fun k _ => ?_)
  rw [in0 m c t u k i hi, in1 m c t k v j hj]

theorem array : (dats m 0 c).arrAt 2 cfg0.N = result (H m c) (W m c) := by
  refine (dats m 0 c).arrAt_eq_of_covers 2 _ (by decide +kernel) fun t hf y => ?_
  have hN : t.val < 24 := t.isLt
  idx_vars y
  blk_simp
  rw [after0_2]
  frame_out
  obtain rfl : y0 = 0 := Subsingleton.elim _ _
  refine (element m c t y1 y2 ⟨t.val / 6, by omega⟩ rfl ⟨t.val % 6, by omega⟩ rfl).trans ?_
  refine congrArg₂ (product (H m c) (W m c)) (Fin.ext ?_) (Fin.ext ?_)
  · blk_simp [idx t]; rfl
  · blk_simp [idx t, pos]
    show t.val % 6 * 1024 + y2.val = t.val % 6 / 2 * 2048 + (t.val % 6 % 2 * 1024 + y2.val)
    omega

end Cert.KernelQkvIdeal.Own

namespace Cert.ReferenceQkvIdeal.Own

open Cert.ReferenceQkvIdeal Cert.ReferenceQkvIdeal.Gen Cert.ReferenceQkvIdeal.Read Idealize.ShloMosaic

/-- The reference's result is the same three blocks. -/
theorem array (H : Vec Ideal S4096x2048 .bf16) (W : Vec Ideal S2048x6144 .bf16) :
    val_main_v5 (F := Ideal) H W = Cert.KernelQkvIdeal.Own.result H W := by
  funext j; idx_vars j
  unfold val_main_v5 val_main_v4 val_main_v3 val_main_v2 val_main_v1 val_main_v0
  pointwise
  rfl

end Cert.ReferenceQkvIdeal.Own

namespace Cert.Proof

open Idealize.ShloMosaic Idealize.ShloMosaic.TcCoe Idealize.SL.Sem

/-- The reference leaves its arguments as they were, and it has no counters. -/
theorem frame_r_qkv : quiescent_ReferenceQkvIdeal (hReferenceQkvIdeal := Cert.ReferenceQkvIdeal.Gen.facts) := fun m g _ =>
  (θ_run _ _ _).mono (fun r h => ⟨fun c => (h c).2, sem_eq_zero_of_no_sems (by decide) r.2⟩) (Cert.ReferenceQkvIdeal.Value.run m g)

/-- Over the reals the kernel and the reference end with the same three arrays. -/
theorem algebraic_qkv : algebraic_KernelQkvIdeal_ReferenceQkvIdeal (hKernelQkvIdeal := Cert.KernelQkvIdeal.Gen.facts) (hReferenceQkvIdeal := Cert.ReferenceQkvIdeal.Gen.facts) := by
  intro m g m' g' _ hargs
  refine ⟨fun c => Cert.KernelQkvIdeal.Own.result (Cert.KernelQkvIdeal.Own.H m c) (Cert.KernelQkvIdeal.Own.W m c), ?_, ?_⟩
  · refine (θ_run _ _ _).mono (fun r h c => ?_) (Cert.KernelQkvIdeal.Value.run_blocks m g)
    obtain ⟨h0, ha⟩ := h c
    exact ⟨h0.trans (Cert.KernelQkvIdeal.Own.array m c), ha⟩
  · refine (θ_run _ _ _).mono (fun r h c => ?_) (Cert.ReferenceQkvIdeal.Value.run m' g')
    obtain ⟨h0, ha⟩ := h c
    obtain ⟨e0, e1⟩ := hargs c
    refine ⟨h0.trans ((Cert.ReferenceQkvIdeal.Read.val_main_v5_eq _ _).trans ?_), ha⟩
    rw [e0, e1]
    exact Cert.ReferenceQkvIdeal.Own.array _ _

end Cert.Proof

end
-- ==== Proof.Adam.lean ====
/- One step of the optimiser, of one number: the two moments and the change of the weight. The same formulas for every shape of weight. -/
module

public import proofs.«01_k».proof.Proof.Blocked

@[expose] public section

noncomputable section

namespace Cert.Adam

open Idealize.ShloMosaic

/-- The first moment: 0.9 of what it was and 0.1 of the gradient. -/
def moment (g m : EReal) : EReal :=
  Ideal.ofBits FTy.f32 0x3F666666#32 * m + Ideal.ofBits FTy.f32 0x3DCCCCCD#32 * g

/-- The second moment: 0.999 of what it was and 0.001 of the gradient's square. -/
def square (g v : EReal) : EReal :=
  Ideal.ofBits FTy.f32 0x3F7FBE77#32 * v + Ideal.ofBits FTy.f32 0x3A83126F#32 * (g * g)

/-- The change of the weight, of the moments with their bias taken out, with the weight's decay. -/
def change (w g m v : EReal) : EReal :=
  Ideal.ofBits FTy.f32 0xBA83126F#32 *
    (Ideal.div (Ideal.div (moment g m) (Ideal.ofBits FTy.f32 0x3F26BD02#32))
        (Ideal.sqrt (Ideal.div (square g v) (Ideal.ofBits FTy.f32 0x3C231ACC#32)) + Ideal.ofBits FTy.f32 0x322BCC77#32)
      + Ideal.ofBits FTy.f32 0x3C23D70A#32 * w)

variable {S : Shape}

/-- The first moments of an array of weights. -/
def moments (g m : Vec Ideal S .f32) : Vec Ideal S .f32 := fun j => moment (g j) (m j)

/-- The second moments of an array of weights. -/
def squares (g v : Vec Ideal S .f32) : Vec Ideal S .f32 := fun j => square (g j) (v j)

/-- The changes of an array of weights. -/
def changes (w g m v : Vec Ideal S .f32) : Vec Ideal S .f32 := fun j => change (w j) (g j) (m j) (v j)

end Cert.Adam

end
-- ==== Proof.AdamEvIn.lean ====
/- The optimiser's step of ev_w_in: the kernel goes through the rows of all layers by blocks of 256, the reference takes them at once. -/
module

public import proofs.«01_k».proof.Defs
public import proofs.«01_k».proof.Proof.Gen.KernelAdamEvInIdeal.Value
public import proofs.«01_k».proof.Proof.Gen.ReferenceAdamEvInIdeal.Read
public import proofs.«01_k».proof.Proof.Adam

@[expose] public section

set_option maxRecDepth 16384

noncomputable section

namespace Cert.KernelAdamEvInIdeal.Own

open Cert.KernelAdamEvInIdeal Cert.KernelAdamEvInIdeal.Gen Idealize.ShloMosaic Idealize.ShloMosaic.TcCoe Idealize.SL.Sem
open Idealize.ShloMosaic.Pipeline (Dat)
open Cert.Blocked (pos)
open Cert.Adam (moment square change moments squares changes)

/-- The blocks of a grid point. -/
theorem idx : ∀ t : Fin cfg0.N, (win0_0.index t = ![0, t.val, 0] ∧ win0_1.index t = ![0, t.val, 0] ∧ win0_2.index t = ![0, t.val, 0] ∧ win0_3.index t = ![0, t.val, 0]) ∧ win0_4.index t = ![t.val, 0] ∧ win0_5.index t = ![t.val, 0] ∧ win0_6.index t = ![t.val, 0] ∧ win0_7.index t = ![t.val, 0] :=
  (by decide +kernel : ∀ t : Fin grid0.N, (win0_0.index t = ![0, t.val, 0] ∧ win0_1.index t = ![0, t.val, 0] ∧ win0_2.index t = ![0, t.val, 0] ∧ win0_3.index t = ![0, t.val, 0]) ∧ win0_4.index t = ![t.val, 0] ∧ win0_5.index t = ![t.val, 0] ∧ win0_6.index t = ![t.val, 0] ∧ win0_7.index t = ![t.val, 0])

/-- The rows of all layers. -/
def flat (A : Vec Ideal S1x2048x1280 .f32) : Vec Ideal S2048x1280 .f32 :=
  shapeCast S2048x1280 A (by decide)

variable (m : (ℓ : Loc nD τ sig) → Buf (Elt Ideal) ℓ) (c : Dev nD)

abbrev W : Vec Ideal S2048x1280 .f32 := flat (m (c.tc.loc main_arg0))
abbrev G : Vec Ideal S2048x1280 .f32 := flat (m (c.tc.loc main_arg1))
abbrev M : Vec Ideal S2048x1280 .f32 := flat (m (c.tc.loc main_arg2))
abbrev U : Vec Ideal S2048x1280 .f32 := flat (m (c.tc.loc main_arg3))

/-- What a grid point reads of the four arrays is its block of their rows. -/
theorem reads (t : Fin cfg0.N) (u : Fin 256) (k : Fin 1280) (i : Fin 8) (hi : t.val = i.val) :
    (iblk m c 0 t : Vec Ideal S1x256x1280 .f32) (ix3 0 u k) = W m c (ix2 (pos (by decide) i u) k)
      ∧ (iblk m c 1 t : Vec Ideal S1x256x1280 .f32) (ix3 0 u k) = G m c (ix2 (pos (by decide) i u) k)
      ∧ (iblk m c 2 t : Vec Ideal S1x256x1280 .f32) (ix3 0 u k) = M m c (ix2 (pos (by decide) i u) k)
      ∧ (iblk m c 3 t : Vec Ideal S1x256x1280 .f32) (ix3 0 u k) = U m c (ix2 (pos (by decide) i u) k) := by
  refine ⟨?_, ?_, ?_, ?_⟩
  all_goals
    blk_simp [iblk]
    simp only [V_main_arg0, V_main_arg1, V_main_arg2, V_main_arg3, flat]
    pointwise
    blk_ext [idx t, pos]

/-- The gradients of a block are handed on. -/
theorem pay1 (g : Vec Ideal S1x256x1280 .f32) (u : Fin 256) (k : Fin 1280) :
    k0_pay1 (F := Ideal) g (ix2 u k) = g (ix3 0 u k) := by
  unfold k0_pay1; pointwise
theorem pay2 (g a : Vec Ideal S1x256x1280 .f32) (u : Fin 256) (k : Fin 1280) :
    k0_pay2 (F := Ideal) g a (ix2 u k) = moment (g (ix3 0 u k)) (a (ix3 0 u k)) := by
  unfold k0_pay2 moment; pointwise [pay1]
theorem pay3 (g b : Vec Ideal S1x256x1280 .f32) (u : Fin 256) (k : Fin 1280) :
    k0_pay3 (F := Ideal) g b (ix2 u k) = square (g (ix3 0 u k)) (b (ix3 0 u k)) := by
  unfold k0_pay3 square; pointwise [pay1]
theorem pay4 (g w a b : Vec Ideal S1x256x1280 .f32) (u : Fin 256) (k : Fin 1280) :
    k0_pay4 (F := Ideal) g w a b (ix2 u k) = change (w (ix3 0 u k)) (g (ix3 0 u k)) (a (ix3 0 u k)) (b (ix3 0 u k)) := by
  unfold k0_pay4 change; pointwise [pay2, pay3]

/-- The four arrays of the result: the gradients, the changes and the two moments. -/
theorem arrays : (dats m 0 c).arrAt 4 cfg0.N = G m c
    ∧ (dats m 0 c).arrAt 5 cfg0.N = changes (W m c) (G m c) (M m c) (U m c)
    ∧ (dats m 0 c).arrAt 6 cfg0.N = moments (G m c) (M m c)
    ∧ (dats m 0 c).arrAt 7 cfg0.N = squares (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    have hN : t.val < 8 := t.isLt
    idx_vars y
    blk_simp
    obtain ⟨e0, e1, e2, e3⟩ := reads m c t y0 y1 ⟨t.val, hN⟩ rfl
    first | rw [after0_4] | rw [after0_5] | rw [after0_6] | rw [after0_7]
    frame_out
    first
      | refine (pay1 _ _ _).trans ?_; rw [e1]; refine congrArg (G m c) ?_
      | refine (pay4 _ _ _ _ _ _).trans ?_; rw [e0, e1, e2, e3]; refine congrArg (changes (W m c) (G m c) (M m c) (U m c)) ?_
      | refine (pay2 _ _ _ _).trans ?_; rw [e1, e2]; refine congrArg (moments (G m c) (M m c)) ?_
      | refine (pay3 _ _ _ _).trans ?_; rw [e1, e3]; refine congrArg (squares (G m c) (U m c)) ?_
    blk_ext [idx t, pos]

end Cert.KernelAdamEvInIdeal.Own

namespace Cert.ReferenceAdamEvInIdeal.Own

open Cert.ReferenceAdamEvInIdeal Cert.ReferenceAdamEvInIdeal.Gen Cert.ReferenceAdamEvInIdeal.Read Idealize.ShloMosaic
open Cert.Adam (moments squares changes)
open Cert.KernelAdamEvInIdeal.Own (flat)

/-- The reference's changes and moments, element by element. -/
theorem arrays (w g a b : Vec Ideal S1x2048x1280 .f32) :
    val_main_v27 (F := Ideal) w g a b = changes (flat w) (flat g) (flat a) (flat b)
      ∧ val_main_v8 (F := Ideal) g a = moments (flat g) (flat a)
      ∧ val_main_v14 (F := Ideal) g b = squares (flat g) (flat b) :=
  ⟨funext fun _ => rfl, funext fun _ => rfl, funext fun _ => rfl⟩

end Cert.ReferenceAdamEvInIdeal.Own

namespace Cert.Proof

open Idealize.ShloMosaic Idealize.ShloMosaic.TcCoe Idealize.SL.Sem
open Cert.Adam (moments squares changes)
open Cert.KernelAdamEvInIdeal.Own (W G M U)

/-- The reference leaves its arguments as they were, and it has no counters. -/
theorem frame_r_adam_ev_in : quiescent_ReferenceAdamEvInIdeal (hReferenceAdamEvInIdeal := Cert.ReferenceAdamEvInIdeal.Gen.facts) := fun m g _ =>
  (θ_run _ _ _).mono (fun r h => ⟨fun c => (h c).2.2.2.2, sem_eq_zero_of_no_sems (by decide) r.2⟩) (Cert.ReferenceAdamEvInIdeal.Value.run m g)

/-- Over the reals the kernel and the reference end with the same gradients, changes and moments. -/
theorem algebraic_adam_ev_in : algebraic_KernelAdamEvInIdeal_ReferenceAdamEvInIdeal (hKernelAdamEvInIdeal := Cert.KernelAdamEvInIdeal.Gen.facts) (hReferenceAdamEvInIdeal := Cert.ReferenceAdamEvInIdeal.Gen.facts) := by
  intro m g m' g' _ hargs
  refine ⟨fun c => G m c, fun c => changes (W m c) (G m c) (M m c) (U m c), fun c => moments (G m c) (M m c), fun c => squares (G m c) (U m c), ?_, ?_⟩
  · refine (θ_run _ _ _).mono (fun r h c => ?_) (Cert.KernelAdamEvInIdeal.Value.run_blocks m g)
    obtain ⟨h0, h1, h2, h3, ha⟩ := h c
    obtain ⟨r0, r1, r2, r3⟩ := Cert.KernelAdamEvInIdeal.Own.arrays m c
    exact ⟨h0.trans r0, h1.trans r1, h2.trans r2, h3.trans r3, ha⟩
  · refine (θ_run _ _ _).mono (fun r h c => ?_) (Cert.ReferenceAdamEvInIdeal.Value.run m' g')
    obtain ⟨h0, h1, h2, h3, ha⟩ := h c
    obtain ⟨e0, e1, e2, e3⟩ := hargs c
    refine ⟨h0.trans ?_, h1.trans ((Cert.ReferenceAdamEvInIdeal.Read.val_main_v27_eq _ _ _ _).trans ?_), h2.trans ((Cert.ReferenceAdamEvInIdeal.Read.val_main_v8_eq _ _).trans ?_),
      h3.trans ((Cert.ReferenceAdamEvInIdeal.Read.val_main_v14_eq _ _).trans ?_), ha⟩
    · rw [e1]; rfl
    · rw [e0, e1, e2, e3]; exact (Cert.ReferenceAdamEvInIdeal.Own.arrays _ _ _ _).1
    · rw [e1, e2]; exact (Cert.ReferenceAdamEvInIdeal.Own.arrays (m (c.tc.loc Cert.KernelAdamEvInIdeal.main_arg0)) _ _ (m (c.tc.loc Cert.KernelAdamEvInIdeal.main_arg3))).2.1
    · rw [e1, e3]; exact (Cert.ReferenceAdamEvInIdeal.Own.arrays (m (c.tc.loc Cert.KernelAdamEvInIdeal.main_arg0)) _ (m (c.tc.loc Cert.KernelAdamEvInIdeal.main_arg2)) _).2.2

end Cert.Proof

end
-- ==== Proof.AdamPool.lean ====
/- The optimiser's step of ev_w_pool: the kernel goes through the rows of all layers by blocks of 256, the reference takes them at once. -/
module

public import proofs.«01_k».proof.Defs
public import proofs.«01_k».proof.Proof.Gen.KernelAdamPoolIdeal.Value
public import proofs.«01_k».proof.Proof.Gen.ReferenceAdamPoolIdeal.Read
public import proofs.«01_k».proof.Proof.Adam

@[expose] public section

set_option maxRecDepth 16384

noncomputable section

namespace Cert.KernelAdamPoolIdeal.Own

open Cert.KernelAdamPoolIdeal Cert.KernelAdamPoolIdeal.Gen Idealize.ShloMosaic Idealize.ShloMosaic.TcCoe Idealize.SL.Sem
open Idealize.ShloMosaic.Pipeline (Dat)
open Cert.Blocked (pos)
open Cert.Adam (moment square change moments squares changes)

/-- The blocks of a grid point. -/
theorem idx : ∀ t : Fin cfg0.N, (win0_0.index t = ![0, t.val, 0] ∧ win0_1.index t = ![0, t.val, 0] ∧ win0_2.index t = ![0, t.val, 0] ∧ win0_3.index t = ![0, t.val, 0]) ∧ win0_4.index t = ![t.val, 0] ∧ win0_5.index t = ![t.val, 0] ∧ win0_6.index t = ![t.val, 0] ∧ win0_7.index t = ![t.val, 0] :=
  (by decide +kernel : ∀ t : Fin grid0.N, (win0_0.index t = ![0, t.val, 0] ∧ win0_1.index t = ![0, t.val, 0] ∧ win0_2.index t = ![0, t.val, 0] ∧ win0_3.index t = ![0, t.val, 0]) ∧ win0_4.index t = ![t.val, 0] ∧ win0_5.index t = ![t.val, 0] ∧ win0_6.index t = ![t.val, 0] ∧ win0_7.index t = ![t.val, 0])

/-- The rows of all layers. -/
def flat (A : Vec Ideal S1x256x256 .f32) : Vec Ideal S256x256 .f32 :=
  shapeCast S256x256 A (by decide)

variable (m : (ℓ : Loc nD τ sig) → Buf (Elt Ideal) ℓ) (c : Dev nD)

abbrev W : Vec Ideal S256x256 .f32 := flat (m (c.tc.loc main_arg0))
abbrev G : Vec Ideal S256x256 .f32 := flat (m (c.tc.loc main_arg1))
abbrev M : Vec Ideal S256x256 .f32 := flat (m (c.tc.loc main_arg2))
abbrev U : Vec Ideal S256x256 .f32 := flat (m (c.tc.loc main_arg3))

/-- What a grid point reads of the four arrays is its block of their rows. -/
theorem reads (t : Fin cfg0.N) (u : Fin 256) (k : Fin 256) (i : Fin 1) (hi : t.val = i.val) :
    (iblk m c 0 t : Vec Ideal S1x256x256 .f32) (ix3 0 u k) = W m c (ix2 (pos (by decide) i u) k)
      ∧ (iblk m c 1 t : Vec Ideal S1x256x256 .f32) (ix3 0 u k) = G m c (ix2 (pos (by decide) i u) k)
      ∧ (iblk m c 2 t : Vec Ideal S1x256x256 .f32) (ix3 0 u k) = M m c (ix2 (pos (by decide) i u) k)
      ∧ (iblk m c 3 t : Vec Ideal S1x256x256 .f32) (ix3 0 u k) = U m c (ix2 (pos (by decide) i u) k) := by
  refine ⟨?_, ?_, ?_, ?_⟩
  all_goals
    blk_simp [iblk]
    simp only [V_main_arg0, V_main_arg1, V_main_arg2, V_main_arg3, flat]
    pointwise
    blk_ext [idx t, pos]

/-- The gradients of a block are handed on. -/
theorem pay1 (g : Vec Ideal S1x256x256 .f32) (u : Fin 256) (k : Fin 256) :
    k0_pay1 (F := Ideal) g (ix2 u k) = g (ix3 0 u k) := by
  unfold k0_pay1; pointwise
theorem pay2 (g a : Vec Ideal S1x256x256 .f32) (u : Fin 256) (k : Fin 256) :
    k0_pay2 (F := Ideal) g a (ix2 u k) = moment (g (ix3 0 u k)) (a (ix3 0 u k)) := by
  unfold k0_pay2 moment; pointwise [pay1]
theorem pay3 (g b : Vec Ideal S1x256x256 .f32) (u : Fin 256) (k : Fin 256) :
    k0_pay3 (F := Ideal) g b (ix2 u k) = square (g (ix3 0 u k)) (b (ix3 0 u k)) := by
  unfold k0_pay3 square; pointwise [pay1]
theorem pay4 (g w a b : Vec Ideal S1x256x256 .f32) (u : Fin 256) (k : Fin 256) :
    k0_pay4 (F := Ideal) g w a b (ix2 u k) = change (w (ix3 0 u k)) (g (ix3 0 u k)) (a (ix3 0 u k)) (b (ix3 0 u k)) := by
  unfold k0_pay4 change; pointwise [pay2, pay3]

/-- The four arrays of the result: the gradients, the changes and the two moments. -/
theorem arrays : (dats m 0 c).arrAt 4 cfg0.N = G m c
    ∧ (dats m 0 c).arrAt 5 cfg0.N = changes (W m c) (G m c) (M m c) (U m c)
    ∧ (dats m 0 c).arrAt 6 cfg0.N = moments (G m c) (M m c)
    ∧ (dats m 0 c).arrAt 7 cfg0.N = squares (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    have hN : t.val < 1 := t.isLt
    idx_vars y
    blk_simp
    obtain ⟨e0, e1, e2, e3⟩ := reads m c t y0 y1 ⟨t.val, hN⟩ rfl
    first | rw [after0_4] | rw [after0_5] | rw [after0_6] | rw [after0_7]
    frame_out
    first
      | refine (pay1 _ _ _).trans ?_; rw [e1]; refine congrArg (G m c) ?_
      | refine (pay4 _ _ _ _ _ _).trans ?_; rw [e0, e1, e2, e3]; refine congrArg (changes (W m c) (G m c) (M m c) (U m c)) ?_
      | refine (pay2 _ _ _ _).trans ?_; rw [e1, e2]; refine congrArg (moments (G m c) (M m c)) ?_
      | refine (pay3 _ _ _ _).trans ?_; rw [e1, e3]; refine congrArg (squares (G m c) (U m c)) ?_
    blk_ext [idx t, pos]

end Cert.KernelAdamPoolIdeal.Own

namespace Cert.ReferenceAdamPoolIdeal.Own

open Cert.ReferenceAdamPoolIdeal Cert.ReferenceAdamPoolIdeal.Gen Cert.ReferenceAdamPoolIdeal.Read Idealize.ShloMosaic
open Cert.Adam (moments squares changes)
open Cert.KernelAdamPoolIdeal.Own (flat)

/-- The reference's changes and moments, element by element. -/
theorem arrays (w g a b : Vec Ideal S1x256x256 .f32) :
    val_main_v27 (F := Ideal) w g a b = changes (flat w) (flat g) (flat a) (flat b)
      ∧ val_main_v8 (F := Ideal) g a = moments (flat g) (flat a)
      ∧ val_main_v14 (F := Ideal) g b = squares (flat g) (flat b) :=
  ⟨funext fun _ => rfl, funext fun _ => rfl, funext fun _ => rfl⟩

end Cert.ReferenceAdamPoolIdeal.Own

namespace Cert.Proof

open Idealize.ShloMosaic Idealize.ShloMosaic.TcCoe Idealize.SL.Sem
open Cert.Adam (moments squares changes)
open Cert.KernelAdamPoolIdeal.Own (W G M U)

/-- The reference leaves its arguments as they were, and it has no counters. -/
theorem frame_r_adam_pool : quiescent_ReferenceAdamPoolIdeal (hReferenceAdamPoolIdeal := Cert.ReferenceAdamPoolIdeal.Gen.facts) := fun m g _ =>
  (θ_run _ _ _).mono (fun r h => ⟨fun c => (h c).2.2.2.2, sem_eq_zero_of_no_sems (by decide) r.2⟩) (Cert.ReferenceAdamPoolIdeal.Value.run m g)

/-- Over the reals the kernel and the reference end with the same gradients, changes and moments. -/
theorem algebraic_adam_pool : algebraic_KernelAdamPoolIdeal_ReferenceAdamPoolIdeal (hKernelAdamPoolIdeal := Cert.KernelAdamPoolIdeal.Gen.facts) (hReferenceAdamPoolIdeal := Cert.ReferenceAdamPoolIdeal.Gen.facts) := by
  intro m g m' g' _ hargs
  refine ⟨fun c => G m c, fun c => changes (W m c) (G m c) (M m c) (U m c), fun c => moments (G m c) (M m c), fun c => squares (G m c) (U m c), ?_, ?_⟩
  · refine (θ_run _ _ _).mono (fun r h c => ?_) (Cert.KernelAdamPoolIdeal.Value.run_blocks m g)
    obtain ⟨h0, h1, h2, h3, ha⟩ := h c
    obtain ⟨r0, r1, r2, r3⟩ := Cert.KernelAdamPoolIdeal.Own.arrays m c
    exact ⟨h0.trans r0, h1.trans r1, h2.trans r2, h3.trans r3, ha⟩
  · refine (θ_run _ _ _).mono (fun r h c => ?_) (Cert.ReferenceAdamPoolIdeal.Value.run m' g')
    obtain ⟨h0, h1, h2, h3, ha⟩ := h c
    obtain ⟨e0, e1, e2, e3⟩ := hargs c
    refine ⟨h0.trans ?_, h1.trans ((Cert.ReferenceAdamPoolIdeal.Read.val_main_v27_eq _ _ _ _).trans ?_), h2.trans ((Cert.ReferenceAdamPoolIdeal.Read.val_main_v8_eq _ _).trans ?_),
      h3.trans ((Cert.ReferenceAdamPoolIdeal.Read.val_main_v14_eq _ _).trans ?_), ha⟩
    · rw [e1]; rfl
    · rw [e0, e1, e2, e3]; exact (Cert.ReferenceAdamPoolIdeal.Own.arrays _ _ _ _).1
    · rw [e1, e2]; exact (Cert.ReferenceAdamPoolIdeal.Own.arrays (m (c.tc.loc Cert.KernelAdamPoolIdeal.main_arg0)) _ _ (m (c.tc.loc Cert.KernelAdamPoolIdeal.main_arg3))).2.1
    · rw [e1, e3]; exact (Cert.ReferenceAdamPoolIdeal.Own.arrays (m (c.tc.loc Cert.KernelAdamPoolIdeal.main_arg0)) _ (m (c.tc.loc Cert.KernelAdamPoolIdeal.main_arg2)) _).2.2

end Cert.Proof

end
-- ==== Proof.AdamOut.lean ====
/- The optimiser's step of ev_w_out and od_w_out: the kernel goes through the rows of all layers by blocks of 256, the reference takes them at once. -/
module

public import proofs.«01_k».proof.Defs
public import proofs.«01_k».proof.Proof.Gen.KernelAdamOutIdeal.Value
public import proofs.«01_k».proof.Proof.Gen.ReferenceAdamOutIdeal.Read
public import proofs.«01_k».proof.Proof.Adam

@[expose] public section

set_option maxRecDepth 16384

noncomputable section

namespace Cert.KernelAdamOutIdeal.Own

open Cert.KernelAdamOutIdeal Cert.KernelAdamOutIdeal.Gen Idealize.ShloMosaic Idealize.ShloMosaic.TcCoe Idealize.SL.Sem
open Idealize.ShloMosaic.Pipeline (Dat)
open Cert.Blocked (pos)
open Cert.Adam (moment square change moments squares changes)

/-- The blocks of a grid point. -/
theorem idx : ∀ t : Fin cfg0.N, (win0_0.index t = ![0, t.val, 0] ∧ win0_1.index t = ![0, t.val, 0] ∧ win0_2.index t = ![0, t.val, 0] ∧ win0_3.index t = ![0, t.val, 0]) ∧ win0_4.index t = ![t.val, 0] ∧ win0_5.index t = ![t.val, 0] ∧ win0_6.index t = ![t.val, 0] ∧ win0_7.index t = ![t.val, 0] :=
  (by decide +kernel : ∀ t : Fin grid0.N, (win0_0.index t = ![0, t.val, 0] ∧ win0_1.index t = ![0, t.val, 0] ∧ win0_2.index t = ![0, t.val, 0] ∧ win0_3.index t = ![0, t.val, 0]) ∧ win0_4.index t = ![t.val, 0] ∧ win0_5.index t = ![t.val, 0] ∧ win0_6.index t = ![t.val, 0] ∧ win0_7.index t = ![t.val, 0])

/-- The rows of all layers. -/
def flat (A : Vec Ideal S1x512x2048 .f32) : Vec Ideal S512x2048 .f32 :=
  shapeCast S512x2048 A (by decide)

variable (m : (ℓ : Loc nD τ sig) → Buf (Elt Ideal) ℓ) (c : Dev nD)

abbrev W : Vec Ideal S512x2048 .f32 := flat (m (c.tc.loc main_arg0))
abbrev G : Vec Ideal S512x2048 .f32 := flat (m (c.tc.loc main_arg1))
abbrev M : Vec Ideal S512x2048 .f32 := flat (m (c.tc.loc main_arg2))
abbrev U : Vec Ideal S512x2048 .f32 := flat (m (c.tc.loc main_arg3))

/-- What a grid point reads of the four arrays is its block of their rows. -/
theorem reads (t : Fin cfg0.N) (u : Fin 256) (k : Fin 2048) (i : Fin 2) (hi : t.val = i.val) :
    (iblk m c 0 t : Vec Ideal S1x256x2048 .f32) (ix3 0 u k) = W m c (ix2 (pos (by decide) i u) k)
      ∧ (iblk m c 1 t : Vec Ideal S1x256x2048 .f32) (ix3 0 u k) = G m c (ix2 (pos (by decide) i u) k)
      ∧ (iblk m c 2 t : Vec Ideal S1x256x2048 .f32) (ix3 0 u k) = M m c (ix2 (pos (by decide) i u) k)
      ∧ (iblk m c 3 t : Vec Ideal S1x256x2048 .f32) (ix3 0 u k) = U m c (ix2 (pos (by decide) i u) k) := by
  refine ⟨?_, ?_, ?_, ?_⟩
  all_goals
    blk_simp [iblk]
    simp only [V_main_arg0, V_main_arg1, V_main_arg2, V_main_arg3, flat]
    pointwise
    blk_ext [idx t, pos]

/-- The gradients of a block are handed on. -/
theorem pay1 (g : Vec Ideal S1x256x2048 .f32) (u : Fin 256) (k : Fin 2048) :
    k0_pay1 (F := Ideal) g (ix2 u k) = g (ix3 0 u k) := by
  unfold k0_pay1; pointwise
theorem pay2 (g a : Vec Ideal S1x256x2048 .f32) (u : Fin 256) (k : Fin 2048) :
    k0_pay2 (F := Ideal) g a (ix2 u k) = moment (g (ix3 0 u k)) (a (ix3 0 u k)) := by
  unfold k0_pay2 moment; pointwise [pay1]
theorem pay3 (g b : Vec Ideal S1x256x2048 .f32) (u : Fin 256) (k : Fin 2048) :
    k0_pay3 (F := Ideal) g b (ix2 u k) = square (g (ix3 0 u k)) (b (ix3 0 u k)) := by
  unfold k0_pay3 square; pointwise [pay1]
theorem pay4 (g w a b : Vec Ideal S1x256x2048 .f32) (u : Fin 256) (k : Fin 2048) :
    k0_pay4 (F := Ideal) g w a b (ix2 u k) = change (w (ix3 0 u k)) (g (ix3 0 u k)) (a (ix3 0 u k)) (b (ix3 0 u k)) := by
  unfold k0_pay4 change; pointwise [pay2, pay3]

/-- The four arrays of the result: the gradients, the changes and the two moments. -/
theorem arrays : (dats m 0 c).arrAt 4 cfg0.N = G m c
    ∧ (dats m 0 c).arrAt 5 cfg0.N = changes (W m c) (G m c) (M m c) (U m c)
    ∧ (dats m 0 c).arrAt 6 cfg0.N = moments (G m c) (M m c)
    ∧ (dats m 0 c).arrAt 7 cfg0.N = squares (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    have hN : t.val < 2 := t.isLt
    idx_vars y
    blk_simp
    obtain ⟨e0, e1, e2, e3⟩ := reads m c t y0 y1 ⟨t.val, hN⟩ rfl
    first | rw [after0_4] | rw [after0_5] | rw [after0_6] | rw [after0_7]
    frame_out
    first
      | refine (pay1 _ _ _).trans ?_; rw [e1]; refine congrArg (G m c) ?_
      | refine (pay4 _ _ _ _ _ _).trans ?_; rw [e0, e1, e2, e3]; refine congrArg (changes (W m c) (G m c) (M m c) (U m c)) ?_
      | refine (pay2 _ _ _ _).trans ?_; rw [e1, e2]; refine congrArg (moments (G m c) (M m c)) ?_
      | refine (pay3 _ _ _ _).trans ?_; rw [e1, e3]; refine congrArg (squares (G m c) (U m c)) ?_
    blk_ext [idx t, pos]

end Cert.KernelAdamOutIdeal.Own

namespace Cert.ReferenceAdamOutIdeal.Own

open Cert.ReferenceAdamOutIdeal Cert.ReferenceAdamOutIdeal.Gen Cert.ReferenceAdamOutIdeal.Read Idealize.ShloMosaic
open Cert.Adam (moments squares changes)
open Cert.KernelAdamOutIdeal.Own (flat)

/-- The reference's changes and moments, element by element. -/
theorem arrays (w g a b : Vec Ideal S1x512x2048 .f32) :
    val_main_v27 (F := Ideal) w g a b = changes (flat w) (flat g) (flat a) (flat b)
      ∧ val_main_v8 (F := Ideal) g a = moments (flat g) (flat a)
      ∧ val_main_v14 (F := Ideal) g b = squares (flat g) (flat b) :=
  ⟨funext fun _ => rfl, funext fun _ => rfl, funext fun _ => rfl⟩

end Cert.ReferenceAdamOutIdeal.Own

namespace Cert.Proof

open Idealize.ShloMosaic Idealize.ShloMosaic.TcCoe Idealize.SL.Sem
open Cert.Adam (moments squares changes)
open Cert.KernelAdamOutIdeal.Own (W G M U)

/-- The reference leaves its arguments as they were, and it has no counters. -/
theorem frame_r_adam_out : quiescent_ReferenceAdamOutIdeal (hReferenceAdamOutIdeal := Cert.ReferenceAdamOutIdeal.Gen.facts) := fun m g _ =>
  (θ_run _ _ _).mono (fun r h => ⟨fun c => (h c).2.2.2.2, sem_eq_zero_of_no_sems (by decide) r.2⟩) (Cert.ReferenceAdamOutIdeal.Value.run m g)

/-- Over the reals the kernel and the reference end with the same gradients, changes and moments. -/
theorem algebraic_adam_out : algebraic_KernelAdamOutIdeal_ReferenceAdamOutIdeal (hKernelAdamOutIdeal := Cert.KernelAdamOutIdeal.Gen.facts) (hReferenceAdamOutIdeal := Cert.ReferenceAdamOutIdeal.Gen.facts) := by
  intro m g m' g' _ hargs
  refine ⟨fun c => G m c, fun c => changes (W m c) (G m c) (M m c) (U m c), fun c => moments (G m c) (M m c), fun c => squares (G m c) (U m c), ?_, ?_⟩
  · refine (θ_run _ _ _).mono (fun r h c => ?_) (Cert.KernelAdamOutIdeal.Value.run_blocks m g)
    obtain ⟨h0, h1, h2, h3, ha⟩ := h c
    obtain ⟨r0, r1, r2, r3⟩ := Cert.KernelAdamOutIdeal.Own.arrays m c
    exact ⟨h0.trans r0, h1.trans r1, h2.trans r2, h3.trans r3, ha⟩
  · refine (θ_run _ _ _).mono (fun r h c => ?_) (Cert.ReferenceAdamOutIdeal.Value.run m' g')
    obtain ⟨h0, h1, h2, h3, ha⟩ := h c
    obtain ⟨e0, e1, e2, e3⟩ := hargs c
    refine ⟨h0.trans ?_, h1.trans ((Cert.ReferenceAdamOutIdeal.Read.val_main_v27_eq _ _ _ _).trans ?_), h2.trans ((Cert.ReferenceAdamOutIdeal.Read.val_main_v8_eq _ _).trans ?_),
      h3.trans ((Cert.ReferenceAdamOutIdeal.Read.val_main_v14_eq _ _).trans ?_), ha⟩
    · rw [e1]; rfl
    · rw [e0, e1, e2, e3]; exact (Cert.ReferenceAdamOutIdeal.Own.arrays _ _ _ _).1
    · rw [e1, e2]; exact (Cert.ReferenceAdamOutIdeal.Own.arrays (m (c.tc.loc Cert.KernelAdamOutIdeal.main_arg0)) _ _ (m (c.tc.loc Cert.KernelAdamOutIdeal.main_arg3))).2.1
    · rw [e1, e3]; exact (Cert.ReferenceAdamOutIdeal.Own.arrays (m (c.tc.loc Cert.KernelAdamOutIdeal.main_arg0)) _ (m (c.tc.loc Cert.KernelAdamOutIdeal.main_arg2)) _).2.2

end Cert.Proof

end
-- ==== Proof.AdamOdIn.lean ====
/- The optimiser's step of od_w_in: the kernel goes through the rows of all layers by blocks of 256, the reference takes them at once. -/
module

public import proofs.«01_k».proof.Defs
public import proofs.«01_k».proof.Proof.Gen.KernelAdamOdInIdeal.Value
public import proofs.«01_k».proof.Proof.Gen.ReferenceAdamOdInIdeal.Read
public import proofs.«01_k».proof.Proof.Adam

@[expose] public section

set_option maxRecDepth 16384

noncomputable section

namespace Cert.KernelAdamOdInIdeal.Own

open Cert.KernelAdamOdInIdeal Cert.KernelAdamOdInIdeal.Gen Idealize.ShloMosaic Idealize.ShloMosaic.TcCoe Idealize.SL.Sem
open Idealize.ShloMosaic.Pipeline (Dat)
open Cert.Blocked (pos)
open Cert.Adam (moment square change moments squares changes)

/-- The blocks of a grid point. -/
theorem idx : ∀ t : Fin cfg0.N, (win0_0.index t = ![0, t.val, 0] ∧ win0_1.index t = ![0, t.val, 0] ∧ win0_2.index t = ![0, t.val, 0] ∧ win0_3.index t = ![0, t.val, 0]) ∧ win0_4.index t = ![t.val, 0] ∧ win0_5.index t = ![t.val, 0] ∧ win0_6.index t = ![t.val, 0] ∧ win0_7.index t = ![t.val, 0] :=
  (by decide +kernel : ∀ t : Fin grid0.N, (win0_0.index t = ![0, t.val, 0] ∧ win0_1.index t = ![0, t.val, 0] ∧ win0_2.index t = ![0, t.val, 0] ∧ win0_3.index t = ![0, t.val, 0]) ∧ win0_4.index t = ![t.val, 0] ∧ win0_5.index t = ![t.val, 0] ∧ win0_6.index t = ![t.val, 0] ∧ win0_7.index t = ![t.val, 0])

/-- The rows of all layers. -/
def flat (A : Vec Ideal S1x2048x1540 .f32) : Vec Ideal S2048x1540 .f32 :=
  shapeCast S2048x1540 A (by decide)

variable (m : (ℓ : Loc nD τ sig) → Buf (Elt Ideal) ℓ) (c : Dev nD)

abbrev W : Vec Ideal S2048x1540 .f32 := flat (m (c.tc.loc main_arg0))
abbrev G : Vec Ideal S2048x1540 .f32 := flat (m (c.tc.loc main_arg1))
abbrev M : Vec Ideal S2048x1540 .f32 := flat (m (c.tc.loc main_arg2))
abbrev U : Vec Ideal S2048x1540 .f32 := flat (m (c.tc.loc main_arg3))

/-- What a grid point reads of the four arrays is its block of their rows. -/
theorem reads (t : Fin cfg0.N) (u : Fin 256) (k : Fin 1540) (i : Fin 8) (hi : t.val = i.val) :
    (iblk m c 0 t : Vec Ideal S1x256x1540 .f32) (ix3 0 u k) = W m c (ix2 (pos (by decide) i u) k)
      ∧ (iblk m c 1 t : Vec Ideal S1x256x1540 .f32) (ix3 0 u k) = G m c (ix2 (pos (by decide) i u) k)
      ∧ (iblk m c 2 t : Vec Ideal S1x256x1540 .f32) (ix3 0 u k) = M m c (ix2 (pos (by decide) i u) k)
      ∧ (iblk m c 3 t : Vec Ideal S1x256x1540 .f32) (ix3 0 u k) = U m c (ix2 (pos (by decide) i u) k) := by
  refine ⟨?_, ?_, ?_, ?_⟩
  all_goals
    blk_simp [iblk]
    simp only [V_main_arg0, V_main_arg1, V_main_arg2, V_main_arg3, flat]
    pointwise
    blk_ext [idx t, pos]

/-- The gradients of a block are handed on. -/
theorem pay1 (g : Vec Ideal S1x256x1540 .f32) (u : Fin 256) (k : Fin 1540) :
    k0_pay1 (F := Ideal) g (ix2 u k) = g (ix3 0 u k) := by
  unfold k0_pay1; pointwise
theorem pay2 (g a : Vec Ideal S1x256x1540 .f32) (u : Fin 256) (k : Fin 1540) :
    k0_pay2 (F := Ideal) g a (ix2 u k) = moment (g (ix3 0 u k)) (a (ix3 0 u k)) := by
  unfold k0_pay2 moment; pointwise [pay1]
theorem pay3 (g b : Vec Ideal S1x256x1540 .f32) (u : Fin 256) (k : Fin 1540) :
    k0_pay3 (F := Ideal) g b (ix2 u k) = square (g (ix3 0 u k)) (b (ix3 0 u k)) := by
  unfold k0_pay3 square; pointwise [pay1]
theorem pay4 (g w a b : Vec Ideal S1x256x1540 .f32) (u : Fin 256) (k : Fin 1540) :
    k0_pay4 (F := Ideal) g w a b (ix2 u k) = change (w (ix3 0 u k)) (g (ix3 0 u k)) (a (ix3 0 u k)) (b (ix3 0 u k)) := by
  unfold k0_pay4 change; pointwise [pay2, pay3]

/-- The four arrays of the result: the gradients, the changes and the two moments. -/
theorem arrays : (dats m 0 c).arrAt 4 cfg0.N = G m c
    ∧ (dats m 0 c).arrAt 5 cfg0.N = changes (W m c) (G m c) (M m c) (U m c)
    ∧ (dats m 0 c).arrAt 6 cfg0.N = moments (G m c) (M m c)
    ∧ (dats m 0 c).arrAt 7 cfg0.N = squares (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    have hN : t.val < 8 := t.isLt
    idx_vars y
    blk_simp
    obtain ⟨e0, e1, e2, e3⟩ := reads m c t y0 y1 ⟨t.val, hN⟩ rfl
    first | rw [after0_4] | rw [after0_5] | rw [after0_6] | rw [after0_7]
    frame_out
    first
      | refine (pay1 _ _ _).trans ?_; rw [e1]; refine congrArg (G m c) ?_
      | refine (pay4 _ _ _ _ _ _).trans ?_; rw [e0, e1, e2, e3]; refine congrArg (changes (W m c) (G m c) (M m c) (U m c)) ?_
      | refine (pay2 _ _ _ _).trans ?_; rw [e1, e2]; refine congrArg (moments (G m c) (M m c)) ?_
      | refine (pay3 _ _ _ _).trans ?_; rw [e1, e3]; refine congrArg (squares (G m c) (U m c)) ?_
    blk_ext [idx t, pos]

end Cert.KernelAdamOdInIdeal.Own

namespace Cert.ReferenceAdamOdInIdeal.Own

open Cert.ReferenceAdamOdInIdeal Cert.ReferenceAdamOdInIdeal.Gen Cert.ReferenceAdamOdInIdeal.Read Idealize.ShloMosaic
open Cert.Adam (moments squares changes)
open Cert.KernelAdamOdInIdeal.Own (flat)

/-- The reference's changes and moments, element by element. -/
theorem arrays (w g a b : Vec Ideal S1x2048x1540 .f32) :
    val_main_v27 (F := Ideal) w g a b = changes (flat w) (flat g) (flat a) (flat b)
      ∧ val_main_v8 (F := Ideal) g a = moments (flat g) (flat a)
      ∧ val_main_v14 (F := Ideal) g b = squares (flat g) (flat b) :=
  ⟨funext fun _ => rfl, funext fun _ => rfl, funext fun _ => rfl⟩

end Cert.ReferenceAdamOdInIdeal.Own

namespace Cert.Proof

open Idealize.ShloMosaic Idealize.ShloMosaic.TcCoe Idealize.SL.Sem
open Cert.Adam (moments squares changes)
open Cert.KernelAdamOdInIdeal.Own (W G M U)

/-- The reference leaves its arguments as they were, and it has no counters. -/
theorem frame_r_adam_od_in : quiescent_ReferenceAdamOdInIdeal (hReferenceAdamOdInIdeal := Cert.ReferenceAdamOdInIdeal.Gen.facts) := fun m g _ =>
  (θ_run _ _ _).mono (fun r h => ⟨fun c => (h c).2.2.2.2, sem_eq_zero_of_no_sems (by decide) r.2⟩) (Cert.ReferenceAdamOdInIdeal.Value.run m g)

/-- Over the reals the kernel and the reference end with the same gradients, changes and moments. -/
theorem algebraic_adam_od_in : algebraic_KernelAdamOdInIdeal_ReferenceAdamOdInIdeal (hKernelAdamOdInIdeal := Cert.KernelAdamOdInIdeal.Gen.facts) (hReferenceAdamOdInIdeal := Cert.ReferenceAdamOdInIdeal.Gen.facts) := by
  intro m g m' g' _ hargs
  refine ⟨fun c => G m c, fun c => changes (W m c) (G m c) (M m c) (U m c), fun c => moments (G m c) (M m c), fun c => squares (G m c) (U m c), ?_, ?_⟩
  · refine (θ_run _ _ _).mono (fun r h c => ?_) (Cert.KernelAdamOdInIdeal.Value.run_blocks m g)
    obtain ⟨h0, h1, h2, h3, ha⟩ := h c
    obtain ⟨r0, r1, r2, r3⟩ := Cert.KernelAdamOdInIdeal.Own.arrays m c
    exact ⟨h0.trans r0, h1.trans r1, h2.trans r2, h3.trans r3, ha⟩
  · refine (θ_run _ _ _).mono (fun r h c => ?_) (Cert.ReferenceAdamOdInIdeal.Value.run m' g')
    obtain ⟨h0, h1, h2, h3, ha⟩ := h c
    obtain ⟨e0, e1, e2, e3⟩ := hargs c
    refine ⟨h0.trans ?_, h1.trans ((Cert.ReferenceAdamOdInIdeal.Read.val_main_v27_eq _ _ _ _).trans ?_), h2.trans ((Cert.ReferenceAdamOdInIdeal.Read.val_main_v8_eq _ _).trans ?_),
      h3.trans ((Cert.ReferenceAdamOdInIdeal.Read.val_main_v14_eq _ _).trans ?_), ha⟩
    · rw [e1]; rfl
    · rw [e0, e1, e2, e3]; exact (Cert.ReferenceAdamOdInIdeal.Own.arrays _ _ _ _).1
    · rw [e1, e2]; exact (Cert.ReferenceAdamOdInIdeal.Own.arrays (m (c.tc.loc Cert.KernelAdamOdInIdeal.main_arg0)) _ _ (m (c.tc.loc Cert.KernelAdamOdInIdeal.main_arg3))).2.1
    · rw [e1, e3]; exact (Cert.ReferenceAdamOdInIdeal.Own.arrays (m (c.tc.loc Cert.KernelAdamOdInIdeal.main_arg0)) _ (m (c.tc.loc Cert.KernelAdamOdInIdeal.main_arg2)) _).2.2

end Cert.Proof

end
-- ==== Proof.AdamXa.lean ====
/- The optimiser's step of xa_wq and xa_wo: the kernel goes through the rows of all layers by blocks of 256, the reference takes them at once. -/
module

public import proofs.«01_k».proof.Defs
public import proofs.«01_k».proof.Proof.Gen.KernelAdamXaIdeal.Value
public import proofs.«01_k».proof.Proof.Gen.ReferenceAdamXaIdeal.Read
public import proofs.«01_k».proof.Proof.Adam

@[expose] public section

set_option maxRecDepth 16384

noncomputable section

namespace Cert.KernelAdamXaIdeal.Own

open Cert.KernelAdamXaIdeal Cert.KernelAdamXaIdeal.Gen Idealize.ShloMosaic Idealize.ShloMosaic.TcCoe Idealize.SL.Sem
open Idealize.ShloMosaic.Pipeline (Dat)
open Cert.Blocked (pos)
open Cert.Adam (moment square change moments squares changes)

/-- The blocks of a grid point. -/
theorem idx : ∀ t : Fin cfg0.N, (win0_0.index t = ![t.val / 2, t.val % 2, 0] ∧ win0_1.index t = ![t.val / 2, t.val % 2, 0] ∧ win0_2.index t = ![t.val / 2, t.val % 2, 0] ∧ win0_3.index t = ![t.val / 2, t.val % 2, 0]) ∧ win0_4.index t = ![t.val, 0] ∧ win0_5.index t = ![t.val, 0] ∧ win0_6.index t = ![t.val, 0] ∧ win0_7.index t = ![t.val, 0] :=
  (by decide +kernel : ∀ t : Fin grid0.N, (win0_0.index t = ![t.val / 2, t.val % 2, 0] ∧ win0_1.index t = ![t.val / 2, t.val % 2, 0] ∧ win0_2.index t = ![t.val / 2, t.val % 2, 0] ∧ win0_3.index t = ![t.val / 2, t.val % 2, 0]) ∧ win0_4.index t = ![t.val, 0] ∧ win0_5.index t = ![t.val, 0] ∧ win0_6.index t = ![t.val, 0] ∧ win0_7.index t = ![t.val, 0])

/-- The rows of all layers. -/
def flat (A : Vec Ideal S2x512x2048 .f32) : Vec Ideal S1024x2048 .f32 :=
  shapeCast S1024x2048 A (by decide)

variable (m : (ℓ : Loc nD τ sig) → Buf (Elt Ideal) ℓ) (c : Dev nD)

abbrev W : Vec Ideal S1024x2048 .f32 := flat (m (c.tc.loc main_arg0))
abbrev G : Vec Ideal S1024x2048 .f32 := flat (m (c.tc.loc main_arg1))
abbrev M : Vec Ideal S1024x2048 .f32 := flat (m (c.tc.loc main_arg2))
abbrev U : Vec Ideal S1024x2048 .f32 := flat (m (c.tc.loc main_arg3))

/-- What a grid point reads of the four arrays is its block of their rows. -/
theorem reads (t : Fin cfg0.N) (u : Fin 256) (k : Fin 2048) (i : Fin 4) (hi : t.val = i.val) :
    (iblk m c 0 t : Vec Ideal S1x256x2048 .f32) (ix3 0 u k) = W m c (ix2 (pos (by decide) i u) k)
      ∧ (iblk m c 1 t : Vec Ideal S1x256x2048 .f32) (ix3 0 u k) = G m c (ix2 (pos (by decide) i u) k)
      ∧ (iblk m c 2 t : Vec Ideal S1x256x2048 .f32) (ix3 0 u k) = M m c (ix2 (pos (by decide) i u) k)
      ∧ (iblk m c 3 t : Vec Ideal S1x256x2048 .f32) (ix3 0 u k) = U m c (ix2 (pos (by decide) i u) k) := by
  refine ⟨?_, ?_, ?_, ?_⟩
  all_goals
    blk_simp [iblk]
    simp only [V_main_arg0, V_main_arg1, V_main_arg2, V_main_arg3, flat]
    pointwise
    blk_ext [idx t, pos]

/-- The gradients of a block are handed on. -/
theorem pay1 (g : Vec Ideal S1x256x2048 .f32) (u : Fin 256) (k : Fin 2048) :
    k0_pay1 (F := Ideal) g (ix2 u k) = g (ix3 0 u k) := by
  unfold k0_pay1; pointwise
theorem pay2 (g a : Vec Ideal S1x256x2048 .f32) (u : Fin 256) (k : Fin 2048) :
    k0_pay2 (F := Ideal) g a (ix2 u k) = moment (g (ix3 0 u k)) (a (ix3 0 u k)) := by
  unfold k0_pay2 moment; pointwise [pay1]
theorem pay3 (g b : Vec Ideal S1x256x2048 .f32) (u : Fin 256) (k : Fin 2048) :
    k0_pay3 (F := Ideal) g b (ix2 u k) = square (g (ix3 0 u k)) (b (ix3 0 u k)) := by
  unfold k0_pay3 square; pointwise [pay1]
theorem pay4 (g w a b : Vec Ideal S1x256x2048 .f32) (u : Fin 256) (k : Fin 2048) :
    k0_pay4 (F := Ideal) g w a b (ix2 u k) = change (w (ix3 0 u k)) (g (ix3 0 u k)) (a (ix3 0 u k)) (b (ix3 0 u k)) := by
  unfold k0_pay4 change; pointwise [pay2, pay3]

/-- The four arrays of the result: the gradients, the changes and the two moments. -/
theorem arrays : (dats m 0 c).arrAt 4 cfg0.N = G m c
    ∧ (dats m 0 c).arrAt 5 cfg0.N = changes (W m c) (G m c) (M m c) (U m c)
    ∧ (dats m 0 c).arrAt 6 cfg0.N = moments (G m c) (M m c)
    ∧ (dats m 0 c).arrAt 7 cfg0.N = squares (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    have hN : t.val < 4 := t.isLt
    idx_vars y
    blk_simp
    obtain ⟨e0, e1, e2, e3⟩ := reads m c t y0 y1 ⟨t.val, hN⟩ rfl
    first | rw [after0_4] | rw [after0_5] | rw [after0_6] | rw [after0_7]
    frame_out
    first
      | refine (pay1 _ _ _).trans ?_; rw [e1]; refine congrArg (G m c) ?_
      | refine (pay4 _ _ _ _ _ _).trans ?_; rw [e0, e1, e2, e3]; refine congrArg (changes (W m c) (G m c) (M m c) (U m c)) ?_
      | refine (pay2 _ _ _ _).trans ?_; rw [e1, e2]; refine congrArg (moments (G m c) (M m c)) ?_
      | refine (pay3 _ _ _ _).trans ?_; rw [e1, e3]; refine congrArg (squares (G m c) (U m c)) ?_
    blk_ext [idx t, pos]

end Cert.KernelAdamXaIdeal.Own

namespace Cert.ReferenceAdamXaIdeal.Own

open Cert.ReferenceAdamXaIdeal Cert.ReferenceAdamXaIdeal.Gen Cert.ReferenceAdamXaIdeal.Read Idealize.ShloMosaic
open Cert.Adam (moments squares changes)
open Cert.KernelAdamXaIdeal.Own (flat)

/-- The reference's changes and moments, element by element. -/
theorem arrays (w g a b : Vec Ideal S2x512x2048 .f32) :
    val_main_v27 (F := Ideal) w g a b = changes (flat w) (flat g) (flat a) (flat b)
      ∧ val_main_v8 (F := Ideal) g a = moments (flat g) (flat a)
      ∧ val_main_v14 (F := Ideal) g b = squares (flat g) (flat b) :=
  ⟨funext fun _ => rfl, funext fun _ => rfl, funext fun _ => rfl⟩

end Cert.ReferenceAdamXaIdeal.Own

namespace Cert.Proof

open Idealize.ShloMosaic Idealize.ShloMosaic.TcCoe Idealize.SL.Sem
open Cert.Adam (moments squares changes)
open Cert.KernelAdamXaIdeal.Own (W G M U)

/-- The reference leaves its arguments as they were, and it has no counters. -/
theorem frame_r_adam_xa : quiescent_ReferenceAdamXaIdeal (hReferenceAdamXaIdeal := Cert.ReferenceAdamXaIdeal.Gen.facts) := fun m g _ =>
  (θ_run _ _ _).mono (fun r h => ⟨fun c => (h c).2.2.2.2, sem_eq_zero_of_no_sems (by decide) r.2⟩) (Cert.ReferenceAdamXaIdeal.Value.run m g)

/-- Over the reals the kernel and the reference end with the same gradients, changes and moments. -/
theorem algebraic_adam_xa : algebraic_KernelAdamXaIdeal_ReferenceAdamXaIdeal (hKernelAdamXaIdeal := Cert.KernelAdamXaIdeal.Gen.facts) (hReferenceAdamXaIdeal := Cert.ReferenceAdamXaIdeal.Gen.facts) := by
  intro m g m' g' _ hargs
  refine ⟨fun c => G m c, fun c => changes (W m c) (G m c) (M m c) (U m c), fun c => moments (G m c) (M m c), fun c => squares (G m c) (U m c), ?_, ?_⟩
  · refine (θ_run _ _ _).mono (fun r h c => ?_) (Cert.KernelAdamXaIdeal.Value.run_blocks m g)
    obtain ⟨h0, h1, h2, h3, ha⟩ := h c
    obtain ⟨r0, r1, r2, r3⟩ := Cert.KernelAdamXaIdeal.Own.arrays m c
    exact ⟨h0.trans r0, h1.trans r1, h2.trans r2, h3.trans r3, ha⟩
  · refine (θ_run _ _ _).mono (fun r h c => ?_) (Cert.ReferenceAdamXaIdeal.Value.run m' g')
    obtain ⟨h0, h1, h2, h3, ha⟩ := h c
    obtain ⟨e0, e1, e2, e3⟩ := hargs c
    refine ⟨h0.trans ?_, h1.trans ((Cert.ReferenceAdamXaIdeal.Read.val_main_v27_eq _ _ _ _).trans ?_), h2.trans ((Cert.ReferenceAdamXaIdeal.Read.val_main_v8_eq _ _).trans ?_),
      h3.trans ((Cert.ReferenceAdamXaIdeal.Read.val_main_v14_eq _ _).trans ?_), ha⟩
    · rw [e1]; rfl
    · rw [e0, e1, e2, e3]; exact (Cert.ReferenceAdamXaIdeal.Own.arrays _ _ _ _).1
    · rw [e1, e2]; exact (Cert.ReferenceAdamXaIdeal.Own.arrays (m (c.tc.loc Cert.KernelAdamXaIdeal.main_arg0)) _ _ (m (c.tc.loc Cert.KernelAdamXaIdeal.main_arg3))).2.1
    · rw [e1, e3]; exact (Cert.ReferenceAdamXaIdeal.Own.arrays (m (c.tc.loc Cert.KernelAdamXaIdeal.main_arg0)) _ (m (c.tc.loc Cert.KernelAdamXaIdeal.main_arg2)) _).2.2

end Cert.Proof

end
-- ==== Proof.AdamKv.lean ====
/- The optimiser's step of xa_wkv: the kernel goes through the rows of all layers by blocks of 256, the reference takes them at once. -/
module

public import proofs.«01_k».proof.Defs
public import proofs.«01_k».proof.Proof.Gen.KernelAdamKvIdeal.Value
public import proofs.«01_k».proof.Proof.Gen.ReferenceAdamKvIdeal.Read
public import proofs.«01_k».proof.Proof.Adam

@[expose] public section

set_option maxRecDepth 16384

noncomputable section

namespace Cert.KernelAdamKvIdeal.Own

open Cert.KernelAdamKvIdeal Cert.KernelAdamKvIdeal.Gen Idealize.ShloMosaic Idealize.ShloMosaic.TcCoe Idealize.SL.Sem
open Idealize.ShloMosaic.Pipeline (Dat)
open Cert.Blocked (pos)
open Cert.Adam (moment square change moments squares changes)

/-- The blocks of a grid point. -/
theorem idx : ∀ t : Fin cfg0.N, (win0_0.index t = ![t.val / 8, t.val % 8, 0] ∧ win0_1.index t = ![t.val / 8, t.val % 8, 0] ∧ win0_2.index t = ![t.val / 8, t.val % 8, 0] ∧ win0_3.index t = ![t.val / 8, t.val % 8, 0]) ∧ win0_4.index t = ![t.val, 0] ∧ win0_5.index t = ![t.val, 0] ∧ win0_6.index t = ![t.val, 0] ∧ win0_7.index t = ![t.val, 0] :=
  (by decide +kernel : ∀ t : Fin grid0.N, (win0_0.index t = ![t.val / 8, t.val % 8, 0] ∧ win0_1.index t = ![t.val / 8, t.val % 8, 0] ∧ win0_2.index t = ![t.val / 8, t.val % 8, 0] ∧ win0_3.index t = ![t.val / 8, t.val % 8, 0]) ∧ win0_4.index t = ![t.val, 0] ∧ win0_5.index t = ![t.val, 0] ∧ win0_6.index t = ![t.val, 0] ∧ win0_7.index t = ![t.val, 0])

/-- The rows of all layers. -/
def flat (A : Vec Ideal S2x2048x1024 .f32) : Vec Ideal S4096x1024 .f32 :=
  shapeCast S4096x1024 A (by decide)

variable (m : (ℓ : Loc nD τ sig) → Buf (Elt Ideal) ℓ) (c : Dev nD)

abbrev W : Vec Ideal S4096x1024 .f32 := flat (m (c.tc.loc main_arg0))
abbrev G : Vec Ideal S4096x1024 .f32 := flat (m (c.tc.loc main_arg1))
abbrev M : Vec Ideal S4096x1024 .f32 := flat (m (c.tc.loc main_arg2))
abbrev U : Vec Ideal S4096x1024 .f32 := flat (m (c.tc.loc main_arg3))

/-- What a grid point reads of the four arrays is its block of their rows. -/
theorem reads (t : Fin cfg0.N) (u : Fin 256) (k : Fin 1024) (i : Fin 16) (hi : t.val = i.val) :
    (iblk m c 0 t : Vec Ideal S1x256x1024 .f32) (ix3 0 u k) = W m c (ix2 (pos (by decide) i u) k)
      ∧ (iblk m c 1 t : Vec Ideal S1x256x1024 .f32) (ix3 0 u k) = G m c (ix2 (pos (by decide) i u) k)
      ∧ (iblk m c 2 t : Vec Ideal S1x256x1024 .f32) (ix3 0 u k) = M m c (ix2 (pos (by decide) i u) k)
      ∧ (iblk m c 3 t : Vec Ideal S1x256x1024 .f32) (ix3 0 u k) = U m c (ix2 (pos (by decide) i u) k) := by
  refine ⟨?_, ?_, ?_, ?_⟩
  all_goals
    blk_simp [iblk]
    simp only [V_main_arg0, V_main_arg1, V_main_arg2, V_main_arg3, flat]
    pointwise
    blk_ext [idx t, pos]

/-- The gradients of a block are handed on. -/
theorem pay1 (g : Vec Ideal S1x256x1024 .f32) (u : Fin 256) (k : Fin 1024) :
    k0_pay1 (F := Ideal) g (ix2 u k) = g (ix3 0 u k) := by
  unfold k0_pay1; pointwise
theorem pay2 (g a : Vec Ideal S1x256x1024 .f32) (u : Fin 256) (k : Fin 1024) :
    k0_pay2 (F := Ideal) g a (ix2 u k) = moment (g (ix3 0 u k)) (a (ix3 0 u k)) := by
  unfold k0_pay2 moment; pointwise [pay1]
theorem pay3 (g b : Vec Ideal S1x256x1024 .f32) (u : Fin 256) (k : Fin 1024) :
    k0_pay3 (F := Ideal) g b (ix2 u k) = square (g (ix3 0 u k)) (b (ix3 0 u k)) := by
  unfold k0_pay3 square; pointwise [pay1]
theorem pay4 (g w a b : Vec Ideal S1x256x1024 .f32) (u : Fin 256) (k : Fin 1024) :
    k0_pay4 (F := Ideal) g w a b (ix2 u k) = change (w (ix3 0 u k)) (g (ix3 0 u k)) (a (ix3 0 u k)) (b (ix3 0 u k)) := by
  unfold k0_pay4 change; pointwise [pay2, pay3]

/-- The four arrays of the result: the gradients, the changes and the two moments. -/
theorem arrays : (dats m 0 c).arrAt 4 cfg0.N = G m c
    ∧ (dats m 0 c).arrAt 5 cfg0.N = changes (W m c) (G m c) (M m c) (U m c)
    ∧ (dats m 0 c).arrAt 6 cfg0.N = moments (G m c) (M m c)
    ∧ (dats m 0 c).arrAt 7 cfg0.N = squares (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    have hN : t.val < 16 := t.isLt
    idx_vars y
    blk_simp
    obtain ⟨e0, e1, e2, e3⟩ := reads m c t y0 y1 ⟨t.val, hN⟩ rfl
    first | rw [after0_4] | rw [after0_5] | rw [after0_6] | rw [after0_7]
    frame_out
    first
      | refine (pay1 _ _ _).trans ?_; rw [e1]; refine congrArg (G m c) ?_
      | refine (pay4 _ _ _ _ _ _).trans ?_; rw [e0, e1, e2, e3]; refine congrArg (changes (W m c) (G m c) (M m c) (U m c)) ?_
      | refine (pay2 _ _ _ _).trans ?_; rw [e1, e2]; refine congrArg (moments (G m c) (M m c)) ?_
      | refine (pay3 _ _ _ _).trans ?_; rw [e1, e3]; refine congrArg (squares (G m c) (U m c)) ?_
    blk_ext [idx t, pos]

end Cert.KernelAdamKvIdeal.Own

namespace Cert.ReferenceAdamKvIdeal.Own

open Cert.ReferenceAdamKvIdeal Cert.ReferenceAdamKvIdeal.Gen Cert.ReferenceAdamKvIdeal.Read Idealize.ShloMosaic
open Cert.Adam (moments squares changes)
open Cert.KernelAdamKvIdeal.Own (flat)

/-- The reference's changes and moments, element by element. -/
theorem arrays (w g a b : Vec Ideal S2x2048x1024 .f32) :
    val_main_v27 (F := Ideal) w g a b = changes (flat w) (flat g) (flat a) (flat b)
      ∧ val_main_v8 (F := Ideal) g a = moments (flat g) (flat a)
      ∧ val_main_v14 (F := Ideal) g b = squares (flat g) (flat b) :=
  ⟨funext fun _ => rfl, funext fun _ => rfl, funext fun _ => rfl⟩

end Cert.ReferenceAdamKvIdeal.Own

namespace Cert.Proof

open Idealize.ShloMosaic Idealize.ShloMosaic.TcCoe Idealize.SL.Sem
open Cert.Adam (moments squares changes)
open Cert.KernelAdamKvIdeal.Own (W G M U)

/-- The reference leaves its arguments as they were, and it has no counters. -/
theorem frame_r_adam_kv : quiescent_ReferenceAdamKvIdeal (hReferenceAdamKvIdeal := Cert.ReferenceAdamKvIdeal.Gen.facts) := fun m g _ =>
  (θ_run _ _ _).mono (fun r h => ⟨fun c => (h c).2.2.2.2, sem_eq_zero_of_no_sems (by decide) r.2⟩) (Cert.ReferenceAdamKvIdeal.Value.run m g)

/-- Over the reals the kernel and the reference end with the same gradients, changes and moments. -/
theorem algebraic_adam_kv : algebraic_KernelAdamKvIdeal_ReferenceAdamKvIdeal (hKernelAdamKvIdeal := Cert.KernelAdamKvIdeal.Gen.facts) (hReferenceAdamKvIdeal := Cert.ReferenceAdamKvIdeal.Gen.facts) := by
  intro m g m' g' _ hargs
  refine ⟨fun c => G m c, fun c => changes (W m c) (G m c) (M m c) (U m c), fun c => moments (G m c) (M m c), fun c => squares (G m c) (U m c), ?_, ?_⟩
  · refine (θ_run _ _ _).mono (fun r h c => ?_) (Cert.KernelAdamKvIdeal.Value.run_blocks m g)
    obtain ⟨h0, h1, h2, h3, ha⟩ := h c
    obtain ⟨r0, r1, r2, r3⟩ := Cert.KernelAdamKvIdeal.Own.arrays m c
    exact ⟨h0.trans r0, h1.trans r1, h2.trans r2, h3.trans r3, ha⟩
  · refine (θ_run _ _ _).mono (fun r h c => ?_) (Cert.ReferenceAdamKvIdeal.Value.run m' g')
    obtain ⟨h0, h1, h2, h3, ha⟩ := h c
    obtain ⟨e0, e1, e2, e3⟩ := hargs c
    refine ⟨h0.trans ?_, h1.trans ((Cert.ReferenceAdamKvIdeal.Read.val_main_v27_eq _ _ _ _).trans ?_), h2.trans ((Cert.ReferenceAdamKvIdeal.Read.val_main_v8_eq _ _).trans ?_),
      h3.trans ((Cert.ReferenceAdamKvIdeal.Read.val_main_v14_eq _ _).trans ?_), ha⟩
    · rw [e1]; rfl
    · rw [e0, e1, e2, e3]; exact (Cert.ReferenceAdamKvIdeal.Own.arrays _ _ _ _).1
    · rw [e1, e2]; exact (Cert.ReferenceAdamKvIdeal.Own.arrays (m (c.tc.loc Cert.KernelAdamKvIdeal.main_arg0)) _ _ (m (c.tc.loc Cert.KernelAdamKvIdeal.main_arg3))).2.1
    · rw [e1, e3]; exact (Cert.ReferenceAdamKvIdeal.Own.arrays (m (c.tc.loc Cert.KernelAdamKvIdeal.main_arg0)) _ (m (c.tc.loc Cert.KernelAdamKvIdeal.main_arg2)) _).2.2

end Cert.Proof

end
-- ==== Proof.AdamFf.lean ====
/- The optimiser's step of ffn_w_gate and ffn_w_up: the kernel goes through the rows of all layers by blocks of 256, the reference takes them at once. -/
module

public import proofs.«01_k».proof.Defs
public import proofs.«01_k».proof.Proof.Gen.KernelAdamFfIdeal.Value
public import proofs.«01_k».proof.Proof.Gen.ReferenceAdamFfIdeal.Read
public import proofs.«01_k».proof.Proof.Adam

@[expose] public section

set_option maxRecDepth 16384

noncomputable section

namespace Cert.KernelAdamFfIdeal.Own

open Cert.KernelAdamFfIdeal Cert.KernelAdamFfIdeal.Gen Idealize.ShloMosaic Idealize.ShloMosaic.TcCoe Idealize.SL.Sem
open Idealize.ShloMosaic.Pipeline (Dat)
open Cert.Blocked (pos)
open Cert.Adam (moment square change moments squares changes)

/-- The blocks of a grid point. -/
theorem idx : ∀ t : Fin cfg0.N, (win0_0.index t = ![t.val / 8, t.val % 8, 0] ∧ win0_1.index t = ![t.val / 8, t.val % 8, 0] ∧ win0_2.index t = ![t.val / 8, t.val % 8, 0] ∧ win0_3.index t = ![t.val / 8, t.val % 8, 0]) ∧ win0_4.index t = ![t.val, 0] ∧ win0_5.index t = ![t.val, 0] ∧ win0_6.index t = ![t.val, 0] ∧ win0_7.index t = ![t.val, 0] :=
  (by decide +kernel : ∀ t : Fin grid0.N, (win0_0.index t = ![t.val / 8, t.val % 8, 0] ∧ win0_1.index t = ![t.val / 8, t.val % 8, 0] ∧ win0_2.index t = ![t.val / 8, t.val % 8, 0] ∧ win0_3.index t = ![t.val / 8, t.val % 8, 0]) ∧ win0_4.index t = ![t.val, 0] ∧ win0_5.index t = ![t.val, 0] ∧ win0_6.index t = ![t.val, 0] ∧ win0_7.index t = ![t.val, 0])

/-- The rows of all layers. -/
def flat (A : Vec Ideal S2x2048x1408 .f32) : Vec Ideal S4096x1408 .f32 :=
  shapeCast S4096x1408 A (by decide)

variable (m : (ℓ : Loc nD τ sig) → Buf (Elt Ideal) ℓ) (c : Dev nD)

abbrev W : Vec Ideal S4096x1408 .f32 := flat (m (c.tc.loc main_arg0))
abbrev G : Vec Ideal S4096x1408 .f32 := flat (m (c.tc.loc main_arg1))
abbrev M : Vec Ideal S4096x1408 .f32 := flat (m (c.tc.loc main_arg2))
abbrev U : Vec Ideal S4096x1408 .f32 := flat (m (c.tc.loc main_arg3))

/-- What a grid point reads of the four arrays is its block of their rows. -/
theorem reads (t : Fin cfg0.N) (u : Fin 256) (k : Fin 1408) (i : Fin 16) (hi : t.val = i.val) :
    (iblk m c 0 t : Vec Ideal S1x256x1408 .f32) (ix3 0 u k) = W m c (ix2 (pos (by decide) i u) k)
      ∧ (iblk m c 1 t : Vec Ideal S1x256x1408 .f32) (ix3 0 u k) = G m c (ix2 (pos (by decide) i u) k)
      ∧ (iblk m c 2 t : Vec Ideal S1x256x1408 .f32) (ix3 0 u k) = M m c (ix2 (pos (by decide) i u) k)
      ∧ (iblk m c 3 t : Vec Ideal S1x256x1408 .f32) (ix3 0 u k) = U m c (ix2 (pos (by decide) i u) k) := by
  refine ⟨?_, ?_, ?_, ?_⟩
  all_goals
    blk_simp [iblk]
    simp only [V_main_arg0, V_main_arg1, V_main_arg2, V_main_arg3, flat]
    pointwise
    blk_ext [idx t, pos]

/-- The gradients of a block are handed on. -/
theorem pay1 (g : Vec Ideal S1x256x1408 .f32) (u : Fin 256) (k : Fin 1408) :
    k0_pay1 (F := Ideal) g (ix2 u k) = g (ix3 0 u k) := by
  unfold k0_pay1; pointwise
theorem pay2 (g a : Vec Ideal S1x256x1408 .f32) (u : Fin 256) (k : Fin 1408) :
    k0_pay2 (F := Ideal) g a (ix2 u k) = moment (g (ix3 0 u k)) (a (ix3 0 u k)) := by
  unfold k0_pay2 moment; pointwise [pay1]
theorem pay3 (g b : Vec Ideal S1x256x1408 .f32) (u : Fin 256) (k : Fin 1408) :
    k0_pay3 (F := Ideal) g b (ix2 u k) = square (g (ix3 0 u k)) (b (ix3 0 u k)) := by
  unfold k0_pay3 square; pointwise [pay1]
theorem pay4 (g w a b : Vec Ideal S1x256x1408 .f32) (u : Fin 256) (k : Fin 1408) :
    k0_pay4 (F := Ideal) g w a b (ix2 u k) = change (w (ix3 0 u k)) (g (ix3 0 u k)) (a (ix3 0 u k)) (b (ix3 0 u k)) := by
  unfold k0_pay4 change; pointwise [pay2, pay3]

/-- The four arrays of the result: the gradients, the changes and the two moments. -/
theorem arrays : (dats m 0 c).arrAt 4 cfg0.N = G m c
    ∧ (dats m 0 c).arrAt 5 cfg0.N = changes (W m c) (G m c) (M m c) (U m c)
    ∧ (dats m 0 c).arrAt 6 cfg0.N = moments (G m c) (M m c)
    ∧ (dats m 0 c).arrAt 7 cfg0.N = squares (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    have hN : t.val < 16 := t.isLt
    idx_vars y
    blk_simp
    obtain ⟨e0, e1, e2, e3⟩ := reads m c t y0 y1 ⟨t.val, hN⟩ rfl
    first | rw [after0_4] | rw [after0_5] | rw [after0_6] | rw [after0_7]
    frame_out
    first
      | refine (pay1 _ _ _).trans ?_; rw [e1]; refine congrArg (G m c) ?_
      | refine (pay4 _ _ _ _ _ _).trans ?_; rw [e0, e1, e2, e3]; refine congrArg (changes (W m c) (G m c) (M m c) (U m c)) ?_
      | refine (pay2 _ _ _ _).trans ?_; rw [e1, e2]; refine congrArg (moments (G m c) (M m c)) ?_
      | refine (pay3 _ _ _ _).trans ?_; rw [e1, e3]; refine congrArg (squares (G m c) (U m c)) ?_
    blk_ext [idx t, pos]

end Cert.KernelAdamFfIdeal.Own

namespace Cert.ReferenceAdamFfIdeal.Own

open Cert.ReferenceAdamFfIdeal Cert.ReferenceAdamFfIdeal.Gen Cert.ReferenceAdamFfIdeal.Read Idealize.ShloMosaic
open Cert.Adam (moments squares changes)
open Cert.KernelAdamFfIdeal.Own (flat)

/-- The reference's changes and moments, element by element. -/
theorem arrays (w g a b : Vec Ideal S2x2048x1408 .f32) :
    val_main_v27 (F := Ideal) w g a b = changes (flat w) (flat g) (flat a) (flat b)
      ∧ val_main_v8 (F := Ideal) g a = moments (flat g) (flat a)
      ∧ val_main_v14 (F := Ideal) g b = squares (flat g) (flat b) :=
  ⟨funext fun _ => rfl, funext fun _ => rfl, funext fun _ => rfl⟩

end Cert.ReferenceAdamFfIdeal.Own

namespace Cert.Proof

open Idealize.ShloMosaic Idealize.ShloMosaic.TcCoe Idealize.SL.Sem
open Cert.Adam (moments squares changes)
open Cert.KernelAdamFfIdeal.Own (W G M U)

/-- The reference leaves its arguments as they were, and it has no counters. -/
theorem frame_r_adam_ff : quiescent_ReferenceAdamFfIdeal (hReferenceAdamFfIdeal := Cert.ReferenceAdamFfIdeal.Gen.facts) := fun m g _ =>
  (θ_run _ _ _).mono (fun r h => ⟨fun c => (h c).2.2.2.2, sem_eq_zero_of_no_sems (by decide) r.2⟩) (Cert.ReferenceAdamFfIdeal.Value.run m g)

/-- Over the reals the kernel and the reference end with the same gradients, changes and moments. -/
theorem algebraic_adam_ff : algebraic_KernelAdamFfIdeal_ReferenceAdamFfIdeal (hKernelAdamFfIdeal := Cert.KernelAdamFfIdeal.Gen.facts) (hReferenceAdamFfIdeal := Cert.ReferenceAdamFfIdeal.Gen.facts) := by
  intro m g m' g' _ hargs
  refine ⟨fun c => G m c, fun c => changes (W m c) (G m c) (M m c) (U m c), fun c => moments (G m c) (M m c), fun c => squares (G m c) (U m c), ?_, ?_⟩
  · refine (θ_run _ _ _).mono (fun r h c => ?_) (Cert.KernelAdamFfIdeal.Value.run_blocks m g)
    obtain ⟨h0, h1, h2, h3, ha⟩ := h c
    obtain ⟨r0, r1, r2, r3⟩ := Cert.KernelAdamFfIdeal.Own.arrays m c
    exact ⟨h0.trans r0, h1.trans r1, h2.trans r2, h3.trans r3, ha⟩
  · refine (θ_run _ _ _).mono (fun r h c => ?_) (Cert.ReferenceAdamFfIdeal.Value.run m' g')
    obtain ⟨h0, h1, h2, h3, ha⟩ := h c
    obtain ⟨e0, e1, e2, e3⟩ := hargs c
    refine ⟨h0.trans ?_, h1.trans ((Cert.ReferenceAdamFfIdeal.Read.val_main_v27_eq _ _ _ _).trans ?_), h2.trans ((Cert.ReferenceAdamFfIdeal.Read.val_main_v8_eq _ _).trans ?_),
      h3.trans ((Cert.ReferenceAdamFfIdeal.Read.val_main_v14_eq _ _).trans ?_), ha⟩
    · rw [e1]; rfl
    · rw [e0, e1, e2, e3]; exact (Cert.ReferenceAdamFfIdeal.Own.arrays _ _ _ _).1
    · rw [e1, e2]; exact (Cert.ReferenceAdamFfIdeal.Own.arrays (m (c.tc.loc Cert.KernelAdamFfIdeal.main_arg0)) _ _ (m (c.tc.loc Cert.KernelAdamFfIdeal.main_arg3))).2.1
    · rw [e1, e3]; exact (Cert.ReferenceAdamFfIdeal.Own.arrays (m (c.tc.loc Cert.KernelAdamFfIdeal.main_arg0)) _ (m (c.tc.loc Cert.KernelAdamFfIdeal.main_arg2)) _).2.2

end Cert.Proof

end
-- ==== Proof.AdamDown.lean ====
/- The optimiser's step of ffn_w_down: the kernel goes through the rows of all layers by blocks of 176, the reference takes them at once. -/
module

public import proofs.«01_k».proof.Defs
public import proofs.«01_k».proof.Proof.Gen.KernelAdamDownIdeal.Value
public import proofs.«01_k».proof.Proof.Gen.ReferenceAdamDownIdeal.Read
public import proofs.«01_k».proof.Proof.Adam

@[expose] public section

set_option maxRecDepth 16384

noncomputable section

namespace Cert.KernelAdamDownIdeal.Own

open Cert.KernelAdamDownIdeal Cert.KernelAdamDownIdeal.Gen Idealize.ShloMosaic Idealize.ShloMosaic.TcCoe Idealize.SL.Sem
open Idealize.ShloMosaic.Pipeline (Dat)
open Cert.Blocked (pos)
open Cert.Adam (moment square change moments squares changes)

/-- The blocks of a grid point. -/
theorem idx : ∀ t : Fin cfg0.N, (win0_0.index t = ![t.val / 8, t.val % 8, 0] ∧ win0_1.index t = ![t.val / 8, t.val % 8, 0] ∧ win0_2.index t = ![t.val / 8, t.val % 8, 0] ∧ win0_3.index t = ![t.val / 8, t.val % 8, 0]) ∧ win0_4.index t = ![t.val, 0] ∧ win0_5.index t = ![t.val, 0] ∧ win0_6.index t = ![t.val, 0] ∧ win0_7.index t = ![t.val, 0] :=
  (by decide +kernel : ∀ t : Fin grid0.N, (win0_0.index t = ![t.val / 8, t.val % 8, 0] ∧ win0_1.index t = ![t.val / 8, t.val % 8, 0] ∧ win0_2.index t = ![t.val / 8, t.val % 8, 0] ∧ win0_3.index t = ![t.val / 8, t.val % 8, 0]) ∧ win0_4.index t = ![t.val, 0] ∧ win0_5.index t = ![t.val, 0] ∧ win0_6.index t = ![t.val, 0] ∧ win0_7.index t = ![t.val, 0])

/-- The rows of all layers. -/
def flat (A : Vec Ideal S2x1408x2048 .f32) : Vec Ideal S2816x2048 .f32 :=
  shapeCast S2816x2048 A (by decide)

variable (m : (ℓ : Loc nD τ sig) → Buf (Elt Ideal) ℓ) (c : Dev nD)

abbrev W : Vec Ideal S2816x2048 .f32 := flat (m (c.tc.loc main_arg0))
abbrev G : Vec Ideal S2816x2048 .f32 := flat (m (c.tc.loc main_arg1))
abbrev M : Vec Ideal S2816x2048 .f32 := flat (m (c.tc.loc main_arg2))
abbrev U : Vec Ideal S2816x2048 .f32 := flat (m (c.tc.loc main_arg3))

/-- What a grid point reads of the four arrays is its block of their rows. -/
theorem reads (t : Fin cfg0.N) (u : Fin 176) (k : Fin 2048) (i : Fin 16) (hi : t.val = i.val) :
    (iblk m c 0 t : Vec Ideal S1x176x2048 .f32) (ix3 0 u k) = W m c (ix2 (pos (by decide) i u) k)
      ∧ (iblk m c 1 t : Vec Ideal S1x176x2048 .f32) (ix3 0 u k) = G m c (ix2 (pos (by decide) i u) k)
      ∧ (iblk m c 2 t : Vec Ideal S1x176x2048 .f32) (ix3 0 u k) = M m c (ix2 (pos (by decide) i u) k)
      ∧ (iblk m c 3 t : Vec Ideal S1x176x2048 .f32) (ix3 0 u k) = U m c (ix2 (pos (by decide) i u) k) := by
  refine ⟨?_, ?_, ?_, ?_⟩
  all_goals
    blk_simp [iblk]
    simp only [V_main_arg0, V_main_arg1, V_main_arg2, V_main_arg3, flat]
    pointwise
    blk_ext [idx t, pos]

/-- The gradients of a block are handed on. -/
theorem pay1 (g : Vec Ideal S1x176x2048 .f32) (u : Fin 176) (k : Fin 2048) :
    k0_pay1 (F := Ideal) g (ix2 u k) = g (ix3 0 u k) := by
  unfold k0_pay1; pointwise
theorem pay2 (g a : Vec Ideal S1x176x2048 .f32) (u : Fin 176) (k : Fin 2048) :
    k0_pay2 (F := Ideal) g a (ix2 u k) = moment (g (ix3 0 u k)) (a (ix3 0 u k)) := by
  unfold k0_pay2 moment; pointwise [pay1]
theorem pay3 (g b : Vec Ideal S1x176x2048 .f32) (u : Fin 176) (k : Fin 2048) :
    k0_pay3 (F := Ideal) g b (ix2 u k) = square (g (ix3 0 u k)) (b (ix3 0 u k)) := by
  unfold k0_pay3 square; pointwise [pay1]
theorem pay4 (g w a b : Vec Ideal S1x176x2048 .f32) (u : Fin 176) (k : Fin 2048) :
    k0_pay4 (F := Ideal) g w a b (ix2 u k) = change (w (ix3 0 u k)) (g (ix3 0 u k)) (a (ix3 0 u k)) (b (ix3 0 u k)) := by
  unfold k0_pay4 change; pointwise [pay2, pay3]

/-- The four arrays of the result: the gradients, the changes and the two moments. -/
theorem arrays : (dats m 0 c).arrAt 4 cfg0.N = G m c
    ∧ (dats m 0 c).arrAt 5 cfg0.N = changes (W m c) (G m c) (M m c) (U m c)
    ∧ (dats m 0 c).arrAt 6 cfg0.N = moments (G m c) (M m c)
    ∧ (dats m 0 c).arrAt 7 cfg0.N = squares (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    have hN : t.val < 16 := t.isLt
    idx_vars y
    blk_simp
    obtain ⟨e0, e1, e2, e3⟩ := reads m c t y0 y1 ⟨t.val, hN⟩ rfl
    first | rw [after0_4] | rw [after0_5] | rw [after0_6] | rw [after0_7]
    frame_out
    first
      | refine (pay1 _ _ _).trans ?_; rw [e1]; refine congrArg (G m c) ?_
      | refine (pay4 _ _ _ _ _ _).trans ?_; rw [e0, e1, e2, e3]; refine congrArg (changes (W m c) (G m c) (M m c) (U m c)) ?_
      | refine (pay2 _ _ _ _).trans ?_; rw [e1, e2]; refine congrArg (moments (G m c) (M m c)) ?_
      | refine (pay3 _ _ _ _).trans ?_; rw [e1, e3]; refine congrArg (squares (G m c) (U m c)) ?_
    blk_ext [idx t, pos]

end Cert.KernelAdamDownIdeal.Own

namespace Cert.ReferenceAdamDownIdeal.Own

open Cert.ReferenceAdamDownIdeal Cert.ReferenceAdamDownIdeal.Gen Cert.ReferenceAdamDownIdeal.Read Idealize.ShloMosaic
open Cert.Adam (moments squares changes)
open Cert.KernelAdamDownIdeal.Own (flat)

/-- The reference's changes and moments, element by element. -/
theorem arrays (w g a b : Vec Ideal S2x1408x2048 .f32) :
    val_main_v27 (F := Ideal) w g a b = changes (flat w) (flat g) (flat a) (flat b)
      ∧ val_main_v8 (F := Ideal) g a = moments (flat g) (flat a)
      ∧ val_main_v14 (F := Ideal) g b = squares (flat g) (flat b) :=
  ⟨funext fun _ => rfl, funext fun _ => rfl, funext fun _ => rfl⟩

end Cert.ReferenceAdamDownIdeal.Own

namespace Cert.Proof

open Idealize.ShloMosaic Idealize.ShloMosaic.TcCoe Idealize.SL.Sem
open Cert.Adam (moments squares changes)
open Cert.KernelAdamDownIdeal.Own (W G M U)

/-- The reference leaves its arguments as they were, and it has no counters. -/
theorem frame_r_adam_down : quiescent_ReferenceAdamDownIdeal (hReferenceAdamDownIdeal := Cert.ReferenceAdamDownIdeal.Gen.facts) := fun m g _ =>
  (θ_run _ _ _).mono (fun r h => ⟨fun c => (h c).2.2.2.2, sem_eq_zero_of_no_sems (by decide) r.2⟩) (Cert.ReferenceAdamDownIdeal.Value.run m g)

/-- Over the reals the kernel and the reference end with the same gradients, changes and moments. -/
theorem algebraic_adam_down : algebraic_KernelAdamDownIdeal_ReferenceAdamDownIdeal (hKernelAdamDownIdeal := Cert.KernelAdamDownIdeal.Gen.facts) (hReferenceAdamDownIdeal := Cert.ReferenceAdamDownIdeal.Gen.facts) := by
  intro m g m' g' _ hargs
  refine ⟨fun c => G m c, fun c => changes (W m c) (G m c) (M m c) (U m c), fun c => moments (G m c) (M m c), fun c => squares (G m c) (U m c), ?_, ?_⟩
  · refine (θ_run _ _ _).mono (fun r h c => ?_) (Cert.KernelAdamDownIdeal.Value.run_blocks m g)
    obtain ⟨h0, h1, h2, h3, ha⟩ := h c
    obtain ⟨r0, r1, r2, r3⟩ := Cert.KernelAdamDownIdeal.Own.arrays m c
    exact ⟨h0.trans r0, h1.trans r1, h2.trans r2, h3.trans r3, ha⟩
  · refine (θ_run _ _ _).mono (fun r h c => ?_) (Cert.ReferenceAdamDownIdeal.Value.run m' g')
    obtain ⟨h0, h1, h2, h3, ha⟩ := h c
    obtain ⟨e0, e1, e2, e3⟩ := hargs c
    refine ⟨h0.trans ?_, h1.trans ((Cert.ReferenceAdamDownIdeal.Read.val_main_v27_eq _ _ _ _).trans ?_), h2.trans ((Cert.ReferenceAdamDownIdeal.Read.val_main_v8_eq _ _).trans ?_),
      h3.trans ((Cert.ReferenceAdamDownIdeal.Read.val_main_v14_eq _ _).trans ?_), ha⟩
    · rw [e1]; rfl
    · rw [e0, e1, e2, e3]; exact (Cert.ReferenceAdamDownIdeal.Own.arrays _ _ _ _).1
    · rw [e1, e2]; exact (Cert.ReferenceAdamDownIdeal.Own.arrays (m (c.tc.loc Cert.KernelAdamDownIdeal.main_arg0)) _ _ (m (c.tc.loc Cert.KernelAdamDownIdeal.main_arg3))).2.1
    · rw [e1, e3]; exact (Cert.ReferenceAdamDownIdeal.Own.arrays (m (c.tc.loc Cert.KernelAdamDownIdeal.main_arg0)) _ (m (c.tc.loc Cert.KernelAdamDownIdeal.main_arg2)) _).2.2

end Cert.Proof

end
-- ==== Proof.AdamSmall.lean ====
/- The optimiser's step of the small weights, laid in rows: the kernel goes through the rows of all layers by blocks of 16, the reference takes them at once. -/
module

public import proofs.«01_k».proof.Defs
public import proofs.«01_k».proof.Proof.Gen.KernelAdamSmallIdeal.Value
public import proofs.«01_k».proof.Proof.Gen.ReferenceAdamSmallIdeal.Read
public import proofs.«01_k».proof.Proof.Adam

@[expose] public section

set_option maxRecDepth 16384

noncomputable section

namespace Cert.KernelAdamSmallIdeal.Own

open Cert.KernelAdamSmallIdeal Cert.KernelAdamSmallIdeal.Gen Idealize.ShloMosaic Idealize.ShloMosaic.TcCoe Idealize.SL.Sem
open Idealize.ShloMosaic.Pipeline (Dat)
open Cert.Blocked (pos)
open Cert.Adam (moment square change moments squares changes)

/-- The blocks of a grid point. -/
theorem idx : ∀ t : Fin cfg0.N, (win0_0.index t = ![0, t.val, 0] ∧ win0_1.index t = ![0, t.val, 0] ∧ win0_2.index t = ![0, t.val, 0] ∧ win0_3.index t = ![0, t.val, 0]) ∧ win0_4.index t = ![t.val, 0] ∧ win0_5.index t = ![t.val, 0] ∧ win0_6.index t = ![t.val, 0] ∧ win0_7.index t = ![t.val, 0] :=
  (by decide +kernel : ∀ t : Fin grid0.N, (win0_0.index t = ![0, t.val, 0] ∧ win0_1.index t = ![0, t.val, 0] ∧ win0_2.index t = ![0, t.val, 0] ∧ win0_3.index t = ![0, t.val, 0]) ∧ win0_4.index t = ![t.val, 0] ∧ win0_5.index t = ![t.val, 0] ∧ win0_6.index t = ![t.val, 0] ∧ win0_7.index t = ![t.val, 0])

/-- The rows of all layers. -/
def flat (A : Vec Ideal S1x16x2048 .f32) : Vec Ideal S16x2048 .f32 :=
  shapeCast S16x2048 A (by decide)

variable (m : (ℓ : Loc nD τ sig) → Buf (Elt Ideal) ℓ) (c : Dev nD)

abbrev W : Vec Ideal S16x2048 .f32 := flat (m (c.tc.loc main_arg0))
abbrev G : Vec Ideal S16x2048 .f32 := flat (m (c.tc.loc main_arg1))
abbrev M : Vec Ideal S16x2048 .f32 := flat (m (c.tc.loc main_arg2))
abbrev U : Vec Ideal S16x2048 .f32 := flat (m (c.tc.loc main_arg3))

/-- What a grid point reads of the four arrays is its block of their rows. -/
theorem reads (t : Fin cfg0.N) (u : Fin 16) (k : Fin 2048) (i : Fin 1) (hi : t.val = i.val) :
    (iblk m c 0 t : Vec Ideal S1x16x2048 .f32) (ix3 0 u k) = W m c (ix2 (pos (by decide) i u) k)
      ∧ (iblk m c 1 t : Vec Ideal S1x16x2048 .f32) (ix3 0 u k) = G m c (ix2 (pos (by decide) i u) k)
      ∧ (iblk m c 2 t : Vec Ideal S1x16x2048 .f32) (ix3 0 u k) = M m c (ix2 (pos (by decide) i u) k)
      ∧ (iblk m c 3 t : Vec Ideal S1x16x2048 .f32) (ix3 0 u k) = U m c (ix2 (pos (by decide) i u) k) := by
  refine ⟨?_, ?_, ?_, ?_⟩
  all_goals
    blk_simp [iblk]
    simp only [V_main_arg0, V_main_arg1, V_main_arg2, V_main_arg3, flat]
    pointwise
    blk_ext [idx t, pos]

/-- The gradients of a block are handed on. -/
theorem pay1 (g : Vec Ideal S1x16x2048 .f32) (u : Fin 16) (k : Fin 2048) :
    k0_pay1 (F := Ideal) g (ix2 u k) = g (ix3 0 u k) := by
  unfold k0_pay1; pointwise
theorem pay2 (g a : Vec Ideal S1x16x2048 .f32) (u : Fin 16) (k : Fin 2048) :
    k0_pay2 (F := Ideal) g a (ix2 u k) = moment (g (ix3 0 u k)) (a (ix3 0 u k)) := by
  unfold k0_pay2 moment; pointwise [pay1]
theorem pay3 (g b : Vec Ideal S1x16x2048 .f32) (u : Fin 16) (k : Fin 2048) :
    k0_pay3 (F := Ideal) g b (ix2 u k) = square (g (ix3 0 u k)) (b (ix3 0 u k)) := by
  unfold k0_pay3 square; pointwise [pay1]
theorem pay4 (g w a b : Vec Ideal S1x16x2048 .f32) (u : Fin 16) (k : Fin 2048) :
    k0_pay4 (F := Ideal) g w a b (ix2 u k) = change (w (ix3 0 u k)) (g (ix3 0 u k)) (a (ix3 0 u k)) (b (ix3 0 u k)) := by
  unfold k0_pay4 change; pointwise [pay2, pay3]

/-- The four arrays of the result: the gradients, the changes and the two moments. -/
theorem arrays : (dats m 0 c).arrAt 4 cfg0.N = G m c
    ∧ (dats m 0 c).arrAt 5 cfg0.N = changes (W m c) (G m c) (M m c) (U m c)
    ∧ (dats m 0 c).arrAt 6 cfg0.N = moments (G m c) (M m c)
    ∧ (dats m 0 c).arrAt 7 cfg0.N = squares (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    have hN : t.val < 1 := t.isLt
    idx_vars y
    blk_simp
    obtain ⟨e0, e1, e2, e3⟩ := reads m c t y0 y1 ⟨t.val, hN⟩ rfl
    first | rw [after0_4] | rw [after0_5] | rw [after0_6] | rw [after0_7]
    frame_out
    first
      | refine (pay1 _ _ _).trans ?_; rw [e1]; refine congrArg (G m c) ?_
      | refine (pay4 _ _ _ _ _ _).trans ?_; rw [e0, e1, e2, e3]; refine congrArg (changes (W m c) (G m c) (M m c) (U m c)) ?_
      | refine (pay2 _ _ _ _).trans ?_; rw [e1, e2]; refine congrArg (moments (G m c) (M m c)) ?_
      | refine (pay3 _ _ _ _).trans ?_; rw [e1, e3]; refine congrArg (squares (G m c) (U m c)) ?_
    blk_ext [idx t, pos]

end Cert.KernelAdamSmallIdeal.Own

namespace Cert.ReferenceAdamSmallIdeal.Own

open Cert.ReferenceAdamSmallIdeal Cert.ReferenceAdamSmallIdeal.Gen Cert.ReferenceAdamSmallIdeal.Read Idealize.ShloMosaic
open Cert.Adam (moments squares changes)
open Cert.KernelAdamSmallIdeal.Own (flat)

/-- The reference's changes and moments, element by element. -/
theorem arrays (w g a b : Vec Ideal S1x16x2048 .f32) :
    val_main_v27 (F := Ideal) w g a b = changes (flat w) (flat g) (flat a) (flat b)
      ∧ val_main_v8 (F := Ideal) g a = moments (flat g) (flat a)
      ∧ val_main_v14 (F := Ideal) g b = squares (flat g) (flat b) :=
  ⟨funext fun _ => rfl, funext fun _ => rfl, funext fun _ => rfl⟩

end Cert.ReferenceAdamSmallIdeal.Own

namespace Cert.Proof

open Idealize.ShloMosaic Idealize.ShloMosaic.TcCoe Idealize.SL.Sem
open Cert.Adam (moments squares changes)
open Cert.KernelAdamSmallIdeal.Own (W G M U)

/-- The reference leaves its arguments as they were, and it has no counters. -/
theorem frame_r_adam_small : quiescent_ReferenceAdamSmallIdeal (hReferenceAdamSmallIdeal := Cert.ReferenceAdamSmallIdeal.Gen.facts) := fun m g _ =>
  (θ_run _ _ _).mono (fun r h => ⟨fun c => (h c).2.2.2.2, sem_eq_zero_of_no_sems (by decide) r.2⟩) (Cert.ReferenceAdamSmallIdeal.Value.run m g)

/-- Over the reals the kernel and the reference end with the same gradients, changes and moments. -/
theorem algebraic_adam_small : algebraic_KernelAdamSmallIdeal_ReferenceAdamSmallIdeal (hKernelAdamSmallIdeal := Cert.KernelAdamSmallIdeal.Gen.facts) (hReferenceAdamSmallIdeal := Cert.ReferenceAdamSmallIdeal.Gen.facts) := by
  intro m g m' g' _ hargs
  refine ⟨fun c => G m c, fun c => changes (W m c) (G m c) (M m c) (U m c), fun c => moments (G m c) (M m c), fun c => squares (G m c) (U m c), ?_, ?_⟩
  · refine (θ_run _ _ _).mono (fun r h c => ?_) (Cert.KernelAdamSmallIdeal.Value.run_blocks m g)
    obtain ⟨h0, h1, h2, h3, ha⟩ := h c
    obtain ⟨r0, r1, r2, r3⟩ := Cert.KernelAdamSmallIdeal.Own.arrays m c
    exact ⟨h0.trans r0, h1.trans r1, h2.trans r2, h3.trans r3, ha⟩
  · refine (θ_run _ _ _).mono (fun r h c => ?_) (Cert.ReferenceAdamSmallIdeal.Value.run m' g')
    obtain ⟨h0, h1, h2, h3, ha⟩ := h c
    obtain ⟨e0, e1, e2, e3⟩ := hargs c
    refine ⟨h0.trans ?_, h1.trans ((Cert.ReferenceAdamSmallIdeal.Read.val_main_v27_eq _ _ _ _).trans ?_), h2.trans ((Cert.ReferenceAdamSmallIdeal.Read.val_main_v8_eq _ _).trans ?_),
      h3.trans ((Cert.ReferenceAdamSmallIdeal.Read.val_main_v14_eq _ _).trans ?_), ha⟩
    · rw [e1]; rfl
    · rw [e0, e1, e2, e3]; exact (Cert.ReferenceAdamSmallIdeal.Own.arrays _ _ _ _).1
    · rw [e1, e2]; exact (Cert.ReferenceAdamSmallIdeal.Own.arrays (m (c.tc.loc Cert.KernelAdamSmallIdeal.main_arg0)) _ _ (m (c.tc.loc Cert.KernelAdamSmallIdeal.main_arg3))).2.1
    · rw [e1, e3]; exact (Cert.ReferenceAdamSmallIdeal.Own.arrays (m (c.tc.loc Cert.KernelAdamSmallIdeal.main_arg0)) _ (m (c.tc.loc Cert.KernelAdamSmallIdeal.main_arg2)) _).2.2

end Cert.Proof

end
-- ==== Proof.lean ====
/- The certificate's claims: the programs end with their arguments unchanged and every counter at zero, the named
   constants are what they stand for, and the kernels' results are the references'. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelDownW
public import proofs.«01_k».proof.Proof.Gen.KernelDownW.Skeleton
public import proofs.«01_k».proof.Proof.Gen.KernelDownW.Launch
public import proofs.«01_k».proof.Proof.Gen.KernelDownW.Points
public import proofs.«01_k».proof.Proof.Gen.KernelDownW.Frame
public import proofs.«01_k».proof.Proof.Gen.KernelDownWIdeal
public import proofs.«01_k».proof.Proof.Gen.KernelDownWIdeal.Skeleton
public import proofs.«01_k».proof.Proof.Gen.KernelDownWIdeal.Launch
public import proofs.«01_k».proof.Proof.Gen.KernelDownWIdeal.Points
public import proofs.«01_k».proof.Proof.Gen.KernelDownWIdeal.Frame
public import proofs.«01_k».proof.Proof.Gen.KernelDownWIdeal.Value
public import proofs.«01_k».proof.Proof.Gen.ReferenceDownWIdeal
public import proofs.«01_k».proof.Proof.Gen.ReferenceDownWIdeal.Run
public import proofs.«01_k».proof.Proof.Gen.ReferenceDownWIdeal.Read
public import proofs.«01_k».proof.Proof.Gen.KernelInW
public import proofs.«01_k».proof.Proof.Gen.KernelInW.Skeleton
public import proofs.«01_k».proof.Proof.Gen.KernelInW.Launch
public import proofs.«01_k».proof.Proof.Gen.KernelInW.Points
public import proofs.«01_k».proof.Proof.Gen.KernelInW.Frame
public import proofs.«01_k».proof.Proof.Gen.KernelInWIdeal
public import proofs.«01_k».proof.Proof.Gen.KernelInWIdeal.Skeleton
public import proofs.«01_k».proof.Proof.Gen.KernelInWIdeal.Launch
public import proofs.«01_k».proof.Proof.Gen.KernelInWIdeal.Points
public import proofs.«01_k».proof.Proof.Gen.KernelInWIdeal.Frame
public import proofs.«01_k».proof.Proof.Gen.KernelInWIdeal.Value
public import proofs.«01_k».proof.Proof.Gen.ReferenceInWIdeal
public import proofs.«01_k».proof.Proof.Gen.ReferenceInWIdeal.Run
public import proofs.«01_k».proof.Proof.Gen.ReferenceInWIdeal.Read
public import proofs.«01_k».proof.Proof.Gen.KernelGateX
public import proofs.«01_k».proof.Proof.Gen.KernelGateX.Skeleton
public import proofs.«01_k».proof.Proof.Gen.KernelGateX.Launch
public import proofs.«01_k».proof.Proof.Gen.KernelGateX.Points
public import proofs.«01_k».proof.Proof.Gen.KernelGateX.Frame
public import proofs.«01_k».proof.Proof.Gen.KernelGateXIdeal
public import proofs.«01_k».proof.Proof.Gen.KernelGateXIdeal.Skeleton
public import proofs.«01_k».proof.Proof.Gen.KernelGateXIdeal.Launch
public import proofs.«01_k».proof.Proof.Gen.KernelGateXIdeal.Points
public import proofs.«01_k».proof.Proof.Gen.KernelGateXIdeal.Frame
public import proofs.«01_k».proof.Proof.Gen.KernelGateXIdeal.Value
public import proofs.«01_k».proof.Proof.Gen.ReferenceGateXIdeal
public import proofs.«01_k».proof.Proof.Gen.ReferenceGateXIdeal.Run
public import proofs.«01_k».proof.Proof.Gen.ReferenceGateXIdeal.Read
public import proofs.«01_k».proof.Proof.Gen.KernelUpX
public import proofs.«01_k».proof.Proof.Gen.KernelUpX.Skeleton
public import proofs.«01_k».proof.Proof.Gen.KernelUpX.Launch
public import proofs.«01_k».proof.Proof.Gen.KernelUpX.Points
public import proofs.«01_k».proof.Proof.Gen.KernelUpX.Frame
public import proofs.«01_k».proof.Proof.Gen.KernelUpXIdeal
public import proofs.«01_k».proof.Proof.Gen.KernelUpXIdeal.Skeleton
public import proofs.«01_k».proof.Proof.Gen.KernelUpXIdeal.Launch
public import proofs.«01_k».proof.Proof.Gen.KernelUpXIdeal.Points
public import proofs.«01_k».proof.Proof.Gen.KernelUpXIdeal.Frame
public import proofs.«01_k».proof.Proof.Gen.KernelUpXIdeal.Value
public import proofs.«01_k».proof.Proof.Gen.ReferenceUpXIdeal
public import proofs.«01_k».proof.Proof.Gen.ReferenceUpXIdeal.Run
public import proofs.«01_k».proof.Proof.Gen.ReferenceUpXIdeal.Read
public import proofs.«01_k».proof.Proof.Gen.KernelGate
public import proofs.«01_k».proof.Proof.Gen.KernelGate.Skeleton
public import proofs.«01_k».proof.Proof.Gen.KernelGate.Launch
public import proofs.«01_k».proof.Proof.Gen.KernelGate.Points
public import proofs.«01_k».proof.Proof.Gen.KernelGate.Frame
public import proofs.«01_k».proof.Proof.Gen.KernelGateIdeal
public import proofs.«01_k».proof.Proof.Gen.KernelGateIdeal.Skeleton
public import proofs.«01_k».proof.Proof.Gen.KernelGateIdeal.Launch
public import proofs.«01_k».proof.Proof.Gen.KernelGateIdeal.Points
public import proofs.«01_k».proof.Proof.Gen.KernelGateIdeal.Frame
public import proofs.«01_k».proof.Proof.Gen.KernelGateIdeal.Value
public import proofs.«01_k».proof.Proof.Gen.ReferenceGateIdeal
public import proofs.«01_k».proof.Proof.Gen.ReferenceGateIdeal.Run
public import proofs.«01_k».proof.Proof.Gen.ReferenceGateIdeal.Read
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.Pre_finite_down
public import proofs.«01_k».proof.Proof.Array
public import proofs.«01_k».proof.Proof.Results
public import proofs.«01_k».proof.Proof.Pre
public import Idealize.ShloMosaic.Lib.Quiescent
public import Idealize.ShloMosaic.Adequacy
public import Idealize.ShloMosaic.Init
public import proofs.«01_k».proof.Proof.Down
public import proofs.«01_k».proof.Proof.DownW
public import proofs.«01_k».proof.Proof.InW
public import proofs.«01_k».proof.Proof.GateX
public import proofs.«01_k».proof.Proof.UpX
public import proofs.«01_k».proof.Proof.Gate
public import proofs.«01_k».proof.Proof.Up
public import proofs.«01_k».proof.Proof.OutF
public import proofs.«01_k».proof.Proof.ProjW
public import proofs.«01_k».proof.Proof.ProjX
public import proofs.«01_k».proof.Proof.QkvW
public import proofs.«01_k».proof.Proof.QkvX
public import proofs.«01_k».proof.Proof.Proj
public import proofs.«01_k».proof.Proof.ProjRes
public import proofs.«01_k».proof.Proof.Qkv
public import proofs.«01_k».proof.Proof.Gen.KernelProjW.Frame
public import proofs.«01_k».proof.Proof.Gen.KernelProjX.Frame
public import proofs.«01_k».proof.Proof.Gen.KernelQkvW.Frame
public import proofs.«01_k».proof.Proof.Gen.KernelQkvX.Frame
public import proofs.«01_k».proof.Proof.Gen.KernelProj.Frame
public import proofs.«01_k».proof.Proof.Gen.KernelProjRes.Frame
public import proofs.«01_k».proof.Proof.Gen.KernelQkv.Frame
public import proofs.«01_k».proof.Proof.Gen.KernelAdamEvIn.Frame
public import proofs.«01_k».proof.Proof.Gen.KernelAdamEvInIdeal.Value
public import proofs.«01_k».proof.Proof.Gen.ReferenceAdamEvInIdeal.Read
public import proofs.«01_k».proof.Proof.Gen.KernelAdamPool.Frame
public import proofs.«01_k».proof.Proof.Gen.KernelAdamPoolIdeal.Value
public import proofs.«01_k».proof.Proof.Gen.ReferenceAdamPoolIdeal.Read
public import proofs.«01_k».proof.Proof.Gen.KernelAdamOut.Frame
public import proofs.«01_k».proof.Proof.Gen.KernelAdamOutIdeal.Value
public import proofs.«01_k».proof.Proof.Gen.ReferenceAdamOutIdeal.Read
public import proofs.«01_k».proof.Proof.Gen.KernelAdamOdIn.Frame
public import proofs.«01_k».proof.Proof.Gen.KernelAdamOdInIdeal.Value
public import proofs.«01_k».proof.Proof.Gen.ReferenceAdamOdInIdeal.Read
public import proofs.«01_k».proof.Proof.Gen.KernelAdamXa.Frame
public import proofs.«01_k».proof.Proof.Gen.KernelAdamXaIdeal.Value
public import proofs.«01_k».proof.Proof.Gen.ReferenceAdamXaIdeal.Read
public import proofs.«01_k».proof.Proof.Gen.KernelAdamKv.Frame
public import proofs.«01_k».proof.Proof.Gen.KernelAdamKvIdeal.Value
public import proofs.«01_k».proof.Proof.Gen.ReferenceAdamKvIdeal.Read
public import proofs.«01_k».proof.Proof.Gen.KernelAdamFf.Frame
public import proofs.«01_k».proof.Proof.Gen.KernelAdamFfIdeal.Value
public import proofs.«01_k».proof.Proof.Gen.ReferenceAdamFfIdeal.Read
public import proofs.«01_k».proof.Proof.Gen.KernelAdamDown.Frame
public import proofs.«01_k».proof.Proof.Gen.KernelAdamDownIdeal.Value
public import proofs.«01_k».proof.Proof.Gen.ReferenceAdamDownIdeal.Read
public import proofs.«01_k».proof.Proof.Gen.KernelAdamSmall.Frame
public import proofs.«01_k».proof.Proof.Gen.KernelAdamSmallIdeal.Value
public import proofs.«01_k».proof.Proof.Gen.ReferenceAdamSmallIdeal.Read
public import proofs.«01_k».proof.Proof.AdamEvIn
public import proofs.«01_k».proof.Proof.AdamPool
public import proofs.«01_k».proof.Proof.AdamOut
public import proofs.«01_k».proof.Proof.AdamOdIn
public import proofs.«01_k».proof.Proof.AdamXa
public import proofs.«01_k».proof.Proof.AdamKv
public import proofs.«01_k».proof.Proof.AdamFf
public import proofs.«01_k».proof.Proof.AdamDown
public import proofs.«01_k».proof.Proof.AdamSmall

@[expose] public section

noncomputable section

namespace Cert.Proof

open Idealize.ShloMosaic Idealize.ShloMosaic.TcCoe Idealize.SL.Sem
open Cert.KernelIdeal.Own (gradK gradV gradF row)

/-- The array of the three gradients: those of the keys and the values, and the slot that the array already holds. -/
def pair (m : (ℓ : Loc Cert.KernelIdeal.nD Cert.KernelIdeal.τ Cert.KernelIdeal.sig) → Buf (Elt Ideal) ℓ) (c : Dev Cert.KernelIdeal.nD) :
    Vec Ideal Cert.ReferenceIdeal.S3x4096x2048 .bf16 :=
  Cert.ReferenceIdeal.Read.val_main_v104 (F := Ideal) (m (c.tc.loc Cert.KernelIdeal.main_arg0)) (m (c.tc.loc Cert.KernelIdeal.main_arg1))
    (m (c.tc.loc Cert.KernelIdeal.main_arg2)) (m (c.tc.loc Cert.KernelIdeal.main_arg3))

/-- The gradients of the gates, by blocks. -/
def gates (m : (ℓ : Loc Cert.KernelIdeal.nD Cert.KernelIdeal.τ Cert.KernelIdeal.sig) → Buf (Elt Ideal) ℓ) (c : Dev Cert.KernelIdeal.nD) :
    Vec Ideal Cert.ReferenceIdeal.S16x8x1x512 .f32 :=
  Cert.ReferenceIdeal.Read.val_main_v106 (F := Ideal) (m (c.tc.loc Cert.KernelIdeal.main_arg0)) (m (c.tc.loc Cert.KernelIdeal.main_arg1))
    (m (c.tc.loc Cert.KernelIdeal.main_arg2))

section
variable [hPre_finite : Cert.Pre_finite.Facts]

theorem kernel_pair (m : (ℓ : Loc Cert.KernelIdeal.nD Cert.KernelIdeal.τ Cert.KernelIdeal.sig) → Buf (Elt Ideal) ℓ) (h : Pre_KernelIdeal_finite m) (c : Dev Cert.KernelIdeal.nD) :
    (Cert.KernelIdeal.Gen.dats m 0 c).arrAt 7 Cert.KernelIdeal.cfg0.N = pair m c := by
  obtain ⟨⟨X, hX⟩, ⟨G, hG⟩, D, hD⟩ := Cert.Pre_finite.Own.reals _ _ _ _ (h c)
  unfold pair
  rw [Cert.KernelIdeal.Own.arr7 m c X D G hX hG hD]
  refine Eq.trans ?_ (congrFun (congr (congr (congrArg (Cert.ReferenceIdeal.Read.val_main_v104 (F := Ideal)) hX) hG) hD) _).symm
  refine Eq.trans ?_ (Cert.ReferenceIdeal.Own.out0 X D G _).symm
  funext j
  refine congrArg (fun z => if (j 0).val < 2 then _ else z) ?_
  exact congrFun ((Cert.KernelIdeal.Gen.A_eq m c 7).trans (Cert.KernelIdeal.Own.V50 m c)) j

theorem kernel_gates (m : (ℓ : Loc Cert.KernelIdeal.nD Cert.KernelIdeal.τ Cert.KernelIdeal.sig) → Buf (Elt Ideal) ℓ) (h : Pre_KernelIdeal_finite m) (c : Dev Cert.KernelIdeal.nD) :
    (Cert.KernelIdeal.Gen.dats m 0 c).arrAt 8 Cert.KernelIdeal.cfg0.N = gates m c := by
  obtain ⟨⟨X, hX⟩, ⟨G, hG⟩, D, hD⟩ := Cert.Pre_finite.Own.reals _ _ _ _ (h c)
  unfold gates
  rw [Cert.KernelIdeal.Own.arr8 m c X D G hX hG hD]
  refine Eq.trans ?_ (congr (congr (congrArg (Cert.ReferenceIdeal.Read.val_main_v106 (F := Ideal)) hX) hG) hD).symm
  exact (Cert.ReferenceIdeal.Own.out1 X D G).symm

end

/-- Over the reals the kernel and the reference end with the same two results. -/
theorem algebraic : algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hargs
  refine ⟨fun c => pair m c, fun c => gates m c, ?_, ?_⟩
  · refine (θ_run _ _ _).mono (fun r h c => ?_) (Cert.KernelIdeal.Value.run_blocks m g)
    obtain ⟨h7, h8, ha⟩ := h c
    exact ⟨h7.trans (kernel_pair (hPre_finite := Cert.Pre_finite.Gen.facts) m hpre c), h8.trans (kernel_gates (hPre_finite := Cert.Pre_finite.Gen.facts) m hpre c), ha⟩
  · refine (θ_run _ _ _).mono (fun r h c => ?_) (Cert.ReferenceIdeal.Value.run m' g')
    obtain ⟨h0, h1, ha⟩ := h c
    obtain ⟨e0, e1, e2, e3⟩ := hargs c
    refine ⟨h0.trans ((Cert.ReferenceIdeal.Read.val_main_v104_eq m' c).trans ?_), h1.trans ((Cert.ReferenceIdeal.Read.val_main_v106_eq m' c).trans ?_), ha⟩
    · unfold pair; rw [e0, e1, e2, e3]
    · unfold gates; rw [e0, e1, e2]

theorem preserves : preserves_Kernel_KernelIdeal :=
  ⟨IdealRules.named_const.statement Cert.KernelIdeal.κ "qscale" .f32 0x3E0293EE#32 _ rfl,
    IdealRules.named_const.statement Cert.KernelIdeal.κ "log2e" .f32 0x3FB8AA3B#32 _ rfl,
    IdealRules.named_const.statement Cert.KernelIdeal.κ "scale" .f32 0x3DB504F3#32 _ rfl⟩

/-- The reference leaves its arguments as they were, and it has no counters. -/
theorem frame_r : quiescent_ReferenceIdeal (hReferenceIdeal := Cert.ReferenceIdeal.Gen.facts) := by
  intro m g _
  exact (θ_run _ _ _).mono (fun r h => ⟨fun c => (h c).2.2, sem_eq_zero_of_no_sems (by decide) r.2⟩) (Cert.ReferenceIdeal.Value.run m g)

theorem claim : Cert.Claim :=
  ⟨Cert.Kernel.Gen.facts, Cert.KernelIdeal.Gen.facts, Cert.ReferenceIdeal.Gen.facts,
    Cert.KernelDown.Gen.facts, Cert.KernelDownIdeal.Gen.facts, Cert.ReferenceDownIdeal.Gen.facts,
    Cert.KernelDownW.Gen.facts, Cert.KernelDownWIdeal.Gen.facts, Cert.ReferenceDownWIdeal.Gen.facts,
    Cert.KernelInW.Gen.facts, Cert.KernelInWIdeal.Gen.facts, Cert.ReferenceInWIdeal.Gen.facts,
    Cert.KernelGateX.Gen.facts, Cert.KernelGateXIdeal.Gen.facts, Cert.ReferenceGateXIdeal.Gen.facts,
    Cert.KernelUpX.Gen.facts, Cert.KernelUpXIdeal.Gen.facts, Cert.ReferenceUpXIdeal.Gen.facts,
    Cert.KernelGate.Gen.facts, Cert.KernelGateIdeal.Gen.facts, Cert.ReferenceGateIdeal.Gen.facts,
    Cert.KernelUp.Gen.facts, Cert.KernelUpIdeal.Gen.facts, Cert.ReferenceUpIdeal.Gen.facts,
    Cert.KernelOut.Gen.facts, Cert.KernelOutIdeal.Gen.facts, Cert.ReferenceOutIdeal.Gen.facts,
    Cert.KernelProjW.Gen.facts, Cert.KernelProjWIdeal.Gen.facts, Cert.ReferenceProjWIdeal.Gen.facts,
    Cert.KernelProjX.Gen.facts, Cert.KernelProjXIdeal.Gen.facts, Cert.ReferenceProjXIdeal.Gen.facts,
    Cert.KernelQkvW.Gen.facts, Cert.KernelQkvWIdeal.Gen.facts, Cert.ReferenceQkvWIdeal.Gen.facts,
    Cert.KernelQkvX.Gen.facts, Cert.KernelQkvXIdeal.Gen.facts, Cert.ReferenceQkvXIdeal.Gen.facts,
    Cert.KernelProj.Gen.facts, Cert.KernelProjIdeal.Gen.facts, Cert.ReferenceProjIdeal.Gen.facts,
    Cert.KernelProjRes.Gen.facts, Cert.KernelProjResIdeal.Gen.facts, Cert.ReferenceProjResIdeal.Gen.facts,
    Cert.KernelQkv.Gen.facts, Cert.KernelQkvIdeal.Gen.facts, Cert.ReferenceQkvIdeal.Gen.facts,
    Cert.KernelAdamEvIn.Gen.facts, Cert.KernelAdamEvInIdeal.Gen.facts, Cert.ReferenceAdamEvInIdeal.Gen.facts,
    Cert.KernelAdamPool.Gen.facts, Cert.KernelAdamPoolIdeal.Gen.facts, Cert.ReferenceAdamPoolIdeal.Gen.facts,
    Cert.KernelAdamOut.Gen.facts, Cert.KernelAdamOutIdeal.Gen.facts, Cert.ReferenceAdamOutIdeal.Gen.facts,
    Cert.KernelAdamOdIn.Gen.facts, Cert.KernelAdamOdInIdeal.Gen.facts, Cert.ReferenceAdamOdInIdeal.Gen.facts,
    Cert.KernelAdamXa.Gen.facts, Cert.KernelAdamXaIdeal.Gen.facts, Cert.ReferenceAdamXaIdeal.Gen.facts,
    Cert.KernelAdamKv.Gen.facts, Cert.KernelAdamKvIdeal.Gen.facts, Cert.ReferenceAdamKvIdeal.Gen.facts,
    Cert.KernelAdamFf.Gen.facts, Cert.KernelAdamFfIdeal.Gen.facts, Cert.ReferenceAdamFfIdeal.Gen.facts,
    Cert.KernelAdamDown.Gen.facts, Cert.KernelAdamDownIdeal.Gen.facts, Cert.ReferenceAdamDownIdeal.Gen.facts,
    Cert.KernelAdamSmall.Gen.facts, Cert.KernelAdamSmallIdeal.Gen.facts, Cert.ReferenceAdamSmallIdeal.Gen.facts,
    Cert.Pre_finite.Gen.facts, Cert.Pre_finite_down.Gen.facts,
    fun m g _ => Cert.Kernel.Gen.frame m g, fun m g _ => Cert.KernelIdeal.Gen.frame m g, fun m g _ => Cert.KernelIdeal.Gen.frame m g,
    frame_r, fun m g _ => frame_r m g trivial,
    fun m g _ => Cert.KernelDown.Gen.frame m g, fun m g _ => Cert.KernelDownIdeal.Gen.frame m g, fun m g _ => Cert.KernelDownIdeal.Gen.frame m g,
    frame_r_down, fun m g _ => frame_r_down m g trivial,
    fun m g _ => Cert.KernelDownW.Gen.frame m g, fun m g _ => Cert.KernelDownWIdeal.Gen.frame m g, frame_r_down_w,
    fun m g _ => Cert.KernelInW.Gen.frame m g, fun m g _ => Cert.KernelInWIdeal.Gen.frame m g, frame_r_in_w,
    fun m g _ => Cert.KernelGateX.Gen.frame m g, fun m g _ => Cert.KernelGateXIdeal.Gen.frame m g, frame_r_gate_x,
    fun m g _ => Cert.KernelUpX.Gen.frame m g, fun m g _ => Cert.KernelUpXIdeal.Gen.frame m g, frame_r_up_x,
    fun m g _ => Cert.KernelGate.Gen.frame m g, fun m g _ => Cert.KernelGateIdeal.Gen.frame m g, frame_r_gate,
    fun m g _ => Cert.KernelUp.Gen.frame m g, fun m g _ => Cert.KernelUpIdeal.Gen.frame m g, frame_r_up,
    fun m g _ => Cert.KernelOut.Gen.frame m g, fun m g _ => Cert.KernelOutIdeal.Gen.frame m g, frame_r_out,
    fun m g _ => Cert.KernelProjW.Gen.frame m g, fun m g _ => Cert.KernelProjWIdeal.Gen.frame m g, frame_r_proj_w,
    fun m g _ => Cert.KernelProjX.Gen.frame m g, fun m g _ => Cert.KernelProjXIdeal.Gen.frame m g, frame_r_proj_x,
    fun m g _ => Cert.KernelQkvW.Gen.frame m g, fun m g _ => Cert.KernelQkvWIdeal.Gen.frame m g, frame_r_qkv_w,
    fun m g _ => Cert.KernelQkvX.Gen.frame m g, fun m g _ => Cert.KernelQkvXIdeal.Gen.frame m g, frame_r_qkv_x,
    fun m g _ => Cert.KernelProj.Gen.frame m g, fun m g _ => Cert.KernelProjIdeal.Gen.frame m g, frame_r_proj,
    fun m g _ => Cert.KernelProjRes.Gen.frame m g, fun m g _ => Cert.KernelProjResIdeal.Gen.frame m g, frame_r_proj_res,
    fun m g _ => Cert.KernelQkv.Gen.frame m g, fun m g _ => Cert.KernelQkvIdeal.Gen.frame m g, frame_r_qkv,
    fun m g _ => Cert.KernelAdamEvIn.Gen.frame m g, fun m g _ => Cert.KernelAdamEvInIdeal.Gen.frame m g, frame_r_adam_ev_in,
    fun m g _ => Cert.KernelAdamPool.Gen.frame m g, fun m g _ => Cert.KernelAdamPoolIdeal.Gen.frame m g, frame_r_adam_pool,
    fun m g _ => Cert.KernelAdamOut.Gen.frame m g, fun m g _ => Cert.KernelAdamOutIdeal.Gen.frame m g, frame_r_adam_out,
    fun m g _ => Cert.KernelAdamOdIn.Gen.frame m g, fun m g _ => Cert.KernelAdamOdInIdeal.Gen.frame m g, frame_r_adam_od_in,
    fun m g _ => Cert.KernelAdamXa.Gen.frame m g, fun m g _ => Cert.KernelAdamXaIdeal.Gen.frame m g, frame_r_adam_xa,
    fun m g _ => Cert.KernelAdamKv.Gen.frame m g, fun m g _ => Cert.KernelAdamKvIdeal.Gen.frame m g, frame_r_adam_kv,
    fun m g _ => Cert.KernelAdamFf.Gen.frame m g, fun m g _ => Cert.KernelAdamFfIdeal.Gen.frame m g, frame_r_adam_ff,
    fun m g _ => Cert.KernelAdamDown.Gen.frame m g, fun m g _ => Cert.KernelAdamDownIdeal.Gen.frame m g, frame_r_adam_down,
    fun m g _ => Cert.KernelAdamSmall.Gen.frame m g, fun m g _ => Cert.KernelAdamSmallIdeal.Gen.frame m g, frame_r_adam_small,
    preserves, algebraic, trivial, algebraic_down, trivial, algebraic_down_w, trivial, algebraic_in_w, trivial, algebraic_gate_x, trivial, algebraic_up_x, trivial, algebraic_gate, trivial, algebraic_up, trivial, algebraic_out, trivial, algebraic_proj_w, trivial, algebraic_proj_x, trivial, algebraic_qkv_w, trivial, algebraic_qkv_x, trivial, algebraic_proj, trivial, algebraic_proj_res, trivial, algebraic_qkv,
    trivial, algebraic_adam_ev_in, trivial, algebraic_adam_pool, trivial, algebraic_adam_out, trivial, algebraic_adam_od_in, trivial, algebraic_adam_xa, trivial, algebraic_adam_kv, trivial, algebraic_adam_ff, trivial, algebraic_adam_down, trivial, algebraic_adam_small⟩

end Cert.Proof

end
